-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_scores [hPre_finite_scores : Cert.Pre_finite_scores.Facts] (m : (ℓ : Loc Cert.SwaIdeal.nD Cert.SwaIdeal.τ Cert.SwaIdeal.sig) → Buf (Elt Ideal) ℓ) : Prop :=
  ∀ c : Dev Cert.SwaIdeal.nD,
    (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_scores [hPre_finite_scores : Cert.Pre_finite_scores.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_rows [hPre_finite_rows : Cert.Pre_finite_rows.Facts] (m : (ℓ : Loc Cert.InprojIdeal.nD Cert.InprojIdeal.τ Cert.InprojIdeal.sig) → Buf (Elt Ideal) ℓ) : Prop :=
  ∀ c : Dev Cert.InprojIdeal.nD,
    (Cert.Pre_finite_rows.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_rows [hPre_finite_rows : Cert.Pre_finite_rows.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_rows.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Rnn (m : (ℓ : Loc Cert.Rnn.nD Cert.Rnn.τ Cert.Rnn.sig) → Buf (Elt Bits) ℓ) : Prop :=
  True

def Pre_RnnIdeal (m : (ℓ : Loc Cert.RnnIdeal.nD Cert.RnnIdeal.τ Cert.RnnIdeal.sig) → Buf (Elt Ideal) ℓ) : Prop :=
  True

def Pre_RnnIdeal_decaying [hPre_decaying : Cert.Pre_decaying.Facts] (m : (ℓ : Loc Cert.RnnIdeal.nD Cert.RnnIdeal.τ Cert.RnnIdeal.sig) → Buf (Elt Ideal) ℓ) : Prop :=
  ∀ c : Dev Cert.RnnIdeal.nD,
    (Cert.Pre_decaying.fn (F := Ideal) (m ((c.tc : Thread Cert.RnnIdeal.nD Cert.RnnIdeal.τ).loc Cert.RnnIdeal.main_arg0)) (m ((c.tc : Thread Cert.RnnIdeal.nD Cert.RnnIdeal.τ).loc Cert.RnnIdeal.main_arg1)) (m ((c.tc : Thread Cert.RnnIdeal.nD Cert.RnnIdeal.τ).loc Cert.RnnIdeal.main_arg2)) (m ((c.tc : Thread Cert.RnnIdeal.nD Cert.RnnIdeal.τ).loc Cert.RnnIdeal.main_arg3)) (m ((c.tc : Thread Cert.RnnIdeal.nD Cert.RnnIdeal.τ).loc Cert.RnnIdeal.main_arg4)) (m ((c.tc : Thread Cert.RnnIdeal.nD Cert.RnnIdeal.τ).loc Cert.RnnIdeal.main_arg5)) (m ((c.tc : Thread Cert.RnnIdeal.nD Cert.RnnIdeal.τ).loc Cert.RnnIdeal.main_arg6))) = (fun _ => 1#1)

def Pre_RnnRefIdeal (m : (ℓ : Loc Cert.RnnRefIdeal.nD Cert.RnnRefIdeal.τ Cert.RnnRefIdeal.sig) → Buf (Elt Ideal) ℓ) : Prop :=
  True

def Pre_RnnRefIdeal_decaying [hPre_decaying : Cert.Pre_decaying.Facts] (m : (ℓ : Loc Cert.RnnRefIdeal.nD Cert.RnnRefIdeal.τ Cert.RnnRefIdeal.sig) → Buf (Elt Ideal) ℓ) : Prop :=
  ∀ c : Dev Cert.RnnRefIdeal.nD,
    (Cert.Pre_decaying.fn (F := Ideal) (m ((c.tc : Thread Cert.RnnRefIdeal.nD Cert.RnnRefIdeal.τ).loc Cert.RnnRefIdeal.main_arg0)) (m ((c.tc : Thread Cert.RnnRefIdeal.nD Cert.RnnRefIdeal.τ).loc Cert.RnnRefIdeal.main_arg1)) (m ((c.tc : Thread Cert.RnnRefIdeal.nD Cert.RnnRefIdeal.τ).loc Cert.RnnRefIdeal.main_arg2)) (m ((c.tc : Thread Cert.RnnRefIdeal.nD Cert.RnnRefIdeal.τ).loc Cert.RnnRefIdeal.main_arg3)) (m ((c.tc : Thread Cert.RnnRefIdeal.nD Cert.RnnRefIdeal.τ).loc Cert.RnnRefIdeal.main_arg4)) (m ((c.tc : Thread Cert.RnnRefIdeal.nD Cert.RnnRefIdeal.τ).loc Cert.RnnRefIdeal.main_arg5)) (m ((c.tc : Thread Cert.RnnRefIdeal.nD Cert.RnnRefIdeal.τ).loc Cert.RnnRefIdeal.main_arg6))) = (fun _ => 1#1)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaIdeal_pre_finite_scores [hSwaIdeal : Cert.SwaIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_scores m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def quiescent_SwaRefIdeal_pre_finite_scores [hSwaRefIdeal : Cert.SwaRefIdeal.Facts] [hPre_finite_scores : Cert.Pre_finite_scores.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_scores m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojIdeal_pre_finite_rows [hInprojIdeal : Cert.InprojIdeal.Facts] [hPre_finite_rows : Cert.Pre_finite_rows.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_rows m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_InprojRefIdeal_pre_finite_rows [hInprojRefIdeal : Cert.InprojRefIdeal.Facts] [hPre_finite_rows : Cert.Pre_finite_rows.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_rows m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Rnn [hRnn : Cert.Rnn.Facts] : Prop :=
  ∀ (m : (ℓ : Loc Cert.Rnn.nD Cert.Rnn.τ Cert.Rnn.sig) → Buf (Elt Bits) ℓ) (g : Dev Cert.Rnn.nD → PrngReg), Pre_Rnn m →
    θ_run (Cert.Rnn.defs (F := Bits)) (onTc (τ := Cert.Rnn.τ) (Cert.Rnn.main (F := Bits))) ⟨m, fun _ => 0, g⟩ (fun r => (∀ c : Dev Cert.Rnn.nD,
      r.2.mem ((c.tc : Thread Cert.Rnn.nD Cert.Rnn.τ).loc Cert.Rnn.main_arg0) = m ((c.tc : Thread Cert.Rnn.nD Cert.Rnn.τ).loc Cert.Rnn.main_arg0)
      ∧ r.2.mem ((c.tc : Thread Cert.Rnn.nD Cert.Rnn.τ).loc Cert.Rnn.main_arg1) = m ((c.tc : Thread Cert.Rnn.nD Cert.Rnn.τ).loc Cert.Rnn.main_arg1)
      ∧ r.2.mem ((c.tc : Thread Cert.Rnn.nD Cert.Rnn.τ).loc Cert.Rnn.main_arg2) = m ((c.tc : Thread Cert.Rnn.nD Cert.Rnn.τ).loc Cert.Rnn.main_arg2)
      ∧ r.2.mem ((c.tc : Thread Cert.Rnn.nD Cert.Rnn.τ).loc Cert.Rnn.main_arg3) = m ((c.tc : Thread Cert.Rnn.nD Cert.Rnn.τ).loc Cert.Rnn.main_arg3)
      ∧ r.2.mem ((c.tc : Thread Cert.Rnn.nD Cert.Rnn.τ).loc Cert.Rnn.main_arg4) = m ((c.tc : Thread Cert.Rnn.nD Cert.Rnn.τ).loc Cert.Rnn.main_arg4)
      ∧ r.2.mem ((c.tc : Thread Cert.Rnn.nD Cert.Rnn.τ).loc Cert.Rnn.main_arg5) = m ((c.tc : Thread Cert.Rnn.nD Cert.Rnn.τ).loc Cert.Rnn.main_arg5)
      ∧ r.2.mem ((c.tc : Thread Cert.Rnn.nD Cert.Rnn.τ).loc Cert.Rnn.main_arg6) = m ((c.tc : Thread Cert.Rnn.nD Cert.Rnn.τ).loc Cert.Rnn.main_arg6))
      ∧ r.2.sem = fun _ => 0)

def quiescent_RnnIdeal [hRnnIdeal : Cert.RnnIdeal.Facts] : Prop :=
  ∀ (m : (ℓ : Loc Cert.RnnIdeal.nD Cert.RnnIdeal.τ Cert.RnnIdeal.sig) → Buf (Elt Ideal) ℓ) (g : Dev Cert.RnnIdeal.nD → PrngReg), Pre_RnnIdeal m →
    θ_run (Cert.RnnIdeal.defs (F := Ideal)) (onTc (τ := Cert.RnnIdeal.τ) (Cert.RnnIdeal.main (F := Ideal))) ⟨m, fun _ => 0, g⟩ (fun r => (∀ c : Dev Cert.RnnIdeal.nD,
      r.2.mem ((c.tc : Thread Cert.RnnIdeal.nD Cert.RnnIdeal.τ).loc Cert.RnnIdeal.main_arg0) = m ((c.tc : Thread Cert.RnnIdeal.nD Cert.RnnIdeal.τ).loc Cert.RnnIdeal.main_arg0)
      ∧ r.2.mem ((c.tc : Thread Cert.RnnIdeal.nD Cert.RnnIdeal.τ).loc Cert.RnnIdeal.main_arg1) = m ((c.tc : Thread Cert.RnnIdeal.nD Cert.RnnIdeal.τ).loc Cert.RnnIdeal.main_arg1)
      ∧ r.2.mem ((c.tc : Thread Cert.RnnIdeal.nD Cert.RnnIdeal.τ).loc Cert.RnnIdeal.main_arg2) = m ((c.tc : Thread Cert.RnnIdeal.nD Cert.RnnIdeal.τ).loc Cert.RnnIdeal.main_arg2)
      ∧ r.2.mem ((c.tc : Thread Cert.RnnIdeal.nD Cert.RnnIdeal.τ).loc Cert.RnnIdeal.main_arg3) = m ((c.tc : Thread Cert.RnnIdeal.nD Cert.RnnIdeal.τ).loc Cert.RnnIdeal.main_arg3)
      ∧ r.2.mem ((c.tc : Thread Cert.RnnIdeal.nD Cert.RnnIdeal.τ).loc Cert.RnnIdeal.main_arg4) = m ((c.tc : Thread Cert.RnnIdeal.nD Cert.RnnIdeal.τ).loc Cert.RnnIdeal.main_arg4)
      ∧ r.2.mem ((c.tc : Thread Cert.RnnIdeal.nD Cert.RnnIdeal.τ).loc Cert.RnnIdeal.main_arg5) = m ((c.tc : Thread Cert.RnnIdeal.nD Cert.RnnIdeal.τ).loc Cert.RnnIdeal.main_arg5)
      ∧ r.2.mem ((c.tc : Thread Cert.RnnIdeal.nD Cert.RnnIdeal.τ).loc Cert.RnnIdeal.main_arg6) = m ((c.tc : Thread Cert.RnnIdeal.nD Cert.RnnIdeal.τ).loc Cert.RnnIdeal.main_arg6))
      ∧ r.2.sem = fun _ => 0)

def quiescent_RnnIdeal_pre_decaying [hRnnIdeal : Cert.RnnIdeal.Facts] [hPre_decaying : Cert.Pre_decaying.Facts] : Prop :=
  ∀ (m : (ℓ : Loc Cert.RnnIdeal.nD Cert.RnnIdeal.τ Cert.RnnIdeal.sig) → Buf (Elt Ideal) ℓ) (g : Dev Cert.RnnIdeal.nD → PrngReg), Pre_RnnIdeal_decaying m →
    θ_run (Cert.RnnIdeal.defs (F := Ideal)) (onTc (τ := Cert.RnnIdeal.τ) (Cert.RnnIdeal.main (F := Ideal))) ⟨m, fun _ => 0, g⟩ (fun r => (∀ c : Dev Cert.RnnIdeal.nD,
      r.2.mem ((c.tc : Thread Cert.RnnIdeal.nD Cert.RnnIdeal.τ).loc Cert.RnnIdeal.main_arg0) = m ((c.tc : Thread Cert.RnnIdeal.nD Cert.RnnIdeal.τ).loc Cert.RnnIdeal.main_arg0)
      ∧ r.2.mem ((c.tc : Thread Cert.RnnIdeal.nD Cert.RnnIdeal.τ).loc Cert.RnnIdeal.main_arg1) = m ((c.tc : Thread Cert.RnnIdeal.nD Cert.RnnIdeal.τ).loc Cert.RnnIdeal.main_arg1)
      ∧ r.2.mem ((c.tc : Thread Cert.RnnIdeal.nD Cert.RnnIdeal.τ).loc Cert.RnnIdeal.main_arg2) = m ((c.tc : Thread Cert.RnnIdeal.nD Cert.RnnIdeal.τ).loc Cert.RnnIdeal.main_arg2)
      ∧ r.2.mem ((c.tc : Thread Cert.RnnIdeal.nD Cert.RnnIdeal.τ).loc Cert.RnnIdeal.main_arg3) = m ((c.tc : Thread Cert.RnnIdeal.nD Cert.RnnIdeal.τ).loc Cert.RnnIdeal.main_arg3)
      ∧ r.2.mem ((c.tc : Thread Cert.RnnIdeal.nD Cert.RnnIdeal.τ).loc Cert.RnnIdeal.main_arg4) = m ((c.tc : Thread Cert.RnnIdeal.nD Cert.RnnIdeal.τ).loc Cert.RnnIdeal.main_arg4)
      ∧ r.2.mem ((c.tc : Thread Cert.RnnIdeal.nD Cert.RnnIdeal.τ).loc Cert.RnnIdeal.main_arg5) = m ((c.tc : Thread Cert.RnnIdeal.nD Cert.RnnIdeal.τ).loc Cert.RnnIdeal.main_arg5)
      ∧ r.2.mem ((c.tc : Thread Cert.RnnIdeal.nD Cert.RnnIdeal.τ).loc Cert.RnnIdeal.main_arg6) = m ((c.tc : Thread Cert.RnnIdeal.nD Cert.RnnIdeal.τ).loc Cert.RnnIdeal.main_arg6))
      ∧ r.2.sem = fun _ => 0)

def quiescent_RnnRefIdeal [hRnnRefIdeal : Cert.RnnRefIdeal.Facts] : Prop :=
  ∀ (m : (ℓ : Loc Cert.RnnRefIdeal.nD Cert.RnnRefIdeal.τ Cert.RnnRefIdeal.sig) → Buf (Elt Ideal) ℓ) (g : Dev Cert.RnnRefIdeal.nD → PrngReg), Pre_RnnRefIdeal m →
    θ_run (Cert.RnnRefIdeal.defs (F := Ideal)) (onTc (τ := Cert.RnnRefIdeal.τ) (Cert.RnnRefIdeal.main (F := Ideal))) ⟨m, fun _ => 0, g⟩ (fun r => (∀ c : Dev Cert.RnnRefIdeal.nD,
      r.2.mem ((c.tc : Thread Cert.RnnRefIdeal.nD Cert.RnnRefIdeal.τ).loc Cert.RnnRefIdeal.main_arg0) = m ((c.tc : Thread Cert.RnnRefIdeal.nD Cert.RnnRefIdeal.τ).loc Cert.RnnRefIdeal.main_arg0)
      ∧ r.2.mem ((c.tc : Thread Cert.RnnRefIdeal.nD Cert.RnnRefIdeal.τ).loc Cert.RnnRefIdeal.main_arg1) = m ((c.tc : Thread Cert.RnnRefIdeal.nD Cert.RnnRefIdeal.τ).loc Cert.RnnRefIdeal.main_arg1)
      ∧ r.2.mem ((c.tc : Thread Cert.RnnRefIdeal.nD Cert.RnnRefIdeal.τ).loc Cert.RnnRefIdeal.main_arg2) = m ((c.tc : Thread Cert.RnnRefIdeal.nD Cert.RnnRefIdeal.τ).loc Cert.RnnRefIdeal.main_arg2)
      ∧ r.2.mem ((c.tc : Thread Cert.RnnRefIdeal.nD Cert.RnnRefIdeal.τ).loc Cert.RnnRefIdeal.main_arg3) = m ((c.tc : Thread Cert.RnnRefIdeal.nD Cert.RnnRefIdeal.τ).loc Cert.RnnRefIdeal.main_arg3)
      ∧ r.2.mem ((c.tc : Thread Cert.RnnRefIdeal.nD Cert.RnnRefIdeal.τ).loc Cert.RnnRefIdeal.main_arg4) = m ((c.tc : Thread Cert.RnnRefIdeal.nD Cert.RnnRefIdeal.τ).loc Cert.RnnRefIdeal.main_arg4)
      ∧ r.2.mem ((c.tc : Thread Cert.RnnRefIdeal.nD Cert.RnnRefIdeal.τ).loc Cert.RnnRefIdeal.main_arg5) = m ((c.tc : Thread Cert.RnnRefIdeal.nD Cert.RnnRefIdeal.τ).loc Cert.RnnRefIdeal.main_arg5)
      ∧ r.2.mem ((c.tc : Thread Cert.RnnRefIdeal.nD Cert.RnnRefIdeal.τ).loc Cert.RnnRefIdeal.main_arg6) = m ((c.tc : Thread Cert.RnnRefIdeal.nD Cert.RnnRefIdeal.τ).loc Cert.RnnRefIdeal.main_arg6))
      ∧ r.2.sem = fun _ => 0)

def quiescent_RnnRefIdeal_pre_decaying [hRnnRefIdeal : Cert.RnnRefIdeal.Facts] [hPre_decaying : Cert.Pre_decaying.Facts] : Prop :=
  ∀ (m : (ℓ : Loc Cert.RnnRefIdeal.nD Cert.RnnRefIdeal.τ Cert.RnnRefIdeal.sig) → Buf (Elt Ideal) ℓ) (g : Dev Cert.RnnRefIdeal.nD → PrngReg), Pre_RnnRefIdeal_decaying m →
    θ_run (Cert.RnnRefIdeal.defs (F := Ideal)) (onTc (τ := Cert.RnnRefIdeal.τ) (Cert.RnnRefIdeal.main (F := Ideal))) ⟨m, fun _ => 0, g⟩ (fun r => (∀ c : Dev Cert.RnnRefIdeal.nD,
      r.2.mem ((c.tc : Thread Cert.RnnRefIdeal.nD Cert.RnnRefIdeal.τ).loc Cert.RnnRefIdeal.main_arg0) = m ((c.tc : Thread Cert.RnnRefIdeal.nD Cert.RnnRefIdeal.τ).loc Cert.RnnRefIdeal.main_arg0)
      ∧ r.2.mem ((c.tc : Thread Cert.RnnRefIdeal.nD Cert.RnnRefIdeal.τ).loc Cert.RnnRefIdeal.main_arg1) = m ((c.tc : Thread Cert.RnnRefIdeal.nD Cert.RnnRefIdeal.τ).loc Cert.RnnRefIdeal.main_arg1)
      ∧ r.2.mem ((c.tc : Thread Cert.RnnRefIdeal.nD Cert.RnnRefIdeal.τ).loc Cert.RnnRefIdeal.main_arg2) = m ((c.tc : Thread Cert.RnnRefIdeal.nD Cert.RnnRefIdeal.τ).loc Cert.RnnRefIdeal.main_arg2)
      ∧ r.2.mem ((c.tc : Thread Cert.RnnRefIdeal.nD Cert.RnnRefIdeal.τ).loc Cert.RnnRefIdeal.main_arg3) = m ((c.tc : Thread Cert.RnnRefIdeal.nD Cert.RnnRefIdeal.τ).loc Cert.RnnRefIdeal.main_arg3)
      ∧ r.2.mem ((c.tc : Thread Cert.RnnRefIdeal.nD Cert.RnnRefIdeal.τ).loc Cert.RnnRefIdeal.main_arg4) = m ((c.tc : Thread Cert.RnnRefIdeal.nD Cert.RnnRefIdeal.τ).loc Cert.RnnRefIdeal.main_arg4)
      ∧ r.2.mem ((c.tc : Thread Cert.RnnRefIdeal.nD Cert.RnnRefIdeal.τ).loc Cert.RnnRefIdeal.main_arg5) = m ((c.tc : Thread Cert.RnnRefIdeal.nD Cert.RnnRefIdeal.τ).loc Cert.RnnRefIdeal.main_arg5)
      ∧ r.2.mem ((c.tc : Thread Cert.RnnRefIdeal.nD Cert.RnnRefIdeal.τ).loc Cert.RnnRefIdeal.main_arg6) = m ((c.tc : Thread Cert.RnnRefIdeal.nD Cert.RnnRefIdeal.τ).loc Cert.RnnRefIdeal.main_arg6))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_finite_scores [hSwaIdeal : Cert.SwaIdeal.Facts] [hSwaRefIdeal : Cert.SwaRefIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_scores m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)
      ∧ m' ((c.tc : Thread Cert.SwaRefIdeal.nD Cert.SwaRefIdeal.τ).loc Cert.SwaRefIdeal.main_arg4) = m ((c.tc : Thread Cert.SwaIdeal.nD Cert.SwaIdeal.τ).loc Cert.SwaIdeal.main_arg4)) →
    ∃ (v0 : (c : Dev Cert.SwaIdeal.nD) → Buf (Elt Ideal) ((c.tc : Thread Cert.SwaIdeal.nD Cert.SwaIdeal.τ).loc Cert.SwaIdeal.main_v3)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v3) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v77) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3)
          ∧ r.2.mem ((c.tc : Thread Cert.SwaRefIdeal.nD Cert.SwaRefIdeal.τ).loc Cert.SwaRefIdeal.main_arg4) = m' ((c.tc : Thread Cert.SwaRefIdeal.nD Cert.SwaRefIdeal.τ).loc Cert.SwaRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v42) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v65) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Inproj_InprojIdeal : Prop :=
  True

def algebraic_InprojIdeal_InprojRefIdeal_pre_finite_rows [hInprojIdeal : Cert.InprojIdeal.Facts] [hInprojRefIdeal : Cert.InprojRefIdeal.Facts] [hPre_finite_rows : Cert.Pre_finite_rows.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_rows m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)) →
    ∃ (v0 : (c : Dev Cert.InprojIdeal.nD) → Buf (Elt Ideal) ((c.tc : Thread Cert.InprojIdeal.nD Cert.InprojIdeal.τ).loc Cert.InprojIdeal.main_v9_0)) (v1 : (c : Dev Cert.InprojIdeal.nD) → Buf (Elt Ideal) ((c.tc : Thread Cert.InprojIdeal.nD Cert.InprojIdeal.τ).loc Cert.InprojIdeal.main_v9_1)) (v2 : (c : Dev Cert.InprojIdeal.nD) → Buf (Elt Ideal) ((c.tc : Thread Cert.InprojIdeal.nD Cert.InprojIdeal.τ).loc Cert.InprojIdeal.main_v9_2)) (v3 : (c : Dev Cert.InprojIdeal.nD) → Buf (Elt Ideal) ((c.tc : Thread Cert.InprojIdeal.nD Cert.InprojIdeal.τ).loc Cert.InprojIdeal.main_v9_3)) (v4 : (c : Dev Cert.InprojIdeal.nD) → Buf (Elt Ideal) ((c.tc : Thread Cert.InprojIdeal.nD Cert.InprojIdeal.τ).loc Cert.InprojIdeal.main_v9_4)) (v5 : (c : Dev Cert.InprojIdeal.nD) → Buf (Elt Ideal) ((c.tc : Thread Cert.InprojIdeal.nD Cert.InprojIdeal.τ).loc Cert.InprojIdeal.main_v9_5)) (v6 : (c : Dev Cert.InprojIdeal.nD) → Buf (Elt Ideal) ((c.tc : Thread Cert.InprojIdeal.nD Cert.InprojIdeal.τ).loc Cert.InprojIdeal.main_v9_6)) (v7 : (c : Dev Cert.InprojIdeal.nD) → Buf (Elt Ideal) ((c.tc : Thread Cert.InprojIdeal.nD Cert.InprojIdeal.τ).loc Cert.InprojIdeal.main_v9_7)) (v8 : (c : Dev Cert.InprojIdeal.nD) → Buf (Elt Ideal) ((c.tc : Thread Cert.InprojIdeal.nD Cert.InprojIdeal.τ).loc Cert.InprojIdeal.main_v9_8)) (v9 : (c : Dev Cert.InprojIdeal.nD) → Buf (Elt Ideal) ((c.tc : Thread Cert.InprojIdeal.nD Cert.InprojIdeal.τ).loc Cert.InprojIdeal.main_v9_9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v9_0) = v0 c
          ∧ r.2.mem ((c.tc : Thread Cert.InprojIdeal.nD Cert.InprojIdeal.τ).loc Cert.InprojIdeal.main_v9_1) = v1 c
          ∧ r.2.mem ((c.tc : Thread Cert.InprojIdeal.nD Cert.InprojIdeal.τ).loc Cert.InprojIdeal.main_v9_2) = v2 c
          ∧ r.2.mem ((c.tc : Thread Cert.InprojIdeal.nD Cert.InprojIdeal.τ).loc Cert.InprojIdeal.main_v9_3) = v3 c
          ∧ r.2.mem ((c.tc : Thread Cert.InprojIdeal.nD Cert.InprojIdeal.τ).loc Cert.InprojIdeal.main_v9_4) = v4 c
          ∧ r.2.mem ((c.tc : Thread Cert.InprojIdeal.nD Cert.InprojIdeal.τ).loc Cert.InprojIdeal.main_v9_5) = v5 c
          ∧ r.2.mem ((c.tc : Thread Cert.InprojIdeal.nD Cert.InprojIdeal.τ).loc Cert.InprojIdeal.main_v9_6) = v6 c
          ∧ r.2.mem ((c.tc : Thread Cert.InprojIdeal.nD Cert.InprojIdeal.τ).loc Cert.InprojIdeal.main_v9_7) = v7 c
          ∧ r.2.mem ((c.tc : Thread Cert.InprojIdeal.nD Cert.InprojIdeal.τ).loc Cert.InprojIdeal.main_v9_8) = v8 c
          ∧ r.2.mem ((c.tc : Thread Cert.InprojIdeal.nD Cert.InprojIdeal.τ).loc Cert.InprojIdeal.main_v9_9) = v9 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v113) = v0 c
          ∧ r.2.mem ((c.tc : Thread Cert.InprojRefIdeal.nD Cert.InprojRefIdeal.τ).loc Cert.InprojRefIdeal.main_v115) = v1 c
          ∧ r.2.mem ((c.tc : Thread Cert.InprojRefIdeal.nD Cert.InprojRefIdeal.τ).loc Cert.InprojRefIdeal.main_v117) = v2 c
          ∧ r.2.mem ((c.tc : Thread Cert.InprojRefIdeal.nD Cert.InprojRefIdeal.τ).loc Cert.InprojRefIdeal.main_v118) = v3 c
          ∧ r.2.mem ((c.tc : Thread Cert.InprojRefIdeal.nD Cert.InprojRefIdeal.τ).loc Cert.InprojRefIdeal.main_v119) = v4 c
          ∧ r.2.mem ((c.tc : Thread Cert.InprojRefIdeal.nD Cert.InprojRefIdeal.τ).loc Cert.InprojRefIdeal.main_v121) = v5 c
          ∧ r.2.mem ((c.tc : Thread Cert.InprojRefIdeal.nD Cert.InprojRefIdeal.τ).loc Cert.InprojRefIdeal.main_v122) = v6 c
          ∧ r.2.mem ((c.tc : Thread Cert.InprojRefIdeal.nD Cert.InprojRefIdeal.τ).loc Cert.InprojRefIdeal.main_v123) = v7 c
          ∧ r.2.mem ((c.tc : Thread Cert.InprojRefIdeal.nD Cert.InprojRefIdeal.τ).loc Cert.InprojRefIdeal.main_v126) = v8 c
          ∧ r.2.mem ((c.tc : Thread Cert.InprojRefIdeal.nD Cert.InprojRefIdeal.τ).loc Cert.InprojRefIdeal.main_v129) = v9 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v37) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Rnn_RnnIdeal : Prop :=
  True

def algebraic_RnnIdeal_RnnRefIdeal_pre_decaying [hRnnIdeal : Cert.RnnIdeal.Facts] [hRnnRefIdeal : Cert.RnnRefIdeal.Facts] [hPre_decaying : Cert.Pre_decaying.Facts] : Prop :=
  ∀ (m : (ℓ : Loc Cert.RnnIdeal.nD Cert.RnnIdeal.τ Cert.RnnIdeal.sig) → Buf (Elt Ideal) ℓ) (g : Dev Cert.RnnIdeal.nD → PrngReg)
    (m' : (ℓ : Loc Cert.RnnRefIdeal.nD Cert.RnnRefIdeal.τ Cert.RnnRefIdeal.sig) → Buf (Elt Ideal) ℓ) (g' : Dev Cert.RnnRefIdeal.nD → PrngReg), Pre_RnnIdeal_decaying m →
    (∀ c : Dev Cert.RnnIdeal.nD,
      m' ((c.tc : Thread Cert.RnnRefIdeal.nD Cert.RnnRefIdeal.τ).loc Cert.RnnRefIdeal.main_arg0) = m ((c.tc : Thread Cert.RnnIdeal.nD Cert.RnnIdeal.τ).loc Cert.RnnIdeal.main_arg0)
      ∧ m' ((c.tc : Thread Cert.RnnRefIdeal.nD Cert.RnnRefIdeal.τ).loc Cert.RnnRefIdeal.main_arg1) = m ((c.tc : Thread Cert.RnnIdeal.nD Cert.RnnIdeal.τ).loc Cert.RnnIdeal.main_arg1)
      ∧ m' ((c.tc : Thread Cert.RnnRefIdeal.nD Cert.RnnRefIdeal.τ).loc Cert.RnnRefIdeal.main_arg2) = m ((c.tc : Thread Cert.RnnIdeal.nD Cert.RnnIdeal.τ).loc Cert.RnnIdeal.main_arg2)
      ∧ m' ((c.tc : Thread Cert.RnnRefIdeal.nD Cert.RnnRefIdeal.τ).loc Cert.RnnRefIdeal.main_arg3) = m ((c.tc : Thread Cert.RnnIdeal.nD Cert.RnnIdeal.τ).loc Cert.RnnIdeal.main_arg3)
      ∧ m' ((c.tc : Thread Cert.RnnRefIdeal.nD Cert.RnnRefIdeal.τ).loc Cert.RnnRefIdeal.main_arg4) = m ((c.tc : Thread Cert.RnnIdeal.nD Cert.RnnIdeal.τ).loc Cert.RnnIdeal.main_arg4)
      ∧ m' ((c.tc : Thread Cert.RnnRefIdeal.nD Cert.RnnRefIdeal.τ).loc Cert.RnnRefIdeal.main_arg5) = m ((c.tc : Thread Cert.RnnIdeal.nD Cert.RnnIdeal.τ).loc Cert.RnnIdeal.main_arg5)
      ∧ m' ((c.tc : Thread Cert.RnnRefIdeal.nD Cert.RnnRefIdeal.τ).loc Cert.RnnRefIdeal.main_arg6) = m ((c.tc : Thread Cert.RnnIdeal.nD Cert.RnnIdeal.τ).loc Cert.RnnIdeal.main_arg6)) →
    ∃ (v0 : (c : Dev Cert.RnnIdeal.nD) → Buf (Elt Ideal) ((c.tc : Thread Cert.RnnIdeal.nD Cert.RnnIdeal.τ).loc Cert.RnnIdeal.main_v2)),
      θ_run (Cert.RnnIdeal.defs (F := Ideal)) (onTc (τ := Cert.RnnIdeal.τ) (Cert.RnnIdeal.main (F := Ideal))) ⟨m, fun _ => 0, g⟩ (fun r => ∀ c : Dev Cert.RnnIdeal.nD,
          r.2.mem ((c.tc : Thread Cert.RnnIdeal.nD Cert.RnnIdeal.τ).loc Cert.RnnIdeal.main_v2) = v0 c
          ∧ r.2.mem ((c.tc : Thread Cert.RnnIdeal.nD Cert.RnnIdeal.τ).loc Cert.RnnIdeal.main_arg0) = m ((c.tc : Thread Cert.RnnIdeal.nD Cert.RnnIdeal.τ).loc Cert.RnnIdeal.main_arg0)
          ∧ r.2.mem ((c.tc : Thread Cert.RnnIdeal.nD Cert.RnnIdeal.τ).loc Cert.RnnIdeal.main_arg1) = m ((c.tc : Thread Cert.RnnIdeal.nD Cert.RnnIdeal.τ).loc Cert.RnnIdeal.main_arg1)
          ∧ r.2.mem ((c.tc : Thread Cert.RnnIdeal.nD Cert.RnnIdeal.τ).loc Cert.RnnIdeal.main_arg2) = m ((c.tc : Thread Cert.RnnIdeal.nD Cert.RnnIdeal.τ).loc Cert.RnnIdeal.main_arg2)
          ∧ r.2.mem ((c.tc : Thread Cert.RnnIdeal.nD Cert.RnnIdeal.τ).loc Cert.RnnIdeal.main_arg3) = m ((c.tc : Thread Cert.RnnIdeal.nD Cert.RnnIdeal.τ).loc Cert.RnnIdeal.main_arg3)
          ∧ r.2.mem ((c.tc : Thread Cert.RnnIdeal.nD Cert.RnnIdeal.τ).loc Cert.RnnIdeal.main_arg4) = m ((c.tc : Thread Cert.RnnIdeal.nD Cert.RnnIdeal.τ).loc Cert.RnnIdeal.main_arg4)
          ∧ r.2.mem ((c.tc : Thread Cert.RnnIdeal.nD Cert.RnnIdeal.τ).loc Cert.RnnIdeal.main_arg5) = m ((c.tc : Thread Cert.RnnIdeal.nD Cert.RnnIdeal.τ).loc Cert.RnnIdeal.main_arg5)
          ∧ r.2.mem ((c.tc : Thread Cert.RnnIdeal.nD Cert.RnnIdeal.τ).loc Cert.RnnIdeal.main_arg6) = m ((c.tc : Thread Cert.RnnIdeal.nD Cert.RnnIdeal.τ).loc Cert.RnnIdeal.main_arg6))
      ∧ θ_run (Cert.RnnRefIdeal.defs (F := Ideal)) (onTc (τ := Cert.RnnRefIdeal.τ) (Cert.RnnRefIdeal.main (F := Ideal))) ⟨m', fun _ => 0, g'⟩ (fun r => ∀ c : Dev Cert.RnnRefIdeal.nD,
          r.2.mem ((c.tc : Thread Cert.RnnRefIdeal.nD Cert.RnnRefIdeal.τ).loc Cert.RnnRefIdeal.main_v101) = v0 c
          ∧ r.2.mem ((c.tc : Thread Cert.RnnRefIdeal.nD Cert.RnnRefIdeal.τ).loc Cert.RnnRefIdeal.main_arg0) = m' ((c.tc : Thread Cert.RnnRefIdeal.nD Cert.RnnRefIdeal.τ).loc Cert.RnnRefIdeal.main_arg0)
          ∧ r.2.mem ((c.tc : Thread Cert.RnnRefIdeal.nD Cert.RnnRefIdeal.τ).loc Cert.RnnRefIdeal.main_arg1) = m' ((c.tc : Thread Cert.RnnRefIdeal.nD Cert.RnnRefIdeal.τ).loc Cert.RnnRefIdeal.main_arg1)
          ∧ r.2.mem ((c.tc : Thread Cert.RnnRefIdeal.nD Cert.RnnRefIdeal.τ).loc Cert.RnnRefIdeal.main_arg2) = m' ((c.tc : Thread Cert.RnnRefIdeal.nD Cert.RnnRefIdeal.τ).loc Cert.RnnRefIdeal.main_arg2)
          ∧ r.2.mem ((c.tc : Thread Cert.RnnRefIdeal.nD Cert.RnnRefIdeal.τ).loc Cert.RnnRefIdeal.main_arg3) = m' ((c.tc : Thread Cert.RnnRefIdeal.nD Cert.RnnRefIdeal.τ).loc Cert.RnnRefIdeal.main_arg3)
          ∧ r.2.mem ((c.tc : Thread Cert.RnnRefIdeal.nD Cert.RnnRefIdeal.τ).loc Cert.RnnRefIdeal.main_arg4) = m' ((c.tc : Thread Cert.RnnRefIdeal.nD Cert.RnnRefIdeal.τ).loc Cert.RnnRefIdeal.main_arg4)
          ∧ r.2.mem ((c.tc : Thread Cert.RnnRefIdeal.nD Cert.RnnRefIdeal.τ).loc Cert.RnnRefIdeal.main_arg5) = m' ((c.tc : Thread Cert.RnnRefIdeal.nD Cert.RnnRefIdeal.τ).loc Cert.RnnRefIdeal.main_arg5)
          ∧ r.2.mem ((c.tc : Thread Cert.RnnRefIdeal.nD Cert.RnnRefIdeal.τ).loc Cert.RnnRefIdeal.main_arg6) = m' ((c.tc : Thread Cert.RnnRefIdeal.nD Cert.RnnRefIdeal.τ).loc Cert.RnnRefIdeal.main_arg6))

def Claim : Prop :=
  ∃ (hSwa : Cert.Swa.Facts) (hSwaIdeal : Cert.SwaIdeal.Facts) (hSwaRefIdeal : Cert.SwaRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hMod : Cert.Mod.Facts) (hModIdeal : Cert.ModIdeal.Facts) (hModRefIdeal : Cert.ModRefIdeal.Facts) (hRnn : Cert.Rnn.Facts) (hRnnIdeal : Cert.RnnIdeal.Facts) (hRnnRefIdeal : Cert.RnnRefIdeal.Facts) (hPre_finite_scores : Cert.Pre_finite_scores.Facts) (hPre_finite_rows : Cert.Pre_finite_rows.Facts) (hPre_decaying : Cert.Pre_decaying.Facts),
    quiescent_Swa (hSwa := hSwa)
    ∧ quiescent_SwaIdeal (hSwaIdeal := hSwaIdeal)
    ∧ quiescent_SwaIdeal_pre_finite_scores (hSwaIdeal := hSwaIdeal) (hPre_finite_scores := hPre_finite_scores)
    ∧ quiescent_SwaRefIdeal (hSwaRefIdeal := hSwaRefIdeal)
    ∧ quiescent_SwaRefIdeal_pre_finite_scores (hSwaRefIdeal := hSwaRefIdeal) (hPre_finite_scores := hPre_finite_scores)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojIdeal_pre_finite_rows (hInprojIdeal := hInprojIdeal) (hPre_finite_rows := hPre_finite_rows)
    ∧ quiescent_InprojRefIdeal (hInprojRefIdeal := hInprojRefIdeal)
    ∧ quiescent_InprojRefIdeal_pre_finite_rows (hInprojRefIdeal := hInprojRefIdeal) (hPre_finite_rows := hPre_finite_rows)
    ∧ quiescent_Mod (hMod := hMod)
    ∧ quiescent_ModIdeal (hModIdeal := hModIdeal)
    ∧ quiescent_ModRefIdeal (hModRefIdeal := hModRefIdeal)
    ∧ quiescent_Rnn (hRnn := hRnn)
    ∧ quiescent_RnnIdeal (hRnnIdeal := hRnnIdeal)
    ∧ quiescent_RnnIdeal_pre_decaying (hRnnIdeal := hRnnIdeal) (hPre_decaying := hPre_decaying)
    ∧ quiescent_RnnRefIdeal (hRnnRefIdeal := hRnnRefIdeal)
    ∧ quiescent_RnnRefIdeal_pre_decaying (hRnnRefIdeal := hRnnRefIdeal) (hPre_decaying := hPre_decaying)
    ∧ preserves_Swa_SwaIdeal
    ∧ algebraic_SwaIdeal_SwaRefIdeal_pre_finite_scores (hSwaIdeal := hSwaIdeal) (hSwaRefIdeal := hSwaRefIdeal) (hPre_finite_scores := hPre_finite_scores)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal_pre_finite_rows (hInprojIdeal := hInprojIdeal) (hInprojRefIdeal := hInprojRefIdeal) (hPre_finite_rows := hPre_finite_rows)
    ∧ preserves_Mod_ModIdeal
    ∧ algebraic_ModIdeal_ModRefIdeal (hModIdeal := hModIdeal) (hModRefIdeal := hModRefIdeal)
    ∧ preserves_Rnn_RnnIdeal
    ∧ algebraic_RnnIdeal_RnnRefIdeal_pre_decaying (hRnnIdeal := hRnnIdeal) (hRnnRefIdeal := hRnnRefIdeal) (hPre_decaying := hPre_decaying)
-- ==== Pre_decaying.lean ====
abbrev S32768x1024 : Shape := ⟨2, ![32768, 1024]⟩
abbrev S4x1024 : Shape := ⟨2, ![4, 1024]⟩
abbrev S1x1024 : Shape := ⟨2, ![1, 1024]⟩
abbrev S4x256x512 : Shape := ⟨3, ![4, 256, 512]⟩
abbrev S4x1x512 : Shape := ⟨3, ![4, 1, 512]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel

variable [Facts]

def fn {F : FTy → Type} [FloatOps F] (main_arg0 : FVec F S32768x1024 .f32) (main_arg1 : FVec F S32768x1024 .f32) (main_arg2 : FVec F S4x1024 .f32) (main_arg3 : FVec F S1x1024 .f32) (main_arg4 : FVec F S4x256x512 .bf16) (main_arg5 : FVec F S4x1x512 .f32) (main_arg6 : FVec F S1x1024 .f32) : IVec S_ 1 :=
  let main_cst : FVec F S_ .f32 := constant S_ .f32 0xFF800000#32
  let main_v0 : FVec F S1x1024 .f32 := broadcastInDim S1x1024 ![] bcast_S_S1x1024 main_cst
  let main_v1 : IVec S1x1024 1 := cmpf .ogt main_arg6 main_v0
  let main_c : IVec S_ 1 := constantI S_ 1 1#1
  let main_v2 : IVec S_ 1 := (fun x v => Host.reduce IntOp.andi x v reducesTo_S1x1024_S_d0_1 h_S_) main_v1 main_c
  main_v2
-- ==== Pre_finite_rows.lean ====
abbrev S32768x1024 : Shape := ⟨2, ![32768, 1024]⟩
abbrev S4x1x6144 : Shape := ⟨3, ![4, 1, 6144]⟩
abbrev S1x1024 : Shape := ⟨2, ![1, 1024]⟩
abbrev S1024x6400 : Shape := ⟨2, ![1024, 6400]⟩
abbrev S1024x1024 : Shape := ⟨2, ![1024, 1024]⟩
abbrev S1x512 : Shape := ⟨2, ![1, 512]⟩
abbrev S1x128 : Shape := ⟨2, ![1, 128]⟩
abbrev S512x1 : Shape := ⟨2, ![512, 1]⟩
abbrev S1024x640 : Shape := ⟨2, ![1024, 640]⟩
abbrev S1024x512 : Shape := ⟨2, ![1024, 512]⟩
abbrev S4x1x2048 : Shape := ⟨3, ![4, 1, 2048]⟩
abbrev S_ : Shape := ⟨0, ![]⟩

class Facts : Prop where
  slices_S1024x6400_S1024x640_0_0 : S1024x6400.Slices ![0, 0] S1024x640
  slices_S1024x6400_S1024x512_0_2816 : S1024x6400.Slices ![0, 2816] S1024x512
  slices_S4x1x6144_S4x1x2048_0_0_0 : S4x1x6144.Slices ![0, 0, 0] S4x1x2048
  bcast_S_S4x1x2048 : S_.BroadcastsInDim S4x1x2048 (![] : Fin 0 → Fin S4x1x2048.rank)
  reducesTo_S4x1x2048_S_d0_1_2 : S4x1x2048.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x640 : S_.BroadcastsInDim S1024x640 (![] : Fin 0 → Fin S1024x640.rank)
  reducesTo_S1024x640_S_d0_1 : S1024x640.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_v1 : FVec F S1024x512 .bf16) (main_v17 : IVec S_ 1) : IVec S_ 1 :=
  let main_v18 : FVec F S1024x512 .f32 := (extf .f32 · bitsLt_bf16_f32) main_v1
  let main_v19 : FVec F S1024x512 .f32 := Host.absf main_v18
  let main_cst_4 : FVec F S_ .f32 := constant S_ .f32 0x7F800000#32
  let main_v20 : FVec F S1024x512 .f32 := broadcastInDim S1024x512 ![] bcast_S_S1024x512 main_cst_4
  let main_v21 : IVec S1024x512 1 := cmpf .olt main_v19 main_v20
  let main_c_5 : IVec S_ 1 := constantI S_ 1 1#1
  let main_v22 : IVec S_ 1 := (fun x v => Host.reduce IntOp.andi x v reducesTo_S1024x512_S_d0_1 h_S_) main_v21 main_c_5
  let main_v23 : IVec S_ 1 := andi main_v17 main_v22
  main_v23

def fn {F : FTy → Type} [FloatOps F] (main_arg0 : FVec F S32768x1024 .f32) (main_arg1 : FVec F S4x1x6144 .f32) (main_arg2 : FVec F S1x1024 .f32) (main_arg3 : FVec F S1024x6400 .bf16) (main_arg4 : FVec F S1024x1024 .bf16) (main_arg5 : FVec F S1x512 .f32) (main_arg6 : FVec F S1x128 .f32) (main_arg7 : FVec F S1x512 .f32) (main_arg8 : FVec F S512x1 .f32) : IVec S_ 1 :=
  let main_v0 : FVec F S1024x640 .bf16 := (extractStridedSlice S1024x640 ![0, 0] · slices_S1024x6400_S1024x640_0_0) main_arg3
  let main_v1 : FVec F S1024x512 .bf16 := (extractStridedSlice S1024x512 ![0, 2816] · slices_S1024x6400_S1024x512_0_2816) main_arg3
  let main_v2 : FVec F S4x1x2048 .f32 := (extractStridedSlice S4x1x2048 ![0, 0, 0] · slices_S4x1x6144_S4x1x2048_0_0_0) main_arg1
  let main_v3 : FVec F S4x1x2048 .f32 := Host.absf main_v2
  let main_cst : FVec F S_ .f32 := constant S_ .f32 0x7F800000#32
  let main_v4 : FVec F S4x1x2048 .f32 := broadcastInDim S4x1x2048 ![] bcast_S_S4x1x2048 main_cst
  let main_v5 : IVec S4x1x2048 1 := cmpf .olt main_v3 main_v4
  let main_c : IVec S_ 1 := constantI S_ 1 1#1
  let main_v6 : IVec S_ 1 := (fun x v => Host.reduce IntOp.andi x v reducesTo_S4x1x2048_S_d0_1_2 h_S_) main_v5 main_c
  let main_v7 : FVec F S1x1024 .f32 := Host.absf main_arg2
  let main_cst_0 : FVec F S_ .f32 := constant S_ .f32 0x7F800000#32
  let main_v8 : FVec F S1x1024 .f32 := broadcastInDim S1x1024 ![] bcast_S_S1x1024 main_cst_0
  let main_v9 : IVec S1x1024 1 := cmpf .olt main_v7 main_v8
  let main_c_1 : IVec S_ 1 := constantI S_ 1 1#1
  let main_v10 : IVec S_ 1 := (fun x v => Host.reduce IntOp.andi x v reducesTo_S1x1024_S_d0_1 h_S_) main_v9 main_c_1
  let main_v11 : IVec S_ 1 := andi main_v6 main_v10
  let main_v12 : FVec F S1024x640 .f32 := (extf .f32 · bitsLt_bf16_f32) main_v0
  let main_v13 : FVec F S1024x640 .f32 := Host.absf main_v12
  let main_cst_2 : FVec F S_ .f32 := constant S_ .f32 0x7F800000#32
  let main_v14 : FVec F S1024x640 .f32 := broadcastInDim S1024x640 ![] bcast_S_S1024x640 main_cst_2
  let main_v15 : IVec S1024x640 1 := cmpf .olt main_v13 main_v14
  let main_c_3 : IVec S_ 1 := constantI S_ 1 1#1
  let main_v16 : IVec S_ 1 := (fun x v => Host.reduce IntOp.andi x v reducesTo_S1024x640_S_d0_1 h_S_) main_v15 main_c_3
  let main_v17 : IVec S_ 1 := andi main_v11 main_v16
  fn_part1 (F := F) main_v1 main_v17
-- ==== Pre_finite_scores.lean ====
abbrev S32768x512 : Shape := ⟨2, ![32768, 512]⟩
abbrev S32768x128 : Shape := ⟨2, ![32768, 128]⟩
abbrev S8 : Shape := ⟨1, ![8]⟩
abbrev S8x128x256 : Shape := ⟨3, ![8, 128, 256]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S8 : S_.BroadcastsInDim S8 (![] : Fin 0 → Fin S8.rank)
  reducesTo_S8_S_d0 : S8.ReducesTo [0] S_
  bcast_S_S8x128x256 : S_.BroadcastsInDim S8x128x256 (![] : Fin 0 → Fin S8x128x256.rank)
  reducesTo_S8x128x256_S_d0_1_2 : S8x128x256.ReducesTo [0, 1, 2] S_

variable [Facts]

def fn_part1 {F : FTy → Type} [FloatOps F] (main_v15 : IVec S_ 1) (main_v16 : FVec F S8x128x256 .f32) (main_cst_4 : FVec F S_ .f32) : IVec S_ 1 :=
  let main_v17 : FVec F S8x128x256 .f32 := broadcastInDim S8x128x256 ![] bcast_S_S8x128x256 main_cst_4
  let main_v18 : IVec S8x128x256 1 := cmpf .olt main_v16 main_v17
  let main_c_5 : IVec S_ 1 := constantI S_ 1 1#1
  let main_v19 : IVec S_ 1 := (fun x v => Host.reduce IntOp.andi x v reducesTo_S8x128x256_S_d0_1_2 h_S_) main_v18 main_c_5
  let main_v20 : IVec S_ 1 := andi main_v15 main_v19
  main_v20

def fn {F : FTy → Type} [FloatOps F] (main_arg0 : FVec F S32768x512 .bf16) (main_arg1 : FVec F S32768x128 .bf16) (main_arg2 : FVec F S32768x128 .bf16) (main_arg3 : FVec F S8 .f32) (main_arg4 : FVec F S8x128x256 .f32) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x128 .f32 := (extf .f32 · bitsLt_bf16_f32) main_arg1
  let main_v6 : FVec F S32768x128 .f32 := Host.absf main_v5
  let main_cst_0 : FVec F S_ .f32 := constant S_ .f32 0x7F800000#32
  let main_v7 : FVec F S32768x128 .f32 := broadcastInDim S32768x128 ![] bcast_S_S32768x128 main_cst_0
  let main_v8 : IVec S32768x128 1 := cmpf .olt main_v6 main_v7
  let main_c_1 : IVec S_ 1 := constantI S_ 1 1#1
  let main_v9 : IVec S_ 1 := (fun x v => Host.reduce IntOp.andi x v reducesTo_S32768x128_S_d0_1 h_S_) main_v8 main_c_1
  let main_v10 : IVec S_ 1 := andi main_v4 main_v9
  let main_v11 : FVec F S8 .f32 := Host.absf main_arg3
  let main_cst_2 : FVec F S_ .f32 := constant S_ .f32 0x7F800000#32
  let main_v12 : FVec F S8 .f32 := broadcastInDim S8 ![] bcast_S_S8 main_cst_2
  let main_v13 : IVec S8 1 := cmpf .olt main_v11 main_v12
  let main_c_3 : IVec S_ 1 := constantI S_ 1 1#1
  let main_v14 : IVec S_ 1 := (fun x v => Host.reduce IntOp.andi x v reducesTo_S8_S_d0 h_S_) main_v13 main_c_3
  let main_v15 : IVec S_ 1 := andi main_v10 main_v14
  let main_v16 : FVec F S8x128x256 .f32 := Host.absf main_arg4
  let main_cst_4 : FVec F S_ .f32 := constant S_ .f32 0x7F800000#32
  fn_part1 (F := F) main_v15 main_v16 main_cst_4
-- ==== Swa.lean ====
abbrev S32768x512 : Shape := ⟨2, ![32768, 512]⟩
abbrev S32768x128 : Shape := ⟨2, ![32768, 128]⟩
abbrev S8 : Shape := ⟨1, ![8]⟩
abbrev S8x128x256 : Shape := ⟨3, ![8, 128, 256]⟩
abbrev S4x8192x512 : Shape := ⟨3, ![4, 8192, 512]⟩
abbrev S4x8192x128 : Shape := ⟨3, ![4, 8192, 128]⟩
abbrev S1x128x512 : Shape := ⟨3, ![1, 128, 512]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩
abbrev S1 : Shape := ⟨1, ![1]⟩
abbrev S128 : Shape := ⟨1, ![128]⟩
abbrev S128x1 : Shape := ⟨2, ![128, 1]⟩

abbrev nBuf : Space → Nat
  | .hbm => 9
  | .vmem => 13
  | .smem => 1
  | _ => 0

abbrev bufTy : (tb : Table) → Fin (tcTables nBuf tb) → BufTy
  | .hbm, ⟨0, _⟩ => ⟨S32768x512, .bf16⟩
  | .hbm, ⟨1, _⟩ => ⟨S32768x128, .bf16⟩
  | .hbm, ⟨2, _⟩ => ⟨S32768x128, .bf16⟩
  | .hbm, ⟨3, _⟩ => ⟨S8, .f32⟩
  | .hbm, ⟨4, _⟩ => ⟨S8x128x256, .f32⟩
  | .hbm, ⟨5, _⟩ => ⟨S4x8192x512, .bf16⟩
  | .hbm, ⟨6, _⟩ => ⟨S4x8192x128, .bf16⟩
  | .hbm, ⟨7, _⟩ => ⟨S4x8192x128, .bf16⟩
  | .hbm, ⟨8, _⟩ => ⟨S4x8192x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S8x128x256, .f32⟩
  | .local _ .vmem, ⟨11, _⟩ => ⟨S1x128x512, .bf16⟩
  | .local _ .vmem, ⟨12, _⟩ => ⟨S1x128x512, .bf16⟩
  | .local _ .smem, ⟨0, _⟩ => ⟨S8, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwaIdeal.lean ====
variable {F : FTy → Type} [FloatOps F] [Named F]
def κ : String → Option EReal := fun
  | "mask" => some ⊥
  | _ => none
-- ==== SwaRefIdeal.lean ====
abbrev S32768x512 : Shape := ⟨2, ![32768, 512]⟩
abbrev S32768x128 : Shape := ⟨2, ![32768, 128]⟩
abbrev S8 : Shape := ⟨1, ![8]⟩
abbrev S8x128x256 : Shape := ⟨3, ![8, 128, 256]⟩
abbrev S4x64x128x4x2x64 : Shape := ⟨6, ![4, 64, 128, 4, 2, 64]⟩
abbrev S4x8192x2x64 : Shape := ⟨4, ![4, 8192, 2, 64]⟩
abbrev S_ : Shape := ⟨0, ![]⟩
abbrev S4x8320x2x64 : Shape := ⟨4, ![4, 8320, 2, 64]⟩
abbrev S4x65x128x2x64 : Shape := ⟨5, ![4, 65, 128, 2, 64]⟩
abbrev S4x64x128x2x64 : Shape := ⟨5, ![4, 64, 128, 2, 64]⟩
abbrev S4x64x256x2x64 : Shape := ⟨5, ![4, 64, 256, 2, 64]⟩
abbrev S4x64x2x256x128x4 : Shape := ⟨6, ![4, 64, 2, 256, 128, 4]⟩
abbrev S4x64x2x4x128x256 : Shape := ⟨6, ![4, 64, 2, 4, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S2x4x128x256 : Shape := ⟨4, ![2, 4, 128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S1x1x2x4x128x256 : Shape := ⟨6, ![1, 1, 2, 4, 128, 256]⟩
abbrev S2x4 : Shape := ⟨2, ![2, 4]⟩
abbrev S2x4x1x1 : Shape := ⟨4, ![2, 4, 1, 1]⟩
abbrev S4x64x2x4x128 : Shape := ⟨5, ![4, 64, 2, 4, 128]⟩
abbrev S4x64x2x4x128x1 : Shape := ⟨6, ![4, 64, 2, 4, 128, 1]⟩
abbrev S1x1x2x4x1x1 : Shape := ⟨6, ![1, 1, 2, 4, 1, 1]⟩
abbrev S4x64x2x64x4x128 : Shape := ⟨6, ![4, 64, 2, 64, 4, 128]⟩
abbrev S4x8192x512 : Shape := ⟨3, ![4, 8192, 512]⟩

abbrev nBuf : Space → Nat
  | .hbm => 99
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x128, .bf16⟩
  | .hbm, ⟨2, _⟩ => ⟨S32768x128, .bf16⟩
  | .hbm, ⟨3, _⟩ => ⟨S8, .f32⟩
  | .hbm, ⟨4, _⟩ => ⟨S8x128x256, .f32⟩
  | .hbm, ⟨5, _⟩ => ⟨S32768x512, .f32⟩
  | .hbm, ⟨6, _⟩ => ⟨S4x64x128x4x2x64, .f32⟩
  | .hbm, ⟨7, _⟩ => ⟨S32768x128, .f32⟩
  | .hbm, ⟨8, _⟩ => ⟨S4x8192x2x64, .f32⟩
  | .hbm, ⟨9, _⟩ => ⟨S_, .i32⟩
  | .hbm, ⟨10, _⟩ => ⟨S_, .f32⟩
  | .hbm, ⟨11, _⟩ => ⟨S4x8320x2x64, .f32⟩
  | .hbm, ⟨12, _⟩ => ⟨S4x65x128x2x64, .f32⟩
  | .hbm, ⟨13, _⟩ => ⟨S4x64x128x2x64, .f32⟩
  | .hbm, ⟨14, _⟩ => ⟨S4x64x128x2x64, .f32⟩
  | .hbm, ⟨15, _⟩ => ⟨S4x64x256x2x64, .f32⟩
  | .hbm, ⟨16, _⟩ => ⟨S32768x128, .f32⟩
  | .hbm, ⟨17, _⟩ => ⟨S4x8192x2x64, .f32⟩
  | .hbm, ⟨18, _⟩ => ⟨S_, .i32⟩
  | .hbm, ⟨19, _⟩ => ⟨S_, .f32⟩
  | .hbm, ⟨20, _⟩ => ⟨S4x8320x2x64, .f32⟩
  | .hbm, ⟨21, _⟩ => ⟨S4x65x128x2x64, .f32⟩
  | .hbm, ⟨22, _⟩ => ⟨S4x64x128x2x64, .f32⟩
  | .hbm, ⟨23, _⟩ => ⟨S4x64x128x2x64, .f32⟩
  | .hbm, ⟨24, _⟩ => ⟨S4x64x256x2x64, .f32⟩
  | .hbm, ⟨25, _⟩ => ⟨S4x64x2x256x128x4, .f32⟩
  | .hbm, ⟨26, _⟩ => ⟨S4x64x2x4x128x256, .f32⟩
  | .hbm, ⟨27, _⟩ => ⟨S128, .i32⟩
  | .hbm, ⟨28, _⟩ => ⟨S256, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S1x256, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S2x4x128x256, .f32⟩
  | .hbm, ⟨38, _⟩ => ⟨S64, .i32⟩
  | .hbm, ⟨39, _⟩ => ⟨S64x1, .i32⟩
  | .hbm, ⟨40, _⟩ => ⟨S_, .i32⟩
  | .hbm, ⟨41, _⟩ => ⟨S64x1, .i32⟩
  | .hbm, ⟨42, _⟩ => ⟨S64x1, .i32⟩
  | .hbm, ⟨43, _⟩ => ⟨S_, .i32⟩
  | .hbm, ⟨44, _⟩ => ⟨S64x1, .i32⟩
  | .hbm, ⟨45, _⟩ => ⟨S64x1, .i32⟩
  | .hbm, ⟨46, _⟩ => ⟨S1x256, .i32⟩
  | .hbm, ⟨47, _⟩ => ⟨S64x256, .i32⟩
  | .hbm, ⟨48, _⟩ => ⟨S64x256, .i32⟩
  | .hbm, ⟨49, _⟩ => ⟨S64x256, .i32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S128x256, .i1⟩
  | .hbm, ⟨57, _⟩ => ⟨S1x128x256, .i1⟩
  | .hbm, ⟨58, _⟩ => ⟨S_, .i32⟩
  | .hbm, ⟨59, _⟩ => ⟨S64x256, .i32⟩
  | .hbm, ⟨60, _⟩ => ⟨S64x256, .i1⟩
  | .hbm, ⟨61, _⟩ => ⟨S64x1x256, .i1⟩
  | .hbm, ⟨62, _⟩ => ⟨S64x128x256, .i1⟩
  | .hbm, ⟨63, _⟩ => ⟨S64x128x256, .i1⟩
  | .hbm, ⟨64, _⟩ => ⟨S64x128x256, .i1⟩
  | .hbm, ⟨65, _⟩ => ⟨S1x64x1x1x128x256, .i1⟩
  | .hbm, ⟨66, _⟩ => ⟨S1x1x2x4x128x256, .f32⟩
  | .hbm, ⟨67, _⟩ => ⟨S4x64x2x4x128x256, .f32⟩
  | .hbm, ⟨68, _⟩ => ⟨S4x64x2x4x128x256, .f32⟩
  | .hbm, ⟨69, _⟩ => ⟨S_, .f32⟩
  | .hbm, ⟨70, _⟩ => ⟨S_, .f32⟩
  | .hbm, ⟨71, _⟩ => ⟨S4x64x2x4x128x256, .i1⟩
  | .hbm, ⟨72, _⟩ => ⟨S4x64x2x4x128x256, .f32⟩
  | .hbm, ⟨73, _⟩ => ⟨S4x64x2x4x128x256, .f32⟩
  | .hbm, ⟨74, _⟩ => ⟨S2x4, .f32⟩
  | .hbm, ⟨75, _⟩ => ⟨S2x4x1x1, .f32⟩
  | .hbm, ⟨76, _⟩ => ⟨S_, .f32⟩
  | .hbm, ⟨77, _⟩ => ⟨S4x64x2x4x128, .f32⟩
  | .hbm, ⟨78, _⟩ => ⟨S4x64x2x4x128x1, .f32⟩
  | .hbm, ⟨79, _⟩ => ⟨S1x1x2x4x1x1, .f32⟩
  | .hbm, ⟨80, _⟩ => ⟨S4x64x2x4x128x1, .f32⟩
  | .hbm, ⟨81, _⟩ => ⟨S4x64x2x4x128x1, .f32⟩
  | .hbm, ⟨82, _⟩ => ⟨S4x64x2x4x128x256, .f32⟩
  | .hbm, ⟨83, _⟩ => ⟨S4x64x2x4x128x256, .f32⟩
  | .hbm, ⟨84, _⟩ => ⟨S4x64x2x4x128x256, .f32⟩
  | .hbm, ⟨85, _⟩ => ⟨S_, .f32⟩
  | .hbm, ⟨86, _⟩ => ⟨S4x64x2x4x128, .f32⟩
  | .hbm, ⟨87, _⟩ => ⟨S4x64x2x4x128x1, .f32⟩
  | .hbm, ⟨88, _⟩ => ⟨S1x1x2x4x1x1, .f32⟩
  | .hbm, ⟨89, _⟩ => ⟨S4x64x2x4x128x1, .f32⟩
  | .hbm, ⟨90, _⟩ => ⟨S4x64x2x4x128x1, .f32⟩
  | .hbm, ⟨91, _⟩ => ⟨S4x64x2x4x128x1, .f32⟩
  | .hbm, ⟨92, _⟩ => ⟨S4x64x2x4x128x1, .f32⟩
  | .hbm, ⟨93, _⟩ => ⟨S4x64x2x4x128x256, .f32⟩
  | .hbm, ⟨94, _⟩ => ⟨S4x64x2x4x128x256, .f32⟩
  | .hbm, ⟨95, _⟩ => ⟨S4x64x2x64x4x128, .f32⟩
  | .hbm, ⟨96, _⟩ => ⟨S4x64x128x4x2x64, .f32⟩
  | .hbm, ⟨97, _⟩ => ⟨S4x64x128x4x2x64, .bf16⟩
  | .hbm, ⟨98, _⟩ => ⟨S4x8192x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_2 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_4 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S32768x3072 : Shape := ⟨2, ![32768, 3072]⟩
abbrev S4x1x6144 : Shape := ⟨3, ![4, 1, 6144]⟩
abbrev S512x1024 : Shape := ⟨2, ![512, 1024]⟩
abbrev S1024x1024 : Shape := ⟨2, ![1024, 1024]⟩
abbrev S512x512 : Shape := ⟨2, ![512, 512]⟩
abbrev S512x3072 : Shape := ⟨2, ![512, 3072]⟩
abbrev S1x1x6144 : Shape := ⟨3, ![1, 1, 6144]⟩
abbrev S1x1x1024 : Shape := ⟨3, ![1, 1, 1024]⟩
abbrev S1x1024 : Shape := ⟨2, ![1, 1024]⟩

abbrev nBuf : Space → Nat
  | .hbm => 11
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x1024, .bf16⟩
  | .hbm, ⟨3, _⟩ => ⟨S32768x512, .bf16⟩
  | .hbm, ⟨4, _⟩ => ⟨S32768x3072, .f32⟩
  | .hbm, ⟨5, _⟩ => ⟨S4x1x6144, .f32⟩
  | .hbm, ⟨6, _⟩ => ⟨S512x1024, .bf16⟩
  | .hbm, ⟨7, _⟩ => ⟨S1024x1024, .bf16⟩
  | .hbm, ⟨8, _⟩ => ⟨S512x1024, .bf16⟩
  | .hbm, ⟨9, _⟩ => ⟨S1024x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x3072, .f32⟩
  | .local _ .vmem, ⟨9, _⟩ => ⟨S512x3072, .f32⟩
  | .local _ .vmem, ⟨10, _⟩ => ⟨S1x1x6144, .f32⟩
  | .local _ .vmem, ⟨11, _⟩ => ⟨S1x1x6144, .f32⟩
  | .local _ .vmem, ⟨12, _⟩ => ⟨S512x1024, .bf16⟩
  | .local _ .vmem, ⟨13, _⟩ => ⟨S1024x1024, .bf16⟩
  | .local _ .vmem, ⟨14, _⟩ => ⟨S512x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S32768x1024 : Shape := ⟨2, ![32768, 1024]⟩
abbrev S32768x512 : Shape := ⟨2, ![32768, 512]⟩
abbrev S32768x3072 : Shape := ⟨2, ![32768, 3072]⟩
abbrev S4x1x6144 : Shape := ⟨3, ![4, 1, 6144]⟩
abbrev S512x1024 : Shape := ⟨2, ![512, 1024]⟩
abbrev S1024x1024 : Shape := ⟨2, ![1024, 1024]⟩
abbrev S4x1x1024 : Shape := ⟨3, ![4, 1, 1024]⟩
abbrev S4x8192x512 : Shape := ⟨3, ![4, 8192, 512]⟩
abbrev S4x8192x1024 : Shape := ⟨3, ![4, 8192, 1024]⟩
abbrev S4x8192x3x1024 : Shape := ⟨4, ![4, 8192, 3, 1024]⟩
abbrev S_ : Shape := ⟨0, ![]⟩
abbrev S4x8192x1x1024 : Shape := ⟨4, ![4, 8192, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x1024, .bf16⟩
  | .hbm, ⟨3, _⟩ => ⟨S32768x512, .bf16⟩
  | .hbm, ⟨4, _⟩ => ⟨S32768x3072, .f32⟩
  | .hbm, ⟨5, _⟩ => ⟨S4x1x6144, .f32⟩
  | .hbm, ⟨6, _⟩ => ⟨S512x1024, .bf16⟩
  | .hbm, ⟨7, _⟩ => ⟨S1024x1024, .bf16⟩
  | .hbm, ⟨8, _⟩ => ⟨S512x1024, .bf16⟩
  | .hbm, ⟨9, _⟩ => ⟨S1024x1024, .bf16⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S32768x512, .f32⟩
  | .hbm, ⟨17, _⟩ => ⟨S4x8192x512, .f32⟩
  | .hbm, ⟨18, _⟩ => ⟨S512x1024, .f32⟩
  | .hbm, ⟨19, _⟩ => ⟨S4x8192x1024, .f32⟩
  | .hbm, ⟨20, _⟩ => ⟨S32768x1024, .f32⟩
  | .hbm, ⟨21, _⟩ => ⟨S4x8192x1024, .f32⟩
  | .hbm, ⟨22, _⟩ => ⟨S1024x1024, .f32⟩
  | .hbm, ⟨23, _⟩ => ⟨S4x8192x1024, .f32⟩
  | .hbm, ⟨24, _⟩ => ⟨S32768x512, .f32⟩
  | .hbm, ⟨25, _⟩ => ⟨S4x8192x512, .f32⟩
  | .hbm, ⟨26, _⟩ => ⟨S512x1024, .f32⟩
  | .hbm, ⟨27, _⟩ => ⟨S4x8192x1024, .f32⟩
  | .hbm, ⟨28, _⟩ => ⟨S4x8192x3x1024, .f32⟩
  | .hbm, ⟨29, _⟩ => ⟨S4x8192x3x1024, .f32⟩
  | .hbm, ⟨30, _⟩ => ⟨S4x8192x3x1024, .f32⟩
  | .hbm, ⟨31, _⟩ => ⟨S_, .f32⟩
  | .hbm, ⟨32, _⟩ => ⟨S4x8192x3x1024, .f32⟩
  | .hbm, ⟨33, _⟩ => ⟨S4x8192x3x1024, .f32⟩
  | .hbm, ⟨34, _⟩ => ⟨S_, .f32⟩
  | .hbm, ⟨35, _⟩ => ⟨S4x8192x3x1024, .f32⟩
  | .hbm, ⟨36, _⟩ => ⟨S4x8192x3x1024, .f32⟩
  | .hbm, ⟨37, _⟩ => ⟨S4x8192x1x1024, .f32⟩
  | .hbm, ⟨38, _⟩ => ⟨S4x8192x1024, .f32⟩
  | .hbm, ⟨39, _⟩ => ⟨S4x8192x1024, .f32⟩
  | .hbm, ⟨40, _⟩ => ⟨S4x8192x1x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S1024x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Ffn.lean ====
abbrev S32768x1024 : Shape := ⟨2, ![32768, 1024]⟩
abbrev S4x1x6144 : Shape := ⟨3, ![4, 1, 6144]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S512x1024 : Shape := ⟨2, ![512, 1024]⟩
abbrev S1x1x6144 : Shape := ⟨3, ![1, 1, 6144]⟩
abbrev S512x2816 : Shape := ⟨2, ![512, 2816]⟩
abbrev S8x5632 : Shape := ⟨2, ![8, 5632]⟩
abbrev S1x1x1024 : Shape := ⟨3, ![1, 1, 1024]⟩
abbrev S512 : Shape := ⟨1, ![512]⟩
abbrev S512x1 : Shape := ⟨2, ![512, 1]⟩
abbrev S8x256 : Shape := ⟨2, ![8, 256]⟩
abbrev S1024x256 : Shape := ⟨2, ![1024, 256]⟩
abbrev S512x256 : Shape := ⟨2, ![512, 256]⟩
abbrev S1x256 : Shape := ⟨2, ![1, 256]⟩
abbrev S504x256 : Shape := ⟨2, ![504, 256]⟩

abbrev nBuf : Space → Nat
  | .hbm => 8
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S4x1x6144, .f32⟩
  | .hbm, ⟨2, _⟩ => ⟨S1x1024, .f32⟩
  | .hbm, ⟨3, _⟩ => ⟨S1024x5632, .bf16⟩
  | .hbm, ⟨4, _⟩ => ⟨S3x5632, .f32⟩
  | .hbm, ⟨5, _⟩ => ⟨S1x5632, .f32⟩
  | .hbm, ⟨6, _⟩ => ⟨S2816x1024, .bf16⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x5632, .bf16⟩
  | .local _ .vmem, ⟨6, _⟩ => ⟨S3x5632, .f32⟩
  | .local _ .vmem, ⟨7, _⟩ => ⟨S1x5632, .f32⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x2816, .bf16⟩
  | .local _ .vmem, ⟨13, _⟩ => ⟨S8x5632, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S32768x1024 : Shape := ⟨2, ![32768, 1024]⟩
abbrev S4x1x6144 : Shape := ⟨3, ![4, 1, 6144]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S4x8192x1024 : Shape := ⟨3, ![4, 8192, 1024]⟩
abbrev S4x1x1024 : Shape := ⟨3, ![4, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S5632 : Shape := ⟨1, ![5632]⟩
abbrev S4x8194x5632 : Shape := ⟨3, ![4, 8194, 5632]⟩
abbrev S1x1x5632 : Shape := ⟨3, ![1, 1, 5632]⟩
abbrev S4x8192x2816 : Shape := ⟨3, ![4, 8192, 2816]⟩

abbrev nBuf : Space → Nat
  | .hbm => 88
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x1x6144, .f32⟩
  | .hbm, ⟨2, _⟩ => ⟨S1x1024, .f32⟩
  | .hbm, ⟨3, _⟩ => ⟨S1024x5632, .bf16⟩
  | .hbm, ⟨4, _⟩ => ⟨S3x5632, .f32⟩
  | .hbm, ⟨5, _⟩ => ⟨S1x5632, .f32⟩
  | .hbm, ⟨6, _⟩ => ⟨S2816x1024, .bf16⟩
  | .hbm, ⟨7, _⟩ => ⟨S4x8192x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S1024, .f32⟩
  | .hbm, ⟨15, _⟩ => ⟨S4x8192x1024, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x1024, .f32⟩
  | .hbm, ⟨27, _⟩ => ⟨S4x8192x1024, .f32⟩
  | .hbm, ⟨28, _⟩ => ⟨S1x1x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S1024x5632, .f32⟩
  | .hbm, ⟨39, _⟩ => ⟨S4x8192x5632, .f32⟩
  | .hbm, ⟨40, _⟩ => ⟨S5632, .f32⟩
  | .hbm, ⟨41, _⟩ => ⟨S_, .i32⟩
  | .hbm, ⟨42, _⟩ => ⟨S_, .f32⟩
  | .hbm, ⟨43, _⟩ => ⟨S4x8194x5632, .f32⟩
  | .hbm, ⟨44, _⟩ => ⟨S4x8192x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S4x8192x5632, .f32⟩
  | .hbm, ⟨49, _⟩ => ⟨S4x8192x5632, .f32⟩
  | .hbm, ⟨50, _⟩ => ⟨S_, .f32⟩
  | .hbm, ⟨51, _⟩ => ⟨S4x8192x5632, .f32⟩
  | .hbm, ⟨52, _⟩ => ⟨S4x8192x5632, .f32⟩
  | .hbm, ⟨53, _⟩ => ⟨S4x8192x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S4x8192x5632, .f32⟩
  | .hbm, ⟨58, _⟩ => ⟨S4x8192x5632, .f32⟩
  | .hbm, ⟨59, _⟩ => ⟨S4x8192x5632, .f32⟩
  | .hbm, ⟨60, _⟩ => ⟨S4x8192x5632, .f32⟩
  | .hbm, ⟨61, _⟩ => ⟨S1x5632, .f32⟩
  | .hbm, ⟨62, _⟩ => ⟨S5632, .f32⟩
  | .hbm, ⟨63, _⟩ => ⟨S1x1x5632, .f32⟩
  | .hbm, ⟨64, _⟩ => ⟨S4x8192x5632, .f32⟩
  | .hbm, ⟨65, _⟩ => ⟨S4x8192x5632, .f32⟩
  | .hbm, ⟨66, _⟩ => ⟨S4x8192x5632, .f32⟩
  | .hbm, ⟨67, _⟩ => ⟨S1x1x5632, .f32⟩
  | .hbm, ⟨68, _⟩ => ⟨S4x8192x5632, .f32⟩
  | .hbm, ⟨69, _⟩ => ⟨S4x8192x5632, .f32⟩
  | .hbm, ⟨70, _⟩ => ⟨S4x8192x2816, .f32⟩
  | .hbm, ⟨71, _⟩ => ⟨S4x8192x2816, .f32⟩
  | .hbm, ⟨72, _⟩ => ⟨S4x8192x2816, .f32⟩
  | .hbm, ⟨73, _⟩ => ⟨S4x8192x2816, .f32⟩
  | .hbm, ⟨74, _⟩ => ⟨S_, .f32⟩
  | .hbm, ⟨75, _⟩ => ⟨S4x8192x2816, .f32⟩
  | .hbm, ⟨76, _⟩ => ⟨S4x8192x2816, .f32⟩
  | .hbm, ⟨77, _⟩ => ⟨S_, .f32⟩
  | .hbm, ⟨78, _⟩ => ⟨S4x8192x2816, .f32⟩
  | .hbm, ⟨79, _⟩ => ⟨S4x8192x2816, .f32⟩
  | .hbm, ⟨80, _⟩ => ⟨S4x8192x2816, .f32⟩
  | .hbm, ⟨81, _⟩ => ⟨S4x8192x2816, .f32⟩
  | .hbm, ⟨82, _⟩ => ⟨S2816x1024, .f32⟩
  | .hbm, ⟨83, _⟩ => ⟨S4x8192x1024, .f32⟩
  | .hbm, ⟨84, _⟩ => ⟨S4x8192x1024, .f32⟩
  | .hbm, ⟨85, _⟩ => ⟨S4x8192x1024, .f32⟩
  | .hbm, ⟨86, _⟩ => ⟨S4x8192x1024, .f32⟩
  | .hbm, ⟨87, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_call0_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Inproj.lean ====
abbrev S32768x1024 : Shape := ⟨2, ![32768, 1024]⟩
abbrev S4x1x6144 : Shape := ⟨3, ![4, 1, 6144]⟩
abbrev S1x1024 : Shape := ⟨2, ![1, 1024]⟩
abbrev S1024x6400 : Shape := ⟨2, ![1024, 6400]⟩
abbrev S1024x1024 : Shape := ⟨2, ![1024, 1024]⟩
abbrev S1x512 : Shape := ⟨2, ![1, 512]⟩
abbrev S1x128 : Shape := ⟨2, ![1, 128]⟩
abbrev S512x1 : Shape := ⟨2, ![512, 1]⟩
abbrev S128 : Shape := ⟨1, ![128]⟩
abbrev S_ : Shape := ⟨0, ![]⟩
abbrev S128x1 : Shape := ⟨2, ![128, 1]⟩
abbrev S128x128 : Shape := ⟨2, ![128, 128]⟩
abbrev S32768x512 : Shape := ⟨2, ![32768, 512]⟩
abbrev S32768x128 : Shape := ⟨2, ![32768, 128]⟩
abbrev S64x2x512 : Shape := ⟨3, ![64, 2, 512]⟩
abbrev S32768x3072 : Shape := ⟨2, ![32768, 3072]⟩
abbrev S4x32x512x256 : Shape := ⟨4, ![4, 32, 512, 256]⟩
abbrev S512x1024 : Shape := ⟨2, ![512, 1024]⟩
abbrev S1x1x6144 : Shape := ⟨3, ![1, 1, 6144]⟩
abbrev S512x512 : Shape := ⟨2, ![512, 512]⟩
abbrev S512x128 : Shape := ⟨2, ![512, 128]⟩
abbrev S1x2x512 : Shape := ⟨3, ![1, 2, 512]⟩
abbrev S512x3072 : Shape := ⟨2, ![512, 3072]⟩
abbrev S1x2x512x256 : Shape := ⟨4, ![1, 2, 512, 256]⟩
abbrev S1x1x1024 : Shape := ⟨3, ![1, 1, 1024]⟩
abbrev S512 : Shape := ⟨1, ![512]⟩
abbrev S1024x512 : Shape := ⟨2, ![1024, 512]⟩
abbrev S1024x256 : Shape := ⟨2, ![1024, 256]⟩
abbrev S512x256 : Shape := ⟨2, ![512, 256]⟩
abbrev S2x256x512 : Shape := ⟨3, ![2, 256, 512]⟩
abbrev S2x512 : Shape := ⟨2, ![2, 512]⟩
abbrev S8x64x512 : Shape := ⟨3, ![8, 64, 512]⟩
abbrev S8x512 : Shape := ⟨2, ![8, 512]⟩
abbrev S8x1x512 : Shape := ⟨3, ![8, 1, 512]⟩
abbrev S1x1x512x256 : Shape := ⟨4, ![1, 1, 512, 256]⟩

abbrev nBuf : Space → Nat
  | .hbm => 45
  | .vmem => 32
  | .smem => 0
  | _ => 0

abbrev bufTy : (tb : Table) → Fin (tcTables nBuf tb) → BufTy
  | .hbm, ⟨0, _⟩ => ⟨S32768x1024, .f32⟩
  | .hbm, ⟨1, _⟩ => ⟨S4x1x6144, .f32⟩
  | .hbm, ⟨2, _⟩ => ⟨S1x1024, .f32⟩
  | .hbm, ⟨3, _⟩ => ⟨S1024x6400, .bf16⟩
  | .hbm, ⟨4, _⟩ => ⟨S1024x1024, .bf16⟩
  | .hbm, ⟨5, _⟩ => ⟨S1x512, .f32⟩
  | .hbm, ⟨6, _⟩ => ⟨S1x128, .f32⟩
  | .hbm, ⟨7, _⟩ => ⟨S1x512, .f32⟩
  | .hbm, ⟨8, _⟩ => ⟨S512x1, .f32⟩
  | .hbm, ⟨9, _⟩ => ⟨S128, .i32⟩
  | .hbm, ⟨10, _⟩ => ⟨S_, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S128, .i1⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S128, .i32⟩
  | .hbm, ⟨28, _⟩ => ⟨S128x1, .i32⟩
  | .hbm, ⟨29, _⟩ => ⟨S1x128, .i32⟩
  | .hbm, ⟨30, _⟩ => ⟨S128x128, .i32⟩
  | .hbm, ⟨31, _⟩ => ⟨S128x128, .i32⟩
  | .hbm, ⟨32, _⟩ => ⟨S128x128, .i1⟩
  | .hbm, ⟨33, _⟩ => ⟨S128x128, .f32⟩
  | .hbm, ⟨34, _⟩ => ⟨S128x128, .bf16⟩
  | .hbm, ⟨35, _⟩ => ⟨S32768x512, .bf16⟩
  | .hbm, ⟨36, _⟩ => ⟨S32768x128, .bf16⟩
  | .hbm, ⟨37, _⟩ => ⟨S32768x128, .bf16⟩
  | .hbm, ⟨38, _⟩ => ⟨S32768x1024, .f32⟩
  | .hbm, ⟨39, _⟩ => ⟨S32768x1024, .f32⟩
  | .hbm, ⟨40, _⟩ => ⟨S32768x512, .bf16⟩
  | .hbm, ⟨41, _⟩ => ⟨S64x2x512, .f32⟩
  | .hbm, ⟨42, _⟩ => ⟨S32768x3072, .f32⟩
  | .hbm, ⟨43, _⟩ => ⟨S4x32x512x256, .bf16⟩
  | .hbm, ⟨44, _⟩ => ⟨S4x32x512x256, .bf16⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x6400, .bf16⟩
  | .local _ .vmem, ⟨6, _⟩ => ⟨S1024x1024, .bf16⟩
  | .local _ .vmem, ⟨7, _⟩ => ⟨S128x128, .bf16⟩
  | .local _ .vmem, ⟨8, _⟩ => ⟨S1x512, .f32⟩
  | .local _ .vmem, ⟨9, _⟩ => ⟨S1x128, .f32⟩
  | .local _ .vmem, ⟨10, _⟩ => ⟨S1x512, .f32⟩
  | .local _ .vmem, ⟨11, _⟩ => ⟨S512x1, .f32⟩
  | .local _ .vmem, ⟨12, _⟩ => ⟨S512x512, .bf16⟩
  | .local _ .vmem, ⟨13, _⟩ => ⟨S512x512, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x512, .bf16⟩
  | .local _ .vmem, ⟨23, _⟩ => ⟨S512x512, .bf16⟩
  | .local _ .vmem, ⟨24, _⟩ => ⟨S1x2x512, .f32⟩
  | .local _ .vmem, ⟨25, _⟩ => ⟨S1x2x512, .f32⟩
  | .local _ .vmem, ⟨26, _⟩ => ⟨S512x3072, .f32⟩
  | .local _ .vmem, ⟨27, _⟩ => ⟨S512x3072, .f32⟩
  | .local _ .vmem, ⟨28, _⟩ => ⟨S1x2x512x256, .bf16⟩
  | .local _ .vmem, ⟨29, _⟩ => ⟨S1x2x512x256, .bf16⟩
  | .local _ .vmem, ⟨30, _⟩ => ⟨S1x2x512x256, .bf16⟩
  | .local _ .vmem, ⟨31, _⟩ => ⟨S1x2x512x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9_0 : Ref sig .tc := ⟨.hbm, 35, rfl⟩
abbrev main_v9_1 : Ref sig .tc := ⟨.hbm, 36, rfl⟩
abbrev main_v9_2 : Ref sig .tc := ⟨.hbm, 37, rfl⟩
abbrev main_v9_3 : Ref sig .tc := ⟨.hbm, 38, rfl⟩
abbrev main_v9_4 : Ref sig .tc := ⟨.hbm, 39, rfl⟩
abbrev main_v9_5 : Ref sig .tc := ⟨.hbm, 40, rfl⟩
abbrev main_v9_6 : Ref sig .tc := ⟨.hbm, 41, rfl⟩
abbrev main_v9_7 : Ref sig .tc := ⟨.hbm, 42, rfl⟩
abbrev main_v9_8 : Ref sig .tc := ⟨.hbm, 43, rfl⟩
abbrev main_v9_9 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_19 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6400 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x3072 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x2x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x2x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== InprojRefIdeal.lean ====
abbrev S32768x1024 : Shape := ⟨2, ![32768, 1024]⟩
abbrev S4x1x6144 : Shape := ⟨3, ![4, 1, 6144]⟩
abbrev S1x1024 : Shape := ⟨2, ![1, 1024]⟩
abbrev S1024x6400 : Shape := ⟨2, ![1024, 6400]⟩
abbrev S1024x1024 : Shape := ⟨2, ![1024, 1024]⟩
abbrev S1x512 : Shape := ⟨2, ![1, 512]⟩
abbrev S1x128 : Shape := ⟨2, ![1, 128]⟩
abbrev S512x1 : Shape := ⟨2, ![512, 1]⟩
abbrev S4x8192x1024 : Shape := ⟨3, ![4, 8192, 1024]⟩
abbrev S4x1x1024 : Shape := ⟨3, ![4, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6400 : Shape := ⟨3, ![4, 8192, 6400]⟩
abbrev S4x8192x512 : Shape := ⟨3, ![4, 8192, 512]⟩
abbrev S4x8192x128 : Shape := ⟨3, ![4, 8192, 128]⟩
abbrev S4x8192x3072 : Shape := ⟨3, ![4, 8192, 3072]⟩
abbrev S4x8192x8x64 : Shape := ⟨4, ![4, 8192, 8, 64]⟩
abbrev S8x64 : Shape := ⟨2, ![8, 64]⟩
abbrev S4x8192x8 : Shape := ⟨3, ![4, 8192, 8]⟩
abbrev S4x8192x8x1 : Shape := ⟨4, ![4, 8192, 8, 1]⟩
abbrev S1x1x8x64 : Shape := ⟨4, ![1, 1, 8, 64]⟩
abbrev S4x8192x2x64 : Shape := ⟨4, ![4, 8192, 2, 64]⟩
abbrev S2x64 : Shape := ⟨2, ![2, 64]⟩
abbrev S4x8192x2 : Shape := ⟨3, ![4, 8192, 2]⟩
abbrev S4x8192x2x1 : Shape := ⟨4, ![4, 8192, 2, 1]⟩
abbrev S1x1x2x64 : Shape := ⟨4, ![1, 1, 2, 64]⟩
abbrev S4x32x256x512 : Shape := ⟨4, ![4, 32, 256, 512]⟩
abbrev S4x32x512 : Shape := ⟨3, ![4, 32, 512]⟩
abbrev S32768x512 : Shape := ⟨2, ![32768, 512]⟩
abbrev S32768x128 : Shape := ⟨2, ![32768, 128]⟩
abbrev S64x2x512 : Shape := ⟨3, ![64, 2, 512]⟩
abbrev S32768x3072 : Shape := ⟨2, ![32768, 3072]⟩
abbrev S4x32x512x256 : Shape := ⟨4, ![4, 32, 512, 256]⟩

abbrev nBuf : Space → Nat
  | .hbm => 159
  | .vmem => 0
  | .smem => 0
  | _ => 0

abbrev hbmTy0_0 (i : Nat) : BufTy := match i % 128 with
  | 0 => ⟨S32768x1024, .f32⟩
  | 1 => ⟨S4x1x6144, .f32⟩
  | 2 => ⟨S1x1024, .f32⟩
  | 3 => ⟨S1024x6400, .bf16⟩
  | 4 => ⟨S1024x1024, .bf16⟩
  | 5 => ⟨S1x512, .f32⟩
  | 6 => ⟨S1x128, .f32⟩
  | 7 => ⟨S1x512, .f32⟩
  | 8 => ⟨S512x1, .f32⟩
  | 9 => ⟨S4x8192x1024, .f32⟩
  | 10 => ⟨S4x1x1024, .f32⟩
  | 11 => ⟨S4x1x1024, .f32⟩
  | 12 => ⟨S4x1x1024, .f32⟩
  | 13 => ⟨S4x1x1024, .f32⟩
  | 14 => ⟨S4x1x1024, .f32⟩
  | 15 => ⟨S4x1x1024, .f32⟩
  | 16 => ⟨S1024, .f32⟩
  | 17 => ⟨S4x8192x1024, .f32⟩
  | 18 => ⟨S_, .f32⟩
  | 19 => ⟨S4x8192, .f32⟩
  | 20 => ⟨S4x8192x1, .f32⟩
  | 21 => ⟨S_, .f32⟩
  | 22 => ⟨S4x8192x1, .f32⟩
  | 23 => ⟨S4x8192x1, .f32⟩
  | 24 => ⟨S_, .f32⟩
  | 25 => ⟨S4x8192x1, .f32⟩
  | 26 => ⟨S4x8192x1, .f32⟩
  | 27 => ⟨S4x8192x1, .f32⟩
  | 28 => ⟨S4x8192x1024, .f32⟩
  | 29 => ⟨S4x8192x1024, .f32⟩
  | 30 => ⟨S1x1x1024, .f32⟩
  | 31 => ⟨S4x8192x1024, .f32⟩
  | 32 => ⟨S4x8192x1024, .f32⟩
  | 33 => ⟨S_, .f32⟩
  | 34 => ⟨S4x1x1024, .f32⟩
  | 35 => ⟨S4x1x1024, .f32⟩
  | 36 => ⟨S4x8192x1024, .f32⟩
  | 37 => ⟨S4x8192x1024, .f32⟩
  | 38 => ⟨S4x8192x1024, .f32⟩
  | 39 => ⟨S4x8192x1024, .f32⟩
  | 40 => ⟨S1024x6400, .f32⟩
  | 41 => ⟨S4x8192x6400, .f32⟩
  | 42 => ⟨S4x8192x512, .f32⟩
  | 43 => ⟨S4x8192x128, .f32⟩
  | 44 => ⟨S4x8192x128, .f32⟩
  | 45 => ⟨S4x8192x1024, .f32⟩
  | 46 => ⟨S4x8192x1024, .f32⟩
  | 47 => ⟨S4x8192x512, .f32⟩
  | 48 => ⟨S4x8192x3072, .f32⟩
  | 49 => ⟨S1024x1024, .f32⟩
  | 50 => ⟨S4x8192x1024, .f32⟩
  | 51 => ⟨S4x8192x512, .f32⟩
  | 52 => ⟨S4x8192x512, .f32⟩
  | 53 => ⟨S4x8192x8x64, .f32⟩
  | 54 => ⟨S8x64, .f32⟩
  | 55 => ⟨S4x8192x8x64, .f32⟩
  | 56 => ⟨S_, .f32⟩
  | 57 => ⟨S4x8192x8, .f32⟩
  | 58 => ⟨S4x8192x8x1, .f32⟩
  | 59 => ⟨S_, .f32⟩
  | 60 => ⟨S4x8192x8x1, .f32⟩
  | 61 => ⟨S4x8192x8x1, .f32⟩
  | 62 => ⟨S_, .f32⟩
  | 63 => ⟨S4x8192x8x1, .f32⟩
  | 64 => ⟨S4x8192x8x1, .f32⟩
  | 65 => ⟨S4x8192x8x1, .f32⟩
  | 66 => ⟨S4x8192x8x64, .f32⟩
  | 67 => ⟨S4x8192x8x64, .f32⟩
  | 68 => ⟨S1x1x8x64, .f32⟩
  | 69 => ⟨S4x8192x8x64, .f32⟩
  | 70 => ⟨S4x8192x8x64, .f32⟩
  | 71 => ⟨S4x8192x512, .f32⟩
  | 72 => ⟨S_, .f32⟩
  | 73 => ⟨S4x8192x512, .f32⟩
  | 74 => ⟨S4x8192x512, .f32⟩
  | 75 => ⟨S4x8192x2x64, .f32⟩
  | 76 => ⟨S2x64, .f32⟩
  | 77 => ⟨S4x8192x2x64, .f32⟩
  | 78 => ⟨S_, .f32⟩
  | 79 => ⟨S4x8192x2, .f32⟩
  | 80 => ⟨S4x8192x2x1, .f32⟩
  | 81 => ⟨S_, .f32⟩
  | 82 => ⟨S4x8192x2x1, .f32⟩
  | 83 => ⟨S4x8192x2x1, .f32⟩
  | 84 => ⟨S_, .f32⟩
  | 85 => ⟨S4x8192x2x1, .f32⟩
  | 86 => ⟨S4x8192x2x1, .f32⟩
  | 87 => ⟨S4x8192x2x1, .f32⟩
  | 88 => ⟨S4x8192x2x64, .f32⟩
  | 89 => ⟨S4x8192x2x64, .f32⟩
  | 90 => ⟨S1x1x2x64, .f32⟩
  | 91 => ⟨S4x8192x2x64, .f32⟩
  | 92 => ⟨S4x8192x2x64, .f32⟩
  | 93 => ⟨S4x8192x128, .f32⟩
  | 94 => ⟨S4x8192x8x64, .f32⟩
  | 95 => ⟨S8x64, .f32⟩
  | 96 => ⟨S4x8192x8x64, .f32⟩
  | 97 => ⟨S_, .f32⟩
  | 98 => ⟨S4x8192x8, .f32⟩
  | 99 => ⟨S4x8192x8x1, .f32⟩
  | 100 => ⟨S_, .f32⟩
  | 101 => ⟨S4x8192x8x1, .f32⟩
  | 102 => ⟨S4x8192x8x1, .f32⟩
  | 103 => ⟨S_, .f32⟩
  | 104 => ⟨S4x8192x8x1, .f32⟩
  | 105 => ⟨S4x8192x8x1, .f32⟩
  | 106 => ⟨S4x8192x8x1, .f32⟩
  | 107 => ⟨S4x8192x8x64, .f32⟩
  | 108 => ⟨S4x8192x8x64, .f32⟩
  | 109 => ⟨S1x1x8x64, .f32⟩
  | 110 => ⟨S4x8192x8x64, .f32⟩
  | 111 => ⟨S4x8192x8x64, .f32⟩
  | 112 => ⟨S4x8192x512, .f32⟩
  | 113 => ⟨S4x8192x8x64, .f32⟩
  | 114 => ⟨S8x64, .f32⟩
  | 115 => ⟨S4x8192x8x64, .f32⟩
  | 116 => ⟨S_, .f32⟩
  | 117 => ⟨S4x8192x8, .f32⟩
  | 118 => ⟨S4x8192x8x1, .f32⟩
  | 119 => ⟨S_, .f32⟩
  | 120 => ⟨S4x8192x8x1, .f32⟩
  | 121 => ⟨S4x8192x8x1, .f32⟩
  | 122 => ⟨S_, .f32⟩
  | 123 => ⟨S4x8192x8x1, .f32⟩
  | 124 => ⟨S4x8192x8x1, .f32⟩
  | 125 => ⟨S4x8192x8x1, .f32⟩
  | 126 => ⟨S4x8192x8x64, .f32⟩
  | 127 => ⟨S4x8192x8x64, .f32⟩
  | _ => ⟨S32768x1024, .f32⟩

abbrev hbmTy0_1 (i : Nat) : BufTy := match i % 128 with
  | 0 => ⟨S1x1x8x64, .f32⟩
  | 1 => ⟨S4x8192x8x64, .f32⟩
  | 2 => ⟨S4x8192x8x64, .f32⟩
  | 3 => ⟨S4x8192x512, .f32⟩
  | 4 => ⟨S_, .f32⟩
  | 5 => ⟨S4x8192x512, .f32⟩
  | 6 => ⟨S4x8192x512, .f32⟩
  | 7 => ⟨S4x32x256x512, .f32⟩
  | 8 => ⟨S_, .f32⟩
  | 9 => ⟨S4x32x512, .f32⟩
  | 10 => ⟨S_, .f32⟩
  | 11 => ⟨S4x32x512, .f32⟩
  | 12 => ⟨S4x32x512, .f32⟩
  | 13 => ⟨S32768x512, .f32⟩
  | 14 => ⟨S32768x512, .bf16⟩
  | 15 => ⟨S32768x128, .f32⟩
  | 16 => ⟨S32768x128, .bf16⟩
  | 17 => ⟨S32768x128, .f32⟩
  | 18 => ⟨S32768x128, .bf16⟩
  | 19 => ⟨S32768x1024, .f32⟩
  | 20 => ⟨S32768x1024, .f32⟩
  | 21 => ⟨S32768x512, .f32⟩
  | 22 => ⟨S32768x512, .bf16⟩
  | 23 => ⟨S64x2x512, .f32⟩
  | 24 => ⟨S32768x3072, .f32⟩
  | 25 => ⟨S4x32x256x512, .f32⟩
  | 26 => ⟨S4x32x512x256, .f32⟩
  | 27 => ⟨S4x32x512x256, .bf16⟩
  | 28 => ⟨S4x32x256x512, .f32⟩
  | 29 => ⟨S4x32x512x256, .f32⟩
  | 30 => ⟨S4x32x512x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_10 : Ref sig .tc := ⟨.hbm, 97, rfl⟩
abbrev main_v77 : Ref sig .tc := ⟨.hbm, 98, rfl⟩
abbrev main_v78 : Ref sig .tc := ⟨.hbm, 99, rfl⟩
abbrev main_cst_11 : Ref sig .tc := ⟨.hbm, 100, rfl⟩
abbrev main_v79 : Ref sig .tc := ⟨.hbm, 101, rfl⟩
abbrev main_v80 : Ref sig .tc := ⟨.hbm, 102, rfl⟩
abbrev main_cst_12 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_13 : Ref sig .tc := ⟨.hbm, 116, rfl⟩
abbrev main_v93 : Ref sig .tc := ⟨.hbm, 117, rfl⟩
abbrev main_v94 : Ref sig .tc := ⟨.hbm, 118, rfl⟩
abbrev main_cst_14 : Ref sig .tc := ⟨.hbm, 119, rfl⟩
abbrev main_v95 : Ref sig .tc := ⟨.hbm, 120, rfl⟩
abbrev main_v96 : Ref sig .tc := ⟨.hbm, 121, rfl⟩
abbrev main_cst_15 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_16 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_17 : Ref sig .tc := ⟨.hbm, 136, rfl⟩
abbrev main_v109 : Ref sig .tc := ⟨.hbm, 137, rfl⟩
abbrev main_cst_18 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩

abbrev nD : Nat := 1
abbrev τ : Topo := Topo.v7x

variable {F : FTy → Type} [FloatOps F]
-- ==== Mod.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S4x8x6144 : Shape := ⟨3, ![4, 8, 6144]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x1024x6144, .f32⟩
  | .hbm, ⟨29, _⟩ => ⟨S1024x6144, .f32⟩
  | .hbm, ⟨30, _⟩ => ⟨S8x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S8x6144, .f32⟩
  | .hbm, ⟨35, _⟩ => ⟨S8x6144, .f32⟩
  | .hbm, ⟨36, _⟩ => ⟨S1x1024x6144, .f32⟩
  | .hbm, ⟨37, _⟩ => ⟨S1024x6144, .f32⟩
  | .hbm, ⟨38, _⟩ => ⟨S8x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S8x6144, .f32⟩
  | .hbm, ⟨43, _⟩ => ⟨S8x6144, .f32⟩
  | .hbm, ⟨44, _⟩ => ⟨S1x8x6144, .f32⟩
  | .hbm, ⟨45, _⟩ => ⟨S1x8x6144, .f32⟩
  | .hbm, ⟨46, _⟩ => ⟨S1x8x6144, .f32⟩
  | .hbm, ⟨47, _⟩ => ⟨S1x8x6144, .f32⟩
  | .hbm, ⟨48, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Rnn.lean ====
abbrev S32768x1024 : Shape := ⟨2, ![32768, 1024]⟩
abbrev S4x1024 : Shape := ⟨2, ![4, 1024]⟩
abbrev S1x1024 : Shape := ⟨2, ![1, 1024]⟩
abbrev S4x256x512 : Shape := ⟨3, ![4, 256, 512]⟩
abbrev S4x1x512 : Shape := ⟨3, ![4, 1, 512]⟩
abbrev S4x8192x1024 : Shape := ⟨3, ![4, 8192, 1024]⟩
abbrev S1x256x256 : Shape := ⟨3, ![1, 256, 256]⟩
abbrev S4x256 : Shape := ⟨2, ![4, 256]⟩
abbrev S1x256 : Shape := ⟨2, ![1, 256]⟩
abbrev S1x256x512 : Shape := ⟨3, ![1, 256, 512]⟩
abbrev S1x1x512 : Shape := ⟨3, ![1, 1, 512]⟩
abbrev S264x256 : Shape := ⟨2, ![264, 256]⟩
abbrev S8x256 : Shape := ⟨2, ![8, 256]⟩
abbrev S256x256 : Shape := ⟨2, ![256, 256]⟩
abbrev S256x512 : Shape := ⟨2, ![256, 512]⟩
abbrev S1x512 : Shape := ⟨2, ![1, 512]⟩

abbrev nBuf : Space → Nat
  | .hbm => 10
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S4x1024, .f32⟩
  | .hbm, ⟨3, _⟩ => ⟨S1x1024, .f32⟩
  | .hbm, ⟨4, _⟩ => ⟨S4x256x512, .bf16⟩
  | .hbm, ⟨5, _⟩ => ⟨S4x1x512, .f32⟩
  | .hbm, ⟨6, _⟩ => ⟨S1x1024, .f32⟩
  | .hbm, ⟨7, _⟩ => ⟨S4x8192x1024, .f32⟩
  | .hbm, ⟨8, _⟩ => ⟨S4x8192x1024, .f32⟩
  | .hbm, ⟨9, _⟩ => ⟨S4x8192x1024, .bf16⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S1x256x512, .bf16⟩
  | .local _ .vmem, ⟨9, _⟩ => ⟨S1x256x512, .bf16⟩
  | .local _ .vmem, ⟨10, _⟩ => ⟨S1x1x512, .f32⟩
  | .local _ .vmem, ⟨11, _⟩ => ⟨S1x1x512, .f32⟩
  | .local _ .vmem, ⟨12, _⟩ => ⟨S1x256, .f32⟩
  | .local _ .vmem, ⟨13, _⟩ => ⟨S1x256, .f32⟩
  | .local _ .vmem, ⟨14, _⟩ => ⟨S1x256x256, .bf16⟩
  | .local _ .vmem, ⟨15, _⟩ => ⟨S1x256x256, .bf16⟩
  | .local _ .vmem, ⟨16, _⟩ => ⟨S264x256, .f32⟩
  | .local _ .vmem, ⟨17, _⟩ => ⟨S8x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== RnnRefIdeal.lean ====
abbrev S32768x1024 : Shape := ⟨2, ![32768, 1024]⟩
abbrev S4x1024 : Shape := ⟨2, ![4, 1024]⟩
abbrev S1x1024 : Shape := ⟨2, ![1, 1024]⟩
abbrev S4x256x512 : Shape := ⟨3, ![4, 256, 512]⟩
abbrev S4x1x512 : Shape := ⟨3, ![4, 1, 512]⟩
abbrev S4x8192x1024 : Shape := ⟨3, ![4, 8192, 1024]⟩
abbrev S1024 : Shape := ⟨1, ![1024]⟩
abbrev S_ : Shape := ⟨0, ![]⟩
abbrev S4x8195x1024 : Shape := ⟨3, ![4, 8195, 1024]⟩
abbrev S1x1x1024 : Shape := ⟨3, ![1, 1, 1024]⟩
abbrev S4x8192x4x256 : Shape := ⟨4, ![4, 8192, 4, 256]⟩
abbrev S4x512x4x8192 : Shape := ⟨4, ![4, 512, 4, 8192]⟩
abbrev S4x8192x4x512 : Shape := ⟨4, ![4, 8192, 4, 512]⟩
abbrev S4x512 : Shape := ⟨2, ![4, 512]⟩
abbrev S1x1x4x512 : Shape := ⟨4, ![1, 1, 4, 512]⟩
abbrev S8192 : Shape := ⟨1, ![8192]⟩
abbrev S1x8192x1 : Shape := ⟨3, ![1, 8192, 1]⟩
abbrev S8192x4x1024 : Shape := ⟨3, ![8192, 4, 1024]⟩
abbrev S1x4x1024 : Shape := ⟨3, ![1, 4, 1024]⟩

abbrev nBuf : Space → Nat
  | .hbm => 165
  | .vmem => 0
  | .smem => 0
  | _ => 0

abbrev hbmTy0_0 (i : Nat) : BufTy := match i % 128 with
  | 0 => ⟨S32768x1024, .f32⟩
  | 1 => ⟨S32768x1024, .f32⟩
  | 2 => ⟨S4x1024, .f32⟩
  | 3 => ⟨S1x1024, .f32⟩
  | 4 => ⟨S4x256x512, .bf16⟩
  | 5 => ⟨S4x1x512, .f32⟩
  | 6 => ⟨S1x1024, .f32⟩
  | 7 => ⟨S4x8192x1024, .f32⟩
  | 8 => ⟨S1024, .f32⟩
  | 9 => ⟨S_, .i32⟩
  | 10 => ⟨S_, .f32⟩
  | 11 => ⟨S4x8195x1024, .f32⟩
  | 12 => ⟨S4x8192x1024, .f32⟩
  | 13 => ⟨S1x1024, .f32⟩
  | 14 => ⟨S1024, .f32⟩
  | 15 => ⟨S1x1x1024, .f32⟩
  | 16 => ⟨S4x8192x1024, .f32⟩
  | 17 => ⟨S4x8192x1024, .f32⟩
  | 18 => ⟨S_, .f32⟩
  | 19 => ⟨S4x8192x1024, .f32⟩
  | 20 => ⟨S4x8192x1024, .f32⟩
  | 21 => ⟨S4x8192x1024, .f32⟩
  | 22 => ⟨S1x1024, .f32⟩
  | 23 => ⟨S1024, .f32⟩
  | 24 => ⟨S1x1x1024, .f32⟩
  | 25 => ⟨S4x8192x1024, .f32⟩
  | 26 => ⟨S4x8192x1024, .f32⟩
  | 27 => ⟨S4x8192x1024, .f32⟩
  | 28 => ⟨S4x8192x1024, .f32⟩
  | 29 => ⟨S1x1024, .f32⟩
  | 30 => ⟨S1024, .f32⟩
  | 31 => ⟨S1x1x1024, .f32⟩
  | 32 => ⟨S4x8192x1024, .f32⟩
  | 33 => ⟨S4x8192x1024, .f32⟩
  | 34 => ⟨S4x8192x1024, .f32⟩
  | 35 => ⟨S4x8192x1024, .f32⟩
  | 36 => ⟨S1x1024, .f32⟩
  | 37 => ⟨S1024, .f32⟩
  | 38 => ⟨S1x1x1024, .f32⟩
  | 39 => ⟨S4x8192x1024, .f32⟩
  | 40 => ⟨S4x8192x1024, .f32⟩
  | 41 => ⟨S4x8192x1024, .f32⟩
  | 42 => ⟨S1x1x1024, .f32⟩
  | 43 => ⟨S4x8192x1024, .f32⟩
  | 44 => ⟨S4x8192x1024, .f32⟩
  | 45 => ⟨S4x8192x4x256, .f32⟩
  | 46 => ⟨S4x256x512, .f32⟩
  | 47 => ⟨S4x512x4x8192, .f32⟩
  | 48 => ⟨S4x8192x4x512, .f32⟩
  | 49 => ⟨S4x512, .f32⟩
  | 50 => ⟨S1x1x4x512, .f32⟩
  | 51 => ⟨S4x8192x4x512, .f32⟩
  | 52 => ⟨S4x8192x4x512, .f32⟩
  | 53 => ⟨S4x8192x4x256, .f32⟩
  | 54 => ⟨S4x8192x4x256, .f32⟩
  | 55 => ⟨S4x8192x4x256, .f32⟩
  | 56 => ⟨S4x8192x4x256, .f32⟩
  | 57 => ⟨S_, .f32⟩
  | 58 => ⟨S4x8192x4x256, .f32⟩
  | 59 => ⟨S4x8192x4x256, .f32⟩
  | 60 => ⟨S_, .f32⟩
  | 61 => ⟨S4x8192x4x256, .f32⟩
  | 62 => ⟨S4x8192x4x256, .f32⟩
  | 63 => ⟨S4x8192x1024, .f32⟩
  | 64 => ⟨S4x8192x4x256, .f32⟩
  | 65 => ⟨S4x8192x4x256, .f32⟩
  | 66 => ⟨S_, .f32⟩
  | 67 => ⟨S4x8192x4x256, .f32⟩
  | 68 => ⟨S4x8192x4x256, .f32⟩
  | 69 => ⟨S_, .f32⟩
  | 70 => ⟨S4x8192x4x256, .f32⟩
  | 71 => ⟨S4x8192x4x256, .f32⟩
  | 72 => ⟨S4x8192x1024, .f32⟩
  | 73 => ⟨S_, .f32⟩
  | 74 => ⟨S4x8192x1024, .f32⟩
  | 75 => ⟨S4x8192x1024, .f32⟩
  | 76 => ⟨S1024, .f32⟩
  | 77 => ⟨S1024, .f32⟩
  | 78 => ⟨S_, .f32⟩
  | 79 => ⟨S1024, .f32⟩
  | 80 => ⟨S1024, .f32⟩
  | 81 => ⟨S1024, .f32⟩
  | 82 => ⟨S1024, .f32⟩
  | 83 => ⟨S1024, .i1⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1x1x1024, .f32⟩
  | 93 => ⟨S4x8192x1024, .f32⟩
  | 94 => ⟨S4x8192x1024, .f32⟩
  | 95 => ⟨S4x8192x1024, .f32⟩
  | 96 => ⟨S_, .f32⟩
  | 97 => ⟨S4x8192x1024, .f32⟩
  | 98 => ⟨S4x8192x1024, .f32⟩
  | 99 => ⟨S4x8192x1024, .f32⟩
  | 100 => ⟨S4x8192x1024, .f32⟩
  | 101 => ⟨S4x8192x1024, .f32⟩
  | 102 => ⟨S8192, .i32⟩
  | 103 => ⟨S_, .i32⟩
  | 104 => ⟨S8192, .i32⟩
  | 105 => ⟨S8192, .i1⟩
  | 106 => ⟨S1x8192x1, .i1⟩
  | 107 => ⟨S_, .f32⟩
  | 108 => ⟨S_, .f32⟩
  | 109 => ⟨S4x8192x1024, .i1⟩
  | 110 => ⟨S4x8192x1024, .f32⟩
  | 111 => ⟨S4x8192x1024, .f32⟩
  | 112 => ⟨S4x8192x1024, .f32⟩
  | 113 => ⟨S4x8192x1024, .f32⟩
  | 114 => ⟨S_, .f32⟩
  | 115 => ⟨S4x1024, .f32⟩
  | 116 => ⟨S8192x4x1024, .f32⟩
  | 117 => ⟨S8192x4x1024, .f32⟩
  | 118 => ⟨S_, .f32⟩
  | 119 => ⟨S8192x4x1024, .f32⟩
  | 120 => ⟨S_, .i32⟩
  | 121 => ⟨S8192x4x1024, .f32⟩
  | 122 => ⟨S8192x4x1024, .f32⟩
  | 123 => ⟨S_, .i32⟩
  | 124 => ⟨S4x1024, .f32⟩
  | 125 => ⟨S8192x4x1024, .f32⟩
  | 126 => ⟨S_, .i32⟩
  | 127 => ⟨S_, .i1⟩
  | _ => ⟨S32768x1024, .f32⟩

abbrev hbmTy0_1 (i : Nat) : BufTy := match i % 128 with
  | 0 => ⟨S_, .i32⟩
  | 1 => ⟨S_, .i32⟩
  | 2 => ⟨S1x4x1024, .f32⟩
  | 3 => ⟨S4x1024, .f32⟩
  | 4 => ⟨S_, .i32⟩
  | 5 => ⟨S_, .i32⟩
  | 6 => ⟨S1x4x1024, .f32⟩
  | 7 => ⟨S4x1024, .f32⟩
  | 8 => ⟨S4x1024, .f32⟩
  | 9 => ⟨S4x1024, .f32⟩
  | 10 => ⟨S1x4x1024, .f32⟩
  | 11 => ⟨S_, .i32⟩
  | 12 => ⟨S_, .i32⟩
  | 13 => ⟨S8192x4x1024, .f32⟩
  | 14 => ⟨S_, .i32⟩
  | 15 => ⟨S_, .i32⟩
  | 16 => ⟨S4x8192x1024, .f32⟩
  | 17 => ⟨S4x8192x1024, .f32⟩
  | 18 => ⟨S4x8192x1024, .f32⟩
  | 19 => ⟨S4x8192x1024, .f32⟩
  | 20 => ⟨S_, .f32⟩
  | 21 => ⟨S4x8192x1024, .f32⟩
  | 22 => ⟨S4x8192x1024, .f32⟩
  | 23 => ⟨S4x8192x1024, .f32⟩
  | 24 => ⟨S_, .f32⟩
  | 25 => ⟨S4x8192x1024, .f32⟩
  | 26 => ⟨S4x8192x1024, .f32⟩
  | 27 => ⟨S4x8192x1024, .f32⟩
  | 28 => ⟨S_, .f32⟩
  | 29 => ⟨S4x8192x1024, .f32⟩
  | 30 => ⟨S4x8192x1024, .f32⟩
  | 31 => ⟨S_, .f32⟩
  | 32 => ⟨S4x8192x1024, .f32⟩
  | 33 => ⟨S4x8192x1024, .f32⟩
  | 34 => ⟨S4x8192x1024, .f32⟩
  | 35 => ⟨S4x8192x1024, .f32⟩
  | 36 => ⟨S4x8192x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_0 : Ref sig .tc := ⟨.hbm, 57, rfl⟩
abbrev main_v47 : Ref sig .tc := ⟨.hbm, 58, rfl⟩
abbrev main_v48 : Ref sig .tc := ⟨.hbm, 59, rfl⟩
abbrev main_cst_1 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_2 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_5 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_6 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_7 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_8 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_9 : Ref sig .tc := ⟨.hbm, 118, rfl⟩
abbrev main_v83 : Ref sig .tc := ⟨.hbm, 119, rfl⟩
abbrev main_c_10 : Ref sig .tc := ⟨.hbm, 120, rfl⟩
abbrev main_v84_0 : Ref sig .tc := ⟨.hbm, 121, rfl⟩
abbrev main_v84_1 : Ref sig .tc := ⟨.hbm, 122, rfl⟩
abbrev main_v84_2 : Ref sig .tc := ⟨.hbm, 123, rfl⟩
abbrev main_v84_3 : Ref sig .tc := ⟨.hbm, 124, rfl⟩
abbrev main_v84_4 : Ref sig .tc := ⟨.hbm, 125, rfl⟩
abbrev main_while0c_c_19 : Ref sig .tc := ⟨.hbm, 126, rfl⟩
abbrev main_while0c_v102 : Ref sig .tc := ⟨.hbm, 127, rfl⟩
abbrev main_while0b_call3_c : Ref sig .tc := ⟨.hbm, 128, rfl⟩
abbrev main_while0b_call3_c_0 : Ref sig .tc := ⟨.hbm, 129, rfl⟩
abbrev main_while0b_call3_v0 : Ref sig .tc := ⟨.hbm, 130, rfl⟩
abbrev main_while0b_v102 : Ref sig .tc := ⟨.hbm, 131, rfl⟩
abbrev main_while0b_call4_c : Ref sig .tc := ⟨.hbm, 132, rfl⟩
abbrev main_while0b_call4_c_0 : Ref sig .tc := ⟨.hbm, 133, rfl⟩
abbrev main_while0b_call4_v0 : Ref sig .tc := ⟨.hbm, 134, rfl⟩
abbrev main_while0b_v103 : Ref sig .tc := ⟨.hbm, 135, rfl⟩
abbrev main_while0b_v104 : Ref sig .tc := ⟨.hbm, 136, rfl⟩
abbrev main_while0b_v105 : Ref sig .tc := ⟨.hbm, 137, rfl⟩
abbrev main_while0b_call5_v0 : Ref sig .tc := ⟨.hbm, 138, rfl⟩
abbrev main_while0b_call5_c : Ref sig .tc := ⟨.hbm, 139, rfl⟩
abbrev main_while0b_call5_c_0 : Ref sig .tc := ⟨.hbm, 140, rfl⟩
abbrev main_while0b_v106 : Ref sig .tc := ⟨.hbm, 141, rfl⟩
abbrev main_while0b_c_19 : Ref sig .tc := ⟨.hbm, 142, rfl⟩
abbrev main_while0b_v107 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_cst_11 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_cst_12 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_cst_13 : Ref sig .tc := ⟨.hbm, 156, rfl⟩
abbrev main_v95 : Ref sig .tc := ⟨.hbm, 157, rfl⟩
abbrev main_v96 : Ref sig .tc := ⟨.hbm, 158, rfl⟩
abbrev main_cst_14 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩

abbrev nD : Nat := 1
abbrev τ : Topo := Topo.v7x

variable {F : FTy → Type} [FloatOps F]

abbrev main_while0_count : Scf.Loop 32 := ⟨0#32, 8192#32, 1#32⟩
-- ==== Proof.Attend.lean ====
/- Attention of one query over a row of scores with a sink, on the extended reals: what both programs of the sliding
   window compute at one element. A score of −∞ is a masked key; `attend_congr` says that the value of a masked key
   does not matter as long as no score is +∞ and the sink is a real number. -/
module

public import Idealize.ShloMosaic.PureOps.Ideal
public import Idealize.ShloMosaic.Lib.Pointwise

@[expose] public section

noncomputable section

namespace Cert.Attend

open Idealize.ShloMosaic

/-- The greatest of the scores and the sink. -/
def top {n : Nat} (s : Fin n → EReal) (sink : EReal) : EReal := max (Finset.fold max ⊥ s Finset.univ) sink

/-- The softmax's denominator, the sink's own term included. -/
def denom {n : Nat} (s : Fin n → EReal) (sink : EReal) : EReal :=
  ∑ j, Ideal.exp (s j - top s sink) + Ideal.exp (sink - top s sink)

/-- The values weighted by the softmax of the scores. -/
def attend {n : Nat} (s : Fin n → EReal) (sink : EReal) (v : Fin n → EReal) : EReal :=
  ∑ j, Ideal.div (Ideal.exp (s j - top s sink)) (denom s sink) * v j

theorem exp_nonneg (x : EReal) : 0 ≤ Ideal.exp x := by
  induction x using EReal.rec with
  | bot => simp
  | top => simp
  | coe r => simp only [Ideal.exp_coe]; exact_mod_cast (Real.exp_pos r).le

theorem fold_max_ne_top {n : Nat} (s : Fin n → EReal) (hs : ∀ j, s j ≠ ⊤) (t : Finset (Fin n)) :
    Finset.fold max ⊥ s t ≠ ⊤ := by
  classical
  induction t using Finset.induction_on with
  | empty => simp
  | insert a t ha ih =>
    rw [Finset.fold_insert ha]
    rcases max_choice (s a) (Finset.fold max ⊥ s t) with h | h <;> rw [h]
    · exact hs a
    · exact ih

/-- With real bounds on the scores and a real sink, the denominator is not zero. -/
theorem denom_ne_zero {n : Nat} (s : Fin n → EReal) (sink : ℝ) (hs : ∀ j, s j ≠ ⊤) : denom s (sink : EReal) ≠ 0 := by
  have htop : top s (sink : EReal) ≠ ⊤ := by
    unfold top
    rcases max_choice (Finset.fold max ⊥ s Finset.univ) (sink : EReal) with h | h <;> rw [h]
    · exact fold_max_ne_top s hs _
    · exact EReal.coe_ne_top _
  have hbot : top s (sink : EReal) ≠ ⊥ := by
    have h : (sink : EReal) ≤ top s sink := le_max_right _ _
    intro e
    rw [e] at h
    exact EReal.coe_ne_bot _ (le_bot_iff.1 h)
  obtain ⟨r, hr⟩ : ∃ r : ℝ, top s (sink : EReal) = r := ⟨_, (EReal.coe_toReal htop hbot).symm⟩
  have hpos : 0 < Ideal.exp ((sink : EReal) - top s sink) := by
    rw [hr, ← EReal.coe_sub, Ideal.exp_coe]
    exact_mod_cast Real.exp_pos _
  have hsum : 0 ≤ ∑ j, Ideal.exp (s j - top s (sink : EReal)) := Finset.sum_nonneg fun j _ => exp_nonneg _
  have h : 0 < denom s (sink : EReal) := lt_of_lt_of_le hpos (le_add_of_nonneg_left hsum)
  exact h.ne'

/-- The value of a key whose score is −∞ does not matter. -/
theorem attend_congr {n : Nat} (s : Fin n → EReal) (sink : ℝ) (v v' : Fin n → EReal) (hs : ∀ j, s j ≠ ⊤)
    (hv : ∀ j, s j ≠ ⊥ → v j = v' j) : attend s sink v = attend s sink v' := by
  refine Finset.sum_congr rfl fun j _ => ?_
  by_cases h : s j = ⊥
  · have hz : Ideal.div (Ideal.exp (s j - top s sink)) (denom s sink) = 0 := by
      rw [h, EReal.bot_sub, Ideal.exp_bot, Ideal.div, if_neg (denom_ne_zero s sink hs), zero_mul]
    rw [hz, zero_mul, zero_mul]
  · rw [hv j h]

theorem ext {n : Nat} {s s' : Fin n → EReal} {sink sink' : EReal} {v v' : Fin n → EReal} (h1 : ∀ j, s j = s' j)
    (h2 : sink = sink') (h3 : ∀ j, v j = v' j) : attend s sink v = attend s' sink' v' := by
  rw [funext h1, h2, funext h3]

theorem coe_sum {ι : Type} (f : ι → ℝ) (t : Finset ι) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum of products of real numbers is a real number. -/
theorem dot_real {n : Nat} (a b : Fin n → EReal) (ha : ∀ i, ∃ r : ℝ, a i = r) (hb : ∀ i, ∃ r : ℝ, b i = r) :
    ∃ r : ℝ, ∑ i, a i * b i = r := by
  choose f hf using ha
  choose g hg using hb
  refine ⟨∑ i, f i * g i, ?_⟩
  simp only [hf, hg, ← EReal.coe_mul]
  exact (coe_sum _ _).symm

/-! ## The mask of the low half of 128 lanes -/

theorem slt_64 : ∀ l : Fin 128, IntOp.cmpi .slt (BitVec.ofNat 32 l.val) 64#32 = if l.val < 64 then 1#1 else 0#1 := by
  decide

theorem low_sum (f : Fin 128 → EReal) :
    ∑ l, Scalar.select (IntOp.cmpi .slt (BitVec.ofNat 32 l.val) 64#32) (f l) 0 = ∑ d : Fin 64, f ⟨d.val, by omega⟩ := by
  simp only [slt_64]
  rw [Fin.sum_univ_two_halves 64 64 rfl]
  simp [Scalar.select]

theorem high_sum (f : Fin 128 → EReal) :
    ∑ l, Scalar.select (IntOp.xori (IntOp.cmpi .slt (BitVec.ofNat 32 l.val) 64#32) 1#1) (f l) 0
      = ∑ d : Fin 64, f ⟨64 + d.val, by omega⟩ := by
  simp only [slt_64]
  rw [Fin.sum_univ_two_halves 64 64 rfl]
  simp [Scalar.select, IntOp.xori]

/-- Is key `j` of the two blocks of keys in the window of query `q` of block `n`, and not before the sequence? -/
def bandBit (n q j : Nat) : BitVec 1 := BitVec.ofBool (decide (q < j ∧ j ≤ q + 128 ∧ (0 < n ∨ 128 ≤ j)))

theorem distance_eq (q j : Nat) (hq : q < 128) (hj : j < 256) :
    IntOp.subi (IntOp.addi (BitVec.ofNat 32 q) 128#32) (BitVec.ofNat 32 j) = BitVec.ofNat 32 (q + 256 - j) - 128#32 := by
  apply BitVec.eq_of_toNat_eq
  simp only [IntOp.subi, IntOp.addi, BitVec.toNat_sub, BitVec.toNat_add, BitVec.toNat_ofNat]
  omega

theorem distance_mask : ∀ k : Fin 384,
    IntOp.andi (IntOp.cmpi .sge (BitVec.ofNat 32 k.val - 128#32) 0#32)
        (IntOp.cmpi .slt (BitVec.ofNat 32 k.val - 128#32) 128#32)
      = BitVec.ofBool (decide (128 ≤ k.val ∧ k.val < 256)) := by
  decide +kernel

theorem bandBit_eq (q : Fin 128) (j : Fin 256) :
    IntOp.andi (IntOp.cmpi .sge (IntOp.subi (IntOp.addi (BitVec.ofNat 32 q.val) 128#32) (BitVec.ofNat 32 j.val)) 0#32)
        (IntOp.cmpi .slt (IntOp.subi (IntOp.addi (BitVec.ofNat 32 q.val) 128#32) (BitVec.ofNat 32 j.val)) 128#32)
      = BitVec.ofBool (decide (q.val < j.val ∧ j.val ≤ q.val + 128)) := by
  rw [distance_eq _ _ q.isLt j.isLt, distance_mask ⟨q.val + 256 - j.val, by omega⟩]
  congr 2
  simp only [eq_iff_iff]
  omega

end Cert.Attend

end
-- ==== Proof.SwaRefTerm.lean ====
module

public import proofs.«01_k».proof.Proof.Attend
public import proofs.«01_k».proof.Proof.Gen.SwaRefIdeal.Run
public import Idealize.ShloMosaic.Lib.Pointwise

@[expose] public section

/-!
The reference program's result, its composed term cut into named arrays.
-/

set_option maxRecDepth 16384

noncomputable section

namespace Cert.SwaRefIdeal.Attention

open Cert.SwaRefIdeal Idealize.ShloMosaic Idealize.ShloMosaic.TcCoe Idealize.SL.Sem
open Cert.SwaRefIdeal.Facts₀ Cert.SwaRefIdeal.Facts

variable (Q : FVec Ideal S32768x512 .bf16) (K X : FVec Ideal S32768x128 .bf16) (sinks : FVec Ideal S8 .f32)
    (bias : FVec Ideal S8x128x256 .f32)

/-- The rows of each block and of the block before it, zeros before the first. -/
def window : FVec Ideal S4x64x256x2x64 .f32 :=
  (concatenate S4x64x256x2x64 2 [⟨S4x64x128x2x64, (extractStridedSlice S4x64x128x2x64 ![0, 0, 0, 0, 0] (shapeCast _ (pad S4x8320x2x64 ![0, 128, 0, 0] ![0, 0, 0, 0] ![0, 0, 0, 0] (shapeCast _ (extf .f32 X bitsLt_bf16_f32) shapeCasts_S32768x128_S4x8192x2x64) (sitofp .f32 (constantI S_ 32 0#32)) pads_S4x8192x2x64_S4x8320x2x64_000_12800_000_000 h_S_) shapeCasts_S4x8320x2x64_S4x65x128x2x64) slices_S4x65x128x2x64_S4x64x128x2x64_0_0_0_0_0)⟩, ⟨S4x64x128x2x64, (extractStridedSlice S4x64x128x2x64 ![0, 1, 0, 0, 0] (shapeCast _ (pad S4x8320x2x64 ![0, 128, 0, 0] ![0, 0, 0, 0] ![0, 0, 0, 0] (shapeCast _ (extf .f32 X bitsLt_bf16_f32) shapeCasts_S32768x128_S4x8192x2x64) (sitofp .f32 (constantI S_ 32 0#32)) pads_S4x8192x2x64_S4x8320x2x64_000_12800_000_000 h_S_) shapeCasts_S4x8320x2x64_S4x65x128x2x64) slices_S4x65x128x2x64_S4x64x128x2x64_0_1_0_0_0)⟩] concatenates_S4x64x128x2x64_S4x64x128x2x64_S4x64x256x2x64_d2)

/-- The band of the causal window, without the positions before the sequence. -/
def valid : IVec S64x128x256 1 :=
  (andi (broadcastInDim S64x128x256 ![0, 1, 2] bcast_S1x128x256_S64x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S64x128x256 ![0, 1, 2] bcast_S64x1x256_S64x128x256_0_1_2 (broadcastInDim S64x1x256 ![0, 2] bcast_S64x256_S64x1x256_0_2 (cmpi .sge (addi (broadcastInDim S64x256 ![0, 1] bcast_S64x1_S64x256_0_1 (subi (muli (broadcastInDim S64x1 ![0] bcast_S64_S64x1_0 (iotaInDim S64 32 0)) (broadcastInDim S64x1 ![] bcast_S_S64x1 (constantI S_ 32 128#32))) (broadcastInDim S64x1 ![] bcast_S_S64x1 (constantI S_ 32 128#32)))) (broadcastInDim S64x256 ![0, 1] bcast_S1x256_S64x256_0_1 (broadcastInDim S1x256 ![1] bcast_S256_S1x256_1 (iotaInDim S256 32 0)))) (broadcastInDim S64x256 ![] bcast_S_S64x256 (constantI S_ 32 0#32))))))

/-- The scores with their bias, minus infinity outside the band. -/
def masked : FVec Ideal S4x64x2x4x128x256 .f32 :=
  (select (broadcastInDim S4x64x2x4x128x256 ![0, 1, 2, 3, 4, 5] bcast_S1x64x1x1x128x256_S4x64x2x4x128x256_0_1_2_3_4_5 (broadcastInDim S1x64x1x1x128x256 ![1, 4, 5] bcast_S64x128x256_S1x64x1x1x128x256_1_4_5 valid)) (addf (transpose S4x64x2x4x128x256 [0, 1, 2, 5, 4, 3] (Host.dotGeneral dot_S4x64x256x2x64_S4x64x128x4x2x64_S4x64x2x256x128x4_4_5_2_23_013_014 none (window K) (shapeCast _ (extf .f32 Q bitsLt_bf16_f32) shapeCasts_S32768x512_S4x64x128x4x2x64)) transposes_S4x64x2x256x128x4_S4x64x2x4x128x256_0_1_2_5_4_3) (broadcastInDim S4x64x2x4x128x256 ![0, 1, 2, 3, 4, 5] bcast_S1x1x2x4x128x256_S4x64x2x4x128x256_0_1_2_3_4_5 (broadcastInDim S1x1x2x4x128x256 ![2, 3, 4, 5] bcast_S2x4x128x256_S1x1x2x4x128x256_2_3_4_5 (shapeCast _ bias shapeCasts_S8x128x256_S2x4x128x256)))) (broadcastInDim S4x64x2x4x128x256 ![] bcast_S_S4x64x2x4x128x256 (id (constant S_ .f32 0xFF800000#32))))

/-- The sinks, one for each row of scores. -/
def spread : FVec Ideal S4x64x2x4x128x1 .f32 :=
  (broadcastInDim S4x64x2x4x128x1 ![0, 1, 2, 3, 4, 5] bcast_S1x1x2x4x1x1_S4x64x2x4x128x1_0_1_2_3_4_5 (broadcastInDim S1x1x2x4x1x1 ![2, 3, 4, 5] bcast_S2x4x1x1_S1x1x2x4x1x1_2_3_4_5 (broadcastInDim S2x4x1x1 ![0, 1] bcast_S2x4_S2x4x1x1_0_1 (shapeCast _ sinks shapeCasts_S8_S2x4))))

/-- The greatest of a row of scores and of the sink. -/
def peak : FVec Ideal S4x64x2x4x128x1 .f32 :=
  (maximumf (broadcastInDim S4x64x2x4x128x1 ![0, 1, 2, 3, 4] bcast_S4x64x2x4x128_S4x64x2x4x128x1_0_1_2_3_4 (Host.reduce FloatOps.maximumf (masked Q K bias) (constant S_ .f32 0xFF800000#32) reducesTo_S4x64x2x4x128x256_S4x64x2x4x128_d5 h_S_)) (spread sinks))

/-- The exponentials of the scores less the greatest. -/
def numer : FVec Ideal S4x64x2x4x128x256 .f32 :=
  (Host.exp (subf (masked Q K bias) (broadcastInDim S4x64x2x4x128x256 ![0, 1, 2, 3, 4, 5] bcast_S4x64x2x4x128x1_S4x64x2x4x128x256_0_1_2_3_4_5 (peak Q K sinks bias))))

/-- The softmax weights. -/
def weights : FVec Ideal S4x64x2x4x128x256 .f32 :=
  (Host.divf (numer Q K sinks bias) (broadcastInDim S4x64x2x4x128x256 ![0, 1, 2, 3, 4, 5] bcast_S4x64x2x4x128x1_S4x64x2x4x128x256_0_1_2_3_4_5 (addf (broadcastInDim S4x64x2x4x128x1 ![0, 1, 2, 3, 4] bcast_S4x64x2x4x128_S4x64x2x4x128x1_0_1_2_3_4 (Host.reduceAdd (numer Q K sinks bias) (constant S_ .f32 0x00000000#32) reducesTo_S4x64x2x4x128x256_S4x64x2x4x128_d5 h_S_)) (Host.exp (subf (spread sinks) (peak Q K sinks bias))))))

/-- The result as the program composes it. -/
def out : FVec Ideal S4x8192x512 .bf16 :=
  shapeCast _ (truncf .bf16 (transpose S4x64x128x4x2x64 [0, 1, 5, 4, 2, 3] (Host.dotGeneral dot_S4x64x256x2x64_S4x64x2x4x128x256_S4x64x2x64x4x128_2_5_4_34_013_012 none (window X) (weights Q K sinks bias)) transposes_S4x64x2x64x4x128_S4x64x128x4x2x64_0_1_5_4_2_3) bitsLt_bf16_f32) shapeCasts_S4x64x128x4x2x64_S4x8192x512

theorem res_eq (m : (ℓ : Loc nD τ sig) → Buf (Elt Ideal) ℓ) (c : Dev nD) : Value.res_out0 m c
    = out (m ((c : Thread nD τ).loc main_arg0)) (m ((c : Thread nD τ).loc main_arg1)) (m ((c : Thread nD τ).loc main_arg2))
        (m ((c : Thread nD τ).loc main_arg3)) (m ((c : Thread nD τ).loc main_arg4)) := rfl

end Cert.SwaRefIdeal.Attention

end
-- ==== Proof.LastAxis.lean ====
module

public import Idealize.ShloMosaic.Lib.Pointwise

@[expose] public section

/-!
A reduction of an array of six axes along its last: its maximum is the fold of `max` over the last coordinate, and its sum
the sum over it.
-/

noncomputable section

namespace Cert.LastAxis

open Idealize.ShloMosaic

variable {n0 n1 n2 n3 n4 n5 : Nat}

theorem drop_iff (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ j : Fin n5, ix6 a b c d e j = i := by
  refine ⟨fun k => ⟨i 5, funext fun x => Fin.ext ?_⟩, ?_⟩
  · match x with
    | ⟨0, _⟩ => exact (congrArg Fin.val (congrFun k (0 : Fin 5))).symm
    | ⟨1, _⟩ => exact (congrArg Fin.val (congrFun k (1 : Fin 5))).symm
    | ⟨2, _⟩ => exact (congrArg Fin.val (congrFun k (2 : Fin 5))).symm
    | ⟨3, _⟩ => exact (congrArg Fin.val (congrFun k (3 : Fin 5))).symm
    | ⟨4, _⟩ => exact (congrArg Fin.val (congrFun k (4 : Fin 5))).symm
    | ⟨5, _⟩ => rfl
  · rintro ⟨j, rfl⟩
    refine funext fun x => Fin.ext ?_
    match x with
    | ⟨0, _⟩ => rfl
    | ⟨1, _⟩ => rfl
    | ⟨2, _⟩ => rfl
    | ⟨3, _⟩ => rfl
    | ⟨4, _⟩ => rfl

/-- The greatest of a row. -/
theorem max_apply {u : Shape} (x : FVec Ideal ⟨6, ![n0, n1, n2, n3, n4, n5]⟩ .f32) (z : FVec Ideal u .f32)
    (h : (⟨6, ![n0, n1, n2, n3, n4, n5]⟩ : Shape).ReducesTo [5] ⟨5, ![n0, n1, n2, n3, n4]⟩) (hu : 0 < u.numel)
    (a : Fin n0) (b : Fin n1) (c : Fin n2) (d : Fin n3) (e : Fin n4) :
    Host.reduce FloatOps.maximumf x z h hu (ix5 a b c d e)
      = Finset.fold max (z (Shape.Idx.first hu)) (fun j : Fin n5 => x (ix6 a b c d e j)) Finset.univ := by
  rw [Host.reduce_eq_fold]
  exact Finset.fold_filter_eq_fold_of_fiber max _ (fun j : Fin n5 => ix6 a b c d e j)
    (fun _ _ k => congrFun k 5) (drop_iff h a b c d e) _ x

/-- The sum of a row. -/
theorem sum_apply {u : Shape} (x : FVec Ideal ⟨6, ![n0, n1, n2, n3, n4, n5]⟩ .f32) (z : FVec Ideal u .f32)
    (h : (⟨6, ![n0, n1, n2, n3, n4, n5]⟩ : Shape).ReducesTo [5] ⟨5, ![n0, n1, n2, n3, n4]⟩) (hu : 0 < u.numel)
    (a : Fin n0) (b : Fin n1) (c : Fin n2) (d : Fin n3) (e : Fin n4) :
    Host.reduceAdd x z h hu (ix5 a b c d e)
      = z (Shape.Idx.first hu) + ∑ j : Fin n5, x (ix6 a b c d e j) :=
  congrArg (fun s : EReal => z (Shape.Idx.first hu) + s)
    (Finset.sum_filter_eq_sum_of_fiber _ (fun j : Fin n5 => ix6 a b c d e j)
      (fun _ _ k => congrFun k 5) (drop_iff h a b c d e) x)

end Cert.LastAxis

end
-- ==== Proof.SwaRefPoint.lean ====
module

public import proofs.«01_k».proof.Proof.SwaRefTerm
public import proofs.«01_k».proof.Proof.LastAxis

@[expose] public section

/-!
The reference's arrays at an index: its windows of keys and values are rows of the arguments or zeros, its mask the
band, its scores and softmax those of the query's window.
-/

set_option maxRecDepth 16384

noncomputable section

namespace Cert.SwaRefIdeal.Attention

open Cert.SwaRefIdeal Idealize.ShloMosaic Idealize.ShloMosaic.TcCoe Idealize.SL.Sem

variable (Q : FVec Ideal S32768x512 .bf16) (K X : FVec Ideal S32768x128 .bf16) (sinks : FVec Ideal S8 .f32)
    (bias : FVec Ideal S8x128x256 .f32)

theorem int_zero : (FloatOps.sitofp .f32 0#32 : Ideal .f32) = (0 : EReal) := by
  show (((0#32).toInt : ℝ) : EReal) = 0
  simp

theorem bits_bot : (FloatOps.ofBits .f32 0xFF800000#32 : Ideal .f32) = (⊥ : EReal) := by
  show Ideal.ofBits .f32 0xFF800000#32 = ⊥
  simp [Ideal.ofBits, Ideal.ieee]

theorem bits_zero : (FloatOps.ofBits .f32 0x00000000#32 : Ideal .f32) = (0 : EReal) := by
  show Ideal.ofBits .f32 0x00000000#32 = 0
  simp [Ideal.ofBits, Ideal.ieee]

theorem window_apply (b : Fin 4) (n : Fin 64) (j : Fin 256) (k : Fin 2) (d : Fin 64) :
    window X (ix5 b n j k d) = if h : 128 ≤ n.val * 128 + j.val then
      X (ix2 ⟨b.val * 8192 + (n.val * 128 + j.val - 128), by omega⟩ ⟨k.val * 64 + d.val, by omega⟩) else 0 := by
  unfold window
  pointwise
  rw [int_zero]
  by_cases h : 128 ≤ n.val * 128 + j.val
  · rw [dif_pos h]
    split
    · rw [dif_pos ⟨h, by omega⟩]
    · rw [dif_pos ⟨by omega, by omega⟩]
      refine congrArg X (congrArg (fun r => ix2 r _) (Fin.ext ?_))
      show b.val * 8192 + ((1 + n.val) * 128 + (j.val - 128) - 128) = b.val * 8192 + (n.val * 128 + j.val - 128)
      omega
  · rw [dif_neg h]
    split
    · rw [dif_neg (fun k => h k.1)]
    · omega

theorem valid_apply (n : Fin 64) (q : Fin 128) (j : Fin 256) :
    valid (ix3 n q j) = Attend.bandBit n q j := by
  have hk : IntOp.cmpi .sge
      (IntOp.addi (IntOp.subi (IntOp.muli (BitVec.ofNat 32 n.val) 128#32) 128#32) (BitVec.ofNat 32 j.val)) 0#32
      = BitVec.ofBool (decide (0 < n.val ∨ 128 ≤ j.val)) := by
    have e : IntOp.addi (IntOp.subi (IntOp.muli (BitVec.ofNat 32 n.val) 128#32) 128#32) (BitVec.ofNat 32 j.val)
        = BitVec.ofInt 32 ((n.val : Int) * 128 + j.val - 128) := by
      apply BitVec.eq_of_toNat_eq
      simp only [IntOp.addi, IntOp.subi, IntOp.muli, BitVec.toNat_add, BitVec.toNat_sub, BitVec.toNat_mul,
        BitVec.toNat_ofNat, BitVec.toNat_ofInt]
      omega
    rw [e]
    show BitVec.ofBool (BitVec.sle 0#32 _) = _
    congr 1
    rw [BitVec.sle_eq_decide]
    congr 1
    rw [BitVec.toInt_ofInt]
    simp only [Int.bmod_def, eq_iff_iff, BitVec.toInt_zero]
    split <;> omega
  unfold valid
  pointwise
  rw [Attend.bandBit_eq, hk, Attend.bandBit]
  by_cases h1 : q.val < j.val <;> by_cases h2 : j.val ≤ q.val + 128 <;> by_cases h3 : 0 < n.val ∨ 128 ≤ j.val <;>
    simp only [h1, h2, h3, IntOp.andi, true_and, false_and, and_true, and_false, and_self] <;> decide

theorem masked_apply (b : Fin 4) (n : Fin 64) (k : Fin 2) (g : Fin 4) (q : Fin 128) (j : Fin 256) :
    masked Q K bias (ix6 b n k g q j) = Scalar.select (Attend.bandBit n q j)
      (∑ d : Fin 64, Q (ix2 ⟨b.val * 8192 + (n.val * 128 + q.val), by omega⟩ ⟨g.val * 128 + (k.val * 64 + d.val), by omega⟩)
          * window K (ix5 b n j k d)
        + bias (ix3 ⟨k.val * 4 + g.val, by omega⟩ q j)) ⊥ := by
  unfold masked
  pointwise
  rw [valid_apply]
  refine congrArg₂ (fun u v : EReal => Scalar.select _ u v) (congrArg (fun u : EReal => u + _)
    (Finset.sum_congr rfl fun d _ => (mul_comm _ _).trans (congrArg (fun u : EReal => u * _)
      (congrArg Q (congrArg₂ ix2 (Fin.ext (Nat.add_assoc _ _ _)) (Fin.ext (Nat.add_assoc _ _ _))))))) bits_bot

theorem spread_apply (b : Fin 4) (n : Fin 64) (k : Fin 2) (g : Fin 4) (q : Fin 128) (i : Fin 1) :
    spread sinks (ix6 b n k g q i) = sinks (ix1 ⟨k.val * 4 + g.val, by omega⟩) := by
  unfold spread
  pointwise

theorem peak_apply (b : Fin 4) (n : Fin 64) (k : Fin 2) (g : Fin 4) (q : Fin 128) (i : Fin 1) :
    peak Q K sinks bias (ix6 b n k g q i) = Attend.top (fun j => masked Q K bias (ix6 b n k g q j))
      (sinks (ix1 ⟨k.val * 4 + g.val, by omega⟩)) := by
  unfold peak
  have e := LastAxis.max_apply (masked Q K bias) (constant S_ .f32 0xFF800000#32)
    Facts₀.reducesTo_S4x64x2x4x128x256_S4x64x2x4x128_d5 Facts₀.h_S_ b n k g q
  generalize Host.reduce FloatOps.maximumf (masked Q K bias) (constant S_ .f32 0xFF800000#32)
    Facts₀.reducesTo_S4x64x2x4x128x256_S4x64x2x4x128_d5 Facts₀.h_S_ = r at e ⊢
  rw [maximumf_apply, spread_apply]
  have e1 : broadcastInDim S4x64x2x4x128x1 ![0, 1, 2, 3, 4] Facts₀.bcast_S4x64x2x4x128_S4x64x2x4x128x1_0_1_2_3_4 r
      (ix6 b n k g q i) = r (ix5 b n k g q) := by pointwise
  rw [e1, e]
  exact congrArg (fun u : EReal => max (Finset.fold max u _ Finset.univ) _) bits_bot

theorem numer_apply (b : Fin 4) (n : Fin 64) (k : Fin 2) (g : Fin 4) (q : Fin 128) (j : Fin 256) :
    numer Q K sinks bias (ix6 b n k g q j) = Ideal.exp (masked Q K bias (ix6 b n k g q j)
      - Attend.top (fun j => masked Q K bias (ix6 b n k g q j)) (sinks (ix1 ⟨k.val * 4 + g.val, by omega⟩))) := by
  unfold numer
  pointwise
  rw [peak_apply]

theorem weights_apply (b : Fin 4) (n : Fin 64) (k : Fin 2) (g : Fin 4) (q : Fin 128) (j : Fin 256) :
    weights Q K sinks bias (ix6 b n k g q j) = Ideal.div (numer Q K sinks bias (ix6 b n k g q j))
      (Attend.denom (fun j => masked Q K bias (ix6 b n k g q j)) (sinks (ix1 ⟨k.val * 4 + g.val, by omega⟩))) := by
  unfold weights
  have e := LastAxis.sum_apply (numer Q K sinks bias) (constant S_ .f32 0x00000000#32)
    Facts₀.reducesTo_S4x64x2x4x128x256_S4x64x2x4x128_d5 Facts₀.h_S_ b n k g q
  generalize Host.reduceAdd (numer Q K sinks bias) (constant S_ .f32 0x00000000#32)
    Facts₀.reducesTo_S4x64x2x4x128x256_S4x64x2x4x128_d5 Facts₀.h_S_ = r at e ⊢
  pointwise
  rw [e, peak_apply, spread_apply]
  refine congrArg (Ideal.div _) (congrArg (fun u : EReal => u + _) ?_)
  exact (congrArg (fun u : EReal => u + _) bits_zero).trans ((zero_add _).trans
    (Finset.sum_congr rfl fun j _ => numer_apply Q K sinks bias b n k g q j))

/-- The result at an index is the attention of the query over its window. -/
theorem out_apply (b : Fin 4) (s : Fin 8192) (l : Fin 512) :
    out Q K X sinks bias (ix3 b s l) = Attend.attend
      (fun j => masked Q K bias (ix6 b ⟨s.val / 128, by omega⟩ ⟨l.val % 128 / 64, by omega⟩ ⟨l.val / 128, by omega⟩
        ⟨s.val % 128, by omega⟩ j))
      (sinks (ix1 ⟨l.val % 128 / 64 * 4 + l.val / 128, by omega⟩))
      (fun j => window X (ix5 b ⟨s.val / 128, by omega⟩ j ⟨l.val % 128 / 64, by omega⟩ ⟨l.val % 64, by omega⟩)) := by
  unfold out Attend.attend
  pointwise
  have h : l.val / 64 % 2 = l.val % 128 / 64 := by omega
  simp only [h]
  refine Finset.sum_congr rfl fun j _ => (mul_comm _ _).trans (congrArg (fun u : EReal => u * _) ?_)
  rw [weights_apply, numer_apply]

end Cert.SwaRefIdeal.Attention

end
-- ==== Proof.SwaHalf.lean ====
module

public import proofs.«01_k».proof.Proof.Gen.SwaIdeal.Value
public import Idealize.ShloMosaic.Lib.Pipeline.ValueKit
public import Idealize.ShloMosaic.Lib.Pointwise
public import proofs.«01_k».proof.Proof.Attend

@[expose] public section

/-!
One head of the attention in the kernel: the band mask, the softmax of a block of queries over its two blocks of keys, and
a stored tile of 128 lanes, which holds two heads.
-/

set_option maxRecDepth 16384

noncomputable section

namespace Cert.SwaIdeal.Sliding

open Cert.SwaIdeal Cert.SwaIdeal.Gen Idealize.ShloMosaic Idealize.ShloMosaic.TcCoe Idealize.SL.Sem
open Idealize.ShloMosaic.Pipeline (Dat)

/-- The band mask of the block `n`: key `j` is within the window behind query `q`, and is not before the sequence. -/
def band (n : Nat) : IVec S128x256 1 :=
  andi
    (andi
      (cmpi .sge (subi (addi (iota Kind.tc S128x256 32 [0] iota_S128x256_d0_w32) (broadcast S128x256 128#32))
        (iota Kind.tc S128x256 32 [1] iota_S128x256_d1_w32)) (broadcast S128x256 0#32))
      (cmpi .slt (subi (addi (iota Kind.tc S128x256 32 [0] iota_S128x256_d0_w32) (broadcast S128x256 128#32))
        (iota Kind.tc S128x256 32 [1] iota_S128x256_d1_w32)) (broadcast S128x256 128#32)))
    (ori (broadcast S128x256 (Scalar.cmpi .sgt (BitVec.ofNat 32 n) 0#32))
      (cmpi .sge (iota Kind.tc S128x256 32 [1] iota_S128x256_d1_w32) (broadcast S128x256 128#32)))

/-- One head's attention of one query block, in the kernel's own operations. -/
def head (qm : FVec Ideal S128x128 .bf16) (kcat vcat : FVec Ideal S256x128 .bf16) (valid : IVec S128x256 1)
    (bias : FVec Ideal S1x128x256 .f32) (sink : EReal) : FVec Ideal S128x128 .f32 :=
  have s : FVec Ideal S128x256 .f32 := select valid
    (addf (matmul dot_S128x128_S256x128_S128x256_1_1_0_0_n_n none qm kcat (constant S128x256 .f32 0x00000000#32))
      (shapeCast S128x256 bias shapeCasts_S1x128x256_S128x256))
    (broadcast S128x256 (Named.named κ "mask" 0xF149F2CA#32))
  have sinks : FVec Ideal S128x1 .f32 := broadcast S128x1 sink
  have mx : FVec Ideal S128x1 .f32 := maximumf (shapeCast S128x1
    (multiReduction .maximumf [1] S128 s 0xFF800000#32 reduces_S128x256_S128 (.inl rfl) rfl) shapeCasts_S128_S128x1) sinks
  have e : FVec Ideal S128x256 .f32 := exp (subf s (broadcastTo S128x256 mx broadcasts_S128x1_S128x256))
  have den : FVec Ideal S128x1 .f32 := addf (shapeCast S128x1
    (multiReduction .add [1] S128 e 0x00000000#32 reduces_S128x256_S128 (.inl rfl) rfl) shapeCasts_S128_S128x1)
    (exp (subf sinks mx))
  matmul dot_S128x256_S256x128_S128x128_1_0_0_1_n_n none
    (truncf .bf16 (divf e (broadcastTo S128x256 den broadcasts_S128x1_S128x256)) bitsLt_bf16_f32) vcat
    (constant S128x128 .f32 0x00000000#32)

/-- The mask's constant is −∞. -/
theorem mask_eq : (Named.named (F := Ideal) κ "mask" (φ := .f32) 0xF149F2CA#32 : EReal) = ⊥ :=
  IdealRules.named_const.ideal_named_scalar _ _ _ _ rfl

theorem ofBits_bot : Ideal.ofBits .f32 0xFF800000#32 = ⊥ := by
  simp [Ideal.ofBits, Ideal.ieee]

theorem head_apply (qm : FVec Ideal S128x128 .bf16) (kcat vcat : FVec Ideal S256x128 .bf16) (valid : IVec S128x256 1)
    (bias : FVec Ideal S1x128x256 .f32) (sink : EReal) (q l : Fin 128) :
    head qm kcat vcat valid bias sink (ix2 q l)
      = Attend.attend (fun j : Fin 256 => Scalar.select (valid (ix2 q j))
          (∑ d : Fin 128, qm (ix2 q d) * kcat (ix2 j d) + bias (ix3 0 q j)) ⊥) sink (fun j => vcat (ix2 j l)) := by
  pointwise [head]
  rw [mask_eq, ofBits_bot]
  rfl

theorem positive_bit : ∀ n : Fin 64, Scalar.cmpi .sgt (BitVec.ofNat 32 n.val) 0#32 = BitVec.ofBool (decide (0 < n.val)) := by
  decide +kernel

theorem own_bit : ∀ j : Fin 256, IntOp.cmpi .sge (BitVec.ofNat 32 j.val) 128#32 = BitVec.ofBool (decide (128 ≤ j.val)) := by
  decide +kernel

/-- The band mask at an element, in integers. -/
theorem band_apply (n : Nat) (hn : n < 64) (q : Fin 128) (j : Fin 256) :
    band n (ix2 q j) = Attend.bandBit n q.val j.val := by
  pointwise [band]
  rw [Attend.bandBit_eq, positive_bit ⟨n, hn⟩, own_bit, Attend.bandBit]
  by_cases h1 : q.val < j.val <;> by_cases h2 : j.val ≤ q.val + 128 <;> by_cases h3 : 0 < n <;>
    by_cases h4 : 128 ≤ j.val <;> simp [h1, h2, h3, h4, IntOp.andi, IntOp.ori]

/-- Lanes `l < 64` are the low half. -/
def low : IVec S128x128 1 :=
  cmpi .slt (iota Kind.tc S128x128 32 [1] iota_S128x128_d1_w32) (broadcast S128x128 64#32)

/-- One tile of the result: two heads' attention side by side in 128 lanes. -/
theorem tile (qb k0 k1 v0 v1 : FVec Ideal S1x128x128 .bf16) (n : Nat) (hn : n < 64) (b0 b1 : FVec Ideal S1x128x256 .f32)
    (s0 s1 : EReal) (x : S1x128x128.Idx) :
    shapeCast S1x128x128 (truncf .bf16 (select low
        (head (select low (shapeCast S128x128 qb shapeCasts_S1x128x128_S128x128) (broadcast S128x128 (FloatOps.ofBits .bf16 0#16)))
          (concatenate S256x128 0 [⟨S128x128, shapeCast S128x128 k0 shapeCasts_S1x128x128_S128x128⟩,
            ⟨S128x128, shapeCast S128x128 k1 shapeCasts_S1x128x128_S128x128⟩] concatenates_S128x128_S128x128_S256x128_d0)
          (concatenate S256x128 0 [⟨S128x128, shapeCast S128x128 v0 shapeCasts_S1x128x128_S128x128⟩,
            ⟨S128x128, shapeCast S128x128 v1 shapeCasts_S1x128x128_S128x128⟩] concatenates_S128x128_S128x128_S256x128_d0)
          (band n) b0 s0)
        (head (select (xori low (constantI S128x128 1 1#1)) (shapeCast S128x128 qb shapeCasts_S1x128x128_S128x128)
            (broadcast S128x128 (FloatOps.ofBits .bf16 0#16)))
          (concatenate S256x128 0 [⟨S128x128, shapeCast S128x128 k0 shapeCasts_S1x128x128_S128x128⟩,
            ⟨S128x128, shapeCast S128x128 k1 shapeCasts_S1x128x128_S128x128⟩] concatenates_S128x128_S128x128_S256x128_d0)
          (concatenate S256x128 0 [⟨S128x128, shapeCast S128x128 v0 shapeCasts_S1x128x128_S128x128⟩,
            ⟨S128x128, shapeCast S128x128 v1 shapeCasts_S1x128x128_S128x128⟩] concatenates_S128x128_S128x128_S256x128_d0)
          (band n) b1 s1)) bitsLt_bf16_f32) shapeCasts_S128x128_S1x128x128 x
      = if (x 2).val < 64 then
          Attend.attend (fun j : Fin 256 => Scalar.select (Attend.bandBit n (x 1).val j.val)
            (∑ d : Fin 64, qb (ix3 0 (x 1) ⟨d.val, by omega⟩)
                * (if h : j.val < 128 then k0 (ix3 0 ⟨j.val, h⟩ ⟨d.val, by omega⟩)
                    else k1 (ix3 0 ⟨j.val - 128, by omega⟩ ⟨d.val, by omega⟩))
              + b0 (ix3 0 (x 1) j)) ⊥) s0
            (fun j => if h : j.val < 128 then v0 (ix3 0 ⟨j.val, h⟩ (x 2)) else v1 (ix3 0 ⟨j.val - 128, by omega⟩ (x 2)))
        else
          Attend.attend (fun j : Fin 256 => Scalar.select (Attend.bandBit n (x 1).val j.val)
            (∑ d : Fin 64, qb (ix3 0 (x 1) ⟨64 + d.val, by omega⟩)
                * (if h : j.val < 128 then k0 (ix3 0 ⟨j.val, h⟩ ⟨64 + d.val, by omega⟩)
                    else k1 (ix3 0 ⟨j.val - 128, by omega⟩ ⟨64 + d.val, by omega⟩))
              + b1 (ix3 0 (x 1) j)) ⊥) s1
            (fun j => if h : j.val < 128 then v0 (ix3 0 ⟨j.val, h⟩ (x 2)) else v1 (ix3 0 ⟨j.val - 128, by omega⟩ (x 2))) := by
  idx_vars x
  pointwise [low]
  rw [Attend.slt_64, head_apply, head_apply]
  by_cases hx : x2.val < 64
  · rw [if_pos hx]
    pointwise [low]
    simp only [Attend.low_sum, band_apply n hn, if_pos hx]
  · rw [if_neg hx]
    pointwise [low]
    simp only [Attend.high_sum, band_apply n hn, if_neg hx]

end Cert.SwaIdeal.Sliding

end
-- ==== Proof.SwaBlocks.lean ====
module

public import proofs.«01_k».proof.Proof.SwaHalf
public import Idealize.ShloMosaic.Lib.Claim

@[expose] public section

/-!
The blocks the kernel reads, as rows of the argument arrays.
-/

set_option maxRecDepth 16384

noncomputable section

namespace Cert.SwaIdeal.Sliding

open Cert.SwaIdeal Cert.SwaIdeal.Gen Idealize.ShloMosaic Idealize.ShloMosaic.TcCoe Idealize.SL.Sem
open Idealize.ShloMosaic.Pipeline (Dat)

variable (m : (ℓ : Loc nD τ sig) → Buf (Elt Ideal) ℓ)

/-- The row of the key `j` that the block `n` of the sequence `b` reads: the block before, then the block itself. -/
def keyRow (b n j : Nat) : Nat := b * 8192 + if j < 128 then (n - 1) * 128 + j else n * 128 + (j - 128)

theorem keyRow_lt (b : Fin 4) (n : Nat) (hn : n < 64) (j : Fin 256) : keyRow b.val n j.val < 32768 := by
  unfold keyRow; split <;> omega

/-- The sliding-window attention at one element: sequence `b`, position `s`, lane `l` (pair `l / 128` of heads, kv head
    `l % 128 / 64`). -/
def at_ (Q : FVec Ideal S32768x512 .bf16) (K Vv : FVec Ideal S32768x128 .bf16) (sinks : FVec Ideal S8 .f32)
    (bias : FVec Ideal S8x128x256 .f32) (b : Fin 4) (s : Fin 8192) (l : Fin 512) : EReal :=
  Attend.attend
    (fun j : Fin 256 => Scalar.select (Attend.bandBit (s.val / 128) (s.val % 128) j.val)
      (∑ d : Fin 64, Q (ix2 ⟨b.val * 8192 + s.val, by omega⟩ ⟨l.val / 64 * 64 + d.val, by omega⟩)
          * K (ix2 ⟨keyRow b.val (s.val / 128) j.val, keyRow_lt b _ (by omega) j⟩ ⟨l.val % 128 / 64 * 64 + d.val, by omega⟩)
        + bias (ix3 ⟨l.val % 128 / 64 * 4 + l.val / 128, by omega⟩ ⟨s.val % 128, by omega⟩ j)) ⊥)
    (sinks (ix1 ⟨l.val % 128 / 64 * 4 + l.val / 128, by omega⟩))
    (fun j => Vv (ix2 ⟨keyRow b.val (s.val / 128) j.val, keyRow_lt b _ (by omega) j⟩ ⟨l.val % 128, by omega⟩))

/-- The whole result. -/
def result (Q : FVec Ideal S32768x512 .bf16) (K Vv : FVec Ideal S32768x128 .bf16) (sinks : FVec Ideal S8 .f32)
    (bias : FVec Ideal S8x128x256 .f32) : FVec Ideal S4x8192x512 .bf16 := fun i => at_ Q K Vv sinks bias (i 0) (i 1) (i 2)

theorem idx : ∀ t : Fin cfg0.N,
    win0_0.index t = ![0]
    ∧ win0_1.index t = ![(grid0.coords t 0).val, (grid0.coords t 1).val, 0]
    ∧ win0_2.index t = ![(grid0.coords t 0).val, (grid0.coords t 1).val - 1, 0]
    ∧ win0_3.index t = ![(grid0.coords t 0).val, (grid0.coords t 1).val, 0]
    ∧ win0_4.index t = ![(grid0.coords t 0).val, (grid0.coords t 1).val - 1, 0]
    ∧ win0_5.index t = ![(grid0.coords t 0).val, (grid0.coords t 1).val, 0]
    ∧ win0_6.index t = ![0, 0, 0]
    ∧ win0_7.index t = ![(grid0.coords t 0).val, (grid0.coords t 1).val, 0] :=
  (by decide +kernel : ∀ t : Fin grid0.N, _)

theorem V_q (c : Dev nD) : V m c main_v0
    = shapeCast S4x8192x512 (m ((c : Thread nD τ).loc main_arg0)) shapeCasts_S32768x512_S4x8192x512 := by
  unfold V; after_results; try rfl
theorem V_k (c : Dev nD) : V m c main_v1
    = shapeCast S4x8192x128 (m ((c : Thread nD τ).loc main_arg1)) shapeCasts_S32768x128_S4x8192x128 := by
  unfold V; after_results; try rfl
theorem V_v (c : Dev nD) : V m c main_v2
    = shapeCast S4x8192x128 (m ((c : Thread nD τ).loc main_arg2)) shapeCasts_S32768x128_S4x8192x128 := by
  unfold V; after_results; try rfl

theorem rows512 (X : FVec Ideal S32768x512 .bf16) (b : Fin 4) (r : Fin 8192) (l : Fin 512) :
    shapeCast S4x8192x512 X shapeCasts_S32768x512_S4x8192x512 (ix3 b r l)
    = X (ix2 ⟨b.val * 8192 + r.val, by omega⟩ l) := by
  pointwise

theorem rows128 (X : FVec Ideal S32768x128 .bf16) (b : Fin 4) (r : Fin 8192) (l : Fin 128) :
    shapeCast S4x8192x128 X shapeCasts_S32768x128_S4x8192x128 (ix3 b r l)
    = X (ix2 ⟨b.val * 8192 + r.val, by omega⟩ l) := by
  pointwise

/-- The row of the token at position `q` of the block that point `t` computes, and of the block before it. -/
def own (t : Fin cfg0.N) (q : Fin 128) : Fin 32768 :=
  ⟨(grid0.coords t 0).val * 8192 + ((grid0.coords t 1).val * 128 + q.val), by
    have hb : (grid0.coords t 0).val < 4 := (grid0.coords t 0).isLt
    have hn : (grid0.coords t 1).val < 64 := (grid0.coords t 1).isLt
    omega⟩

def prev (t : Fin cfg0.N) (q : Fin 128) : Fin 32768 :=
  ⟨(grid0.coords t 0).val * 8192 + (((grid0.coords t 1).val - 1) * 128 + q.val), by
    have hb : (grid0.coords t 0).val < 4 := (grid0.coords t 0).isLt
    have hn : (grid0.coords t 1).val < 64 := (grid0.coords t 1).isLt
    omega⟩

theorem blk1 (c : Dev nD) (t : Fin cfg0.N) (q : Fin 128) (l : Fin 512) : iblk m c 1 t (ix3 0 q l)
    = m ((c : Thread nD τ).loc main_arg0) (ix2 (own t q) l) := by
  have hb : (grid0.coords t 0).val < 4 := (grid0.coords t 0).isLt
  have hn : (grid0.coords t 1).val < 64 := (grid0.coords t 1).isLt
  have e : ((cfg0.win 1).blk t).view.emb (ix3 0 q l)
      = ix3 (n0 := 4) (n1 := 8192) (n2 := 512) ⟨(grid0.coords t 0).val, hb⟩ ⟨(grid0.coords t 1).val * 128 + q.val, by omega⟩ l := by
    blk_ext [idx t]
  show V m c main_v0 (((cfg0.win 1).blk t).view.emb (ix3 0 q l)) = _
  rw [V_q, e]
  exact rows512 _ _ _ _

theorem blk2 (c : Dev nD) (t : Fin cfg0.N) (q : Fin 128) (l : Fin 128) : iblk m c 2 t (ix3 0 q l)
    = m ((c : Thread nD τ).loc main_arg1) (ix2 (prev t q) l) := by
  have hb : (grid0.coords t 0).val < 4 := (grid0.coords t 0).isLt
  have hn : (grid0.coords t 1).val < 64 := (grid0.coords t 1).isLt
  have e : ((cfg0.win 2).blk t).view.emb (ix3 0 q l)
      = ix3 (n0 := 4) (n1 := 8192) (n2 := 128) ⟨(grid0.coords t 0).val, hb⟩ ⟨((grid0.coords t 1).val - 1) * 128 + q.val, by omega⟩ l := by
    blk_ext [idx t]
  show V m c main_v1 (((cfg0.win 2).blk t).view.emb (ix3 0 q l)) = _
  rw [V_k, e]
  exact rows128 _ _ _ _

theorem blk3 (c : Dev nD) (t : Fin cfg0.N) (q : Fin 128) (l : Fin 128) : iblk m c 3 t (ix3 0 q l)
    = m ((c : Thread nD τ).loc main_arg1) (ix2 (own t q) l) := by
  have hb : (grid0.coords t 0).val < 4 := (grid0.coords t 0).isLt
  have hn : (grid0.coords t 1).val < 64 := (grid0.coords t 1).isLt
  have e : ((cfg0.win 3).blk t).view.emb (ix3 0 q l)
      = ix3 (n0 := 4) (n1 := 8192) (n2 := 128) ⟨(grid0.coords t 0).val, hb⟩ ⟨(grid0.coords t 1).val * 128 + q.val, by omega⟩ l := by
    blk_ext [idx t]
  show V m c main_v1 (((cfg0.win 3).blk t).view.emb (ix3 0 q l)) = _
  rw [V_k, e]
  exact rows128 _ _ _ _

theorem blk4 (c : Dev nD) (t : Fin cfg0.N) (q : Fin 128) (l : Fin 128) : iblk m c 4 t (ix3 0 q l)
    = m ((c : Thread nD τ).loc main_arg2) (ix2 (prev t q) l) := by
  have hb : (grid0.coords t 0).val < 4 := (grid0.coords t 0).isLt
  have hn : (grid0.coords t 1).val < 64 := (grid0.coords t 1).isLt
  have e : ((cfg0.win 4).blk t).view.emb (ix3 0 q l)
      = ix3 (n0 := 4) (n1 := 8192) (n2 := 128) ⟨(grid0.coords t 0).val, hb⟩ ⟨((grid0.coords t 1).val - 1) * 128 + q.val, by omega⟩ l := by
    blk_ext [idx t]
  show V m c main_v2 (((cfg0.win 4).blk t).view.emb (ix3 0 q l)) = _
  rw [V_v, e]
  exact rows128 _ _ _ _

theorem blk5 (c : Dev nD) (t : Fin cfg0.N) (q : Fin 128) (l : Fin 128) : iblk m c 5 t (ix3 0 q l)
    = m ((c : Thread nD τ).loc main_arg2) (ix2 (own t q) l) := by
  have hb : (grid0.coords t 0).val < 4 := (grid0.coords t 0).isLt
  have hn : (grid0.coords t 1).val < 64 := (grid0.coords t 1).isLt
  have e : ((cfg0.win 5).blk t).view.emb (ix3 0 q l)
      = ix3 (n0 := 4) (n1 := 8192) (n2 := 128) ⟨(grid0.coords t 0).val, hb⟩ ⟨(grid0.coords t 1).val * 128 + q.val, by omega⟩ l := by
    blk_ext [idx t]
  show V m c main_v2 (((cfg0.win 5).blk t).view.emb (ix3 0 q l)) = _
  rw [V_v, e]
  exact rows128 _ _ _ _

theorem blk0 (c : Dev nD) (t : Fin cfg0.N) (i) : iblk m c 0 t i = m ((c : Thread nD τ).loc main_arg3) i := by
  blk_ext [iblk, V, idx t]

theorem blk6 (c : Dev nD) (t : Fin cfg0.N) (i) : iblk m c 6 t i = m ((c : Thread nD τ).loc main_arg4) i := by
  blk_ext [iblk, V, idx t]

theorem emb7 (t : Fin cfg0.N) (y : S1x128x512.Idx) (h0 : _) (h : _) : ((cfg0.win 7).blk t).view.emb y
    = ix3 (n0 := 4) (n1 := 8192) (n2 := 512) ⟨(grid0.coords t 0).val, h0⟩ ⟨(grid0.coords t 1).val * 128 + (y 1).val, h⟩ (y 2) := by
  blk_ext [idx t]

theorem keys (c : Dev nD) (t : Fin cfg0.N) (j : Fin 256) (l : Fin 128) :
    (if h : j.val < 128 then iblk m c 2 t (ix3 0 ⟨j.val, h⟩ l) else iblk m c 3 t (ix3 0 ⟨j.val - 128, by omega⟩ l))
    = m ((c : Thread nD τ).loc main_arg1) (ix2 (n0 := 32768) (n1 := 128)
        ⟨keyRow (grid0.coords t 0).val (grid0.coords t 1).val j.val, keyRow_lt (grid0.coords t 0) _ (grid0.coords t 1).isLt j⟩ l) := by
  split
  · next h =>
    rw [blk2]; congr 2; apply Fin.ext; simp [prev, keyRow, h]
  · next h =>
    rw [blk3]; congr 2; apply Fin.ext; simp [own, keyRow, h]

theorem values (c : Dev nD) (t : Fin cfg0.N) (j : Fin 256) (l : Fin 128) :
    (if h : j.val < 128 then iblk m c 4 t (ix3 0 ⟨j.val, h⟩ l) else iblk m c 5 t (ix3 0 ⟨j.val - 128, by omega⟩ l))
    = m ((c : Thread nD τ).loc main_arg2) (ix2 (n0 := 32768) (n1 := 128)
        ⟨keyRow (grid0.coords t 0).val (grid0.coords t 1).val j.val, keyRow_lt (grid0.coords t 0) _ (grid0.coords t 1).isLt j⟩ l) := by
  split
  · next h =>
    rw [blk4]; congr 2; apply Fin.ext; simp [prev, keyRow, h]
  · next h =>
    rw [blk5]; congr 2; apply Fin.ext; simp [own, keyRow, h]

end Cert.SwaIdeal.Sliding
-- ==== Proof.SwaValue.lean ====
module

public import proofs.«01_k».proof.Proof.SwaBlocks

@[expose] public section

/-!
What one point of the grid leaves in the block of the result it computes: the attention of its queries.
-/

set_option maxRecDepth 16384

noncomputable section

namespace Cert.SwaIdeal.Sliding

open Cert.SwaIdeal Cert.SwaIdeal.Gen Idealize.ShloMosaic Idealize.ShloMosaic.TcCoe Idealize.SL.Sem
open Idealize.ShloMosaic.Pipeline (Dat)

variable (m : (ℓ : Loc nD τ sig) → Buf (Elt Ideal) ℓ)

theorem point (c : Dev nD) (t : Fin cfg0.N) (y) : outsAt0 m c t y
    = result (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 7).blk t).view.emb y) := by
  unfold outsAt0; frame_out
  canon_tiles x h
  case piece0 =>
    have hn : (grid0.coords t 1).val < 64 := (grid0.coords t 1).isLt
    have hb : (grid0.coords t 0).val < 4 := (grid0.coords t 0).isLt
    have hy1 : (y 1).val < 128 := (y 1).isLt
    open_payloads
    refine (tile _ _ _ _ _ (grid0.coords t 1).val hn _ _ _ _ x).trans ?_
    rw [emb7 t y hb (by omega)]
    unfold result at_
    pointwise [blk0, blk6]
    split
    · have e1 : ((grid0.coords t 1).val * 128 + (y 1).val) / 128 = (grid0.coords t 1).val := by omega
      have e2 : ((grid0.coords t 1).val * 128 + (y 1).val) % 128 = (x 1).val := by omega
      have e3 : (y 2).val / 64 * 64 = 384 := by omega
      have e4 : (y 2).val % 128 / 64 * 64 = 0 := by omega
      have e5 : (y 2).val % 128 / 64 * 4 + (y 2).val / 128 = 3 := by omega
      have e6 : (y 2).val % 128 = (x 2).val := by omega
      simp only [e4, e5]
      simp only [e1, e2, e3]
      refine Attend.ext (fun j => ?_) rfl (fun j => ?_)
      · refine congrArg (fun z : EReal => Scalar.select _ z ⊥) (congrArg₂ (fun u v : EReal => u + v)
          (Finset.sum_congr rfl fun d _ => congrArg₂ (fun u v : EReal => u * v) ?_ ?_) rfl)
        · refine (blk1 m c t (x 1) _).trans (congrArg _ (congrArg₂ ix2 (Fin.ext ?_) (Fin.ext ?_)))
          · show (own t (x 1)).val = _
            unfold own
            simp only [h1]
          · show _ = _
            simp only []
            try omega
        · exact (keys m c t j _).trans (congrArg _ (congrArg _ (Fin.ext (by simp only [] <;> omega))))
      · exact (values m c t j (x 2)).trans (congrArg _ (congrArg _ (Fin.ext e6.symm)))
    · have e1 : ((grid0.coords t 1).val * 128 + (y 1).val) / 128 = (grid0.coords t 1).val := by omega
      have e2 : ((grid0.coords t 1).val * 128 + (y 1).val) % 128 = (x 1).val := by omega
      have e3 : (y 2).val / 64 * 64 = 448 := by omega
      have e4 : (y 2).val % 128 / 64 * 64 = 64 := by omega
      have e5 : (y 2).val % 128 / 64 * 4 + (y 2).val / 128 = 7 := by omega
      have e6 : (y 2).val % 128 = (x 2).val := by omega
      simp only [e4, e5]
      simp only [e1, e2, e3]
      refine Attend.ext (fun j => ?_) rfl (fun j => ?_)
      · refine congrArg (fun z : EReal => Scalar.select _ z ⊥) (congrArg₂ (fun u v : EReal => u + v)
          (Finset.sum_congr rfl fun d _ => congrArg₂ (fun u v : EReal => u * v) ?_ ?_) rfl)
        · refine (blk1 m c t (x 1) _).trans (congrArg _ (congrArg₂ ix2 (Fin.ext ?_) (Fin.ext ?_)))
          · show (own t (x 1)).val = _
            unfold own
            simp only [h1]
          · show _ = _
            simp only []
            try omega
        · exact (keys m c t j _).trans (congrArg _ (congrArg _ (Fin.ext (by simp only [] <;> omega))))
      · exact (values m c t j (x 2)).trans (congrArg _ (congrArg _ (Fin.ext e6.symm)))
  case piece1 =>
    have hn : (grid0.coords t 1).val < 64 := (grid0.coords t 1).isLt
    have hb : (grid0.coords t 0).val < 4 := (grid0.coords t 0).isLt
    have hy1 : (y 1).val < 128 := (y 1).isLt
    open_payloads
    refine (tile _ _ _ _ _ (grid0.coords t 1).val hn _ _ _ _ x).trans ?_
    rw [emb7 t y hb (by omega)]
    unfold result at_
    pointwise [blk0, blk6]
    split
    · have e1 : ((grid0.coords t 1).val * 128 + (y 1).val) / 128 = (grid0.coords t 1).val := by omega
      have e2 : ((grid0.coords t 1).val * 128 + (y 1).val) % 128 = (x 1).val := by omega
      have e3 : (y 2).val / 64 * 64 = 256 := by omega
      have e4 : (y 2).val % 128 / 64 * 64 = 0 := by omega
      have e5 : (y 2).val % 128 / 64 * 4 + (y 2).val / 128 = 2 := by omega
      have e6 : (y 2).val % 128 = (x 2).val := by omega
      simp only [e4, e5]
      simp only [e1, e2, e3]
      refine Attend.ext (fun j => ?_) rfl (fun j => ?_)
      · refine congrArg (fun z : EReal => Scalar.select _ z ⊥) (congrArg₂ (fun u v : EReal => u + v)
          (Finset.sum_congr rfl fun d _ => congrArg₂ (fun u v : EReal => u * v) ?_ ?_) rfl)
        · refine (blk1 m c t (x 1) _).trans (congrArg _ (congrArg₂ ix2 (Fin.ext ?_) (Fin.ext ?_)))
          · show (own t (x 1)).val = _
            unfold own
            simp only [h1]
          · show _ = _
            simp only []
            try omega
        · exact (keys m c t j _).trans (congrArg _ (congrArg _ (Fin.ext (by simp only [] <;> omega))))
      · exact (values m c t j (x 2)).trans (congrArg _ (congrArg _ (Fin.ext e6.symm)))
    · have e1 : ((grid0.coords t 1).val * 128 + (y 1).val) / 128 = (grid0.coords t 1).val := by omega
      have e2 : ((grid0.coords t 1).val * 128 + (y 1).val) % 128 = (x 1).val := by omega
      have e3 : (y 2).val / 64 * 64 = 320 := by omega
      have e4 : (y 2).val % 128 / 64 * 64 = 64 := by omega
      have e5 : (y 2).val % 128 / 64 * 4 + (y 2).val / 128 = 6 := by omega
      have e6 : (y 2).val % 128 = (x 2).val := by omega
      simp only [e4, e5]
      simp only [e1, e2, e3]
      refine Attend.ext (fun j => ?_) rfl (fun j => ?_)
      · refine congrArg (fun z : EReal => Scalar.select _ z ⊥) (congrArg₂ (fun u v : EReal => u + v)
          (Finset.sum_congr rfl fun d _ => congrArg₂ (fun u v : EReal => u * v) ?_ ?_) rfl)
        · refine (blk1 m c t (x 1) _).trans (congrArg _ (congrArg₂ ix2 (Fin.ext ?_) (Fin.ext ?_)))
          · show (own t (x 1)).val = _
            unfold own
            simp only [h1]
          · show _ = _
            simp only []
            try omega
        · exact (keys m c t j _).trans (congrArg _ (congrArg _ (Fin.ext (by simp only [] <;> omega))))
      · exact (values m c t j (x 2)).trans (congrArg _ (congrArg _ (Fin.ext e6.symm)))
  case piece2 =>
    have hn : (grid0.coords t 1).val < 64 := (grid0.coords t 1).isLt
    have hb : (grid0.coords t 0).val < 4 := (grid0.coords t 0).isLt
    have hy1 : (y 1).val < 128 := (y 1).isLt
    open_payloads
    refine (tile _ _ _ _ _ (grid0.coords t 1).val hn _ _ _ _ x).trans ?_
    rw [emb7 t y hb (by omega)]
    unfold result at_
    pointwise [blk0, blk6]
    split
    · have e1 : ((grid0.coords t 1).val * 128 + (y 1).val) / 128 = (grid0.coords t 1).val := by omega
      have e2 : ((grid0.coords t 1).val * 128 + (y 1).val) % 128 = (x 1).val := by omega
      have e3 : (y 2).val / 64 * 64 = 128 := by omega
      have e4 : (y 2).val % 128 / 64 * 64 = 0 := by omega
      have e5 : (y 2).val % 128 / 64 * 4 + (y 2).val / 128 = 1 := by omega
      have e6 : (y 2).val % 128 = (x 2).val := by omega
      simp only [e4, e5]
      simp only [e1, e2, e3]
      refine Attend.ext (fun j => ?_) rfl (fun j => ?_)
      · refine congrArg (fun z : EReal => Scalar.select _ z ⊥) (congrArg₂ (fun u v : EReal => u + v)
          (Finset.sum_congr rfl fun d _ => congrArg₂ (fun u v : EReal => u * v) ?_ ?_) rfl)
        · refine (blk1 m c t (x 1) _).trans (congrArg _ (congrArg₂ ix2 (Fin.ext ?_) (Fin.ext ?_)))
          · show (own t (x 1)).val = _
            unfold own
            simp only [h1]
          · show _ = _
            simp only []
            try omega
        · exact (keys m c t j _).trans (congrArg _ (congrArg _ (Fin.ext (by simp only [] <;> omega))))
      · exact (values m c t j (x 2)).trans (congrArg _ (congrArg _ (Fin.ext e6.symm)))
    · have e1 : ((grid0.coords t 1).val * 128 + (y 1).val) / 128 = (grid0.coords t 1).val := by omega
      have e2 : ((grid0.coords t 1).val * 128 + (y 1).val) % 128 = (x 1).val := by omega
      have e3 : (y 2).val / 64 * 64 = 192 := by omega
      have e4 : (y 2).val % 128 / 64 * 64 = 64 := by omega
      have e5 : (y 2).val % 128 / 64 * 4 + (y 2).val / 128 = 5 := by omega
      have e6 : (y 2).val % 128 = (x 2).val := by omega
      simp only [e4, e5]
      simp only [e1, e2, e3]
      refine Attend.ext (fun j => ?_) rfl (fun j => ?_)
      · refine congrArg (fun z : EReal => Scalar.select _ z ⊥) (congrArg₂ (fun u v : EReal => u + v)
          (Finset.sum_congr rfl fun d _ => congrArg₂ (fun u v : EReal => u * v) ?_ ?_) rfl)
        · refine (blk1 m c t (x 1) _).trans (congrArg _ (congrArg₂ ix2 (Fin.ext ?_) (Fin.ext ?_)))
          · show (own t (x 1)).val = _
            unfold own
            simp only [h1]
          · show _ = _
            simp only []
            try omega
        · exact (keys m c t j _).trans (congrArg _ (congrArg _ (Fin.ext (by simp only [] <;> omega))))
      · exact (values m c t j (x 2)).trans (congrArg _ (congrArg _ (Fin.ext e6.symm)))
  case piece3 =>
    have hn : (grid0.coords t 1).val < 64 := (grid0.coords t 1).isLt
    have hb : (grid0.coords t 0).val < 4 := (grid0.coords t 0).isLt
    have hy1 : (y 1).val < 128 := (y 1).isLt
    open_payloads
    refine (tile _ _ _ _ _ (grid0.coords t 1).val hn _ _ _ _ x).trans ?_
    rw [emb7 t y hb (by omega)]
    unfold result at_
    pointwise [blk0, blk6]
    split
    · have e1 : ((grid0.coords t 1).val * 128 + (y 1).val) / 128 = (grid0.coords t 1).val := by omega
      have e2 : ((grid0.coords t 1).val * 128 + (y 1).val) % 128 = (x 1).val := by omega
      have e3 : (y 2).val / 64 * 64 = 0 := by omega
      have e4 : (y 2).val % 128 / 64 * 64 = 0 := by omega
      have e5 : (y 2).val % 128 / 64 * 4 + (y 2).val / 128 = 0 := by omega
      have e6 : (y 2).val % 128 = (x 2).val := by omega
      simp only [e4, e5]
      simp only [e1, e2, e3]
      refine Attend.ext (fun j => ?_) rfl (fun j => ?_)
      · refine congrArg (fun z : EReal => Scalar.select _ z ⊥) (congrArg₂ (fun u v : EReal => u + v)
          (Finset.sum_congr rfl fun d _ => congrArg₂ (fun u v : EReal => u * v) ?_ ?_) rfl)
        · refine (blk1 m c t (x 1) _).trans (congrArg _ (congrArg₂ ix2 (Fin.ext ?_) (Fin.ext ?_)))
          · show (own t (x 1)).val = _
            unfold own
            simp only [h1]
          · show _ = _
            simp only []
            try omega
        · exact (keys m c t j _).trans (congrArg _ (congrArg _ (Fin.ext (by simp only [] <;> omega))))
      · exact (values m c t j (x 2)).trans (congrArg _ (congrArg _ (Fin.ext e6.symm)))
    · have e1 : ((grid0.coords t 1).val * 128 + (y 1).val) / 128 = (grid0.coords t 1).val := by omega
      have e2 : ((grid0.coords t 1).val * 128 + (y 1).val) % 128 = (x 1).val := by omega
      have e3 : (y 2).val / 64 * 64 = 64 := by omega
      have e4 : (y 2).val % 128 / 64 * 64 = 64 := by omega
      have e5 : (y 2).val % 128 / 64 * 4 + (y 2).val / 128 = 4 := by omega
      have e6 : (y 2).val % 128 = (x 2).val := by omega
      simp only [e4, e5]
      simp only [e1, e2, e3]
      refine Attend.ext (fun j => ?_) rfl (fun j => ?_)
      · refine congrArg (fun z : EReal => Scalar.select _ z ⊥) (congrArg₂ (fun u v : EReal => u + v)
          (Finset.sum_congr rfl fun d _ => congrArg₂ (fun u v : EReal => u * v) ?_ ?_) rfl)
        · refine (blk1 m c t (x 1) _).trans (congrArg _ (congrArg₂ ix2 (Fin.ext ?_) (Fin.ext ?_)))
          · show (own t (x 1)).val = _
            unfold own
            simp only [h1]
          · show _ = _
            simp only []
            try omega
        · exact (keys m c t j _).trans (congrArg _ (congrArg _ (Fin.ext (by simp only [] <;> omega))))
      · exact (values m c t j (x 2)).trans (congrArg _ (congrArg _ (Fin.ext e6.symm)))

end Cert.SwaIdeal.Sliding

end
-- ==== Proof.SwaFinal.lean ====
module

public import proofs.«01_k».proof.Proof.SwaValue

@[expose] public section

/-!
The result array after the last point.
-/

set_option maxRecDepth 16384

noncomputable section

namespace Cert.SwaIdeal.Sliding

open Cert.SwaIdeal Cert.SwaIdeal.Gen Idealize.ShloMosaic Idealize.ShloMosaic.TcCoe Idealize.SL.Sem
open Idealize.ShloMosaic.Pipeline (Dat)

/-- After the last point the whole result array holds the attention of the whole query array. -/
theorem final (m : (ℓ : Loc nD τ sig) → Buf (Elt Ideal) ℓ) (c : Dev nD) : (dats m 0 c).arrAt 7 cfg0.N
    = result (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  exact point m c t y

end Cert.SwaIdeal.Sliding

end
-- ==== Proof.SwaEqual.lean ====
module

public import proofs.«01_k».proof.Proof.SwaRefPoint
public import proofs.«01_k».proof.Proof.SwaFinal

@[expose] public section

/-!
The reference and the kernel compute one attention. Inside the band the reference's window rows are the rows the kernel
reads. Outside it a score is minus infinity, its weight is zero, and the rows do not matter.
-/

set_option maxRecDepth 16384

noncomputable section

namespace Cert.SwaRefIdeal.Attention

open Cert.SwaRefIdeal Idealize.ShloMosaic Idealize.ShloMosaic.TcCoe Idealize.SL.Sem
open Cert.SwaIdeal.Sliding (keyRow keyRow_lt)

variable (Q : FVec Ideal S32768x512 .bf16) (K X : FVec Ideal S32768x128 .bf16) (sinks : FVec Ideal S8 .f32)
    (bias : FVec Ideal S8x128x256 .f32)

theorem bit_one {n q j : Nat} (h : q < j ∧ j ≤ q + 128 ∧ (0 < n ∨ 128 ≤ j)) : Attend.bandBit n q j = 1#1 := by
  simp [Attend.bandBit, h]

theorem bit_zero {n q j : Nat} (h : ¬(q < j ∧ j ≤ q + 128 ∧ (0 < n ∨ 128 ≤ j))) : Attend.bandBit n q j = 0#1 := by
  rw [Attend.bandBit, decide_eq_false h]; rfl

theorem select_one (a b : EReal) : Scalar.select 1#1 a b = a := rfl

theorem select_zero (a b : EReal) : Scalar.select 0#1 a b = b := rfl

/-- Inside the band a window's row is the row of the key. -/
theorem window_row (b : Fin 4) (n : Fin 64) (j : Fin 256) (k : Fin 2) (d : Fin 64) (r : Fin 32768) (l : Fin 128)
    (h : 0 < n.val ∨ 128 ≤ j.val) (hr : r.val = keyRow b.val n.val j.val) (hl : l.val = k.val * 64 + d.val) :
    window X (ix5 b n j k d) = X (ix2 r l) := by
  rw [window_apply, dif_pos (by omega)]
  refine congrArg X (congrArg₂ ix2 (Fin.ext ?_) (Fin.ext hl.symm))
  show b.val * 8192 + (n.val * 128 + j.val - 128) = r.val
  rw [hr, keyRow]
  split <;> omega

theorem result_eq (hQ : ∀ i, ∃ r : ℝ, Q i = r) (hK : ∀ i, ∃ r : ℝ, K i = r) (hs : ∀ i, ∃ r : ℝ, sinks i = r)
    (hb : ∀ i, ∃ r : ℝ, bias i = r) : out Q K X sinks bias = Cert.SwaIdeal.Sliding.result Q K X sinks bias := by
  have main : ∀ (b : Fin 4) (s : Fin 8192) (l : Fin 512),
      out Q K X sinks bias (ix3 b s l) = Cert.SwaIdeal.Sliding.at_ Q K X sinks bias b s l := by
    intro b s l
    rw [out_apply]
    unfold Cert.SwaIdeal.Sliding.at_
    obtain ⟨z, hz⟩ := hs (ix1 ⟨l.val % 128 / 64 * 4 + l.val / 128, by omega⟩)
    rw [hz]
    have hscore : ∀ j : Fin 256, masked Q K bias (ix6 b ⟨s.val / 128, by omega⟩ ⟨l.val % 128 / 64, by omega⟩
          ⟨l.val / 128, by omega⟩ ⟨s.val % 128, by omega⟩ j)
        = Scalar.select (Attend.bandBit (s.val / 128) (s.val % 128) j.val)
          (∑ d : Fin 64, Q (ix2 ⟨b.val * 8192 + s.val, by omega⟩ ⟨l.val / 64 * 64 + d.val, by omega⟩)
              * K (ix2 ⟨keyRow b.val (s.val / 128) j.val, keyRow_lt b _ (by omega) j⟩ ⟨l.val % 128 / 64 * 64 + d.val, by omega⟩)
            + bias (ix3 ⟨l.val % 128 / 64 * 4 + l.val / 128, by omega⟩ ⟨s.val % 128, by omega⟩ j)) ⊥ := by
      intro j
      rw [masked_apply]
      by_cases h : s.val % 128 < j.val ∧ j.val ≤ s.val % 128 + 128 ∧ (0 < s.val / 128 ∨ 128 ≤ j.val)
      · refine congrArg (fun u : EReal => Scalar.select _ (u + _) ⊥) (Finset.sum_congr rfl fun d _ => ?_)
        refine congrArg₂ (fun u v : EReal => u * v) (congrArg Q (congrArg₂ ix2 (Fin.ext ?_) (Fin.ext ?_))) ?_
        · show b.val * 8192 + (s.val / 128 * 128 + s.val % 128) = b.val * 8192 + s.val
          omega
        · show l.val / 128 * 128 + (l.val % 128 / 64 * 64 + d.val) = l.val / 64 * 64 + d.val
          omega
        · exact window_row K b _ j _ d _ _ h.2.2 rfl rfl
      · show Scalar.select (Attend.bandBit (s.val / 128) (s.val % 128) j.val) _ _ = _
        rw [bit_zero h, select_zero, select_zero]
    refine (Attend.ext hscore rfl fun _ => rfl).trans (Attend.attend_congr _ z _ _ (fun j => ?_) (fun j hj => ?_))
    · by_cases h : s.val % 128 < j.val ∧ j.val ≤ s.val % 128 + 128 ∧ (0 < s.val / 128 ∨ 128 ≤ j.val)
      · rw [bit_one h, select_one]
        obtain ⟨x, hx⟩ := Attend.dot_real
          (fun d : Fin 64 => Q (ix2 ⟨b.val * 8192 + s.val, by omega⟩ ⟨l.val / 64 * 64 + d.val, by omega⟩))
          (fun d : Fin 64 => K (ix2 ⟨keyRow b.val (s.val / 128) j.val, keyRow_lt b _ (by omega) j⟩
            ⟨l.val % 128 / 64 * 64 + d.val, by omega⟩)) (fun _ => hQ _) (fun _ => hK _)
        obtain ⟨y, hy⟩ := hb (ix3 ⟨l.val % 128 / 64 * 4 + l.val / 128, by omega⟩ ⟨s.val % 128, by omega⟩ j)
        have e : ((x + y : ℝ) : EReal) ≠ ⊤ := EReal.coe_ne_top _
        rw [EReal.coe_add, ← hx, ← hy] at e
        exact e
      · rw [bit_zero h, select_zero]
        exact bot_ne_top
    · by_cases h : s.val % 128 < j.val ∧ j.val ≤ s.val % 128 + 128 ∧ (0 < s.val / 128 ∨ 128 ≤ j.val)
      · exact window_row X b _ j _ _ _ _ h.2.2 rfl (by show l.val % 128 = l.val % 128 / 64 * 64 + l.val % 64; omega)
      · rw [bit_zero h, select_zero] at hj
        exact absurd rfl hj
  funext i
  have e : i = ix3 (i 0) (i 1) (i 2) := by
    funext a; match a with
    | ⟨0, _⟩ => rfl
    | ⟨1, _⟩ => rfl
    | ⟨2, _⟩ => rfl
  rw [e]
  exact main _ _ _

end Cert.SwaRefIdeal.Attention

end
-- ==== Proof.SwaClaims.lean ====
module

public import proofs.«01_k».proof.Defs
public import proofs.«01_k».proof.Proof.SwaEqual
public import proofs.«01_k».proof.Proof.Gen.Swa.Frame
public import proofs.«01_k».proof.Proof.Gen.SwaIdeal.Frame
public import Idealize.ShloMosaic.Lib.ReduceAll
public import Idealize.ShloMosaic.Lib.Quiescent

@[expose] public section

/-!
The claims about the sliding-window attention. The precondition's four conjuncts are read back into finiteness of the
queries, the keys, the sinks and the bias.
-/

noncomputable section

open Idealize.ShloMosaic Idealize.ShloMosaic.TcCoe Idealize.SL.Sem

namespace Cert.Proof.SwaClaims

/-- The side conditions of the precondition's own operations. -/
theorem pre_facts : Cert.Pre_finite_scores.Facts where
  bitsLt_bf16_f32 := by decide
  bcast_S_S32768x512 := by decide
  reducesTo_S32768x512_S_d0_1 := by decide
  h_S_ := by decide
  bcast_S_S32768x128 := by decide
  reducesTo_S32768x128_S_d0_1 := by decide
  bcast_S_S8 := by decide
  reducesTo_S8_S_d0 := by decide
  bcast_S_S8x128x256 := by decide
  reducesTo_S8x128x256_S_d0_1_2 := by decide

attribute [local instance] pre_facts

instance : Subsingleton (⟨0, ![]⟩ : Shape).Idx := ⟨fun a b => funext fun i => i.elim0⟩

theorem ofBits_top : Ideal.ofBits .f32 0x7F800000#32 = ⊤ := by
  simp [Ideal.ofBits, Ideal.ieee]

/-- An extended real whose absolute value is below plus infinity is a real. -/
theorem real_of_abs (x : EReal) (h : Ideal.cmp .olt (max x (-x)) (Ideal.ofBits .f32 0x7F800000#32) = 1#1) : ∃ r : ℝ, x = r := by
  rw [ofBits_top] at h
  have h' : max x (-x) < ⊤ := by
    by_contra k
    have : Ideal.cmp .olt (max x (-x)) ⊤ = 0#1 := by
      show BitVec.ofBool (decide (max x (-x) < ⊤)) = 0#1
      rw [decide_eq_false k]; rfl
    rw [this] at h
    exact absurd h (by decide)
  have h1 : x ≠ ⊤ := fun e => by rw [e] at h'; simp at h'
  have h2 : x ≠ ⊥ := fun e => by rw [e] at h'; simp at h'
  exact ⟨x.toReal, (EReal.coe_toReal h1 h2).symm⟩

theorem finite (Q : FVec Ideal Cert.Pre_finite_scores.S32768x512 .bf16) (K X : FVec Ideal Cert.Pre_finite_scores.S32768x128 .bf16)
    (sinks : FVec Ideal Cert.Pre_finite_scores.S8 .f32) (bias : FVec Ideal Cert.Pre_finite_scores.S8x128x256 .f32)
    (h : Cert.Pre_finite_scores.fn (F := Ideal) Q K X sinks bias = fun _ => 1#1) :
    (∀ i, ∃ r : ℝ, Q i = r) ∧ (∀ i, ∃ r : ℝ, K i = r) ∧ (∀ i, ∃ r : ℝ, sinks i = r) ∧ (∀ i, ∃ r : ℝ, bias i = r) := by
  have e := congrFun h (Shape.Idx.first (by decide))
  obtain ⟨e, eb⟩ := IntOp.andi_eq_one.1 e
  obtain ⟨e, es⟩ := IntOp.andi_eq_one.1 e
  obtain ⟨eq, ek⟩ := IntOp.andi_eq_one.1 e
  exact ⟨fun i => real_of_abs _ (Host.reduce_andi_all _ _ _ _ _ eq i), fun i => real_of_abs _ (Host.reduce_andi_all _ _ _ _ _ ek i),
    fun i => real_of_abs _ (Host.reduce_andi_all _ _ _ _ _ es i), fun i => real_of_abs _ (Host.reduce_andi_all _ _ _ _ _ eb i)⟩

theorem frame_p : Cert.quiescent_Swa := fun m ρ _ => Cert.Swa.Gen.frame m ρ
theorem frame_pi : Cert.quiescent_SwaIdeal := fun m ρ _ => Cert.SwaIdeal.Gen.frame m ρ
theorem frame_pi_pre : Cert.quiescent_SwaIdeal_pre_finite_scores := fun m ρ _ => Cert.SwaIdeal.Gen.frame m ρ
theorem frame_ri : Cert.quiescent_SwaRefIdeal := fun m ρ _ =>
  (θ_run Cert.SwaRefIdeal.defs _ _).mono (fun r h => ⟨fun c => (h c).2,
      Idealize.ShloMosaic.sem_eq_zero_of_no_sems (by decide) r.2⟩)
    (Cert.SwaRefIdeal.Value.run (F := Ideal) m ρ)
theorem frame_ri_pre : Cert.quiescent_SwaRefIdeal_pre_finite_scores := fun m ρ _ => frame_ri m ρ trivial

theorem preserves : Cert.preserves_Swa_SwaIdeal :=
  IdealRules.named_const.statement Cert.SwaIdeal.κ "mask" .f32 0xF149F2CA#32 ⊥ rfl

/-- The kernel and the reference end with one result array. -/
theorem algebraic : Cert.algebraic_SwaIdeal_SwaRefIdeal_pre_finite_scores := by
  intro m ρ m' ρ' hpre hagree
  refine ⟨_, Cert.SwaIdeal.Value.run_blocks (F := Ideal) m ρ, ?_⟩
  refine (θ_run Cert.SwaRefIdeal.defs _ _).mono (fun _ h c => ⟨(h c).1.trans ?_, (h c).2⟩)
    (Cert.SwaRefIdeal.Value.run (F := Ideal) m' ρ')
  obtain ⟨h0, h1, h2, h3, h4⟩ := hagree c
  obtain ⟨hq, hk, hs, hb⟩ := finite _ _ _ _ _ (hpre c)
  rw [Cert.SwaIdeal.Sliding.final]
  refine (Cert.SwaRefIdeal.Attention.res_eq m' c).trans ?_
  rw [h0, h1, h2, h3, h4]
  exact Cert.SwaRefIdeal.Attention.result_eq _ _ _ _ _ hq hk hs hb

end Cert.Proof.SwaClaims

end
-- ==== Proof.Gate.lean ====
/- The gated merge of three branches at one element, on the extended reals: the logistic gate, the three gated products. -/
module

public import Idealize.ShloMosaic.PureOps.Ideal
public import Idealize.ShloMosaic.Lib.Pointwise

@[expose] public section

noncomputable section

namespace Cert.Gate

open Idealize.ShloMosaic

/-- The logistic function. -/
def gate (x : EReal) : EReal := Ideal.div 1 (1 + Ideal.exp (-x))

/-- Three products, each under its own gate. -/
def mixed {a b c : Nat} (ga gb gc : EReal) (oa wa : Fin a → EReal) (ob wb : Fin b → EReal) (oc wc : Fin c → EReal) : EReal :=
  gate ga * (∑ k, oa k * wa k) + gate gb * (∑ k, ob k * wb k) + gate gc * (∑ k, oc k * wc k)

end Cert.Gate

end
-- ==== Proof.MergeValue.lean ====
module

public import proofs.«01_k».proof.Proof.Gate
public import proofs.«01_k».proof.Proof.Gen.MergeIdeal.Value
public import Idealize.ShloMosaic.Lib.Pipeline.ValueKit
public import Idealize.ShloMosaic.Lib.Pointwise
public import Idealize.ShloMosaic.Lib.Claim

@[expose] public section

/-!
The merge kernel: what one point of the grid leaves in its block, and the whole result.
-/

set_option maxRecDepth 16384

noncomputable section

namespace Cert.MergeIdeal.Merging

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The merge at one element: row `r` of the sequence `r / 8192`, channel `l`. -/
def at_ (X : FVec Ideal S32768x1024 .f32) (A : FVec Ideal S32768x512 .bf16) (B : FVec Ideal S32768x1024 .bf16)
    (C : FVec Ideal S32768x512 .bf16) (G : FVec Ideal S32768x3072 .f32) (M : FVec Ideal S4x1x6144 .f32)
    (wa : FVec Ideal S512x1024 .bf16) (wb : FVec Ideal S1024x1024 .bf16) (wc : FVec Ideal S512x1024 .bf16)
    (wo : FVec Ideal S1024x1024 .bf16) (r : Fin 32768) (l : Fin 1024) : EReal :=
  X (ix2 r l) + M (ix3 ⟨r.val / 8192, by omega⟩ 0 ⟨2048 + l.val, by omega⟩)
    * ∑ j : Fin 1024, Gate.mixed (G (ix2 r ⟨j.val, by omega⟩)) (G (ix2 r ⟨1024 + j.val, by omega⟩))
        (G (ix2 r ⟨2048 + j.val, by omega⟩)) (fun k : Fin 512 => A (ix2 r k)) (fun k => wa (ix2 k j))
        (fun k : Fin 1024 => B (ix2 r k)) (fun k => wb (ix2 k j)) (fun k : Fin 512 => C (ix2 r k)) (fun k => wc (ix2 k j))
      * wo (ix2 j l)

/-- The whole result. -/
def result (X : FVec Ideal S32768x1024 .f32) (A : FVec Ideal S32768x512 .bf16) (B : FVec Ideal S32768x1024 .bf16)
    (C : FVec Ideal S32768x512 .bf16) (G : FVec Ideal S32768x3072 .f32) (M : FVec Ideal S4x1x6144 .f32)
    (wa : FVec Ideal S512x1024 .bf16) (wb : FVec Ideal S1024x1024 .bf16) (wc : FVec Ideal S512x1024 .bf16)
    (wo : FVec Ideal S1024x1024 .bf16) : FVec Ideal S32768x1024 .f32 :=
  fun i => at_ X A B C G M wa wb wc wo (i 0) (i 1)

theorem idx : ∀ t : Fin cfg0.N,
    win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val / 16, 0, 0]
    ∧ win0_6.index t = ![0, 0]
    ∧ win0_7.index t = ![0, 0]
    ∧ win0_8.index t = ![0, 0]
    ∧ win0_9.index t = ![0, 0]
    ∧ win0_10.index t = ![(grid0.coords t 0).val, 0] :=
  (by decide +kernel : ∀ t : Fin grid0.N, _)

theorem gate_apply (g : FVec Ideal S512x1024 .f32) (i) : k0_pay3 (F := Ideal) g i = Gate.gate (g i) := by
  pointwise [k0_pay3, Gate.gate]
  try simp

theorem two_apply (g0 g1 : FVec Ideal S512x1024 .f32) (oa : FVec Ideal S512x512 .bf16) (wa : FVec Ideal S512x1024 .bf16)
    (ob : FVec Ideal S512x1024 .bf16) (wb : FVec Ideal S1024x1024 .bf16) (q : Fin 512) (l : Fin 1024) :
    k0_pay2 (F := Ideal) g0 oa wa g1 ob wb (ix2 q l)
      = Gate.gate (g0 (ix2 q l)) * (∑ k : Fin 512, oa (ix2 q k) * wa (ix2 k l))
        + Gate.gate (g1 (ix2 q l)) * (∑ k : Fin 1024, ob (ix2 q k) * wb (ix2 k l)) := by
  pointwise [k0_pay2, Gate.gate]
  try simp

theorem out_apply (v24 v32 : FVec Ideal S512x1024 .f32) (oc : FVec Ideal S512x512 .bf16) (wc : FVec Ideal S512x1024 .bf16)
    (wo : FVec Ideal S1024x1024 .bf16) (md : FVec Ideal S1x1x1024 .f32) (x : FVec Ideal S512x1024 .f32) (q : Fin 512) (l : Fin 1024) :
    k0_pay1 (F := Ideal) v24 v32 oc wc wo md x (ix2 q l)
      = x (ix2 q l) + md (ix3 0 0 l) * ∑ j : Fin 1024,
          (v24 (ix2 q j) + v32 (ix2 q j) * (∑ k : Fin 512, oc (ix2 q k) * wc (ix2 k j))) * wo (ix2 j l) := by
  pointwise [k0_pay1]

/-- The row at position `q` of the block that point `t` computes. -/
def own (t : Fin cfg0.N) (q : Fin 512) : Fin 32768 :=
  ⟨(grid0.coords t 0).val * 512 + q.val, by
    have hb : (grid0.coords t 0).val < 64 := (grid0.coords t 0).isLt
    omega⟩

theorem own_val (t : Fin cfg0.N) (q : Fin 512) : (own t q).val = (grid0.coords t 0).val * 512 + q.val := rfl

theorem blk0 (c : Dev nD) (t : Fin cfg0.N) (q : Fin 512) (l : Fin 1024) : iblk m c 0 t (ix2 q l)
    = m ((c : Thread nD τ).loc main_arg0) (ix2 (own t q) l) := by
  blk_ext [iblk, V, idx t, own]

theorem blk1 (c : Dev nD) (t : Fin cfg0.N) (q : Fin 512) (l : Fin 512) : iblk m c 1 t (ix2 q l)
    = m ((c : Thread nD τ).loc main_arg1) (ix2 (own t q) l) := by
  blk_ext [iblk, V, idx t, own]

theorem blk2 (c : Dev nD) (t : Fin cfg0.N) (q : Fin 512) (l : Fin 1024) : iblk m c 2 t (ix2 q l)
    = m ((c : Thread nD τ).loc main_arg2) (ix2 (own t q) l) := by
  blk_ext [iblk, V, idx t, own]

theorem blk3 (c : Dev nD) (t : Fin cfg0.N) (q : Fin 512) (l : Fin 512) : iblk m c 3 t (ix2 q l)
    = m ((c : Thread nD τ).loc main_arg3) (ix2 (own t q) l) := by
  blk_ext [iblk, V, idx t, own]

theorem blk4 (c : Dev nD) (t : Fin cfg0.N) (q : Fin 512) (l : Fin 3072) : iblk m c 4 t (ix2 q l)
    = m ((c : Thread nD τ).loc main_arg4) (ix2 (own t q) l) := by
  blk_ext [iblk, V, idx t, own]

theorem blk5 (c : Dev nD) (t : Fin cfg0.N) (l : Fin 6144) : iblk m c 5 t (ix3 0 0 l)
    = m ((c : Thread nD τ).loc main_arg5) (ix3 (n0 := 4) (n1 := 1) (n2 := 6144) ⟨(grid0.coords t 0).val / 16, by
        have hb : (grid0.coords t 0).val < 64 := (grid0.coords t 0).isLt
        omega⟩ 0 l) := by
  blk_ext [iblk, V, idx t]

theorem blk6 (c : Dev nD) (t : Fin cfg0.N) (i) : iblk m c 6 t i = m ((c : Thread nD τ).loc main_arg6) i := by
  blk_ext [iblk, V, idx t]
theorem blk7 (c : Dev nD) (t : Fin cfg0.N) (i) : iblk m c 7 t i = m ((c : Thread nD τ).loc main_arg7) i := by
  blk_ext [iblk, V, idx t]
theorem blk8 (c : Dev nD) (t : Fin cfg0.N) (i) : iblk m c 8 t i = m ((c : Thread nD τ).loc main_arg8) i := by
  blk_ext [iblk, V, idx t]
theorem blk9 (c : Dev nD) (t : Fin cfg0.N) (i) : iblk m c 9 t i = m ((c : Thread nD τ).loc main_arg9) i := by
  blk_ext [iblk, V, idx t]

theorem emb10 (t : Fin cfg0.N) (y : S512x1024.Idx) : ((cfg0.win 10).blk t).view.emb y = ix2 (own t (y 0)) (y 1) := by
  blk_ext [idx t, own]

theorem point (c : Dev nD) (t : Fin cfg0.N) (y) : out0_10 (iblk m c 0 t) (iblk m c 1 t) (iblk m c 2 t) (iblk m c 3 t)
      (iblk m c 4 t) (iblk m c 5 t) (iblk m c 6 t) (iblk m c 7 t) (iblk m c 8 t) (iblk m c 9 t) y
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (((cfg0.win 10).blk t).view.emb y) := by
  rw [emb10]
  unfold out0_10; frame_out
  idx_vars y
  refine (out_apply _ _ _ _ _ _ _ y0 y1).trans ?_
  simp only [two_apply, gate_apply]
  unfold result at_ Gate.mixed
  pointwise [blk0, blk1, blk2, blk3, blk4, blk5, blk6, blk7, blk8, blk9]
  have hm (h : _) (h' : _) : (⟨(grid0.coords t 0).val / 16, h⟩ : Fin 4) = ⟨(own t y0).val / 8192, h'⟩ :=
    Fin.ext (by simp only [own_val]; omega)
  rw [hm]

/-- After the last point the whole result array holds the merge of all rows. -/
theorem final (c : Dev nD) : (dats m 0 c).arrAt 10 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 10 _ (by decide +kernel) fun t _ y => ?_
  blk_simp
  rw [after0_10]
  exact point m c t y

end Cert.MergeIdeal.Merging

end
-- ==== Proof.MergeEqual.lean ====
module

public import proofs.«01_k».proof.Proof.MergeValue
public import proofs.«01_k».proof.Proof.Gen.MergeRefIdeal.Run

@[expose] public section

/-!
The reference's merge, element by element, is the kernel's.
-/

set_option maxRecDepth 16384

noncomputable section

namespace Cert.MergeRefIdeal.Merging

open Cert.MergeRefIdeal Idealize.ShloMosaic Idealize.ShloMosaic.TcCoe Idealize.SL.Sem
open Cert.MergeRefIdeal.Facts₀ Cert.MergeRefIdeal.Facts

/-- The gates of the three branches. -/
def gates (G : FVec Ideal S32768x3072 .f32) : FVec Ideal S4x8192x3x1024 .f32 :=
  Host.divf (broadcastInDim S4x8192x3x1024 ![] bcast_S_S4x8192x3x1024 (constant S_ .f32 0x3F800000#32)) (addf (broadcastInDim S4x8192x3x1024 ![] bcast_S_S4x8192x3x1024 (constant S_ .f32 0x3F800000#32)) (Host.exp (Host.negf (shapeCast _ G shapeCasts_S32768x3072_S4x8192x3x1024))))

/-- A branch of 512 channels projected. -/
def narrow (A : FVec Ideal S32768x512 .bf16) (w : FVec Ideal S512x1024 .bf16) : FVec Ideal S4x8192x1024 .f32 :=
  Host.dotGeneral dot_S4x8192x512_S512x1024_S4x8192x1024_2_0_01_1_n_n none (shapeCast _ (extf .f32 A bitsLt_bf16_f32) shapeCasts_S32768x512_S4x8192x512) (extf .f32 w bitsLt_bf16_f32)

/-- A branch of 1024 channels projected. -/
def wide (A : FVec Ideal S32768x1024 .bf16) (w : FVec Ideal S1024x1024 .bf16) : FVec Ideal S4x8192x1024 .f32 :=
  Host.dotGeneral dot_S4x8192x1024_S1024x1024_S4x8192x1024_2_0_01_1_n_n none (shapeCast _ (extf .f32 A bitsLt_bf16_f32) shapeCasts_S32768x1024_S4x8192x1024) (extf .f32 w bitsLt_bf16_f32)

/-- The gated sum of the branches. -/
def merged (A : FVec Ideal S32768x512 .bf16) (B : FVec Ideal S32768x1024 .bf16)
    (C : FVec Ideal S32768x512 .bf16) (G : FVec Ideal S32768x3072 .f32)
    (wa : FVec Ideal S512x1024 .bf16) (wb : FVec Ideal S1024x1024 .bf16) (wc : FVec Ideal S512x1024 .bf16) :
    FVec Ideal S4x8192x1024 .f32 :=
  addf (addf (mulf (shapeCast _ (extractStridedSlice S4x8192x1x1024 ![0, 0, 0, 0] (gates G) slices_S4x8192x3x1024_S4x8192x1x1024_0_0_0_0) shapeCasts_S4x8192x1x1024_S4x8192x1024) (narrow A wa)) (mulf (shapeCast _ (extractStridedSlice S4x8192x1x1024 ![0, 0, 1, 0] (gates G) slices_S4x8192x3x1024_S4x8192x1x1024_0_0_1_0) shapeCasts_S4x8192x1x1024_S4x8192x1024) (wide B wb))) (mulf (shapeCast _ (extractStridedSlice S4x8192x1x1024 ![0, 0, 2, 0] (gates G) slices_S4x8192x3x1024_S4x8192x1x1024_0_0_2_0) shapeCasts_S4x8192x1x1024_S4x8192x1024) (narrow C wc))

/-- The projection of the merged branches. -/
def proj (Y : FVec Ideal S4x8192x1024 .f32) (wo : FVec Ideal S1024x1024 .bf16) : FVec Ideal S4x8192x1024 .f32 :=
  Host.dotGeneral dot_S4x8192x1024_S1024x1024_S4x8192x1024_2_0_01_1_n_n none Y (extf .f32 wo bitsLt_bf16_f32)

/-- The result as the program composes it. -/
def out (X : FVec Ideal S32768x1024 .f32) (M : FVec Ideal S4x1x6144 .f32) (Y : FVec Ideal S4x8192x1024 .f32) : FVec Ideal S32768x1024 .f32 :=
  shapeCast _ (addf (shapeCast _ X shapeCasts_S32768x1024_S4x8192x1024) (mulf (broadcastInDim S4x8192x1024 ![0, 1, 2] bcast_S4x1x1024_S4x8192x1024_0_1_2 (extractStridedSlice S4x1x1024 ![0, 0, 2048] M slices_S4x1x6144_S4x1x1024_0_0_2048)) Y)) shapeCasts_S4x8192x1024_S32768x1024

theorem gates_apply (G : FVec Ideal S32768x3072 .f32) (b : Fin 4) (s : Fin 8192) (k : Fin 3) (l : Fin 1024) :
    gates G (ix4 b s k l) = Gate.gate (G (ix2 ⟨b.val * 8192 + s.val, by omega⟩ ⟨k.val * 1024 + l.val, by omega⟩)) := by
  pointwise [gates, Gate.gate]

theorem narrow_apply (A : FVec Ideal S32768x512 .bf16) (w : FVec Ideal S512x1024 .bf16) (b : Fin 4) (s : Fin 8192) (l : Fin 1024) :
    narrow A w (ix3 b s l) = ∑ k : Fin 512, A (ix2 ⟨b.val * 8192 + s.val, by omega⟩ k) * w (ix2 k l) := by
  pointwise [narrow]

theorem wide_apply (A : FVec Ideal S32768x1024 .bf16) (w : FVec Ideal S1024x1024 .bf16) (b : Fin 4) (s : Fin 8192) (l : Fin 1024) :
    wide A w (ix3 b s l) = ∑ k : Fin 1024, A (ix2 ⟨b.val * 8192 + s.val, by omega⟩ k) * w (ix2 k l) := by
  pointwise [wide]

theorem proj_apply (Y : FVec Ideal S4x8192x1024 .f32) (w : FVec Ideal S1024x1024 .bf16) (b : Fin 4) (s : Fin 8192) (l : Fin 1024) :
    proj Y w (ix3 b s l) = ∑ k : Fin 1024, Y (ix3 b s k) * w (ix2 k l) := by
  pointwise [proj]

theorem merged_apply (A : FVec Ideal S32768x512 .bf16) (B : FVec Ideal S32768x1024 .bf16)
    (C : FVec Ideal S32768x512 .bf16) (G : FVec Ideal S32768x3072 .f32)
    (wa : FVec Ideal S512x1024 .bf16) (wb : FVec Ideal S1024x1024 .bf16) (wc : FVec Ideal S512x1024 .bf16)
    (b : Fin 4) (s : Fin 8192) (l : Fin 1024) :
    merged A B C G wa wb wc (ix3 b s l)
      = gates G (ix4 b s 0 l) * narrow A wa (ix3 b s l) + gates G (ix4 b s 1 l) * wide B wb (ix3 b s l)
        + gates G (ix4 b s 2 l) * narrow C wc (ix3 b s l) := by
  pointwise [merged]

theorem out_apply (X : FVec Ideal S32768x1024 .f32) (M : FVec Ideal S4x1x6144 .f32) (Y : FVec Ideal S4x8192x1024 .f32)
    (r : Fin 32768) (l : Fin 1024) :
    out X M Y (ix2 r l) = X (ix2 r l) + M (ix3 ⟨r.val / 8192, by omega⟩ 0 ⟨2048 + l.val, by omega⟩)
      * Y (ix3 ⟨r.val / 8192, by omega⟩ ⟨r.val % 8192, by omega⟩ l) := by
  pointwise [out]

/-- The reference's result is the kernel's. -/
theorem result_eq (X : FVec Ideal S32768x1024 .f32) (A : FVec Ideal S32768x512 .bf16) (B : FVec Ideal S32768x1024 .bf16)
    (C : FVec Ideal S32768x512 .bf16) (G : FVec Ideal S32768x3072 .f32) (M : FVec Ideal S4x1x6144 .f32)
    (wa : FVec Ideal S512x1024 .bf16) (wb : FVec Ideal S1024x1024 .bf16) (wc : FVec Ideal S512x1024 .bf16)
    (wo : FVec Ideal S1024x1024 .bf16) :
    out X M (proj (merged A B C G wa wb wc) wo) = Cert.MergeIdeal.Merging.result X A B C G M wa wb wc wo := by
  funext i
  obtain ⟨r, l, rfl⟩ : ∃ (r : Fin 32768) (l : Fin 1024), i = ix2 r l := ⟨i 0, i 1, by idx_vars i⟩
  rw [out_apply, proj_apply]
  show _ = Cert.MergeIdeal.Merging.at_ X A B C G M wa wb wc wo r l
  unfold Cert.MergeIdeal.Merging.at_
  have hr (h : _) : (⟨r.val / 8192 * 8192 + r.val % 8192, h⟩ : Fin 32768) = r := Fin.ext (by show r.val / 8192 * 8192 + r.val % 8192 = r.val; omega)
  congr 2
  refine Finset.sum_congr rfl fun j _ => ?_
  congr 1
  rw [merged_apply, gates_apply, gates_apply, gates_apply, narrow_apply, narrow_apply, wide_apply]
  unfold Gate.mixed
  simp only [hr]
  have h0 (h h') : (⟨(0 : Fin 3).val * 1024 + j.val, h⟩ : Fin 3072) = ⟨j.val, h'⟩ :=
    Fin.ext (by show 0 * 1024 + j.val = j.val; omega)
  rw [h0]
  rfl

end Cert.MergeRefIdeal.Merging

end
-- ==== Proof.MergeClaims.lean ====
module

public import proofs.«01_k».proof.Defs
public import proofs.«01_k».proof.Proof.MergeEqual
public import proofs.«01_k».proof.Proof.Gen.Merge.Frame
public import proofs.«01_k».proof.Proof.Gen.MergeIdeal.Frame
public import Idealize.ShloMosaic.Lib.Quiescent

@[expose] public section

/-!
The claims about the merge of the three branches.
-/

noncomputable section

open Idealize.ShloMosaic Idealize.ShloMosaic.TcCoe Idealize.SL.Sem

namespace Cert.Proof.MergeClaims

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

theorem preserves : Cert.preserves_Merge_MergeIdeal := trivial

/-- The kernel and the reference end with one result array. -/
theorem algebraic : Cert.algebraic_MergeIdeal_MergeRefIdeal := by
  intro m ρ m' ρ' hpre hagree
  refine ⟨_, Cert.MergeIdeal.Value.run_blocks (F := Ideal) m ρ, ?_⟩
  refine (θ_run Cert.MergeRefIdeal.defs _ _).mono (fun _ h c => ⟨(h c).1.trans ?_, (h c).2⟩)
    (Cert.MergeRefIdeal.Value.run (F := Ideal) m' ρ')
  obtain ⟨h0, h1, h2, h3, h4, h5, h6, h7, h8, h9⟩ := hagree c
  rw [Cert.MergeIdeal.Merging.final, h0, h1, h2, h3, h4, h5, h6, h7, h8, h9]
  exact Cert.MergeRefIdeal.Merging.result_eq _ _ _ _ _ _ _ _ _ _

end Cert.Proof.MergeClaims

end
-- ==== Proof.FfnOps.lean ====
module

public import proofs.«01_k».proof.Proof.Gate
public import proofs.«01_k».proof.Proof.Gen.FfnIdeal.Skeleton
public import Idealize.ShloMosaic.Lib.Pipeline.ValueKit
public import Idealize.ShloMosaic.Lib.Pointwise

@[expose] public section

/-!
The feed-forward kernel's operations on one chunk of 256 columns: the product of the normalized rows, the causal
convolution over the rows with the eight rows kept from the block before, the gated product.
-/

set_option maxRecDepth 16384

noncomputable section

namespace Cert.FfnIdeal.Feed

open Cert.FfnIdeal Cert.FfnIdeal.Gen Idealize.ShloMosaic Idealize.ShloMosaic.TcCoe Idealize.SL.Sem

/-- The product of a block of rows and 256 columns. -/
def prod (h : FVec Ideal S512x1024 .bf16) (w : FVec Ideal S1024x256 .bf16) : FVec Ideal S512x256 .f32 :=
  matmul dot_S512x1024_S1024x256_S512x256_1_0_0_1_n_n none h w (constant S512x256 .f32 0x00000000#32)

/-- The eight rows kept from the block before, zeros at the start of a sequence. -/
def kept (bit : BitVec 1) (halo : FVec Ideal S8x256 .f32) : FVec Ideal S8x256 .f32 :=
  Scalar.select bit (broadcast S8x256 (Scalar.ofBits .f32 0x00000000#32)) halo

/-- The rows moved down by `k`, the first of them taken from the kept rows. -/
def shifted (k : BitVec 32) (u : FVec Ideal S512x256 .f32) (halo : FVec Ideal S8x256 .f32) : FVec Ideal S512x256 .f32 :=
  concatenate S512x256 0
    [⟨S8x256, select (cmpi .slt (iota .tc S8x256 32 [0] iota_S8x256_d0_w32) (broadcast S8x256 k))
        (dynamicRotate 0 k none halo rotates_S8x256_d0)
        (extractStridedSlice S8x256 ![0, 0] (dynamicRotate 0 k none u rotates_S512x256_d0) slices_S512x256_o0_0_S8x256)⟩,
      ⟨S504x256, extractStridedSlice S504x256 ![8, 0] (dynamicRotate 0 k none u rotates_S512x256_d0)
        slices_S512x256_o8_0_S504x256⟩] concatenates_S8x256_S504x256_S512x256_d0

/-- The convolution of a chunk. -/
def conv (bit : BitVec 1) (h : FVec Ideal S512x1024 .bf16) (w : FVec Ideal S1024x256 .bf16) (halo : FVec Ideal S8x256 .f32)
    (w2 b w1 w0 : FVec Ideal S1x256 .f32) : FVec Ideal S512x256 .f32 :=
  addf (addf (addf (mulf (prod h w) (broadcastTo S512x256 w2 broadcasts_S1x256_S512x256))
      (broadcastTo S512x256 b broadcasts_S1x256_S512x256))
    (mulf (shifted 1#32 (prod h w) (kept bit halo)) (broadcastTo S512x256 w1 broadcasts_S1x256_S512x256)))
    (mulf (shifted 2#32 (prod h w) (kept bit halo)) (broadcastTo S512x256 w0 broadcasts_S1x256_S512x256))

/-- The gated product of two chunks. -/
def gated (g v : FVec Ideal S512x256 .f32) : FVec Ideal S512x256 .bf16 :=
  shapeCast S512x256 (truncf .bf16 (mulf (mulf g (divf (broadcast S512x256 (Scalar.ofBits .f32 0x3F800000#32))
    (addf (broadcast S512x256 (Scalar.ofBits .f32 0x3F800000#32))
      (exp (subf (broadcast S512x256 (Scalar.ofBits .f32 0x00000000#32)) g))))) v) bitsLt_bf16_f32) shapeCasts_S512x256_S512x256

/-- The last eight rows of a chunk, kept for the next block. -/
def tail (u : FVec Ideal S512x256 .f32) : FVec Ideal S8x256 .f32 :=
  shapeCast S8x256 (extractStridedSlice S8x256 ![504, 0] u slices_S512x256_o504_0_S8x256) shapeCasts_S8x256_S8x256

/-- The convolution at one row, from the column of products and the kept rows of that column. -/
def convAt (bit : BitVec 1) (U : Fin 512 → EReal) (H : Fin 8 → EReal) (w2 b w1 w0 : EReal) (r : Fin 512) : EReal :=
  U r * w2 + b
    + (if h : r.val < 1 then Scalar.select bit 0 (H ⟨7 + r.val, by omega⟩) else U ⟨r.val - 1, by omega⟩) * w1
    + (if h : r.val < 2 then Scalar.select bit 0 (H ⟨6 + r.val, by omega⟩) else U ⟨r.val - 2, by omega⟩) * w0

theorem prod_apply (h : FVec Ideal S512x1024 .bf16) (w : FVec Ideal S1024x256 .bf16) (r : Fin 512) (l : Fin 256) :
    prod h w (ix2 r l) = ∑ k : Fin 1024, h (ix2 r k) * w (ix2 k l) := by
  pointwise [prod]

theorem kept_apply (bit : BitVec 1) (halo : FVec Ideal S8x256 .f32) (r : Fin 8) (l : Fin 256) :
    kept bit halo (ix2 r l) = Scalar.select bit 0 (halo (ix2 r l)) := by
  pointwise [kept]

theorem pick_one {a b : EReal} : Scalar.select (BitVec.ofBool true) a b = a := rfl
theorem pick_zero {a b : EReal} : Scalar.select (BitVec.ofBool false) a b = b := rfl

theorem slt1 : ∀ r : Fin 8, IntOp.cmpi .slt (BitVec.ofNat 32 r.val) 1#32 = BitVec.ofBool (decide (r.val < 1)) := by
  decide +kernel
theorem slt2 : ∀ r : Fin 8, IntOp.cmpi .slt (BitVec.ofNat 32 r.val) 2#32 = BitVec.ofBool (decide (r.val < 2)) := by
  decide +kernel

theorem shifted1_apply (u : FVec Ideal S512x256 .f32) (halo : FVec Ideal S8x256 .f32) (r : Fin 512) (l : Fin 256) :
    shifted 1#32 u halo (ix2 r l)
      = if h : r.val < 1 then halo (ix2 ⟨7 + r.val, by omega⟩ l) else u (ix2 ⟨r.val - 1, by omega⟩ l) := by
  pointwise [shifted]
  by_cases h8 : r.val < 8
  · rw [dif_pos h8, slt1 ⟨r.val, h8⟩]
    by_cases h : r.val < 1
    · rw [dif_pos h, decide_eq_true h, pick_one]
      exact congrArg (fun z => halo (ix2 z l)) (Fin.ext (by dsimp only; omega))
    · rw [dif_neg h, decide_eq_false h, pick_zero]
      exact congrArg (fun z => u (ix2 z l)) (Fin.ext (by dsimp only; omega))
  · rw [dif_neg h8, dif_neg (by omega)]
    exact congrArg (fun z => u (ix2 z l)) (Fin.ext (by dsimp only; omega))

theorem shifted2_apply (u : FVec Ideal S512x256 .f32) (halo : FVec Ideal S8x256 .f32) (r : Fin 512) (l : Fin 256) :
    shifted 2#32 u halo (ix2 r l)
      = if h : r.val < 2 then halo (ix2 ⟨6 + r.val, by omega⟩ l) else u (ix2 ⟨r.val - 2, by omega⟩ l) := by
  pointwise [shifted]
  by_cases h8 : r.val < 8
  · rw [dif_pos h8, slt2 ⟨r.val, h8⟩]
    by_cases h : r.val < 2
    · rw [dif_pos h, decide_eq_true h, pick_one]
      exact congrArg (fun z => halo (ix2 z l)) (Fin.ext (by dsimp only; omega))
    · rw [dif_neg h, decide_eq_false h, pick_zero]
      exact congrArg (fun z => u (ix2 z l)) (Fin.ext (by dsimp only; omega))
  · rw [dif_neg h8, dif_neg (by omega)]
    exact congrArg (fun z => u (ix2 z l)) (Fin.ext (by dsimp only; omega))

theorem conv_apply (bit : BitVec 1) (h : FVec Ideal S512x1024 .bf16) (w : FVec Ideal S1024x256 .bf16)
    (halo : FVec Ideal S8x256 .f32) (w2 b w1 w0 : FVec Ideal S1x256 .f32) (r : Fin 512) (l : Fin 256) :
    conv bit h w halo w2 b w1 w0 (ix2 r l)
      = convAt bit (fun r => ∑ k : Fin 1024, h (ix2 r k) * w (ix2 k l)) (fun i => halo (ix2 i l))
          (w2 (ix2 0 l)) (b (ix2 0 l)) (w1 (ix2 0 l)) (w0 (ix2 0 l)) r := by
  pointwise [conv]
  rw [shifted1_apply, shifted2_apply, prod_apply]
  unfold convAt
  simp only [kept_apply, prod_apply]

theorem gated_apply (g v : FVec Ideal S512x256 .f32) (i) : gated g v i = g i * Gate.gate (g i) * v i := by
  pointwise [gated, Gate.gate]
  rw [zero_sub]

theorem tail_apply (u : FVec Ideal S512x256 .f32) (r : Fin 8) (l : Fin 256) :
    tail u (ix2 r l) = u (ix2 ⟨504 + r.val, by omega⟩ l) := by
  pointwise [tail]

/-- The normalized, scaled and shifted row of the input at one column. -/
def rowAt (x : Fin 1024 → EReal) (gain scale shift : EReal) (k : Fin 1024) : EReal :=
  x k * Ideal.rsqrt (Ideal.div (∑ j, x j * x j) (Ideal.ofBits .f32 0x44800000#32) + Ideal.ofBits .f32 0x358637BD#32) * gain
    * (1 + scale) + shift

theorem norm_apply (x : FVec Ideal S512x1024 .f32) (sh sc : FVec Ideal S1x1x1024 .f32) (gain : FVec Ideal S1x1024 .f32)
    (r : Fin 512) (k : Fin 1024) :
    k0_pay3 (F := Ideal) x sh sc gain (ix2 r k)
      = rowAt (fun j => x (ix2 r j)) (gain (ix2 0 k)) (sc (ix3 0 0 k)) (sh (ix3 0 0 k)) k := by
  pointwise [k0_pay3, rowAt]

theorem down_apply (md : FVec Ideal S1x1x1024 .f32) (x : FVec Ideal S512x1024 .f32) (a : FVec Ideal S512x2816 .bf16)
    (w : FVec Ideal S2816x1024 .bf16) (r : Fin 512) (l : Fin 1024) :
    k0_pay1 (F := Ideal) md x a w (ix2 r l) = x (ix2 r l) + md (ix3 0 0 l) * ∑ j : Fin 2816, a (ix2 r j) * w (ix2 j l) := by
  pointwise [k0_pay1]

end Cert.FfnIdeal.Feed

end
-- ==== Proof.FfnBlocks.lean ====
module

public import proofs.«01_k».proof.Proof.FfnOps
public import proofs.«01_k».proof.Proof.Gen.FfnIdeal.Value
public import Idealize.ShloMosaic.Lib.Pipeline.ValueKit
public import Idealize.ShloMosaic.Lib.Pointwise
public import Idealize.ShloMosaic.Lib.Claim

@[expose] public section

/-!
The feed-forward network at one element, and the blocks one point of the kernel's grid reads. A point whose kept rows
are the last eight rows of products before its own computes the network of its rows.
-/

set_option maxRecDepth 16384

noncomputable section

namespace Cert.FfnIdeal.Feed

open Cert.FfnIdeal Cert.FfnIdeal.Gen Idealize.ShloMosaic Idealize.ShloMosaic.TcCoe Idealize.SL.Sem
open Idealize.ShloMosaic.Pipeline (Dat)

section Spec

variable (X : FVec Ideal S32768x1024 .f32) (M : FVec Ideal S4x1x6144 .f32) (gain : FVec Ideal S1x1024 .f32)
    (wu : FVec Ideal S1024x5632 .bf16) (cw : FVec Ideal S3x5632 .f32) (cb : FVec Ideal S1x5632 .f32)
    (wd : FVec Ideal S2816x1024 .bf16)

/-- The normalized and modulated input. -/
def hAt (r : Fin 32768) (k : Fin 1024) : EReal :=
  rowAt (fun j => X (ix2 r j)) (gain (ix2 0 k)) (M (ix3 ⟨r.val / 8192, by omega⟩ 0 ⟨4096 + k.val, by omega⟩))
    (M (ix3 ⟨r.val / 8192, by omega⟩ 0 ⟨3072 + k.val, by omega⟩)) k

/-- The up projection. -/
def uAt (r : Fin 32768) (j : Fin 5632) : EReal := ∑ k : Fin 1024, hAt X M gain r k * wu (ix2 k j)

/-- The product `k` rows before, zero before the sequence. -/
def backAt (k : Nat) (r : Fin 32768) (j : Fin 5632) : EReal :=
  if k ≤ r.val % 8192 then uAt X M gain wu ⟨r.val - k, by omega⟩ j else 0

/-- The convolution over three rows. -/
def cvAt (r : Fin 32768) (j : Fin 5632) : EReal :=
  uAt X M gain wu r j * cw (ix2 2 j) + cb (ix2 0 j) + backAt X M gain wu 1 r j * cw (ix2 1 j)
    + backAt X M gain wu 2 r j * cw (ix2 0 j)

/-- The gated product. -/
def actAt (r : Fin 32768) (j : Fin 2816) : EReal :=
  cvAt X M gain wu cw cb r ⟨j.val, by omega⟩ * Gate.gate (cvAt X M gain wu cw cb r ⟨j.val, by omega⟩)
    * cvAt X M gain wu cw cb r ⟨2816 + j.val, by omega⟩

/-- The network at one element. -/
def at_ (r : Fin 32768) (l : Fin 1024) : EReal :=
  X (ix2 r l) + M (ix3 ⟨r.val / 8192, by omega⟩ 0 ⟨5120 + l.val, by omega⟩)
    * ∑ j : Fin 2816, actAt X M gain wu cw cb r j * wd (ix2 j l)

/-- The whole result. -/
def result : FVec Ideal S32768x1024 .f32 := fun i => at_ X M gain wu cw cb wd (i 0) (i 1)

/-- The row at position `q` of block `n`. -/
def row (n : Fin 64) (q : Fin 512) : Fin 32768 := ⟨n.val * 512 + q.val, by omega⟩

theorem row_val (n : Fin 64) (q : Fin 512) : (row n q).val = n.val * 512 + q.val := rfl

/-- The kept rows `H` of one column are the products of the eight rows before block `n`, unless it starts a sequence. -/
def Kept (n : Fin 64) (j : Fin 5632) (H : Fin 8 → EReal) : Prop :=
  ¬ n.val % 16 = 0 → ∀ (i : Fin 8) (R : Fin 32768), R.val + 8 = n.val * 512 + i.val → H i = uAt X M gain wu R j

theorem convAt_eq (n : Fin 64) (j : Fin 5632) (bit : BitVec 1) (U : Fin 512 → EReal) (H : Fin 8 → EReal) (w2 b w1 w0 : EReal)
    (hbit : bit = BitVec.ofBool (decide (n.val % 16 = 0))) (hU : ∀ r, U r = uAt X M gain wu (row n r) j)
    (hH : Kept X M gain wu n j H) (h2 : w2 = cw (ix2 2 j)) (hb : b = cb (ix2 0 j)) (h1 : w1 = cw (ix2 1 j))
    (h0 : w0 = cw (ix2 0 j)) (r : Fin 512) : convAt bit U H w2 b w1 w0 r = cvAt X M gain wu cw cb (row n r) j := by
  subst hbit h2 hb h1 h0
  have back : ∀ (k : Nat) (hk : 1 ≤ k ∧ k ≤ 8), (if h : r.val < k then
      Scalar.select (BitVec.ofBool (decide (n.val % 16 = 0))) 0 (H ⟨8 - k + r.val, by omega⟩) else U ⟨r.val - k, by omega⟩)
      = backAt X M gain wu k (row n r) j := by
    intro k hk
    unfold backAt
    by_cases h : r.val < k
    · rw [dif_pos h]
      by_cases hn : n.val % 16 = 0
      · rw [decide_eq_true hn, pick_one, if_neg (by rw [row_val]; omega)]
      · rw [decide_eq_false hn, pick_zero, if_pos (by rw [row_val]; omega)]
        exact hH hn _ _ (by simp only [row_val]; omega)
    · rw [dif_neg h, if_pos (by rw [row_val]; omega), hU]
      exact congrArg (fun z => uAt X M gain wu z j) (Fin.ext (by simp only [row_val]; omega))
  unfold convAt cvAt
  rw [← back 1 (by omega), ← back 2 (by omega), ← hU]

theorem gate_congr {a a' b b' : EReal} (h : a = a') (h' : b = b') : a * Gate.gate a * b = a' * Gate.gate a' * b' := by
  rw [h, h']

/-- A chunk of gated products at the columns from `o` on. -/
theorem chunk (n : Fin 64) (o : Nat) (ho : o + 256 ≤ 2816) (bg bv : BitVec 1) (h : FVec Ideal S512x1024 .bf16)
    (wg : FVec Ideal S1024x256 .bf16) (hg : FVec Ideal S8x256 .f32) (g2 gb g1 g0 : FVec Ideal S1x256 .f32)
    (wv : FVec Ideal S1024x256 .bf16) (hv : FVec Ideal S8x256 .f32) (v2 vb v1 v0 : FVec Ideal S1x256 .f32)
    (x : S512x256.Idx)
    (ebg : bg = BitVec.ofBool (decide (n.val % 16 = 0))) (ebv : bv = BitVec.ofBool (decide (n.val % 16 = 0)))
    (eh : ∀ r k, h (ix2 r k) = hAt X M gain (row n r) k)
    (ewg : ∀ k (l : Fin 256), wg (ix2 k l) = wu (ix2 k ⟨o + l.val, by omega⟩))
    (ehg : ∀ l : Fin 256, Kept X M gain wu n ⟨o + l.val, by omega⟩ (fun i => hg (ix2 i l)))
    (eg2 : ∀ l : Fin 256, g2 (ix2 0 l) = cw (ix2 2 ⟨o + l.val, by omega⟩))
    (egb : ∀ l : Fin 256, gb (ix2 0 l) = cb (ix2 0 ⟨o + l.val, by omega⟩))
    (eg1 : ∀ l : Fin 256, g1 (ix2 0 l) = cw (ix2 1 ⟨o + l.val, by omega⟩))
    (eg0 : ∀ l : Fin 256, g0 (ix2 0 l) = cw (ix2 0 ⟨o + l.val, by omega⟩))
    (ewv : ∀ k (l : Fin 256), wv (ix2 k l) = wu (ix2 k ⟨2816 + o + l.val, by omega⟩))
    (ehv : ∀ l : Fin 256, Kept X M gain wu n ⟨2816 + o + l.val, by omega⟩ (fun i => hv (ix2 i l)))
    (ev2 : ∀ l : Fin 256, v2 (ix2 0 l) = cw (ix2 2 ⟨2816 + o + l.val, by omega⟩))
    (evb : ∀ l : Fin 256, vb (ix2 0 l) = cb (ix2 0 ⟨2816 + o + l.val, by omega⟩))
    (ev1 : ∀ l : Fin 256, v1 (ix2 0 l) = cw (ix2 1 ⟨2816 + o + l.val, by omega⟩))
    (ev0 : ∀ l : Fin 256, v0 (ix2 0 l) = cw (ix2 0 ⟨2816 + o + l.val, by omega⟩))
    (r : Fin 512) (j : Fin 2816) (er : r.val = (x 0).val) (ej : j.val = o + (x 1).val) :
    gated (conv bg h wg hg g2 gb g1 g0) (conv bv h wv hv v2 vb v1 v0) x = actAt X M gain wu cw cb (row n r) j := by
  obtain ⟨q, l, rfl⟩ : ∃ (q : Fin 512) (l : Fin 256), x = ix2 q l := ⟨x 0, x 1, by idx_vars x⟩
  obtain rfl : r = q := Fin.ext er
  have ej' : j.val = o + l.val := ej
  have j1 : (⟨j.val, by omega⟩ : Fin 5632) = ⟨o + l.val, by omega⟩ := Fin.ext ej'
  have j2 : (⟨2816 + j.val, by omega⟩ : Fin 5632) = ⟨2816 + o + l.val, by omega⟩ := Fin.ext (by dsimp only; omega)
  rw [gated_apply, conv_apply, conv_apply]
  unfold actAt
  rw [j1, j2]
  refine gate_congr ?_ ?_
  · refine convAt_eq X M gain wu cw cb n _ _ _ _ _ _ _ _ ebg (fun r => ?_) (ehg l) (eg2 l) (egb l) (eg1 l) (eg0 l) r
    exact Finset.sum_congr rfl fun k _ => by rw [eh, ewg]
  · refine convAt_eq X M gain wu cw cb n _ _ _ _ _ _ _ _ ebv (fun r => ?_) (ehv l) (ev2 l) (evb l) (ev1 l) (ev0 l) r
    exact Finset.sum_congr rfl fun k _ => by rw [eh, ewv]

/-- The last eight rows of a chunk of products at the columns from `o` on. -/
theorem tail_chunk (n : Fin 64) (o : Nat) (ho : o + 256 ≤ 5632) (h : FVec Ideal S512x1024 .bf16)
    (w : FVec Ideal S1024x256 .bf16) (x : S8x256.Idx)
    (eh : ∀ r k, h (ix2 r k) = hAt X M gain (row n r) k)
    (ew : ∀ k (l : Fin 256), w (ix2 k l) = wu (ix2 k ⟨o + l.val, by omega⟩))
    (i : Fin 8) (j : Fin 5632) (ei : i.val = (x 0).val) (ej : j.val = o + (x 1).val) :
    tail (prod h w) x = uAt X M gain wu (row n ⟨504 + i.val, by omega⟩) j := by
  obtain ⟨q, l, rfl⟩ : ∃ (q : Fin 8) (l : Fin 256), x = ix2 q l := ⟨x 0, x 1, by idx_vars x⟩
  obtain rfl : i = q := Fin.ext ei
  have j1 : j = ⟨o + l.val, by omega⟩ := Fin.ext ej
  rw [j1]
  rw [tail_apply, prod_apply]
  exact Finset.sum_congr rfl fun k _ => by rw [eh, ew]

end Spec

variable (m : (ℓ : Loc nD τ sig) → Buf (Elt Ideal) ℓ)

theorem idx : ∀ t : Fin cfg0.N,
    win0_0.index t = ![(grid0.coords t 0).val, 0]
    ∧ win0_1.index t = ![(grid0.coords t 0).val / 16, 0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![(grid0.coords t 0).val, 0] :=
  (by decide +kernel : ∀ t : Fin grid0.N, _)

/-- The block of point `t`. -/
def num (t : Fin cfg0.N) : Fin 64 := ⟨(grid0.coords t 0).val, (grid0.coords t 0).isLt⟩

theorem num_val (t : Fin cfg0.N) : (num t).val = (grid0.coords t 0).val := rfl

theorem num_eq : ∀ t : Fin cfg0.N, (num t).val = t.val :=
  (by decide +kernel : ∀ t : Fin grid0.N, (grid0.coords t 0).val = t.val)

/-- The kernel's test for the first block of a sequence. -/
theorem start_bit : ∀ n : Fin 64, Scalar.cmpi .eq (Scalar.select (Scalar.andi (Scalar.xori
      (Scalar.cmpi .slt (Scalar.remsi (BitVec.ofNat 32 n.val) 16#32) 0#32) 0#1)
      (Scalar.cmpi .ne (Scalar.remsi (BitVec.ofNat 32 n.val) 16#32) 0#32))
      (Scalar.addi (Scalar.remsi (BitVec.ofNat 32 n.val) 16#32) 16#32) (Scalar.remsi (BitVec.ofNat 32 n.val) 16#32)) 0#32
    = BitVec.ofBool (decide (n.val % 16 = 0)) := by
  decide +kernel

theorem blk0 (c : Dev nD) (t : Fin cfg0.N) (q : Fin 512) (l : Fin 1024) : iblk m c 0 t (ix2 q l)
    = m ((c : Thread nD τ).loc main_arg0) (ix2 (row (num t) q) l) := by
  blk_ext [iblk, V, idx t, row, num]

theorem blk1 (c : Dev nD) (t : Fin cfg0.N) (q : Fin 512) (l : Fin 6144) : iblk m c 1 t (ix3 0 0 l)
    = m ((c : Thread nD τ).loc main_arg1) (ix3 (n0 := 4) (n1 := 1) (n2 := 6144) ⟨(row (num t) q).val / 8192, by omega⟩ 0 l) := by
  have hn : (num t).val < 64 := (num t).isLt
  have e : (row (num t) q).val / 8192 = (grid0.coords t 0).val / 16 := by rw [row_val, num_val]; rw [num_val] at hn; omega
  have key : iblk m c 1 t (ix3 0 0 l) = m ((c : Thread nD τ).loc main_arg1) (ix3 (n0 := 4) (n1 := 1) (n2 := 6144)
      ⟨(grid0.coords t 0).val / 16, by rw [← e]; omega⟩ 0 l) := by
    blk_ext [iblk, V, idx t]
  refine key.trans ?_
  exact congrArg (fun z => m ((c : Thread nD τ).loc main_arg1) (ix3 (n0 := 4) (n1 := 1) (n2 := 6144) z 0 l)) (Fin.ext e.symm)

theorem blk2 (c : Dev nD) (t : Fin cfg0.N) (i) : iblk m c 2 t i = m ((c : Thread nD τ).loc main_arg2) i := by
  blk_ext [iblk, V, idx t]

theorem blk3 (c : Dev nD) (t : Fin cfg0.N) (i) : iblk m c 3 t i = m ((c : Thread nD τ).loc main_arg3) i := by
  blk_ext [iblk, V, idx t]

theorem blk4 (c : Dev nD) (t : Fin cfg0.N) (i) : iblk m c 4 t i = m ((c : Thread nD τ).loc main_arg4) i := by
  blk_ext [iblk, V, idx t]

theorem blk5 (c : Dev nD) (t : Fin cfg0.N) (i) : iblk m c 5 t i = m ((c : Thread nD τ).loc main_arg5) i := by
  blk_ext [iblk, V, idx t]

theorem blk6 (c : Dev nD) (t : Fin cfg0.N) (i) : iblk m c 6 t i = m ((c : Thread nD τ).loc main_arg6) i := by
  blk_ext [iblk, V, idx t]

theorem emb7 (t : Fin cfg0.N) (y : S512x1024.Idx) : ((cfg0.win 7).blk t).view.emb y = ix2 (row (num t) (y 0)) (y 1) := by
  blk_ext [idx t, row, num]

end Cert.FfnIdeal.Feed

end
-- ==== Proof.FfnKept.lean ====
module

public import proofs.«01_k».proof.Proof.FfnBlocks

@[expose] public section

/-!
The rows each point of the feed-forward kernel's grid keeps for the next: the products of its last eight rows.
-/

set_option maxRecDepth 16384

noncomputable section

namespace Cert.FfnIdeal.Feed

open Cert.FfnIdeal Cert.FfnIdeal.Gen Idealize.ShloMosaic Idealize.ShloMosaic.TcCoe Idealize.SL.Sem
open Idealize.ShloMosaic.Pipeline (Dat)

/-- A load of a whole block reads it in place. -/
theorem load_whole (a : Fin 512) (b : Fin 2816) :
    (Rect.unit (s := S512x2816) ![0, 0] S512x2816.size inb_S512x2816_S512x2816_0_0).toLoadRect.idx (ix2 a b) = ix2 a b := by
  funext x
  refine Fin.ext ((Rect.idx_unit_val _ _ _ _ _).trans ?_)
  match x with
  | ⟨0, _⟩ => exact Nat.zero_add _
  | ⟨1, _⟩ => exact Nat.zero_add _

/-- Earlier stores do not matter where a later one covers. -/
theorem canon_drop {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L' L y ?_
      obtain ⟨q, hq, hyq⟩ := hy
      rcases List.mem_cons.mp hq with rfl | hq'
      · exact absurd hyq hm
      · exact ⟨q, hq', hyq⟩

variable (m : (ℓ : Loc nD τ sig) → Buf (Elt Ideal) ℓ)

theorem kept_A (c : Dev nD) (t : Fin cfg0.N) (e0 : t.val % 64 = 0) (y : S8x5632.Idx) :
    (outsAt0 m c t.val t.isLt).2 y = uAt (m ((c : Thread nD τ).loc main_arg0)) (m ((c : Thread nD τ).loc main_arg1)) (m ((c : Thread nD τ).loc main_arg2))
        (m ((c : Thread nD τ).loc main_arg3))
        (row (num t) ⟨504 + (y 0).val, by have h8 : (y 0).val < 8 := (y 0).isLt; omega⟩) (y 1) := by
  rw [outsAt0_A m c t e0]; unfold sout0_A_2; frame_out
  refine (canon_drop [_] [_, _, _, _, _, _, _, _, _, _, _, _, _, _, _, _, _, _, _, _, _, _] y (View.cover_of_tiledL (s := S8x5632) _ S8x256.size (by sl_kernel_rfl) y)).trans ?_
  canon_tiles x h
  case piece0 =>
    open_payloads
    refine tail_chunk (m ((c : Thread nD τ).loc main_arg0)) (m ((c : Thread nD τ).loc main_arg1)) (m ((c : Thread nD τ).loc main_arg2))
      (m ((c : Thread nD τ).loc main_arg3)) (num t) 5376 (by omega) _ _ x ?_ ?_ (y 0) (y 1) h0 h1
    · intro r k
      refine (norm_apply _ _ _ _ r k).trans ?_
      unfold hAt
      pointwise [blk0, blk1 m c t r, blk2]
    · intro k l
      pointwise [blk3]
  case piece1 =>
    open_payloads
    refine tail_chunk (m ((c : Thread nD τ).loc main_arg0)) (m ((c : Thread nD τ).loc main_arg1)) (m ((c : Thread nD τ).loc main_arg2))
      (m ((c : Thread nD τ).loc main_arg3)) (num t) 2560 (by omega) _ _ x ?_ ?_ (y 0) (y 1) h0 h1
    · intro r k
      refine (norm_apply _ _ _ _ r k).trans ?_
      unfold hAt
      pointwise [blk0, blk1 m c t r, blk2]
    · intro k l
      pointwise [blk3]
  case piece2 =>
    open_payloads
    refine tail_chunk (m ((c : Thread nD τ).loc main_arg0)) (m ((c : Thread nD τ).loc main_arg1)) (m ((c : Thread nD τ).loc main_arg2))
      (m ((c : Thread nD τ).loc main_arg3)) (num t) 5120 (by omega) _ _ x ?_ ?_ (y 0) (y 1) h0 h1
    · intro r k
      refine (norm_apply _ _ _ _ r k).trans ?_
      unfold hAt
      pointwise [blk0, blk1 m c t r, blk2]
    · intro k l
      pointwise [blk3]
  case piece3 =>
    open_payloads
    refine tail_chunk (m ((c : Thread nD τ).loc main_arg0)) (m ((c : Thread nD τ).loc main_arg1)) (m ((c : Thread nD τ).loc main_arg2))
      (m ((c : Thread nD τ).loc main_arg3)) (num t) 2304 (by omega) _ _ x ?_ ?_ (y 0) (y 1) h0 h1
    · intro r k
      refine (norm_apply _ _ _ _ r k).trans ?_
      unfold hAt
      pointwise [blk0, blk1 m c t r, blk2]
    · intro k l
      pointwise [blk3]
  case piece4 =>
    open_payloads
    refine tail_chunk (m ((c : Thread nD τ).loc main_arg0)) (m ((c : Thread nD τ).loc main_arg1)) (m ((c : Thread nD τ).loc main_arg2))
      (m ((c : Thread nD τ).loc main_arg3)) (num t) 4864 (by omega) _ _ x ?_ ?_ (y 0) (y 1) h0 h1
    · intro r k
      refine (norm_apply _ _ _ _ r k).trans ?_
      unfold hAt
      pointwise [blk0, blk1 m c t r, blk2]
    · intro k l
      pointwise [blk3]
  case piece5 =>
    open_payloads
    refine tail_chunk (m ((c : Thread nD τ).loc main_arg0)) (m ((c : Thread nD τ).loc main_arg1)) (m ((c : Thread nD τ).loc main_arg2))
      (m ((c : Thread nD τ).loc main_arg3)) (num t) 2048 (by omega) _ _ x ?_ ?_ (y 0) (y 1) h0 h1
    · intro r k
      refine (norm_apply _ _ _ _ r k).trans ?_
      unfold hAt
      pointwise [blk0, blk1 m c t r, blk2]
    · intro k l
      pointwise [blk3]
  case piece6 =>
    open_payloads
    refine tail_chunk (m ((c : Thread nD τ).loc main_arg0)) (m ((c : Thread nD τ).loc main_arg1)) (m ((c : Thread nD τ).loc main_arg2))
      (m ((c : Thread nD τ).loc main_arg3)) (num t) 4608 (by omega) _ _ x ?_ ?_ (y 0) (y 1) h0 h1
    · intro r k
      refine (norm_apply _ _ _ _ r k).trans ?_
      unfold hAt
      pointwise [blk0, blk1 m c t r, blk2]
    · intro k l
      pointwise [blk3]
  case piece7 =>
    open_payloads
    refine tail_chunk (m ((c : Thread nD τ).loc main_arg0)) (m ((c : Thread nD τ).loc main_arg1)) (m ((c : Thread nD τ).loc main_arg2))
      (m ((c : Thread nD τ).loc main_arg3)) (num t) 1792 (by omega) _ _ x ?_ ?_ (y 0) (y 1) h0 h1
    · intro r k
      refine (norm_apply _ _ _ _ r k).trans ?_
      unfold hAt
      pointwise [blk0, blk1 m c t r, blk2]
    · intro k l
      pointwise [blk3]
  case piece8 =>
    open_payloads
    refine tail_chunk (m ((c : Thread nD τ).loc main_arg0)) (m ((c : Thread nD τ).loc main_arg1)) (m ((c : Thread nD τ).loc main_arg2))
      (m ((c : Thread nD τ).loc main_arg3)) (num t) 4352 (by omega) _ _ x ?_ ?_ (y 0) (y 1) h0 h1
    · intro r k
      refine (norm_apply _ _ _ _ r k).trans ?_
      unfold hAt
      pointwise [blk0, blk1 m c t r, blk2]
    · intro k l
      pointwise [blk3]
  case piece9 =>
    open_payloads
    refine tail_chunk (m ((c : Thread nD τ).loc main_arg0)) (m ((c : Thread nD τ).loc main_arg1)) (m ((c : Thread nD τ).loc main_arg2))
      (m ((c : Thread nD τ).loc main_arg3)) (num t) 1536 (by omega) _ _ x ?_ ?_ (y 0) (y 1) h0 h1
    · intro r k
      refine (norm_apply _ _ _ _ r k).trans ?_
      unfold hAt
      pointwise [blk0, blk1 m c t r, blk2]
    · intro k l
      pointwise [blk3]
  case piece10 =>
    open_payloads
    refine tail_chunk (m ((c : Thread nD τ).loc main_arg0)) (m ((c : Thread nD τ).loc main_arg1)) (m ((c : Thread nD τ).loc main_arg2))
      (m ((c : Thread nD τ).loc main_arg3)) (num t) 4096 (by omega) _ _ x ?_ ?_ (y 0) (y 1) h0 h1
    · intro r k
      refine (norm_apply _ _ _ _ r k).trans ?_
      unfold hAt
      pointwise [blk0, blk1 m c t r, blk2]
    · intro k l
      pointwise [blk3]
  case piece11 =>
    open_payloads
    refine tail_chunk (m ((c : Thread nD τ).loc main_arg0)) (m ((c : Thread nD τ).loc main_arg1)) (m ((c : Thread nD τ).loc main_arg2))
      (m ((c : Thread nD τ).loc main_arg3)) (num t) 1280 (by omega) _ _ x ?_ ?_ (y 0) (y 1) h0 h1
    · intro r k
      refine (norm_apply _ _ _ _ r k).trans ?_
      unfold hAt
      pointwise [blk0, blk1 m c t r, blk2]
    · intro k l
      pointwise [blk3]
  case piece12 =>
    open_payloads
    refine tail_chunk (m ((c : Thread nD τ).loc main_arg0)) (m ((c : Thread nD τ).loc main_arg1)) (m ((c : Thread nD τ).loc main_arg2))
      (m ((c : Thread nD τ).loc main_arg3)) (num t) 3840 (by omega) _ _ x ?_ ?_ (y 0) (y 1) h0 h1
    · intro r k
      refine (norm_apply _ _ _ _ r k).trans ?_
      unfold hAt
      pointwise [blk0, blk1 m c t r, blk2]
    · intro k l
      pointwise [blk3]
  case piece13 =>
    open_payloads
    refine tail_chunk (m ((c : Thread nD τ).loc main_arg0)) (m ((c : Thread nD τ).loc main_arg1)) (m ((c : Thread nD τ).loc main_arg2))
      (m ((c : Thread nD τ).loc main_arg3)) (num t) 1024 (by omega) _ _ x ?_ ?_ (y 0) (y 1) h0 h1
    · intro r k
      refine (norm_apply _ _ _ _ r k).trans ?_
      unfold hAt
      pointwise [blk0, blk1 m c t r, blk2]
    · intro k l
      pointwise [blk3]
  case piece14 =>
    open_payloads
    refine tail_chunk (m ((c : Thread nD τ).loc main_arg0)) (m ((c : Thread nD τ).loc main_arg1)) (m ((c : Thread nD τ).loc main_arg2))
      (m ((c : Thread nD τ).loc main_arg3)) (num t) 3584 (by omega) _ _ x ?_ ?_ (y 0) (y 1) h0 h1
    · intro r k
      refine (norm_apply _ _ _ _ r k).trans ?_
      unfold hAt
      pointwise [blk0, blk1 m c t r, blk2]
    · intro k l
      pointwise [blk3]
  case piece15 =>
    open_payloads
    refine tail_chunk (m ((c : Thread nD τ).loc main_arg0)) (m ((c : Thread nD τ).loc main_arg1)) (m ((c : Thread nD τ).loc main_arg2))
      (m ((c : Thread nD τ).loc main_arg3)) (num t) 768 (by omega) _ _ x ?_ ?_ (y 0) (y 1) h0 h1
    · intro r k
      refine (norm_apply _ _ _ _ r k).trans ?_
      unfold hAt
      pointwise [blk0, blk1 m c t r, blk2]
    · intro k l
      pointwise [blk3]
  case piece16 =>
    open_payloads
    refine tail_chunk (m ((c : Thread nD τ).loc main_arg0)) (m ((c : Thread nD τ).loc main_arg1)) (m ((c : Thread nD τ).loc main_arg2))
      (m ((c : Thread nD τ).loc main_arg3)) (num t) 3328 (by omega) _ _ x ?_ ?_ (y 0) (y 1) h0 h1
    · intro r k
      refine (norm_apply _ _ _ _ r k).trans ?_
      unfold hAt
      pointwise [blk0, blk1 m c t r, blk2]
    · intro k l
      pointwise [blk3]
  case piece17 =>
    open_payloads
    refine tail_chunk (m ((c : Thread nD τ).loc main_arg0)) (m ((c : Thread nD τ).loc main_arg1)) (m ((c : Thread nD τ).loc main_arg2))
      (m ((c : Thread nD τ).loc main_arg3)) (num t) 512 (by omega) _ _ x ?_ ?_ (y 0) (y 1) h0 h1
    · intro r k
      refine (norm_apply _ _ _ _ r k).trans ?_
      unfold hAt
      pointwise [blk0, blk1 m c t r, blk2]
    · intro k l
      pointwise [blk3]
  case piece18 =>
    open_payloads
    refine tail_chunk (m ((c : Thread nD τ).loc main_arg0)) (m ((c : Thread nD τ).loc main_arg1)) (m ((c : Thread nD τ).loc main_arg2))
      (m ((c : Thread nD τ).loc main_arg3)) (num t) 3072 (by omega) _ _ x ?_ ?_ (y 0) (y 1) h0 h1
    · intro r k
      refine (norm_apply _ _ _ _ r k).trans ?_
      unfold hAt
      pointwise [blk0, blk1 m c t r, blk2]
    · intro k l
      pointwise [blk3]
  case piece19 =>
    open_payloads
    refine tail_chunk (m ((c : Thread nD τ).loc main_arg0)) (m ((c : Thread nD τ).loc main_arg1)) (m ((c : Thread nD τ).loc main_arg2))
      (m ((c : Thread nD τ).loc main_arg3)) (num t) 256 (by omega) _ _ x ?_ ?_ (y 0) (y 1) h0 h1
    · intro r k
      refine (norm_apply _ _ _ _ r k).trans ?_
      unfold hAt
      pointwise [blk0, blk1 m c t r, blk2]
    · intro k l
      pointwise [blk3]
  case piece20 =>
    open_payloads
    refine tail_chunk (m ((c : Thread nD τ).loc main_arg0)) (m ((c : Thread nD τ).loc main_arg1)) (m ((c : Thread nD τ).loc main_arg2))
      (m ((c : Thread nD τ).loc main_arg3)) (num t) 2816 (by omega) _ _ x ?_ ?_ (y 0) (y 1) h0 h1
    · intro r k
      refine (norm_apply _ _ _ _ r k).trans ?_
      unfold hAt
      pointwise [blk0, blk1 m c t r, blk2]
    · intro k l
      pointwise [blk3]
  case piece21 =>
    open_payloads
    refine tail_chunk (m ((c : Thread nD τ).loc main_arg0)) (m ((c : Thread nD τ).loc main_arg1)) (m ((c : Thread nD τ).loc main_arg2))
      (m ((c : Thread nD τ).loc main_arg3)) (num t) 0 (by omega) _ _ x ?_ ?_ (y 0) (y 1) h0 (h1.trans (Nat.zero_add _).symm)
    · intro r k
      refine (norm_apply _ _ _ _ r k).trans ?_
      unfold hAt
      pointwise [blk0, blk1 m c t r, blk2]
    · intro k l
      pointwise [blk3]

theorem kept_B (c : Dev nD) (t : Fin cfg0.N) (e0 : ¬t.val % 64 = 0) (y : S8x5632.Idx) :
    (outsAt0 m c t.val t.isLt).2 y = uAt (m ((c : Thread nD τ).loc main_arg0)) (m ((c : Thread nD τ).loc main_arg1)) (m ((c : Thread nD τ).loc main_arg2))
        (m ((c : Thread nD τ).loc main_arg3))
        (row (num t) ⟨504 + (y 0).val, by have h8 : (y 0).val < 8 := (y 0).isLt; omega⟩) (y 1) := by
  rw [outsAt0_B m c t e0]; unfold sout0_B_2; frame_out
  canon_tiles x h
  case piece0 =>
    open_payloads
    refine tail_chunk (m ((c : Thread nD τ).loc main_arg0)) (m ((c : Thread nD τ).loc main_arg1)) (m ((c : Thread nD τ).loc main_arg2))
      (m ((c : Thread nD τ).loc main_arg3)) (num t) 5376 (by omega) _ _ x ?_ ?_ (y 0) (y 1) h0 h1
    · intro r k
      refine (norm_apply _ _ _ _ r k).trans ?_
      unfold hAt
      pointwise [blk0, blk1 m c t r, blk2]
    · intro k l
      pointwise [blk3]
  case piece1 =>
    open_payloads
    refine tail_chunk (m ((c : Thread nD τ).loc main_arg0)) (m ((c : Thread nD τ).loc main_arg1)) (m ((c : Thread nD τ).loc main_arg2))
      (m ((c : Thread nD τ).loc main_arg3)) (num t) 2560 (by omega) _ _ x ?_ ?_ (y 0) (y 1) h0 h1
    · intro r k
      refine (norm_apply _ _ _ _ r k).trans ?_
      unfold hAt
      pointwise [blk0, blk1 m c t r, blk2]
    · intro k l
      pointwise [blk3]
  case piece2 =>
    open_payloads
    refine tail_chunk (m ((c : Thread nD τ).loc main_arg0)) (m ((c : Thread nD τ).loc main_arg1)) (m ((c : Thread nD τ).loc main_arg2))
      (m ((c : Thread nD τ).loc main_arg3)) (num t) 5120 (by omega) _ _ x ?_ ?_ (y 0) (y 1) h0 h1
    · intro r k
      refine (norm_apply _ _ _ _ r k).trans ?_
      unfold hAt
      pointwise [blk0, blk1 m c t r, blk2]
    · intro k l
      pointwise [blk3]
  case piece3 =>
    open_payloads
    refine tail_chunk (m ((c : Thread nD τ).loc main_arg0)) (m ((c : Thread nD τ).loc main_arg1)) (m ((c : Thread nD τ).loc main_arg2))
      (m ((c : Thread nD τ).loc main_arg3)) (num t) 2304 (by omega) _ _ x ?_ ?_ (y 0) (y 1) h0 h1
    · intro r k
      refine (norm_apply _ _ _ _ r k).trans ?_
      unfold hAt
      pointwise [blk0, blk1 m c t r, blk2]
    · intro k l
      pointwise [blk3]
  case piece4 =>
    open_payloads
    refine tail_chunk (m ((c : Thread nD τ).loc main_arg0)) (m ((c : Thread nD τ).loc main_arg1)) (m ((c : Thread nD τ).loc main_arg2))
      (m ((c : Thread nD τ).loc main_arg3)) (num t) 4864 (by omega) _ _ x ?_ ?_ (y 0) (y 1) h0 h1
    · intro r k
      refine (norm_apply _ _ _ _ r k).trans ?_
      unfold hAt
      pointwise [blk0, blk1 m c t r, blk2]
    · intro k l
      pointwise [blk3]
  case piece5 =>
    open_payloads
    refine tail_chunk (m ((c : Thread nD τ).loc main_arg0)) (m ((c : Thread nD τ).loc main_arg1)) (m ((c : Thread nD τ).loc main_arg2))
      (m ((c : Thread nD τ).loc main_arg3)) (num t) 2048 (by omega) _ _ x ?_ ?_ (y 0) (y 1) h0 h1
    · intro r k
      refine (norm_apply _ _ _ _ r k).trans ?_
      unfold hAt
      pointwise [blk0, blk1 m c t r, blk2]
    · intro k l
      pointwise [blk3]
  case piece6 =>
    open_payloads
    refine tail_chunk (m ((c : Thread nD τ).loc main_arg0)) (m ((c : Thread nD τ).loc main_arg1)) (m ((c : Thread nD τ).loc main_arg2))
      (m ((c : Thread nD τ).loc main_arg3)) (num t) 4608 (by omega) _ _ x ?_ ?_ (y 0) (y 1) h0 h1
    · intro r k
      refine (norm_apply _ _ _ _ r k).trans ?_
      unfold hAt
      pointwise [blk0, blk1 m c t r, blk2]
    · intro k l
      pointwise [blk3]
  case piece7 =>
    open_payloads
    refine tail_chunk (m ((c : Thread nD τ).loc main_arg0)) (m ((c : Thread nD τ).loc main_arg1)) (m ((c : Thread nD τ).loc main_arg2))
      (m ((c : Thread nD τ).loc main_arg3)) (num t) 1792 (by omega) _ _ x ?_ ?_ (y 0) (y 1) h0 h1
    · intro r k
      refine (norm_apply _ _ _ _ r k).trans ?_
      unfold hAt
      pointwise [blk0, blk1 m c t r, blk2]
    · intro k l
      pointwise [blk3]
  case piece8 =>
    open_payloads
    refine tail_chunk (m ((c : Thread nD τ).loc main_arg0)) (m ((c : Thread nD τ).loc main_arg1)) (m ((c : Thread nD τ).loc main_arg2))
      (m ((c : Thread nD τ).loc main_arg3)) (num t) 4352 (by omega) _ _ x ?_ ?_ (y 0) (y 1) h0 h1
    · intro r k
      refine (norm_apply _ _ _ _ r k).trans ?_
      unfold hAt
      pointwise [blk0, blk1 m c t r, blk2]
    · intro k l
      pointwise [blk3]
  case piece9 =>
    open_payloads
    refine tail_chunk (m ((c : Thread nD τ).loc main_arg0)) (m ((c : Thread nD τ).loc main_arg1)) (m ((c : Thread nD τ).loc main_arg2))
      (m ((c : Thread nD τ).loc main_arg3)) (num t) 1536 (by omega) _ _ x ?_ ?_ (y 0) (y 1) h0 h1
    · intro r k
      refine (norm_apply _ _ _ _ r k).trans ?_
      unfold hAt
      pointwise [blk0, blk1 m c t r, blk2]
    · intro k l
      pointwise [blk3]
  case piece10 =>
    open_payloads
    refine tail_chunk (m ((c : Thread nD τ).loc main_arg0)) (m ((c : Thread nD τ).loc main_arg1)) (m ((c : Thread nD τ).loc main_arg2))
      (m ((c : Thread nD τ).loc main_arg3)) (num t) 4096 (by omega) _ _ x ?_ ?_ (y 0) (y 1) h0 h1
    · intro r k
      refine (norm_apply _ _ _ _ r k).trans ?_
      unfold hAt
      pointwise [blk0, blk1 m c t r, blk2]
    · intro k l
      pointwise [blk3]
  case piece11 =>
    open_payloads
    refine tail_chunk (m ((c : Thread nD τ).loc main_arg0)) (m ((c : Thread nD τ).loc main_arg1)) (m ((c : Thread nD τ).loc main_arg2))
      (m ((c : Thread nD τ).loc main_arg3)) (num t) 1280 (by omega) _ _ x ?_ ?_ (y 0) (y 1) h0 h1
    · intro r k
      refine (norm_apply _ _ _ _ r k).trans ?_
      unfold hAt
      pointwise [blk0, blk1 m c t r, blk2]
    · intro k l
      pointwise [blk3]
  case piece12 =>
    open_payloads
    refine tail_chunk (m ((c : Thread nD τ).loc main_arg0)) (m ((c : Thread nD τ).loc main_arg1)) (m ((c : Thread nD τ).loc main_arg2))
      (m ((c : Thread nD τ).loc main_arg3)) (num t) 3840 (by omega) _ _ x ?_ ?_ (y 0) (y 1) h0 h1
    · intro r k
      refine (norm_apply _ _ _ _ r k).trans ?_
      unfold hAt
      pointwise [blk0, blk1 m c t r, blk2]
    · intro k l
      pointwise [blk3]
  case piece13 =>
    open_payloads
    refine tail_chunk (m ((c : Thread nD τ).loc main_arg0)) (m ((c : Thread nD τ).loc main_arg1)) (m ((c : Thread nD τ).loc main_arg2))
      (m ((c : Thread nD τ).loc main_arg3)) (num t) 1024 (by omega) _ _ x ?_ ?_ (y 0) (y 1) h0 h1
    · intro r k
      refine (norm_apply _ _ _ _ r k).trans ?_
      unfold hAt
      pointwise [blk0, blk1 m c t r, blk2]
    · intro k l
      pointwise [blk3]
  case piece14 =>
    open_payloads
    refine tail_chunk (m ((c : Thread nD τ).loc main_arg0)) (m ((c : Thread nD τ).loc main_arg1)) (m ((c : Thread nD τ).loc main_arg2))
      (m ((c : Thread nD τ).loc main_arg3)) (num t) 3584 (by omega) _ _ x ?_ ?_ (y 0) (y 1) h0 h1
    · intro r k
      refine (norm_apply _ _ _ _ r k).trans ?_
      unfold hAt
      pointwise [blk0, blk1 m c t r, blk2]
    · intro k l
      pointwise [blk3]
  case piece15 =>
    open_payloads
    refine tail_chunk (m ((c : Thread nD τ).loc main_arg0)) (m ((c : Thread nD τ).loc main_arg1)) (m ((c : Thread nD τ).loc main_arg2))
      (m ((c : Thread nD τ).loc main_arg3)) (num t) 768 (by omega) _ _ x ?_ ?_ (y 0) (y 1) h0 h1
    · intro r k
      refine (norm_apply _ _ _ _ r k).trans ?_
      unfold hAt
      pointwise [blk0, blk1 m c t r, blk2]
    · intro k l
      pointwise [blk3]
  case piece16 =>
    open_payloads
    refine tail_chunk (m ((c : Thread nD τ).loc main_arg0)) (m ((c : Thread nD τ).loc main_arg1)) (m ((c : Thread nD τ).loc main_arg2))
      (m ((c : Thread nD τ).loc main_arg3)) (num t) 3328 (by omega) _ _ x ?_ ?_ (y 0) (y 1) h0 h1
    · intro r k
      refine (norm_apply _ _ _ _ r k).trans ?_
      unfold hAt
      pointwise [blk0, blk1 m c t r, blk2]
    · intro k l
      pointwise [blk3]
  case piece17 =>
    open_payloads
    refine tail_chunk (m ((c : Thread nD τ).loc main_arg0)) (m ((c : Thread nD τ).loc main_arg1)) (m ((c : Thread nD τ).loc main_arg2))
      (m ((c : Thread nD τ).loc main_arg3)) (num t) 512 (by omega) _ _ x ?_ ?_ (y 0) (y 1) h0 h1
    · intro r k
      refine (norm_apply _ _ _ _ r k).trans ?_
      unfold hAt
      pointwise [blk0, blk1 m c t r, blk2]
    · intro k l
      pointwise [blk3]
  case piece18 =>
    open_payloads
    refine tail_chunk (m ((c : Thread nD τ).loc main_arg0)) (m ((c : Thread nD τ).loc main_arg1)) (m ((c : Thread nD τ).loc main_arg2))
      (m ((c : Thread nD τ).loc main_arg3)) (num t) 3072 (by omega) _ _ x ?_ ?_ (y 0) (y 1) h0 h1
    · intro r k
      refine (norm_apply _ _ _ _ r k).trans ?_
      unfold hAt
      pointwise [blk0, blk1 m c t r, blk2]
    · intro k l
      pointwise [blk3]
  case piece19 =>
    open_payloads
    refine tail_chunk (m ((c : Thread nD τ).loc main_arg0)) (m ((c : Thread nD τ).loc main_arg1)) (m ((c : Thread nD τ).loc main_arg2))
      (m ((c : Thread nD τ).loc main_arg3)) (num t) 256 (by omega) _ _ x ?_ ?_ (y 0) (y 1) h0 h1
    · intro r k
      refine (norm_apply _ _ _ _ r k).trans ?_
      unfold hAt
      pointwise [blk0, blk1 m c t r, blk2]
    · intro k l
      pointwise [blk3]
  case piece20 =>
    open_payloads
    refine tail_chunk (m ((c : Thread nD τ).loc main_arg0)) (m ((c : Thread nD τ).loc main_arg1)) (m ((c : Thread nD τ).loc main_arg2))
      (m ((c : Thread nD τ).loc main_arg3)) (num t) 2816 (by omega) _ _ x ?_ ?_ (y 0) (y 1) h0 h1
    · intro r k
      refine (norm_apply _ _ _ _ r k).trans ?_
      unfold hAt
      pointwise [blk0, blk1 m c t r, blk2]
    · intro k l
      pointwise [blk3]
  case piece21 =>
    open_payloads
    refine tail_chunk (m ((c : Thread nD τ).loc main_arg0)) (m ((c : Thread nD τ).loc main_arg1)) (m ((c : Thread nD τ).loc main_arg2))
      (m ((c : Thread nD τ).loc main_arg3)) (num t) 0 (by omega) _ _ x ?_ ?_ (y 0) (y 1) h0 (h1.trans (Nat.zero_add _).symm)
    · intro r k
      refine (norm_apply _ _ _ _ r k).trans ?_
      unfold hAt
      pointwise [blk0, blk1 m c t r, blk2]
    · intro k l
      pointwise [blk3]

/-- What point `t` keeps. -/
theorem kept_after (c : Dev nD) (t : Fin cfg0.N) (y : S8x5632.Idx) :
    (outsAt0 m c t.val t.isLt).2 y = uAt (m ((c : Thread nD τ).loc main_arg0)) (m ((c : Thread nD τ).loc main_arg1)) (m ((c : Thread nD τ).loc main_arg2))
        (m ((c : Thread nD τ).loc main_arg3))
        (row (num t) ⟨504 + (y 0).val, by have h8 : (y 0).val < 8 := (y 0).isLt; omega⟩) (y 1) := by
  by_cases e0 : t.val % 64 = 0
  · exact kept_A m c t e0 y
  · exact kept_B m c t e0 y

/-- What the point before `t` kept. -/
theorem kept_before (c : Dev nD) (t : Fin cfg0.N) (e0 : ¬t.val % 64 = 0) (p : t.val - 1 < cfg0.N) (i : Fin 8) (j : Fin 5632)
    (R : Fin 32768) (hR : R.val + 8 = (num t).val * 512 + i.val) : (outsAt0 m c (t.val - 1) p).2 (ix2 i j)
      = uAt (m ((c : Thread nD τ).loc main_arg0)) (m ((c : Thread nD τ).loc main_arg1)) (m ((c : Thread nD τ).loc main_arg2))
        (m ((c : Thread nD τ).loc main_arg3)) R j := by
  refine (kept_after m c ⟨t.val - 1, p⟩ (ix2 i j)).trans ?_
  refine congrArg (fun z => uAt (m ((c : Thread nD τ).loc main_arg0)) (m ((c : Thread nD τ).loc main_arg1)) (m ((c : Thread nD τ).loc main_arg2))
        (m ((c : Thread nD τ).loc main_arg3)) z j) (Fin.ext ?_)
  have h1 := num_eq ⟨t.val - 1, p⟩
  have h2 := num_eq t
  show (num ⟨t.val - 1, p⟩).val * 512 + (504 + i.val) = R.val
  rw [h1]
  dsimp only
  rw [h2] at hR
  omega

end Cert.FfnIdeal.Feed

end
-- ==== Proof.FfnPointA.lean ====
module

public import proofs.«01_k».proof.Proof.FfnKept

@[expose] public section

/-!
What the first point of the feed-forward kernel's grid leaves in its block.
-/

set_option maxRecDepth 16384

noncomputable section

namespace Cert.FfnIdeal.Feed

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

theorem point_A (c : Dev nD) (t : Fin cfg0.N) (e0 : t.val % 64 = 0) (y : S512x1024.Idx) :
    (outsAt0 m c t.val t.isLt).1 y = at_ (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (row (num t) (y 0)) (y 1) := by
  rw [outsAt0_A m c t e0]; unfold out0_A_7; frame_out
  idx_vars y
  refine (down_apply _ _ _ _ y0 y1).trans ?_
  unfold at_
  refine Ideal.add_congr (blk0 m c t y0 y1) (Ideal.mul_congr ?_ (Finset.sum_congr rfl fun j _ => Ideal.mul_congr ?_ (blk6 m c t _)))
  · pointwise [blk1 m c t y0]
  · refine (congrFun (View.readCov_eq_canon' _ _ _) _).trans ?_
    refine (congrArg (View.canon _) (load_whole y0 j)).trans ?_
    canon_tiles x h
    case piece0 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 2560 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn
        exact absurd (by rw [num_eq t]; omega) hn
      · intro l
        pointwise [blk4]
      · intro l
        pointwise [blk5]
      · intro l
        pointwise [blk4]
      · intro l
        pointwise [blk4]
      · intro k l
        pointwise [blk3]
      · intro l hn
        exact absurd (by rw [num_eq t]; omega) hn
      · intro l
        pointwise [blk4]
      · intro l
        pointwise [blk5]
      · intro l
        pointwise [blk4]
      · intro l
        pointwise [blk4]
    case piece1 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 2304 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn
        exact absurd (by rw [num_eq t]; omega) hn
      · intro l
        pointwise [blk4]
      · intro l
        pointwise [blk5]
      · intro l
        pointwise [blk4]
      · intro l
        pointwise [blk4]
      · intro k l
        pointwise [blk3]
      · intro l hn
        exact absurd (by rw [num_eq t]; omega) hn
      · intro l
        pointwise [blk4]
      · intro l
        pointwise [blk5]
      · intro l
        pointwise [blk4]
      · intro l
        pointwise [blk4]
    case piece2 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 2048 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn
        exact absurd (by rw [num_eq t]; omega) hn
      · intro l
        pointwise [blk4]
      · intro l
        pointwise [blk5]
      · intro l
        pointwise [blk4]
      · intro l
        pointwise [blk4]
      · intro k l
        pointwise [blk3]
      · intro l hn
        exact absurd (by rw [num_eq t]; omega) hn
      · intro l
        pointwise [blk4]
      · intro l
        pointwise [blk5]
      · intro l
        pointwise [blk4]
      · intro l
        pointwise [blk4]
    case piece3 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 1792 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn
        exact absurd (by rw [num_eq t]; omega) hn
      · intro l
        pointwise [blk4]
      · intro l
        pointwise [blk5]
      · intro l
        pointwise [blk4]
      · intro l
        pointwise [blk4]
      · intro k l
        pointwise [blk3]
      · intro l hn
        exact absurd (by rw [num_eq t]; omega) hn
      · intro l
        pointwise [blk4]
      · intro l
        pointwise [blk5]
      · intro l
        pointwise [blk4]
      · intro l
        pointwise [blk4]
    case piece4 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 1536 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn
        exact absurd (by rw [num_eq t]; omega) hn
      · intro l
        pointwise [blk4]
      · intro l
        pointwise [blk5]
      · intro l
        pointwise [blk4]
      · intro l
        pointwise [blk4]
      · intro k l
        pointwise [blk3]
      · intro l hn
        exact absurd (by rw [num_eq t]; omega) hn
      · intro l
        pointwise [blk4]
      · intro l
        pointwise [blk5]
      · intro l
        pointwise [blk4]
      · intro l
        pointwise [blk4]
    case piece5 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 1280 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn
        exact absurd (by rw [num_eq t]; omega) hn
      · intro l
        pointwise [blk4]
      · intro l
        pointwise [blk5]
      · intro l
        pointwise [blk4]
      · intro l
        pointwise [blk4]
      · intro k l
        pointwise [blk3]
      · intro l hn
        exact absurd (by rw [num_eq t]; omega) hn
      · intro l
        pointwise [blk4]
      · intro l
        pointwise [blk5]
      · intro l
        pointwise [blk4]
      · intro l
        pointwise [blk4]
    case piece6 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 1024 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn
        exact absurd (by rw [num_eq t]; omega) hn
      · intro l
        pointwise [blk4]
      · intro l
        pointwise [blk5]
      · intro l
        pointwise [blk4]
      · intro l
        pointwise [blk4]
      · intro k l
        pointwise [blk3]
      · intro l hn
        exact absurd (by rw [num_eq t]; omega) hn
      · intro l
        pointwise [blk4]
      · intro l
        pointwise [blk5]
      · intro l
        pointwise [blk4]
      · intro l
        pointwise [blk4]
    case piece7 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 768 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn
        exact absurd (by rw [num_eq t]; omega) hn
      · intro l
        pointwise [blk4]
      · intro l
        pointwise [blk5]
      · intro l
        pointwise [blk4]
      · intro l
        pointwise [blk4]
      · intro k l
        pointwise [blk3]
      · intro l hn
        exact absurd (by rw [num_eq t]; omega) hn
      · intro l
        pointwise [blk4]
      · intro l
        pointwise [blk5]
      · intro l
        pointwise [blk4]
      · intro l
        pointwise [blk4]
    case piece8 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 512 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn
        exact absurd (by rw [num_eq t]; omega) hn
      · intro l
        pointwise [blk4]
      · intro l
        pointwise [blk5]
      · intro l
        pointwise [blk4]
      · intro l
        pointwise [blk4]
      · intro k l
        pointwise [blk3]
      · intro l hn
        exact absurd (by rw [num_eq t]; omega) hn
      · intro l
        pointwise [blk4]
      · intro l
        pointwise [blk5]
      · intro l
        pointwise [blk4]
      · intro l
        pointwise [blk4]
    case piece9 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 256 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn
        exact absurd (by rw [num_eq t]; omega) hn
      · intro l
        pointwise [blk4]
      · intro l
        pointwise [blk5]
      · intro l
        pointwise [blk4]
      · intro l
        pointwise [blk4]
      · intro k l
        pointwise [blk3]
      · intro l hn
        exact absurd (by rw [num_eq t]; omega) hn
      · intro l
        pointwise [blk4]
      · intro l
        pointwise [blk5]
      · intro l
        pointwise [blk4]
      · intro l
        pointwise [blk4]
    case piece10 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 0 (by omega)
        _ _ _ _ _ _ _ _ _ _ _ _ _ _ _ x (start_bit (num t)) (start_bit (num t)) ?_ ?_ ?_ ?_ ?_ ?_ ?_ ?_ ?_ ?_ ?_ ?_ ?_ y0 j h0 (h1.trans (Nat.zero_add _).symm)
      · intro r k
        refine (norm_apply _ _ _ _ r k).trans ?_
        unfold hAt
        pointwise [blk0, blk1 m c t r, blk2]
      · intro k l
        pointwise [blk3]
      · intro l hn
        exact absurd (by rw [num_eq t]; omega) hn
      · intro l
        pointwise [blk4]
      · intro l
        pointwise [blk5]
      · intro l
        pointwise [blk4]
      · intro l
        pointwise [blk4]
      · intro k l
        pointwise [blk3]
      · intro l hn
        exact absurd (by rw [num_eq t]; omega) hn
      · intro l
        pointwise [blk4]
      · intro l
        pointwise [blk5]
      · intro l
        pointwise [blk4]
      · intro l
        pointwise [blk4]

end Cert.FfnIdeal.Feed

end
-- ==== Proof.FfnPointB.lean ====
module

public import proofs.«01_k».proof.Proof.FfnKept

@[expose] public section

/-!
What a later point of the feed-forward kernel's grid leaves in its block.
-/

set_option maxRecDepth 16384

noncomputable section

namespace Cert.FfnIdeal.Feed

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

theorem point_B (c : Dev nD) (t : Fin cfg0.N) (e0 : ¬t.val % 64 = 0) (y : S512x1024.Idx) :
    (outsAt0 m c t.val t.isLt).1 y = at_ (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (row (num t) (y 0)) (y 1) := by
  rw [outsAt0_B m c t e0]; unfold out0_B_7; frame_out
  idx_vars y
  refine (down_apply _ _ _ _ y0 y1).trans ?_
  unfold at_
  refine Ideal.add_congr (blk0 m c t y0 y1) (Ideal.mul_congr ?_ (Finset.sum_congr rfl fun j _ => Ideal.mul_congr ?_ (blk6 m c t _)))
  · pointwise [blk1 m c t y0]
  · refine (congrFun (View.readCov_eq_canon' _ _ _) _).trans ?_
    refine (congrArg (View.canon _) (load_whole y0 j)).trans ?_
    canon_tiles x h
    case piece0 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 2560 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
    case piece1 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 2304 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
    case piece2 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 2048 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
    case piece3 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 1792 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
    case piece4 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 1536 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
    case piece5 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 1280 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
    case piece6 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 1024 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
    case piece7 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 768 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
    case piece8 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 512 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
    case piece9 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 256 (by omega)
        _ _ _ _ _ _ _ _ _ _ _ _ _ _ _ x (start_bit (num t)) (start_bit (num t)) ?_ ?_ ?_ ?_ ?_ ?_ ?_ ?_ ?_ ?_ ?_ ?_ ?_ y0 j h0 h1
      · intro r k
        refine (norm_apply _ _ _ _ r k).trans ?_
        unfold hAt
        pointwise [blk0, blk1 m c t r, blk2]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
    case piece10 =>
      open_payloads
      refine chunk (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (num t) 0 (by omega)
        _ _ _ _ _ _ _ _ _ _ _ _ _ _ _ x (start_bit (num t)) (start_bit (num t)) ?_ ?_ ?_ ?_ ?_ ?_ ?_ ?_ ?_ ?_ ?_ ?_ ?_ y0 j h0 (h1.trans (Nat.zero_add _).symm)
      · intro r k
        refine (norm_apply _ _ _ _ r k).trans ?_
        unfold hAt
        pointwise [blk0, blk1 m c t r, blk2]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]
      · intro k l
        pointwise [blk3]
      · intro l hn i R hR
        pointwise
        refine (congrFun (Memref.IsWhole.read_unread _ _) _).trans ?_
        exact kept_before m c t e0 _ i _ R hR
      · intro l
        pointwise [blk4]
      · intro l
        pointwise [blk5]
      · intro l
        pointwise [blk4]
      · intro l
        pointwise [blk4]

end Cert.FfnIdeal.Feed

end
-- ==== Proof.FfnValue.lean ====
module

public import proofs.«01_k».proof.Proof.FfnPointA
public import proofs.«01_k».proof.Proof.FfnPointB

@[expose] public section

/-!
The whole result of the feed-forward kernel.
-/

set_option maxRecDepth 16384

noncomputable section

namespace Cert.FfnIdeal.Feed

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

theorem point (c : Dev nD) (t : Fin cfg0.N) (y : S512x1024.Idx) : (outsAt0 m c t.val t.isLt).1 y = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (((cfg0.win 7).blk t).view.emb y) := by
  rw [emb7]
  by_cases e0 : t.val % 64 = 0
  · exact point_A m c t e0 y
  · exact point_B m c t e0 y

/-- After the last point the whole result array holds the network of all rows. -/
theorem final (c : Dev nD) : (dats m 0 c).arrAt 7 cfg0.N = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  exact point m c t y

end Cert.FfnIdeal.Feed

end
-- ==== Proof.FfnEqual.lean ====
module

public import proofs.«01_k».proof.Proof.FfnValue
public import proofs.«01_k».proof.Proof.Gen.FfnRefIdeal.Run

@[expose] public section

/-!
The reference's feed-forward network, element by element, is the kernel's.
-/

set_option maxRecDepth 16384

noncomputable section

namespace Cert.FfnRefIdeal.Feed

open Cert.FfnRefIdeal Idealize.ShloMosaic Idealize.ShloMosaic.TcCoe Idealize.SL.Sem
open Cert.FfnRefIdeal.Facts₀ Cert.FfnRefIdeal.Facts

/-- The input as four sequences. -/
def rows (X : FVec Ideal S32768x1024 .f32) : FVec Ideal S4x8192x1024 .f32 :=
  shapeCast _ X shapeCasts_S32768x1024_S4x8192x1024

/-- The reciprocal root of the mean square of each row. -/
def root (Y : FVec Ideal S4x8192x1024 .f32) : FVec Ideal S4x8192x1 .f32 :=
  Host.rsqrt (addf (Host.divf (broadcastInDim S4x8192x1 ![0, 1] bcast_S4x8192_S4x8192x1_0_1 (Host.reduceAdd (mulf Y Y) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))

/-- The normalized and modulated input. -/
def normed (Y : FVec Ideal S4x8192x1024 .f32) (R : FVec Ideal S4x8192x1 .f32) (M : FVec Ideal S4x1x6144 .f32)
    (gain : FVec Ideal S1x1024 .f32) : FVec Ideal S4x8192x1024 .f32 :=
  addf (mulf (mulf (mulf Y (broadcastInDim S4x8192x1024 ![0, 1, 2] bcast_S4x8192x1_S4x8192x1024_0_1_2 R)) (broadcastInDim S4x8192x1024 ![0, 1, 2] bcast_S1x1x1024_S4x8192x1024_0_1_2 (broadcastInDim S1x1x1024 ![2] bcast_S1024_S1x1x1024_2 (shapeCast _ gain shapeCasts_S1x1024_S1024)))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 4096] M slices_S4x1x6144_S4x1x1024_0_0_4096)))) (broadcastInDim S4x8192x1024 ![0, 1, 2] bcast_S4x1x1024_S4x8192x1024_0_1_2 (extractStridedSlice S4x1x1024 ![0, 0, 3072] M slices_S4x1x6144_S4x1x1024_0_0_3072))

/-- The up projection. -/
def up (H : FVec Ideal S4x8192x1024 .f32) (wu : FVec Ideal S1024x5632 .bf16) : FVec Ideal S4x8192x5632 .f32 :=
  Host.dotGeneral dot_S4x8192x1024_S1024x5632_S4x8192x5632_2_0_01_1_n_n none H (extf .f32 wu bitsLt_bf16_f32)

/-- Two zero rows before each sequence. -/
def padded (U : FVec Ideal S4x8192x5632 .f32) : FVec Ideal S4x8194x5632 .f32 :=
  pad S4x8194x5632 ![0, 2, 0] ![0, 0, 0] ![0, 0, 0] U (sitofp .f32 (constantI S_ 32 0#32)) pads_S4x8192x5632_S4x8194x5632_000_200_000 h_S_

/-- A row of 5632 numbers over all rows. -/
def spread (w : FVec Ideal S1x5632 .f32) : FVec Ideal S4x8192x5632 .f32 :=
  broadcastInDim S4x8192x5632 ![0, 1, 2] bcast_S1x1x5632_S4x8192x5632_0_1_2 (broadcastInDim S1x1x5632 ![2] bcast_S5632_S1x1x5632_2 (shapeCast _ w shapeCasts_S1x5632_S5632))

/-- The convolution over three rows. -/
def convolved (P : FVec Ideal S4x8194x5632 .f32) (cw : FVec Ideal S3x5632 .f32) (cb : FVec Ideal S1x5632 .f32) :
    FVec Ideal S4x8192x5632 .f32 :=
  addf (addf (addf (addf (broadcastInDim S4x8192x5632 ![] bcast_S_S4x8192x5632 (constant S_ .f32 0x00000000#32)) (mulf (extractStridedSlice S4x8192x5632 ![0, 0, 0] P slices_S4x8194x5632_S4x8192x5632_0_0_0) (spread (extractStridedSlice S1x5632 ![0, 0] cw slices_S3x5632_S1x5632_0_0)))) (mulf (extractStridedSlice S4x8192x5632 ![0, 1, 0] P slices_S4x8194x5632_S4x8192x5632_0_1_0) (spread (extractStridedSlice S1x5632 ![1, 0] cw slices_S3x5632_S1x5632_1_0)))) (mulf (extractStridedSlice S4x8192x5632 ![0, 2, 0] P slices_S4x8194x5632_S4x8192x5632_0_2_0) (spread (extractStridedSlice S1x5632 ![2, 0] cw slices_S3x5632_S1x5632_2_0)))) (spread cb)

/-- The gated product. -/
def gatedProd (C : FVec Ideal S4x8192x5632 .f32) : FVec Ideal S4x8192x2816 .f32 :=
  mulf (mulf (extractStridedSlice S4x8192x2816 ![0, 0, 0] C slices_S4x8192x5632_S4x8192x2816_0_0_0) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (extractStridedSlice S4x8192x2816 ![0, 0, 0] C slices_S4x8192x5632_S4x8192x2816_0_0_0)))))) (extractStridedSlice S4x8192x2816 ![0, 0, 2816] C slices_S4x8192x5632_S4x8192x2816_0_0_2816)

/-- The down projection. -/
def down (A : FVec Ideal S4x8192x2816 .f32) (wd : FVec Ideal S2816x1024 .bf16) : FVec Ideal S4x8192x1024 .f32 :=
  Host.dotGeneral dot_S4x8192x2816_S2816x1024_S4x8192x1024_2_0_01_1_n_n none A (extf .f32 wd bitsLt_bf16_f32)

/-- The result as the program composes it. -/
def out (X : FVec Ideal S32768x1024 .f32) (M : FVec Ideal S4x1x6144 .f32) (Y : FVec Ideal S4x8192x1024 .f32) : FVec Ideal S32768x1024 .f32 :=
  shapeCast _ (addf (rows X) (mulf (broadcastInDim S4x8192x1024 ![0, 1, 2] bcast_S4x1x1024_S4x8192x1024_0_1_2 (extractStridedSlice S4x1x1024 ![0, 0, 5120] M slices_S4x1x6144_S4x1x1024_0_0_5120)) Y)) shapeCasts_S4x8192x1024_S32768x1024

/-- The whole reference. -/
def whole (X : FVec Ideal S32768x1024 .f32) (M : FVec Ideal S4x1x6144 .f32) (gain : FVec Ideal S1x1024 .f32)
    (wu : FVec Ideal S1024x5632 .bf16) (cw : FVec Ideal S3x5632 .f32) (cb : FVec Ideal S1x5632 .f32)
    (wd : FVec Ideal S2816x1024 .bf16) : FVec Ideal S32768x1024 .f32 :=
  out X M (down (gatedProd (convolved (padded (up (normed (rows X) (root (rows X)) M gain) wu)) cw cb)) wd)

theorem res_eq (m : (ℓ : Loc nD τ sig) → Buf (Elt Ideal) ℓ) (c : Dev nD) :
    Value.res_main_v65 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

theorem rows_apply (X : FVec Ideal S32768x1024 .f32) (b : Fin 4) (s : Fin 8192) (k : Fin 1024) :
    rows X (ix3 b s k) = X (ix2 ⟨b.val * 8192 + s.val, by omega⟩ k) := by
  pointwise [rows]

theorem root_apply (Y : FVec Ideal S4x8192x1024 .f32) (b : Fin 4) (s : Fin 8192) (k : Fin 1) :
    root Y (ix3 b s k) = Ideal.rsqrt (Ideal.div (∑ j : Fin 1024, Y (ix3 b s j) * Y (ix3 b s j)) (Ideal.ofBits .f32 0x44800000#32)
      + Ideal.ofBits .f32 0x358637BD#32) := by
  pointwise [root]

theorem normed_apply (Y : FVec Ideal S4x8192x1024 .f32) (R : FVec Ideal S4x8192x1 .f32) (M : FVec Ideal S4x1x6144 .f32)
    (gain : FVec Ideal S1x1024 .f32) (b : Fin 4) (s : Fin 8192) (k : Fin 1024) :
    normed Y R M gain (ix3 b s k) = Y (ix3 b s k) * R (ix3 b s 0) * gain (ix2 0 k) * (1 + M (ix3 b 0 ⟨4096 + k.val, by omega⟩))
      + M (ix3 b 0 ⟨3072 + k.val, by omega⟩) := by
  pointwise [normed]

theorem up_apply (H : FVec Ideal S4x8192x1024 .f32) (wu : FVec Ideal S1024x5632 .bf16) (b : Fin 4) (s : Fin 8192) (j : Fin 5632) :
    up H wu (ix3 b s j) = ∑ k : Fin 1024, H (ix3 b s k) * wu (ix2 k j) := by
  pointwise [up]

theorem zero_int : (FloatOps.sitofp (F := Ideal) .f32 0#32 : EReal) = 0 := by
  show (((0#32 : BitVec 32).toInt : ℝ) : EReal) = 0
  simp

theorem padded_apply (U : FVec Ideal S4x8192x5632 .f32) (b : Fin 4) (s : Fin 8194) (j : Fin 5632) :
    padded U (ix3 b s j) = if h : 2 ≤ s.val then U (ix3 b ⟨s.val - 2, by omega⟩ j) else 0 := by
  pointwise [padded]
  by_cases h : 2 ≤ s.val
  · rw [dif_pos h, dif_pos ⟨h, by omega⟩]
  · rw [dif_neg h, dif_neg (fun g => h g.1)]
    exact zero_int

theorem spread_apply (w : FVec Ideal S1x5632 .f32) (b : Fin 4) (s : Fin 8192) (j : Fin 5632) :
    spread w (ix3 b s j) = w (ix2 0 j) := by
  pointwise [spread]

theorem convolved_apply (P : FVec Ideal S4x8194x5632 .f32) (cw : FVec Ideal S3x5632 .f32) (cb : FVec Ideal S1x5632 .f32)
    (b : Fin 4) (s : Fin 8192) (j : Fin 5632) :
    convolved P cw cb (ix3 b s j) = P (ix3 b ⟨2 + s.val, by omega⟩ j) * cw (ix2 2 j) + cb (ix2 0 j)
      + P (ix3 b ⟨1 + s.val, by omega⟩ j) * cw (ix2 1 j) + P (ix3 b ⟨s.val, by omega⟩ j) * cw (ix2 0 j) := by
  pointwise [convolved, spread]
  ac_rfl

theorem gatedProd_apply (C : FVec Ideal S4x8192x5632 .f32) (b : Fin 4) (s : Fin 8192) (j : Fin 2816) :
    gatedProd C (ix3 b s j) = C (ix3 b s ⟨j.val, by omega⟩) * Gate.gate (C (ix3 b s ⟨j.val, by omega⟩))
      * C (ix3 b s ⟨2816 + j.val, by omega⟩) := by
  pointwise [gatedProd, Gate.gate]

theorem down_apply (A : FVec Ideal S4x8192x2816 .f32) (wd : FVec Ideal S2816x1024 .bf16) (b : Fin 4) (s : Fin 8192) (l : Fin 1024) :
    down A wd (ix3 b s l) = ∑ j : Fin 2816, A (ix3 b s j) * wd (ix2 j l) := by
  pointwise [down]

theorem out_apply (X : FVec Ideal S32768x1024 .f32) (M : FVec Ideal S4x1x6144 .f32) (Y : FVec Ideal S4x8192x1024 .f32)
    (r : Fin 32768) (l : Fin 1024) :
    out X M Y (ix2 r l) = X (ix2 r l) + M (ix3 ⟨r.val / 8192, by omega⟩ 0 ⟨5120 + l.val, by omega⟩)
      * Y (ix3 ⟨r.val / 8192, by omega⟩ ⟨r.val % 8192, by omega⟩ l) := by
  pointwise [out, rows]
  try (
    have hr (h : _) : (⟨r.val / 8192 * 8192 + r.val % 8192, h⟩ : Fin 32768) = r := Fin.ext (by show r.val / 8192 * 8192 + r.val % 8192 = r.val; omega)
    rw [hr])

section Rows

variable (X : FVec Ideal S32768x1024 .f32) (M : FVec Ideal S4x1x6144 .f32) (gain : FVec Ideal S1x1024 .f32)
    (wu : FVec Ideal S1024x5632 .bf16) (cw : FVec Ideal S3x5632 .f32) (cb : FVec Ideal S1x5632 .f32)
    (wd : FVec Ideal S2816x1024 .bf16)

theorem up_eq (r : Fin 32768) (b : Fin 4) (s : Fin 8192) (e : r.val = b.val * 8192 + s.val) (j : Fin 5632) :
    up (normed (rows X) (root (rows X)) M gain) wu (ix3 b s j) = Cert.FfnIdeal.Feed.uAt X M gain wu r j := by
  rw [up_apply]
  unfold Cert.FfnIdeal.Feed.uAt
  refine Finset.sum_congr rfl fun k _ => congrArg (fun z : EReal => z * wu (ix2 k j)) ?_
  rw [normed_apply, root_apply, rows_apply]
  simp only [rows_apply]
  have hr (h : _) : (⟨b.val * 8192 + s.val, h⟩ : Fin 32768) = r := Fin.ext e.symm
  have hb : b = ⟨r.val / 8192, by omega⟩ := Fin.ext (by dsimp only; omega)
  simp only [hr]
  rw [hb]
  rfl

theorem back_eq (r : Fin 32768) (k : Nat) (hk : k ≤ 2) (p : Fin 8194) (e : p.val + k = 2 + r.val % 8192) (j : Fin 5632) :
    padded (up (normed (rows X) (root (rows X)) M gain) wu) (ix3 ⟨r.val / 8192, by omega⟩ p j)
      = Cert.FfnIdeal.Feed.backAt X M gain wu k r j := by
  rw [padded_apply]
  unfold Cert.FfnIdeal.Feed.backAt
  by_cases h : 2 ≤ p.val
  · rw [dif_pos h, if_pos (by omega)]
    exact up_eq X M gain wu _ _ _ (by dsimp only; omega) j
  · rw [dif_neg h, if_neg (by omega)]

theorem conv_eq (r : Fin 32768) (j : Fin 5632) :
    convolved (padded (up (normed (rows X) (root (rows X)) M gain) wu)) cw cb (ix3 ⟨r.val / 8192, by omega⟩ ⟨r.val % 8192, by omega⟩ j)
      = Cert.FfnIdeal.Feed.cvAt X M gain wu cw cb r j := by
  rw [convolved_apply, back_eq X M gain wu r 0 (by omega) _ (by dsimp only; omega) j,
    back_eq X M gain wu r 1 (by omega) _ (by dsimp only; omega) j,
    back_eq X M gain wu r 2 (by omega) _ (by dsimp only; omega) j]
  have h0 : Cert.FfnIdeal.Feed.backAt X M gain wu 0 r j = Cert.FfnIdeal.Feed.uAt X M gain wu r j := by
    unfold Cert.FfnIdeal.Feed.backAt
    exact if_pos (Nat.zero_le _)
  rw [h0]
  rfl

/-- The reference's result is the kernel's. -/
theorem result_eq : whole X M gain wu cw cb wd = Cert.FfnIdeal.Feed.result X M gain wu cw cb wd := by
  funext i
  obtain ⟨r, l, rfl⟩ : ∃ (r : Fin 32768) (l : Fin 1024), i = ix2 r l := ⟨i 0, i 1, by idx_vars i⟩
  unfold whole
  rw [out_apply, down_apply]
  show _ = Cert.FfnIdeal.Feed.at_ X M gain wu cw cb wd r l
  unfold Cert.FfnIdeal.Feed.at_
  refine congrArg (fun z : EReal => X (ix2 r l) + M (ix3 ⟨r.val / 8192, by omega⟩ 0 ⟨5120 + l.val, by omega⟩) * z)
    (Finset.sum_congr rfl fun j _ => congrArg (fun z : EReal => z * wd (ix2 j l)) ?_)
  rw [gatedProd_apply, conv_eq, conv_eq]
  rfl

end Rows

end Cert.FfnRefIdeal.Feed

end
-- ==== Proof.FfnClaims.lean ====
module

public import proofs.«01_k».proof.Defs
public import proofs.«01_k».proof.Proof.FfnEqual
public import proofs.«01_k».proof.Proof.Gen.Ffn.Frame
public import proofs.«01_k».proof.Proof.Gen.FfnIdeal.Frame
public import proofs.«01_k».proof.Proof.Gen.FfnRefIdeal.Run
public import Idealize.ShloMosaic.Lib.Quiescent

@[expose] public section

/-!
The claims about the feed-forward kernel.
-/

noncomputable section

open Idealize.ShloMosaic Idealize.ShloMosaic.TcCoe Idealize.SL.Sem

namespace Cert.Proof.FfnClaims

theorem frame_p : Cert.quiescent_Ffn := fun m ρ _ => Cert.Ffn.Gen.frame m ρ
theorem frame_pi : Cert.quiescent_FfnIdeal := fun m ρ _ => Cert.FfnIdeal.Gen.frame m ρ
theorem frame_ri : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

theorem preserves : Cert.preserves_Ffn_FfnIdeal := trivial

/-- The kernel and the reference end with one result array. -/
theorem algebraic : Cert.algebraic_FfnIdeal_FfnRefIdeal := by
  intro m ρ m' ρ' hpre hagree
  refine ⟨_, Cert.FfnIdeal.Value.run_blocks (F := Ideal) m ρ, ?_⟩
  refine (θ_run Cert.FfnRefIdeal.defs _ _).mono (fun _ h c => ⟨(h c).1.trans ?_, (h c).2⟩)
    (Cert.FfnRefIdeal.Value.run (F := Ideal) m' ρ')
  obtain ⟨h0, h1, h2, h3, h4, h5, h6⟩ := hagree c
  refine (Cert.FfnRefIdeal.Feed.res_eq m' c).trans ?_
  rw [Cert.FfnIdeal.Feed.final, h0, h1, h2, h3, h4, h5, h6]
  exact Cert.FfnRefIdeal.Feed.result_eq _ _ _ _ _ _ _

end Cert.Proof.FfnClaims

end
-- ==== Proof.InprojNorm.lean ====
/- Root mean square normalization at one element, on the extended reals: real inputs give real rows, and the sum of the
squares of one head may be taken by a product with a block diagonal of ones. -/
module

public import Idealize.ShloMosaic.PureOps.Ideal
public import Idealize.ShloMosaic.Lib.Pointwise

@[expose] public section

noncomputable section

namespace Cert.Rows

open Idealize.ShloMosaic

/-- A real number among the extended reals. -/
def IsReal (x : EReal) : Prop := ∃ r : ℝ, x = r

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.one : IsReal 1 := ⟨1, rfl⟩

theorem IsReal.sum {n : Nat} {f : Fin n → EReal} (hf : ∀ i, IsReal (f i)) : IsReal (∑ i, f i) := by
  refine Finset.sum_induction f IsReal (fun _ _ => IsReal.add) ⟨0, rfl⟩ fun i _ => hf i

theorem IsReal.sub_self {x : EReal} : IsReal x → x - x = 0 := by
  rintro ⟨a, rfl⟩
  rw [← EReal.coe_sub, _root_.sub_self]
  rfl

theorem width : Ideal.ofBits .f32 0x44800000#32 = ((1024 : ℝ) : EReal) := by
  simp [Ideal.ofBits, Ideal.ieee, -EReal.coe_mul]; norm_num

theorem head : Ideal.ofBits .f32 0x42800000#32 = ((64 : ℝ) : EReal) := by
  simp [Ideal.ofBits, Ideal.ieee, -EReal.coe_mul]; norm_num

theorem per_head : Ideal.ofBits .f32 0x3C800000#32 = ((1 / 64 : ℝ) : EReal) := by
  simp [Ideal.ofBits, Ideal.ieee, -EReal.coe_mul]; norm_num

theorem eps : ∃ e : ℝ, 0 < e ∧ Ideal.ofBits .f32 0x358637BD#32 = e := by
  refine ⟨(8796093 : ℝ) * 2 ^ (-43 : ℤ), by positivity, ?_⟩
  simp [Ideal.ofBits, Ideal.ieee, -EReal.coe_mul]

/-- A sum divided by the head's width is the sum times its reciprocal. -/
theorem mean_head (s : EReal) : s * Ideal.ofBits .f32 0x3C800000#32 = Ideal.div s (Ideal.ofBits .f32 0x42800000#32) := by
  rw [head, per_head, Ideal.div_coe (by norm_num)]

/-- The normalized, scaled and shifted row of the input at one column. -/
def rowAt (x : Fin 1024 → EReal) (gain scale shift : EReal) (k : Fin 1024) : EReal :=
  x k * Ideal.rsqrt (Ideal.div (∑ j, x j * x j) (Ideal.ofBits .f32 0x44800000#32) + Ideal.ofBits .f32 0x358637BD#32) * gain
    * (1 + scale) + shift

/-- A sum of squares of reals is a nonnegative real. -/
theorem sum_sq {n : Nat} {f : Fin n → EReal} (hf : ∀ i, IsReal (f i)) : ∃ r : ℝ, 0 ≤ r ∧ ∑ i, f i * f i = r := by
  refine Finset.sum_induction (fun i => f i * f i) (fun x => ∃ r : ℝ, 0 ≤ r ∧ x = r) ?_ ⟨0, le_refl _, rfl⟩ ?_
  · rintro _ _ ⟨a, ha, rfl⟩ ⟨b, hb, rfl⟩
    exact ⟨a + b, add_nonneg ha hb, (EReal.coe_add a b).symm⟩
  · intro i _
    obtain ⟨a, ha⟩ := hf i
    exact ⟨a * a, mul_self_nonneg a, by rw [ha, EReal.coe_mul]⟩

/-- An extended real that is not a real has an infinite square. -/
theorem sq_top {x : EReal} (h : ¬ IsReal x) : x * x = ⊤ := by
  induction x with
  | bot => rfl
  | top => rfl
  | coe r => exact absurd ⟨r, rfl⟩ h

theorem sq_nonneg' (x : EReal) : 0 ≤ x * x := by
  by_cases h : IsReal x
  · obtain ⟨r, rfl⟩ := h
    rw [← EReal.coe_mul]
    exact EReal.coe_nonneg.2 (mul_self_nonneg r)
  · rw [sq_top h]
    exact le_top

/-- The normalized row is real whatever the row is: at an infinite element the reciprocal root is zero. -/
theorem rowAt_real (x : Fin 1024 → EReal) {gain scale shift : EReal} (hg : IsReal gain)
    (hs : IsReal scale) (ht : IsReal shift) (k : Fin 1024) : IsReal (rowAt x gain scale shift k) := by
  refine IsReal.add (IsReal.mul (IsReal.mul ?_ hg) (IsReal.add IsReal.one hs)) ht
  obtain ⟨e, he0, ee⟩ := eps
  by_cases hx : ∀ j, IsReal (x j)
  case neg =>
    obtain ⟨j, hj⟩ := not_forall.1 hx
    have es : ∑ i, x i * x i = ⊤ := top_le_iff.1 ((sq_top hj).symm.le.trans
      (Finset.single_le_sum (f := fun i => x i * x i) (fun i _ => sq_nonneg' (x i)) (Finset.mem_univ j)))
    rw [es, ee, width, Ideal.div_coe (by norm_num), EReal.top_mul_coe_of_pos (by norm_num), EReal.top_add_coe]
    exact ⟨0, mul_zero (x k)⟩
  refine IsReal.mul (hx k) ?_
  obtain ⟨s, hs0, es⟩ := sum_sq hx
  rw [es, ee, width, Ideal.div_coe (by norm_num), ← EReal.coe_mul, ← EReal.coe_add, Ideal.rsqrt_coe]
  have hp : 0 < s * (1 / 1024) + e := by positivity
  rw [if_neg (not_lt.2 hp.le), if_neg hp.ne']
  exact ⟨_, rfl⟩

/-- The reciprocal root of the mean square of one head. -/
def root (z : Fin 64 → EReal) : EReal :=
  Ideal.rsqrt (Ideal.div (∑ e, z e * z e) (Ideal.ofBits .f32 0x42800000#32) + Ideal.ofBits .f32 0x358637BD#32)

/-- The reciprocal root by products with a block diagonal of ones, the squares split in two parts. -/
def blockRoot (hi lo on : Fin 128 → EReal) : EReal :=
  Ideal.rsqrt ((∑ k, hi k * on k + ∑ k, lo k * on k) * Ideal.ofBits .f32 0x3C800000#32 + Ideal.ofBits .f32 0x358637BD#32)

theorem diag_sum (a : Fin 128 → EReal) (l : Fin 128) : ∑ k : Fin 128, a k * (if k.val / 64 = l.val / 64 then 1 else 0)
    = ∑ e : Fin 64, a ⟨64 * (l.val / 64) + e.val, by omega⟩ := by
  simp only [mul_ite, mul_one, mul_zero]
  rw [← Finset.sum_filter]
  symm
  refine Finset.sum_bij (fun e _ => ⟨64 * (l.val / 64) + e.val, by omega⟩) ?_ ?_ ?_ (fun _ _ => rfl)
  · intro e _
    rw [Finset.mem_filter]
    exact ⟨Finset.mem_univ _, by dsimp only; omega⟩
  · intro e _ f _ he
    have := congrArg Fin.val he
    exact Fin.ext (by dsimp only at this; omega)
  · intro k hk
    have hk2 := (Finset.mem_filter.1 hk).2
    exact ⟨⟨k.val % 64, by omega⟩, Finset.mem_univ _, Fin.ext (by dsimp only; omega)⟩

theorem blockRoot_eq (Z hi lo on : Fin 128 → EReal) (l : Fin 128) (hZ : ∀ k, IsReal (Z k))
    (ehi : ∀ k, hi k = Z k * Z k) (elo : ∀ k, lo k = Z k * Z k - Z k * Z k)
    (eon : ∀ k, on k = if k.val / 64 = l.val / 64 then 1 else 0) :
    blockRoot hi lo on = root (fun e => Z ⟨64 * (l.val / 64) + e.val, by omega⟩) := by
  unfold blockRoot root
  have e0 : ∑ k, lo k * on k = 0 := Finset.sum_eq_zero fun k _ => by
    rw [elo, IsReal.sub_self (IsReal.mul (hZ k) (hZ k)), zero_mul]
  rw [e0, add_zero, mean_head]
  simp only [ehi, eon]
  rw [diag_sum (fun k => Z k * Z k) l]

end Cert.Rows

end
-- ==== Proof.InprojOps.lean ====
module

public import proofs.«01_k».proof.Proof.InprojNorm
public import proofs.«01_k».proof.Proof.Gen.InprojIdeal.Skeleton
public import Idealize.ShloMosaic.Lib.Pipeline.ValueKit
public import Idealize.ShloMosaic.Lib.Pointwise

@[expose] public section

/-!
The input projection's operations at one element: the normalized rows, their products with the weight's columns, the
normalization of each head of 64 columns.
-/

set_option maxRecDepth 16384

noncomputable section

namespace Cert.InprojIdeal.Proj

open Cert.InprojIdeal Cert.InprojIdeal.Gen Idealize.ShloMosaic Idealize.ShloMosaic.TcCoe Idealize.SL.Sem
open Cert.Rows

theorem row_apply (x : FVec Ideal S512x1024 .f32) (sh sc : FVec Ideal S1x1x1024 .f32) (gain : FVec Ideal S1x1024 .f32)
    (r : Fin 512) (k : Fin 1024) :
    k0_pay7 (F := Ideal) x sh sc gain (ix2 r k)
      = rowAt (fun j => x (ix2 r j)) (gain (ix2 0 k)) (sc (ix3 0 0 k)) (sh (ix3 0 0 k)) k := by
  pointwise [k0_pay7, rowAt]

theorem ones_apply (on : FVec Ideal S128x128 .bf16) (i) : k0_pay8 (F := Ideal) on i = on i := by
  pointwise [k0_pay8]

theorem first_apply (x : FVec Ideal S512x1024 .f32) (sh sc : FVec Ideal S1x1x1024 .f32) (gain : FVec Ideal S1x1024 .f32)
    (w : FVec Ideal S1024x512 .bf16) (r : Fin 512) (l : Fin 512) :
    k0_pay9 (F := Ideal) x sh sc gain w (ix2 r l) = ∑ k : Fin 1024, k0_pay7 (F := Ideal) x sh sc gain (ix2 r k) * w (ix2 k l) := by
  pointwise [k0_pay9]

theorem firstHi_apply (x : FVec Ideal S512x1024 .f32) (sh sc : FVec Ideal S1x1x1024 .f32) (gain : FVec Ideal S1x1024 .f32)
    (w : FVec Ideal S1024x512 .bf16) (i) :
    k0_pay11 (F := Ideal) x sh sc gain w i = k0_pay9 (F := Ideal) x sh sc gain w i * k0_pay9 (F := Ideal) x sh sc gain w i := by
  pointwise [k0_pay11, k0_pay10]

theorem firstLo_apply (x : FVec Ideal S512x1024 .f32) (sh sc : FVec Ideal S1x1x1024 .f32) (gain : FVec Ideal S1x1024 .f32)
    (w : FVec Ideal S1024x512 .bf16) (i) :
    k0_pay12 (F := Ideal) x sh sc gain w i = k0_pay9 (F := Ideal) x sh sc gain w i * k0_pay9 (F := Ideal) x sh sc gain w i
      - k0_pay9 (F := Ideal) x sh sc gain w i * k0_pay9 (F := Ideal) x sh sc gain w i := by
  pointwise [k0_pay12, k0_pay11, k0_pay10]

theorem firstSum_apply (x : FVec Ideal S512x1024 .f32) (sh sc : FVec Ideal S1x1x1024 .f32) (gain : FVec Ideal S1x1024 .f32)
    (on : FVec Ideal S128x128 .bf16) (w : FVec Ideal S1024x512 .bf16) (r : Fin 512) (l : Fin 128) :
    k0_pay13 (F := Ideal) x sh sc gain on w (ix2 r l)
      = ∑ k : Fin 128, k0_pay11 (F := Ideal) x sh sc gain w (ix2 r ⟨k.val, by omega⟩) * on (ix2 k l) := by
  pointwise [k0_pay13, k0_pay8]

section Parts

variable (on : FVec Ideal S128x128 .bf16) (z : FVec Ideal S512x512 .f32) (hi lo : FVec Ideal S512x512 .bf16)

theorem part0_apply (p : FVec Ideal S512x128 .f32) (r : Fin 512) (l : Fin 128) :
    k0_pay14 (F := Ideal) on z lo p (ix2 r l) = z (ix2 r ⟨l.val, by omega⟩)
      * Ideal.rsqrt ((p (ix2 r l) + ∑ k : Fin 128, lo (ix2 r ⟨k.val, by omega⟩) * on (ix2 k l)) * Ideal.ofBits .f32 0x3C800000#32
        + Ideal.ofBits .f32 0x358637BD#32) := by
  pointwise [k0_pay14]

theorem part1_apply (r : Fin 512) (l : Fin 128) :
    k0_pay15 (F := Ideal) on z hi lo (ix2 r l) = z (ix2 r ⟨128 + l.val, by omega⟩)
      * blockRoot (fun k => hi (ix2 r ⟨128 + k.val, by omega⟩)) (fun k => lo (ix2 r ⟨128 + k.val, by omega⟩))
        (fun k => on (ix2 k l)) := by
  pointwise [k0_pay15, blockRoot]

theorem part2_apply (r : Fin 512) (l : Fin 128) :
    k0_pay16 (F := Ideal) on z hi lo (ix2 r l) = z (ix2 r ⟨256 + l.val, by omega⟩)
      * blockRoot (fun k => hi (ix2 r ⟨256 + k.val, by omega⟩)) (fun k => lo (ix2 r ⟨256 + k.val, by omega⟩))
        (fun k => on (ix2 k l)) := by
  pointwise [k0_pay16, blockRoot]

theorem part3_apply (r : Fin 512) (l : Fin 128) :
    k0_pay17 (F := Ideal) z (ix2 r l) * k0_pay18 (F := Ideal) on hi lo (ix2 r l) = z (ix2 r ⟨384 + l.val, by omega⟩)
      * blockRoot (fun k => hi (ix2 r ⟨384 + k.val, by omega⟩)) (fun k => lo (ix2 r ⟨384 + k.val, by omega⟩))
        (fun k => on (ix2 k l)) := by
  pointwise [k0_pay17, k0_pay18, blockRoot]

theorem last2_apply (gain : FVec Ideal S1x512 .f32) (a b p : FVec Ideal S512x128 .f32) (q : FVec Ideal S512x128 .bf16)
    (r : Fin 512) (l : Fin 512) :
    k0_pay33 (F := Ideal) on z gain hi lo a b p q (constant S512x128 .f32 0x00000000#32) (ix2 r l) =
      (if h0 : l.val < 128 then a (ix2 r ⟨l.val, h0⟩)
       else if h1 : l.val - 128 < 128 then b (ix2 r ⟨l.val - 128, h1⟩)
       else if h2 : l.val - 128 - 128 < 128 then z (ix2 r ⟨256 + (l.val - 128 - 128), by omega⟩)
          * Ideal.rsqrt ((p (ix2 r ⟨l.val - 128 - 128, h2⟩)
          + ∑ k : Fin 128, q (ix2 r k) * on (ix2 k ⟨l.val - 128 - 128, h2⟩)) * Ideal.ofBits .f32 0x3C800000#32
            + Ideal.ofBits .f32 0x358637BD#32)
       else z (ix2 r ⟨384 + (l.val - 128 - 128 - 128), by omega⟩)
        * blockRoot (fun k => hi (ix2 r ⟨384 + k.val, by omega⟩)) (fun k => lo (ix2 r ⟨384 + k.val, by omega⟩))
        (fun k => on (ix2 k ⟨l.val - 128 - 128 - 128, by omega⟩))) * gain (ix2 0 l) := by
  pointwise [k0_pay33, blockRoot]

theorem scaled_apply (gain : FVec Ideal S1x512 .f32) (a b c d e : FVec Ideal S512x128 .f32) (r : Fin 512) (l : Fin 512) :
    k0_pay19 (F := Ideal) gain a b c d e (ix2 r l) =
      (if h0 : l.val < 128 then a (ix2 r ⟨l.val, h0⟩)
       else if h1 : l.val - 128 < 128 then b (ix2 r ⟨l.val - 128, h1⟩)
       else if h2 : l.val - 128 - 128 < 128 then c (ix2 r ⟨l.val - 128 - 128, h2⟩)
       else d (ix2 r ⟨l.val - 128 - 128 - 128, by omega⟩) * e (ix2 r ⟨l.val - 128 - 128 - 128, by omega⟩)) * gain (ix2 0 l)
        * Ideal.ofBits .f32 0x3E000000#32 := by
  pointwise [k0_pay19]

/-- The block diagonal of ones. -/
def Diag (on : FVec Ideal S128x128 .bf16) : Prop := ∀ k l : Fin 128, on (ix2 k l) = if k.val / 64 = l.val / 64 then 1 else 0

/-- One chunk of 128 columns: a column by the reciprocal root of its head. -/
theorem chunk {N : Nat} (Z : Fin N → EReal) (hZ : ∀ k, IsReal (Z k)) (l : Fin N) (o : Nat) (l' : Fin 128)
    (ho : 64 ∣ o) (hN : o + 128 ≤ N) (el : l.val = o + l'.val) (hb : ∀ e : Fin 64, 64 * (l.val / 64) + e.val < N)
    {x : EReal} {hi lo on : Fin 128 → EReal} (ex : x = Z ⟨o + l'.val, by omega⟩)
    (ehi : ∀ k : Fin 128, hi k = Z ⟨o + k.val, by omega⟩ * Z ⟨o + k.val, by omega⟩)
    (elo : ∀ k : Fin 128, lo k = Z ⟨o + k.val, by omega⟩ * Z ⟨o + k.val, by omega⟩ - Z ⟨o + k.val, by omega⟩ * Z ⟨o + k.val, by omega⟩)
    (eon : ∀ k : Fin 128, on k = if k.val / 64 = l'.val / 64 then 1 else 0) :
    x * blockRoot hi lo on = Z l * root (fun e => Z ⟨64 * (l.val / 64) + e.val, hb e⟩) := by
  rw [blockRoot_eq (fun k => Z ⟨o + k.val, by omega⟩) hi lo on l' (fun k => hZ _) ehi elo eon, ex]
  have h1 (h : _) : (⟨o + l'.val, h⟩ : Fin N) = l := Fin.ext el.symm
  rw [h1]
  refine congrArg (fun f => Z l * root f) (funext fun e => congrArg Z (Fin.ext ?_))
  obtain ⟨q, rfl⟩ := ho
  dsimp only
  omega

/-- The kernel's first 512 columns, each normalized by its head. -/
theorem heads_apply (gain : FVec Ideal S1x512 .f32) (p : FVec Ideal S512x128 .f32) (r l : Fin 512)
    (Z : Fin 512 → EReal) (hZ : ∀ k, IsReal (Z k)) (eon : Diag on) (ez : ∀ k, z (ix2 r k) = Z k)
    (ehi : ∀ k, hi (ix2 r k) = Z k * Z k) (elo : ∀ k, lo (ix2 r k) = Z k * Z k - Z k * Z k)
    (ep : ∀ k : Fin 128, p (ix2 r k) = ∑ j : Fin 128, hi (ix2 r ⟨j.val, by omega⟩) * on (ix2 j k)) :
    k0_pay19 (F := Ideal) gain (k0_pay14 on z lo p) (k0_pay15 on z hi lo) (k0_pay16 on z hi lo) (k0_pay17 z) (k0_pay18 on hi lo) (ix2 r l)
      = Z l * root (fun e => Z ⟨64 * (l.val / 64) + e.val, by omega⟩) * gain (ix2 0 l) * Ideal.ofBits .f32 0x3E000000#32 := by
  rw [scaled_apply]
  refine congrArg (fun x : EReal => x * gain (ix2 0 l) * Ideal.ofBits .f32 0x3E000000#32) ?_
  by_cases h0 : l.val < 128
  · rw [dif_pos h0, part0_apply, ep]
    refine chunk Z hZ l 0 ⟨l.val, h0⟩ ⟨0, rfl⟩ (by omega) (Nat.zero_add _).symm (by omega)
      (hi := fun k => hi (ix2 r ⟨k.val, by omega⟩)) (lo := fun k => lo (ix2 r ⟨k.val, by omega⟩))
      (on := fun k => on (ix2 k ⟨l.val, h0⟩)) ((ez _).trans (congrArg Z (Fin.ext (Nat.zero_add _).symm)))
      (fun k => ?_) (fun k => ?_) (fun k => eon k _)
    · have e : (⟨0 + k.val, by omega⟩ : Fin 512) = ⟨k.val, by omega⟩ := Fin.ext (Nat.zero_add _)
      rw [e]; exact ehi _
    · have e : (⟨0 + k.val, by omega⟩ : Fin 512) = ⟨k.val, by omega⟩ := Fin.ext (Nat.zero_add _)
      rw [e]; exact elo _
  · rw [dif_neg h0]
    by_cases h1 : l.val - 128 < 128
    · rw [dif_pos h1, part1_apply]
      exact chunk Z hZ l 128 ⟨l.val - 128, h1⟩ ⟨2, rfl⟩ (by omega) (by dsimp only; omega) (by omega) (ez _)
        (fun k => ehi _) (fun k => elo _) (fun k => eon k _)
    · rw [dif_neg h1]
      by_cases h2 : l.val - 128 - 128 < 128
      · rw [dif_pos h2, part2_apply]
        exact chunk Z hZ l 256 ⟨l.val - 128 - 128, h2⟩ ⟨4, rfl⟩ (by omega) (by dsimp only; omega) (by omega) (ez _)
          (fun k => ehi _) (fun k => elo _) (fun k => eon k _)
      · rw [dif_neg h2, part3_apply]
        exact chunk Z hZ l 384 ⟨l.val - 128 - 128 - 128, by omega⟩ ⟨6, rfl⟩ (by omega) (by dsimp only; omega) (by omega) (ez _)
          (fun k => ehi _) (fun k => elo _) (fun k => eon k _)

end Parts

section Products

variable (h : FVec Ideal S512x1024 .bf16)

theorem kv_apply (w : FVec Ideal S1024x256 .bf16) (r : Fin 512) (l : Fin 256) :
    k0_pay20 (F := Ideal) h w (ix2 r l) = ∑ k : Fin 1024, h (ix2 r k) * w (ix2 k l) := by
  pointwise [k0_pay20]

theorem key_apply (on : FVec Ideal S128x128 .bf16) (w : FVec Ideal S1024x256 .bf16) (gain : FVec Ideal S1x128 .f32)
    (r : Fin 512) (l : Fin 128) :
    k0_pay21 (F := Ideal) h on w gain (ix2 r l) = k0_pay20 (F := Ideal) h w (ix2 r ⟨l.val, by omega⟩)
      * blockRoot (fun k => k0_pay20 (F := Ideal) h w (ix2 r ⟨k.val, by omega⟩) * k0_pay20 (F := Ideal) h w (ix2 r ⟨k.val, by omega⟩))
        (fun k => k0_pay20 (F := Ideal) h w (ix2 r ⟨k.val, by omega⟩) * k0_pay20 (F := Ideal) h w (ix2 r ⟨k.val, by omega⟩)
          - k0_pay20 (F := Ideal) h w (ix2 r ⟨k.val, by omega⟩) * k0_pay20 (F := Ideal) h w (ix2 r ⟨k.val, by omega⟩))
        (fun k => on (ix2 k l)) * gain (ix2 0 l) := by
  pointwise [k0_pay21, blockRoot]

theorem value_apply (w : FVec Ideal S1024x256 .bf16) (r : Fin 512) (l : Fin 128) :
    k0_pay22 (F := Ideal) h w (ix2 r l) = ∑ k : Fin 1024, h (ix2 r k) * w (ix2 k ⟨128 + l.val, by omega⟩) := by
  pointwise [k0_pay22, k0_pay20]

theorem wide_apply (w : FVec Ideal S1024x1024 .bf16) (r : Fin 512) (l : Fin 1024) :
    k0_pay23 (F := Ideal) h w (ix2 r l) = ∑ k : Fin 1024, h (ix2 r k) * w (ix2 k l) := by
  pointwise [k0_pay23]

theorem wide2_apply (w : FVec Ideal S1024x1024 .bf16) (r : Fin 512) (l : Fin 1024) :
    k0_pay24 (F := Ideal) h w (ix2 r l) = ∑ k : Fin 1024, h (ix2 r k) * w (ix2 k l) := by
  pointwise [k0_pay24]

theorem second_apply (w : FVec Ideal S1024x512 .bf16) (r : Fin 512) (l : Fin 512) :
    k0_pay25 (F := Ideal) h w (ix2 r l) = ∑ k : Fin 1024, h (ix2 r k) * w (ix2 k l) := by
  pointwise [k0_pay25]

theorem secondHi_apply (w : FVec Ideal S1024x512 .bf16) (i) :
    k0_pay27 (F := Ideal) h w i = k0_pay25 (F := Ideal) h w i * k0_pay25 (F := Ideal) h w i := by
  pointwise [k0_pay27, k0_pay26]

theorem secondLo_apply (w : FVec Ideal S1024x512 .bf16) (i) :
    k0_pay28 (F := Ideal) h w i = k0_pay25 (F := Ideal) h w i * k0_pay25 (F := Ideal) h w i
      - k0_pay25 (F := Ideal) h w i * k0_pay25 (F := Ideal) h w i := by
  pointwise [k0_pay28, k0_pay27, k0_pay26]

theorem second0_apply (on : FVec Ideal S128x128 .bf16) (w : FVec Ideal S1024x512 .bf16) (r : Fin 512) (l : Fin 128) :
    k0_pay29 (F := Ideal) h on w (ix2 r l) = k0_pay25 (F := Ideal) h w (ix2 r ⟨l.val, by omega⟩)
      * blockRoot (fun k => k0_pay27 (F := Ideal) h w (ix2 r ⟨k.val, by omega⟩)) (fun k => k0_pay28 (F := Ideal) h w (ix2 r ⟨k.val, by omega⟩))
        (fun k => on (ix2 k l)) := by
  pointwise [k0_pay29, blockRoot]

theorem second1_apply (on : FVec Ideal S128x128 .bf16) (w : FVec Ideal S1024x512 .bf16) (r : Fin 512) (l : Fin 128) :
    k0_pay30 (F := Ideal) h on w (ix2 r l) = k0_pay25 (F := Ideal) h w (ix2 r ⟨128 + l.val, by omega⟩)
      * blockRoot (fun k => k0_pay27 (F := Ideal) h w (ix2 r ⟨128 + k.val, by omega⟩)) (fun k => k0_pay28 (F := Ideal) h w (ix2 r ⟨128 + k.val, by omega⟩))
        (fun k => on (ix2 k l)) := by
  pointwise [k0_pay30, blockRoot]

theorem second2_apply (on : FVec Ideal S128x128 .bf16) (w : FVec Ideal S1024x512 .bf16) (r : Fin 512) (l : Fin 128) :
    k0_pay31 (F := Ideal) h on w (ix2 r l) = ∑ k : Fin 128, k0_pay27 (F := Ideal) h w (ix2 r ⟨256 + k.val, by omega⟩) * on (ix2 k l) := by
  pointwise [k0_pay31]

theorem second3_apply (w : FVec Ideal S1024x512 .bf16) (r : Fin 512) (k : Fin 128) :
    k0_pay32 (F := Ideal) h w (ix2 r k) = k0_pay28 (F := Ideal) h w (ix2 r ⟨256 + k.val, by omega⟩) := by
  pointwise [k0_pay32]

/-- The keys, each normalized by its head. -/
theorem keys_apply (on : FVec Ideal S128x128 .bf16) (w : FVec Ideal S1024x256 .bf16) (gain : FVec Ideal S1x128 .f32)
    (r : Fin 512) (l : Fin 128) (Z : Fin 128 → EReal) (hZ : ∀ k, IsReal (Z k)) (eon : Diag on)
    (ez : ∀ k : Fin 128, k0_pay20 (F := Ideal) h w (ix2 r ⟨k.val, by omega⟩) = Z k) :
    k0_pay21 (F := Ideal) h on w gain (ix2 r l)
      = Z l * root (fun e => Z ⟨64 * (l.val / 64) + e.val, by omega⟩) * gain (ix2 0 l) := by
  rw [key_apply]
  simp only [ez]
  refine congrArg (fun x : EReal => x * gain (ix2 0 l)) ?_
  have e (k : Fin 128) (g : _) : (⟨0 + k.val, g⟩ : Fin 128) = k := Fin.ext (Nat.zero_add _)
  exact chunk Z hZ l 0 l ⟨0, rfl⟩ (by omega) (Nat.zero_add _).symm (by omega) (by rw [e])
    (fun k => by rw [e]) (fun k => by rw [e]) (fun k => eon k _)

/-- The kernel's other 512 normalized columns. -/
theorem heads2_apply (on : FVec Ideal S128x128 .bf16) (w : FVec Ideal S1024x512 .bf16) (gain : FVec Ideal S1x512 .f32)
    (r l : Fin 512) (Z : Fin 512 → EReal) (hZ : ∀ k, IsReal (Z k)) (eon : Diag on)
    (ez : ∀ k : Fin 512, k0_pay25 (F := Ideal) h w (ix2 r k) = Z k) :
    k0_pay33 (F := Ideal) on (k0_pay25 h w) gain (k0_pay27 h w) (k0_pay28 h w) (k0_pay29 h on w) (k0_pay30 h on w) (k0_pay31 h on w)
        (k0_pay32 h w) (constant S512x128 .f32 0x00000000#32) (ix2 r l)
      = Z l * root (fun e => Z ⟨64 * (l.val / 64) + e.val, by omega⟩) * gain (ix2 0 l) := by
  rw [last2_apply]
  refine congrArg (fun x : EReal => x * gain (ix2 0 l)) ?_
  have ehi (k : Fin 512) : k0_pay27 (F := Ideal) h w (ix2 r k) = Z k * Z k := by rw [secondHi_apply, ez]
  have elo (k : Fin 512) : k0_pay28 (F := Ideal) h w (ix2 r k) = Z k * Z k - Z k * Z k := by rw [secondLo_apply, ez]
  by_cases h0 : l.val < 128
  · rw [dif_pos h0, second0_apply]
    have e (k : Nat) (g : _) (g' : _) : (⟨0 + k, g⟩ : Fin 512) = ⟨k, g'⟩ := Fin.ext (Nat.zero_add _)
    exact chunk Z hZ l 0 ⟨l.val, h0⟩ ⟨0, rfl⟩ (by omega) (Nat.zero_add _).symm (by omega)
      ((ez _).trans (congrArg Z (Fin.ext (Nat.zero_add _).symm)))
      (fun k => by rw [ehi, e k.val _ (by omega)]) (fun k => by rw [elo, e k.val _ (by omega)]) (fun k => eon k _)
  · rw [dif_neg h0]
    by_cases h1 : l.val - 128 < 128
    · rw [dif_pos h1, second1_apply]
      exact chunk Z hZ l 128 ⟨l.val - 128, h1⟩ ⟨2, rfl⟩ (by omega) (by dsimp only; omega) (by omega) (ez _)
        (fun k => ehi _) (fun k => elo _) (fun k => eon k _)
    · rw [dif_neg h1]
      by_cases h2 : l.val - 128 - 128 < 128
      · rw [dif_pos h2, second2_apply]
        simp only [second3_apply]
        exact chunk Z hZ l 256 ⟨l.val - 128 - 128, h2⟩ ⟨4, rfl⟩ (by omega) (by dsimp only; omega) (by omega)
          (hi := fun k => k0_pay27 (F := Ideal) h w (ix2 r ⟨256 + k.val, by omega⟩))
          (lo := fun k => k0_pay28 (F := Ideal) h w (ix2 r ⟨256 + k.val, by omega⟩))
          (on := fun k => on (ix2 k ⟨l.val - 128 - 128, h2⟩)) (ez _)
          (fun k => ehi _) (fun k => elo _) (fun k => eon k _)
      · rw [dif_neg h2]
        exact chunk Z hZ l 384 ⟨l.val - 128 - 128 - 128, by omega⟩ ⟨6, rfl⟩ (by omega) (by dsimp only; omega) (by omega) (ez _)
          (fun k => ehi _) (fun k => elo _) (fun k => eon k _)

theorem gate_eq (w : FVec Ideal S1024x512 .bf16) : k0_pay36 (F := Ideal) h w = k0_pay25 (F := Ideal) h w
    ∧ k0_pay37 (F := Ideal) h w = k0_pay25 (F := Ideal) h w ∧ k0_pay38 (F := Ideal) h w = k0_pay25 (F := Ideal) h w
    ∧ k0_pay39 (F := Ideal) h w = k0_pay25 (F := Ideal) h w ∧ k0_pay40 (F := Ideal) h w = k0_pay25 (F := Ideal) h w
    ∧ k0_pay41 (F := Ideal) h w = k0_pay25 (F := Ideal) h w := ⟨rfl, rfl, rfl, rfl, rfl, rfl⟩

theorem means_apply (on : FVec Ideal S128x128 .bf16) (z : FVec Ideal S512x512 .f32) (gain : FVec Ideal S1x512 .f32)
    (hi lo : FVec Ideal S512x512 .bf16) (a b p : FVec Ideal S512x128 .f32) (q : FVec Ideal S512x128 .bf16)
    (o : FVec Ideal S512x128 .f32) (n : Fin 2) (l : Fin 512) :
    k0_pay35 (F := Ideal) on z gain hi lo a b p q o (ix3 0 n l)
      = Ideal.div (∑ i : Fin 256, k0_pay33 (F := Ideal) on z gain hi lo a b p q o (ix2 ⟨n.val * 256 + i.val, by omega⟩ l))
          (Ideal.ofBits .f32 0x43800000#32) := by
  pointwise [k0_pay35]

theorem down_apply (w : FVec Ideal S512x1024 .bf16) (n : Fin 8) (e : Fin 64) (s : Fin 512) :
    k0_pay42 (F := Ideal) h w (ix3 n e s) = ∑ k : Fin 1024, w (ix2 ⟨n.val * 64 + e.val, by omega⟩ k) * h (ix2 s k) := by
  pointwise [k0_pay42]

theorem downSum_apply (w : FVec Ideal S512x1024 .bf16) (n : Fin 8) (s : Fin 512) :
    k0_pay43 (F := Ideal) h w (ix3 n 0 s) = (∑ e : Fin 64, k0_pay42 (F := Ideal) h w (ix3 n e s) * k0_pay42 (F := Ideal) h w (ix3 n e s))
      * Ideal.ofBits .f32 0x3C800000#32 := by
  pointwise [k0_pay43]

theorem queries_apply (gain : FVec Ideal S512x1 .f32) (a : FVec Ideal S8x64x512 .f32) (b c : FVec Ideal S8x1x512 .f32)
    (r : Fin 512) (s : Fin 512) :
    k0_pay1 (F := Ideal) gain a b c (ix2 r s) = a (ix3 ⟨r.val / 64, by omega⟩ ⟨r.val % 64, by omega⟩ s)
      * Ideal.rsqrt (b (ix3 ⟨r.val / 64, by omega⟩ 0 s) + c (ix3 ⟨r.val / 64, by omega⟩ 0 s)) * gain (ix2 r 0)
      * Ideal.ofBits .f32 0x3E000000#32 := by
  pointwise [k0_pay1]

theorem eps_apply (i) : k0_pay44 (F := Ideal) i = Ideal.ofBits .f32 0x358637BD#32 := by
  pointwise [k0_pay44]

theorem values_apply (w : FVec Ideal S512x1024 .bf16) (r : Fin 512) (s : Fin 512) :
    k0_pay2 (F := Ideal) h w (ix2 r s) = ∑ k : Fin 1024, w (ix2 r k) * h (ix2 s k) := by
  pointwise [k0_pay2]

theorem queries0_apply (gain : FVec Ideal S512x1 .f32) (a : FVec Ideal S8x64x512 .f32) (b c : FVec Ideal S8x1x512 .f32)
    (r : Fin 512) (s : Fin 256) :
    k0_pay3 (F := Ideal) gain a b c (ix4 0 0 r s) = k0_pay1 (F := Ideal) gain a b c (ix2 r ⟨s.val, by omega⟩) := by
  pointwise [k0_pay3]

theorem queries1_apply (gain : FVec Ideal S512x1 .f32) (a : FVec Ideal S8x64x512 .f32) (b c : FVec Ideal S8x1x512 .f32)
    (r : Fin 512) (s : Fin 256) :
    k0_pay5 (F := Ideal) gain a b c (ix4 0 0 r s) = k0_pay1 (F := Ideal) gain a b c (ix2 r ⟨256 + s.val, by omega⟩) := by
  pointwise [k0_pay5]

/-- The transposed queries, each normalized by its head. -/
theorem turned_apply (w : FVec Ideal S512x1024 .bf16) (gain : FVec Ideal S512x1 .f32) (r s : Fin 512) :
    k0_pay1 (F := Ideal) gain (k0_pay42 h w) (k0_pay43 h w) (k0_pay44 (F := Ideal)) (ix2 r s)
      = (∑ k : Fin 1024, w (ix2 r k) * h (ix2 s k))
        * root (fun e => ∑ k : Fin 1024, w (ix2 ⟨64 * (r.val / 64) + e.val, by omega⟩ k) * h (ix2 s k)) * gain (ix2 r 0)
        * Ideal.ofBits .f32 0x3E000000#32 := by
  rw [queries_apply, downSum_apply, eps_apply]
  simp only [down_apply]
  rw [mean_head]
  unfold root
  have e1 (g : _) : (⟨r.val / 64 * 64 + r.val % 64, g⟩ : Fin 512) = r := Fin.ext (by dsimp only; omega)
  have e2 (e : Fin 64) (g g' : _) : (⟨r.val / 64 * 64 + e.val, g⟩ : Fin 512) = ⟨64 * (r.val / 64) + e.val, g'⟩ :=
    Fin.ext (by dsimp only; omega)
  rw [e1]
  simp only [mul_comm (r.val / 64) 64]

theorem values0_apply (w : FVec Ideal S512x1024 .bf16) (r : Fin 512) (s : Fin 256) :
    k0_pay4 (F := Ideal) h w (ix4 0 0 r s) = k0_pay2 (F := Ideal) h w (ix2 r ⟨s.val, by omega⟩) := by
  pointwise [k0_pay4]

theorem values1_apply (w : FVec Ideal S512x1024 .bf16) (r : Fin 512) (s : Fin 256) :
    k0_pay6 (F := Ideal) h w (ix4 0 0 r s) = k0_pay2 (F := Ideal) h w (ix2 r ⟨256 + s.val, by omega⟩) := by
  pointwise [k0_pay6]

end Products

end Cert.InprojIdeal.Proj

end
-- ==== Proof.InprojBlocks.lean ====
module

public import proofs.«01_k».proof.Proof.InprojOps
public import proofs.«01_k».proof.Proof.Gen.InprojIdeal.Frame
public import Idealize.ShloMosaic.Lib.Pipeline.Value
public import Idealize.ShloMosaic.Lib.Pipeline.ValueKit
public import Idealize.ShloMosaic.Lib.Pointwise
public import Idealize.ShloMosaic.Lib.Claim

@[expose] public section

/-!
The input projection at one element, and the blocks one point of the kernel's grid reads.
-/

set_option maxRecDepth 16384

noncomputable section

namespace Cert.InprojIdeal.Proj

open Cert.InprojIdeal Cert.InprojIdeal.Gen Idealize.ShloMosaic Idealize.ShloMosaic.TcCoe Idealize.SL.Sem
open Idealize.ShloMosaic.Pipeline (Dat)
open Cert.Rows

section Spec

variable (X : FVec Ideal S32768x1024 .f32) (M : FVec Ideal S4x1x6144 .f32) (gain : FVec Ideal S1x1024 .f32)
    (wn : FVec Ideal S1024x6400 .bf16) (wt : FVec Ideal S1024x1024 .bf16) (gqa : FVec Ideal S1x512 .f32)
    (gka : FVec Ideal S1x128 .f32) (gkc : FVec Ideal S1x512 .f32) (gqc : FVec Ideal S512x1 .f32)

/-- The normalized and modulated input. -/
def hAt (r : Fin 32768) (k : Fin 1024) : EReal :=
  rowAt (fun j => X (ix2 r j)) (gain (ix2 0 k)) (M (ix3 ⟨r.val / 8192, by omega⟩ 0 ⟨1024 + k.val, by omega⟩))
    (M (ix3 ⟨r.val / 8192, by omega⟩ 0 ⟨k.val, by omega⟩)) k

/-- The products with the columns of the weight. -/
def zAt (r : Fin 32768) (j : Fin 6400) : EReal := ∑ k : Fin 1024, hAt X M gain r k * wn (ix2 k j)

/-- The products with the rows of the transposed weight. -/
def tAt (c : Fin 1024) (r : Fin 32768) : EReal := ∑ k : Fin 1024, wt (ix2 c k) * hAt X M gain r k

/-- The scaled queries of the first attention. -/
def qaAt (r : Fin 32768) (l : Fin 512) : EReal :=
  zAt X M gain wn r ⟨l.val, by omega⟩ * root (fun e => zAt X M gain wn r ⟨64 * (l.val / 64) + e.val, by omega⟩)
    * gqa (ix2 0 l) * Ideal.ofBits .f32 0x3E000000#32

/-- The keys of the first attention. -/
def kaAt (r : Fin 32768) (l : Fin 128) : EReal :=
  zAt X M gain wn r ⟨512 + l.val, by omega⟩ * root (fun e => zAt X M gain wn r ⟨512 + (64 * (l.val / 64) + e.val), by omega⟩)
    * gka (ix2 0 l)

/-- The keys of the second attention. -/
def kcAt (r : Fin 32768) (l : Fin 512) : EReal :=
  zAt X M gain wn r ⟨2816 + l.val, by omega⟩ * root (fun e => zAt X M gain wn r ⟨2816 + (64 * (l.val / 64) + e.val), by omega⟩)
    * gkc (ix2 0 l)

/-- The scaled queries of the second attention. -/
def qcAt (r : Fin 32768) (l : Fin 512) : EReal :=
  tAt X M gain wt ⟨l.val, by omega⟩ r * root (fun e => tAt X M gain wt ⟨64 * (l.val / 64) + e.val, by omega⟩ r)
    * gqc (ix2 l 0) * Ideal.ofBits .f32 0x3E000000#32

/-- The row at position `p` of block `n` of sequence `b`. -/
def placed (b : Fin 4) (n : Fin 32) (p : Fin 256) : Fin 32768 := ⟨b.val * 8192 + n.val * 256 + p.val, by omega⟩

/-- The ten results. -/
def result10 : FVec Ideal S32768x512 .bf16 := fun i => qaAt X M gain wn gqa (i 0) (i 1)
def result11 : FVec Ideal S32768x128 .bf16 := fun i => kaAt X M gain wn gka (i 0) (i 1)
def result12 : FVec Ideal S32768x128 .bf16 := fun i => zAt X M gain wn (i 0) ⟨640 + (i 1).val, by have := (i 1).isLt; change (i 1).val < 128 at this; omega⟩
def result13 : FVec Ideal S32768x1024 .f32 := fun i => zAt X M gain wn (i 0) ⟨768 + (i 1).val, by have := (i 1).isLt; change (i 1).val < 1024 at this; omega⟩
def result14 : FVec Ideal S32768x1024 .f32 := fun i => zAt X M gain wn (i 0) ⟨1792 + (i 1).val, by have := (i 1).isLt; change (i 1).val < 1024 at this; omega⟩
def result15 : FVec Ideal S32768x512 .bf16 := fun i => kcAt X M gain wn gkc (i 0) (i 1)
def result16 : FVec Ideal S64x2x512 .f32 := fun i => Ideal.div
  (∑ j : Fin 256, kcAt X M gain wn gkc ⟨(i 0).val * 512 + (i 1).val * 256 + j.val, by
    have h0 := (i 0).isLt; have h1 := (i 1).isLt; change (i 0).val < 64 at h0; change (i 1).val < 2 at h1; omega⟩ (i 2))
  (Ideal.ofBits .f32 0x43800000#32)
def result17 : FVec Ideal S32768x3072 .f32 := fun i => zAt X M gain wn (i 0) ⟨3328 + (i 1).val, by have := (i 1).isLt; change (i 1).val < 3072 at this; omega⟩
def result18 : FVec Ideal S4x32x512x256 .bf16 := fun i => qcAt X M gain wt gqc (placed (i 0) (i 1) (i 3)) (i 2)
def result19 : FVec Ideal S4x32x512x256 .bf16 := fun i => tAt X M gain wt ⟨512 + (i 2).val, by have := (i 2).isLt; change (i 2).val < 512 at this; omega⟩ (placed (i 0) (i 1) (i 3))

/-- The shift, the scale, the gain and the columns of the weight that are normalized by head are real numbers. -/
structure Finite : Prop where
  mods : ∀ (b : Fin 4) (k : Fin 6144), k.val < 2048 → IsReal (M (ix3 b 0 k))
  gain : ∀ i, IsReal (gain i)
  wn : ∀ (k : Fin 1024) (j : Fin 6400), j.val < 640 ∨ (2816 ≤ j.val ∧ j.val < 3328) → IsReal (wn (ix2 k j))

theorem zAt_real (hf : Finite M gain wn) (r : Fin 32768) (j : Fin 6400) (hj : j.val < 640 ∨ (2816 ≤ j.val ∧ j.val < 3328)) :
    IsReal (zAt X M gain wn r j) :=
  IsReal.sum fun k => IsReal.mul (rowAt_real _ (hf.gain _) (hf.mods _ _ (by dsimp only; omega)) (hf.mods _ _ (by dsimp only; omega)) k)
    (hf.wn k j hj)

end Spec

variable (m : (ℓ : Loc nD τ sig) → Buf (Elt Ideal) ℓ)

/-- The number of each column's head. -/
def headOf : IVec S128 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

/-- Ones where row and column belong to one head. -/
def diag : FVec Ideal S128x128 .bf16 :=
  truncf .bf16 (uitofp .f32 (cmpi .eq
    (broadcastInDim S128x128 ![0, 1] bcast_S128x1_S128x128_0_1 (broadcastInDim S128x1 ![0] bcast_S128_S128x1_0 headOf))
    (broadcastInDim S128x128 ![0, 1] bcast_S1x128_S128x128_0_1 (broadcastInDim S1x128 ![1] bcast_S128_S1x128_1 headOf))))
    bitsLt_bf16_f32

theorem diag_term (c : Dev nD) : V m c main_v8 = diag := by
  unfold V
  simp only [hostOps0, hostOps0_1, hostOps0_2, List.flatten_cons, List.flatten_nil, List.append_nil, List.cons_append, List.nil_append]
  simp only [StableHlo.after_cons, StableHlo.after_nil]
  after_results_simp
  rfl

theorem headOf_apply (k : Fin 128) : headOf (ix1 k) = BitVec.ofNat 32 (k.val / 64) := by
  pointwise [headOf]
  revert k
  decide +kernel

theorem same : ∀ k l : Fin 128, IntOp.cmpi .eq (BitVec.ofNat 32 (k.val / 64)) (BitVec.ofNat 32 (l.val / 64))
    = BitVec.ofBool (decide (k.val / 64 = l.val / 64)) := by
  decide +kernel

theorem diag_apply (k l : Fin 128) : diag (ix2 k l) = if k.val / 64 = l.val / 64 then 1 else 0 := by
  pointwise [diag]
  rw [headOf_apply, headOf_apply, same]
  by_cases h : k.val / 64 = l.val / 64
  · rw [if_pos h, decide_eq_true h]
    show (((1#1 : BitVec 1).toNat : ℝ) : EReal) = 1
    simp
  · rw [if_neg h, decide_eq_false h]
    show (((0#1 : BitVec 1).toNat : ℝ) : EReal) = 0
    simp

theorem idx : ∀ t : Fin cfg0.N,
    win0_0.index t = ![(grid0.coords t 0).val, 0]
    ∧ win0_1.index t = ![(grid0.coords t 0).val / 16, 0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![(grid0.coords t 0).val, 0]
    ∧ win0_11.index t = ![(grid0.coords t 0).val, 0]
    ∧ win0_12.index t = ![(grid0.coords t 0).val, 0]
    ∧ win0_13.index t = ![(grid0.coords t 0).val, 0]
    ∧ win0_14.index t = ![(grid0.coords t 0).val, 0]
    ∧ win0_15.index t = ![(grid0.coords t 0).val, 0]
    ∧ win0_16.index t = ![(grid0.coords t 0).val, 0, 0]
    ∧ win0_17.index t = ![(grid0.coords t 0).val, 0]
    ∧ win0_18.index t = ![(grid0.coords t 0).val / 16, (grid0.coords t 0).val % 16, 0, 0]
    ∧ win0_19.index t = ![(grid0.coords t 0).val / 16, (grid0.coords t 0).val % 16, 0, 0] :=
  (by decide +kernel : ∀ t : Fin grid0.N, _)

theorem coord_lt (t : Fin cfg0.N) : (grid0.coords t 0).val < 64 := (grid0.coords t 0).isLt

/-- The row at position `q` of the block that point `t` computes. -/
def own (t : Fin cfg0.N) (q : Fin 512) : Fin 32768 :=
  ⟨(grid0.coords t 0).val * 512 + q.val, by have := coord_lt t; omega⟩

theorem own_val (t : Fin cfg0.N) (q : Fin 512) : (own t q).val = (grid0.coords t 0).val * 512 + q.val := rfl

theorem blk0 (c : Dev nD) (t : Fin cfg0.N) (q : Fin 512) (l : Fin 1024) : iblk m c 0 t (ix2 q l)
    = m ((c : Thread nD τ).loc main_arg0) (ix2 (own t q) l) := by
  have e : iblk m c 0 t (ix2 q l) = V m c main_arg0 (ix2 (own t q) l) := by blk_ext [iblk, idx t, own]
  exact e.trans (congrFun (V_main_arg0 m c) _)

theorem blk1 (c : Dev nD) (t : Fin cfg0.N) (l : Fin 6144) : iblk m c 1 t (ix3 0 0 l)
    = m ((c : Thread nD τ).loc main_arg1) (ix3 (n0 := 4) (n1 := 1) (n2 := 6144) ⟨(grid0.coords t 0).val / 16, by
        have := coord_lt t; omega⟩ 0 l) := by
  have e : iblk m c 1 t (ix3 0 0 l) = V m c main_arg1 (ix3 (n0 := 4) (n1 := 1) (n2 := 6144) ⟨(grid0.coords t 0).val / 16, by
        have := coord_lt t; omega⟩ 0 l) := by blk_ext [iblk, idx t]
  exact e.trans (congrFun (V_main_arg1 m c) _)

theorem blk2 (c : Dev nD) (t : Fin cfg0.N) (i) : iblk m c 2 t i = m ((c : Thread nD τ).loc main_arg2) i := by
  have e : iblk m c 2 t i = V m c main_arg2 i := by blk_ext [iblk, idx t]
  exact e.trans (congrFun (V_main_arg2 m c) _)
theorem blk3 (c : Dev nD) (t : Fin cfg0.N) (i) : iblk m c 3 t i = m ((c : Thread nD τ).loc main_arg3) i := by
  have e : iblk m c 3 t i = V m c main_arg3 i := by blk_ext [iblk, idx t]
  exact e.trans (congrFun (V_main_arg3 m c) _)
theorem blk4 (c : Dev nD) (t : Fin cfg0.N) (i) : iblk m c 4 t i = m ((c : Thread nD τ).loc main_arg4) i := by
  have e : iblk m c 4 t i = V m c main_arg4 i := by blk_ext [iblk, idx t]
  exact e.trans (congrFun (V_main_arg4 m c) _)
theorem blk6 (c : Dev nD) (t : Fin cfg0.N) (i) : iblk m c 6 t i = m ((c : Thread nD τ).loc main_arg5) i := by
  have e : iblk m c 6 t i = V m c main_arg5 i := by blk_ext [iblk, idx t]
  exact e.trans (congrFun (V_main_arg5 m c) _)
theorem blk7 (c : Dev nD) (t : Fin cfg0.N) (i) : iblk m c 7 t i = m ((c : Thread nD τ).loc main_arg6) i := by
  have e : iblk m c 7 t i = V m c main_arg6 i := by blk_ext [iblk, idx t]
  exact e.trans (congrFun (V_main_arg6 m c) _)
theorem blk8 (c : Dev nD) (t : Fin cfg0.N) (i) : iblk m c 8 t i = m ((c : Thread nD τ).loc main_arg7) i := by
  have e : iblk m c 8 t i = V m c main_arg7 i := by blk_ext [iblk, idx t]
  exact e.trans (congrFun (V_main_arg7 m c) _)
theorem blk9 (c : Dev nD) (t : Fin cfg0.N) (i) : iblk m c 9 t i = m ((c : Thread nD τ).loc main_arg8) i := by
  have e : iblk m c 9 t i = V m c main_arg8 i := by blk_ext [iblk, idx t]
  exact e.trans (congrFun (V_main_arg8 m c) _)

theorem blk5 (c : Dev nD) (t : Fin cfg0.N) (k l : Fin 128) : iblk m c 5 t (ix2 k l) = (if k.val / 64 = l.val / 64 then 1 else 0 : EReal) := by
  have e : iblk m c 5 t (ix2 k l) = V m c main_v8 (ix2 k l) := by blk_ext [iblk, idx t]
  exact e.trans ((congrFun (diag_term m c) _).trans (diag_apply k l))

theorem emb10 (t : Fin cfg0.N) (y : S512x512.Idx) : ((cfg0.win 10).blk t).view.emb y = ix2 (own t (y 0)) (y 1) := by
  blk_ext [idx t, own]
theorem emb11 (t : Fin cfg0.N) (y : S512x128.Idx) : ((cfg0.win 11).blk t).view.emb y = ix2 (own t (y 0)) (y 1) := by
  blk_ext [idx t, own]
theorem emb12 (t : Fin cfg0.N) (y : S512x128.Idx) : ((cfg0.win 12).blk t).view.emb y = ix2 (own t (y 0)) (y 1) := by
  blk_ext [idx t, own]
theorem emb13 (t : Fin cfg0.N) (y : S512x1024.Idx) : ((cfg0.win 13).blk t).view.emb y = ix2 (own t (y 0)) (y 1) := by
  blk_ext [idx t, own]
theorem emb14 (t : Fin cfg0.N) (y : S512x1024.Idx) : ((cfg0.win 14).blk t).view.emb y = ix2 (own t (y 0)) (y 1) := by
  blk_ext [idx t, own]
theorem emb15 (t : Fin cfg0.N) (y : S512x512.Idx) : ((cfg0.win 15).blk t).view.emb y = ix2 (own t (y 0)) (y 1) := by
  blk_ext [idx t, own]
theorem emb17 (t : Fin cfg0.N) (y : S512x3072.Idx) : ((cfg0.win 17).blk t).view.emb y = ix2 (own t (y 0)) (y 1) := by
  blk_ext [idx t, own]

theorem emb16 (t : Fin cfg0.N) (y : S1x2x512.Idx) : ((cfg0.win 16).blk t).view.emb y
    = ix3 (n0 := 64) (n1 := 2) (n2 := 512) ⟨(grid0.coords t 0).val, coord_lt t⟩ (y 1) (y 2) := by
  blk_ext [idx t]

/-- Block `n` of the two that point `t` computes, in its sequence. -/
def half (t : Fin cfg0.N) (n : Fin 2) : Fin 32 := ⟨(grid0.coords t 0).val % 16 * 2 + n.val, by omega⟩

theorem emb18 (t : Fin cfg0.N) (y : S1x2x512x256.Idx) : ((cfg0.win 18).blk t).view.emb y
    = ix4 (n0 := 4) (n1 := 32) (n2 := 512) (n3 := 256) ⟨(grid0.coords t 0).val / 16, by have := coord_lt t; omega⟩ (half t (y 1)) (y 2) (y 3) := by
  blk_ext [idx t, half]
theorem emb19 (t : Fin cfg0.N) (y : S1x2x512x256.Idx) : ((cfg0.win 19).blk t).view.emb y
    = ix4 (n0 := 4) (n1 := 32) (n2 := 512) (n3 := 256) ⟨(grid0.coords t 0).val / 16, by have := coord_lt t; omega⟩ (half t (y 1)) (y 2) (y 3) := by
  blk_ext [idx t, half]

section Launch

variable {F : FTy → Type} [FloatOps F] (m : (ℓ : Loc nD τ sig) → Buf (Elt F) ℓ) (ρ : Dev nD → PrngReg)

set_option maxHeartbeats 2000000 in
/-- The run ends with each result array as the grid's points left it and every argument as it was. -/
theorem run_blocks : θ_run defs (onTc (τ := τ) (main (F := F))) ⟨m, fun _ => 0, ρ⟩ (fun r => ∀ c : Dev nD,
    r.2.mem ((c : Thread nD τ).loc main_v9_0) = (dats m 0 c).arrAt 10 cfg0.N
    ∧ r.2.mem ((c : Thread nD τ).loc main_v9_1) = (dats m 0 c).arrAt 11 cfg0.N
    ∧ r.2.mem ((c : Thread nD τ).loc main_v9_2) = (dats m 0 c).arrAt 12 cfg0.N
    ∧ r.2.mem ((c : Thread nD τ).loc main_v9_3) = (dats m 0 c).arrAt 13 cfg0.N
    ∧ r.2.mem ((c : Thread nD τ).loc main_v9_4) = (dats m 0 c).arrAt 14 cfg0.N
    ∧ r.2.mem ((c : Thread nD τ).loc main_v9_5) = (dats m 0 c).arrAt 15 cfg0.N
    ∧ r.2.mem ((c : Thread nD τ).loc main_v9_6) = (dats m 0 c).arrAt 16 cfg0.N
    ∧ r.2.mem ((c : Thread nD τ).loc main_v9_7) = (dats m 0 c).arrAt 17 cfg0.N
    ∧ r.2.mem ((c : Thread nD τ).loc main_v9_8) = (dats m 0 c).arrAt 18 cfg0.N
    ∧ r.2.mem ((c : Thread nD τ).loc main_v9_9) = (dats m 0 c).arrAt 19 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)) :=
  (θ_run defs _ _).mono (fun r h c => ⟨(h c).1 10,
    (h c).1 11,
    (h c).1 12,
    (h c).1 13,
    (h c).1 14,
    (h c).1 15,
    (h c).1 16,
    (h c).1 17,
    (h c).1 18,
    (h c).1 19,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 6).trans (((dats m 0 c).arrAt_in 6 rfl _).trans ((A_eq m c 6).trans (V_main_arg5 m c))),
    ((h c).1 7).trans (((dats m 0 c).arrAt_in 7 rfl _).trans ((A_eq m c 7).trans (V_main_arg6 m c))),
    ((h c).1 8).trans (((dats m 0 c).arrAt_in 8 rfl _).trans ((A_eq m c 8).trans (V_main_arg7 m c))),
    ((h c).1 9).trans (((dats m 0 c).arrAt_in 9 rfl _).trans ((A_eq m c 9).trans (V_main_arg8 m c)))⟩) (run_main m ρ)

end Launch

end Cert.InprojIdeal.Proj

end
-- ==== Proof.InprojParts.lean ====
module

public import proofs.«01_k».proof.Proof.InprojBlocks

@[expose] public section

/-!
The parts of the input projection's body, for a block of rows of the whole input.
-/

set_option maxRecDepth 16384

noncomputable section

namespace Cert.InprojIdeal.Proj

open Cert.InprojIdeal Cert.InprojIdeal.Gen Idealize.ShloMosaic Idealize.ShloMosaic.TcCoe Idealize.SL.Sem
open Idealize.ShloMosaic.Pipeline (Dat)
open Cert.Rows

variable (X : FVec Ideal S32768x1024 .f32) (M : FVec Ideal S4x1x6144 .f32) (gain : FVec Ideal S1x1024 .f32)
    (wn : FVec Ideal S1024x6400 .bf16) (wt : FVec Ideal S1024x1024 .bf16) (gqa : FVec Ideal S1x512 .f32)
    (gka : FVec Ideal S1x128 .f32) (gkc : FVec Ideal S1x512 .f32) (gqc : FVec Ideal S512x1 .f32)
    (R : Fin 512 → Fin 32768)

theorem queries_at (x : FVec Ideal S512x1024 .f32) (sh sc : FVec Ideal S1x1x1024 .f32) (g : FVec Ideal S1x1024 .f32)
    (on : FVec Ideal S128x128 .bf16) (w : FVec Ideal S1024x512 .bf16) (ga : FVec Ideal S1x512 .f32)
    (fin : Finite M gain wn)
    (eh : ∀ r k, k0_pay7 (F := Ideal) x sh sc g (ix2 r k) = hAt X M gain (R r) k)
    (ew : ∀ k (l : Fin 512), w (ix2 k l) = wn (ix2 k ⟨l.val, by omega⟩))
    (eon : ∀ k l : Fin 128, on (ix2 k l) = (if k.val / 64 = l.val / 64 then 1 else 0 : EReal))
    (eg : ∀ l : Fin 512, ga (ix2 0 l) = gqa (ix2 0 l)) (r l : Fin 512) :
    k0_pay19 (F := Ideal) ga
        (k0_pay14 (k0_pay8 on) (k0_pay9 x sh sc g w) (k0_pay12 x sh sc g w) (k0_pay13 x sh sc g on w))
        (k0_pay15 (k0_pay8 on) (k0_pay9 x sh sc g w) (k0_pay11 x sh sc g w) (k0_pay12 x sh sc g w))
        (k0_pay16 (k0_pay8 on) (k0_pay9 x sh sc g w) (k0_pay11 x sh sc g w) (k0_pay12 x sh sc g w))
        (k0_pay17 (k0_pay9 x sh sc g w)) (k0_pay18 (k0_pay8 on) (k0_pay11 x sh sc g w) (k0_pay12 x sh sc g w)) (ix2 r l)
      = qaAt X M gain wn gqa (R r) l := by
  have ez : ∀ k : Fin 512, k0_pay9 (F := Ideal) x sh sc g w (ix2 r k) = zAt X M gain wn (R r) ⟨k.val, by omega⟩ := fun k =>
    (first_apply x sh sc g w r k).trans (Finset.sum_congr rfl fun j _ => by rw [eh, ew])
  refine (heads_apply (k0_pay8 on) _ _ _ ga _ r l (fun k => zAt X M gain wn (R r) ⟨k.val, by omega⟩)
    (fun k => zAt_real X M gain wn fin _ _ (by dsimp only; omega)) (fun k l => (ones_apply on _).trans (eon k l)) ez ?_ ?_ ?_).trans ?_
  · intro k
    rw [firstHi_apply, ez]
  · intro k
    rw [firstLo_apply, ez]
  · intro k
    rw [firstSum_apply]
    exact Finset.sum_congr rfl fun j _ => by rw [ones_apply]
  · rw [eg]
    rfl

section Rest

variable (h : FVec Ideal S512x1024 .bf16)

theorem prod_at (eh : ∀ r k, h (ix2 r k) = hAt X M gain (R r) k) (w : FVec Ideal S1024x512 .bf16) (o : Nat) (ho : o + 512 ≤ 6400)
    (ew : ∀ k (l : Fin 512), w (ix2 k l) = wn (ix2 k ⟨o + l.val, by omega⟩)) (r l : Fin 512) :
    k0_pay25 (F := Ideal) h w (ix2 r l) = zAt X M gain wn (R r) ⟨o + l.val, by omega⟩ :=
  (second_apply h w r l).trans (Finset.sum_congr rfl fun j _ => by rw [eh, ew])

theorem kv_at (eh : ∀ r k, h (ix2 r k) = hAt X M gain (R r) k) (w : FVec Ideal S1024x256 .bf16)
    (ew : ∀ k (l : Fin 256), w (ix2 k l) = wn (ix2 k ⟨512 + l.val, by omega⟩)) (r : Fin 512) (l : Fin 256) :
    k0_pay20 (F := Ideal) h w (ix2 r l) = zAt X M gain wn (R r) ⟨512 + l.val, by omega⟩ :=
  (kv_apply h w r l).trans (Finset.sum_congr rfl fun j _ => by rw [eh, ew])

theorem keys_at (on : FVec Ideal S128x128 .bf16) (ga : FVec Ideal S1x128 .f32) (fin : Finite M gain wn)
    (eh : ∀ r k, h (ix2 r k) = hAt X M gain (R r) k) (w : FVec Ideal S1024x256 .bf16)
    (ew : ∀ k (l : Fin 256), w (ix2 k l) = wn (ix2 k ⟨512 + l.val, by omega⟩))
    (eon : ∀ k l : Fin 128, on (ix2 k l) = (if k.val / 64 = l.val / 64 then 1 else 0 : EReal))
    (eg : ∀ l : Fin 128, ga (ix2 0 l) = gka (ix2 0 l)) (r : Fin 512) (l : Fin 128) :
    k0_pay21 (F := Ideal) h (k0_pay8 on) w ga (ix2 r l) = kaAt X M gain wn gka (R r) l := by
  refine (keys_apply h (k0_pay8 on) w ga r l (fun k => zAt X M gain wn (R r) ⟨512 + k.val, by omega⟩)
    (fun k => zAt_real X M gain wn fin _ _ (by dsimp only; omega)) (fun k l => (ones_apply on _).trans (eon k l))
    (fun k => kv_at X M gain wn R h eh w ew r _)).trans ?_
  rw [eg]
  rfl

theorem value_at (eh : ∀ r k, h (ix2 r k) = hAt X M gain (R r) k) (w : FVec Ideal S1024x256 .bf16)
    (ew : ∀ k (l : Fin 256), w (ix2 k l) = wn (ix2 k ⟨512 + l.val, by omega⟩)) (r : Fin 512) (l : Fin 128) :
    k0_pay22 (F := Ideal) h w (ix2 r l) = zAt X M gain wn (R r) ⟨640 + l.val, by omega⟩ := by
  rw [show (⟨640 + l.val, by omega⟩ : Fin 6400) = ⟨512 + (128 + l.val), by omega⟩ from Fin.ext (by dsimp only; omega)]
  exact (value_apply h w r l).trans (Finset.sum_congr rfl fun j _ => by rw [eh, ew])

theorem wide_at (eh : ∀ r k, h (ix2 r k) = hAt X M gain (R r) k) (w : FVec Ideal S1024x1024 .bf16)
    (ew : ∀ k (l : Fin 1024), w (ix2 k l) = wn (ix2 k ⟨768 + l.val, by omega⟩)) (r : Fin 512) (l : Fin 1024) :
    k0_pay23 (F := Ideal) h w (ix2 r l) = zAt X M gain wn (R r) ⟨768 + l.val, by omega⟩ :=
  (wide_apply h w r l).trans (Finset.sum_congr rfl fun j _ => by rw [eh, ew])

theorem wide2_at (eh : ∀ r k, h (ix2 r k) = hAt X M gain (R r) k) (w : FVec Ideal S1024x1024 .bf16)
    (ew : ∀ k (l : Fin 1024), w (ix2 k l) = wn (ix2 k ⟨1792 + l.val, by omega⟩)) (r : Fin 512) (l : Fin 1024) :
    k0_pay24 (F := Ideal) h w (ix2 r l) = zAt X M gain wn (R r) ⟨1792 + l.val, by omega⟩ :=
  (wide2_apply h w r l).trans (Finset.sum_congr rfl fun j _ => by rw [eh, ew])

theorem keys2_at (on : FVec Ideal S128x128 .bf16) (ga : FVec Ideal S1x512 .f32) (fin : Finite M gain wn)
    (eh : ∀ r k, h (ix2 r k) = hAt X M gain (R r) k) (w : FVec Ideal S1024x512 .bf16)
    (ew : ∀ k (l : Fin 512), w (ix2 k l) = wn (ix2 k ⟨2816 + l.val, by omega⟩))
    (eon : ∀ k l : Fin 128, on (ix2 k l) = (if k.val / 64 = l.val / 64 then 1 else 0 : EReal))
    (eg : ∀ l : Fin 512, ga (ix2 0 l) = gkc (ix2 0 l)) (r l : Fin 512) :
    k0_pay33 (F := Ideal) (k0_pay8 on) (k0_pay25 h w) ga (k0_pay27 h w) (k0_pay28 h w) (k0_pay29 h (k0_pay8 on) w)
        (k0_pay30 h (k0_pay8 on) w) (k0_pay31 h (k0_pay8 on) w) (k0_pay32 h w) (constant S512x128 .f32 0x00000000#32) (ix2 r l)
      = kcAt X M gain wn gkc (R r) l := by
  refine (heads2_apply h (k0_pay8 on) w ga r l (fun k => zAt X M gain wn (R r) ⟨2816 + k.val, by omega⟩)
    (fun k => zAt_real X M gain wn fin _ _ (by dsimp only; omega)) (fun k l => (ones_apply on _).trans (eon k l))
    (fun k => prod_at X M gain wn R h eh w 2816 (by omega) ew r k)).trans ?_
  rw [eg]
  rfl

theorem keys3_at (on : FVec Ideal S128x128 .bf16) (ga : FVec Ideal S1x512 .f32) (fin : Finite M gain wn)
    (eh : ∀ r k, h (ix2 r k) = hAt X M gain (R r) k) (w : FVec Ideal S1024x512 .bf16)
    (ew : ∀ k (l : Fin 512), w (ix2 k l) = wn (ix2 k ⟨2816 + l.val, by omega⟩))
    (eon : ∀ k l : Fin 128, on (ix2 k l) = (if k.val / 64 = l.val / 64 then 1 else 0 : EReal))
    (eg : ∀ l : Fin 512, ga (ix2 0 l) = gkc (ix2 0 l)) (r l : Fin 512) :
    k0_pay34 (F := Ideal) (k0_pay8 on) (k0_pay25 h w) ga (k0_pay27 h w) (k0_pay28 h w) (k0_pay29 h (k0_pay8 on) w)
        (k0_pay30 h (k0_pay8 on) w) (k0_pay31 h (k0_pay8 on) w) (k0_pay32 h w) (constant S512x128 .f32 0x00000000#32) (ix2 r l)
      = kcAt X M gain wn gkc (R r) l := by
  refine Eq.trans ?_ (keys2_at X M gain wn gkc R h on ga fin eh w ew eon eg r l)
  rfl

theorem means_at (on : FVec Ideal S128x128 .bf16) (ga : FVec Ideal S1x512 .f32) (fin : Finite M gain wn)
    (eh : ∀ r k, h (ix2 r k) = hAt X M gain (R r) k) (w : FVec Ideal S1024x512 .bf16)
    (ew : ∀ k (l : Fin 512), w (ix2 k l) = wn (ix2 k ⟨2816 + l.val, by omega⟩))
    (eon : ∀ k l : Fin 128, on (ix2 k l) = (if k.val / 64 = l.val / 64 then 1 else 0 : EReal))
    (eg : ∀ l : Fin 512, ga (ix2 0 l) = gkc (ix2 0 l)) (n : Fin 2) (l : Fin 512) :
    k0_pay35 (F := Ideal) (k0_pay8 on) (k0_pay25 h w) ga (k0_pay27 h w) (k0_pay28 h w) (k0_pay29 h (k0_pay8 on) w)
        (k0_pay30 h (k0_pay8 on) w) (k0_pay31 h (k0_pay8 on) w) (k0_pay32 h w) (constant S512x128 .f32 0x00000000#32) (ix3 0 n l)
      = Ideal.div (∑ i : Fin 256, kcAt X M gain wn gkc (R ⟨n.val * 256 + i.val, by omega⟩) l) (Ideal.ofBits .f32 0x43800000#32) := by
  rw [means_apply]
  exact congrArg (fun a => Ideal.div a _) (Finset.sum_congr rfl fun i _ => keys2_at X M gain wn gkc R h on ga fin eh w ew eon eg _ l)

theorem gate_at (eh : ∀ r k, h (ix2 r k) = hAt X M gain (R r) k) (w : FVec Ideal S1024x512 .bf16) (o : Nat) (ho : o + 512 ≤ 3072)
    (ew : ∀ k (l : Fin 512), w (ix2 k l) = wn (ix2 k ⟨3328 + o + l.val, by omega⟩)) (x : S512x512.Idx)
    (r : Fin 512) (j : Fin 3072) (er : r.val = (x 0).val) (ej : j.val = o + (x 1).val) :
    k0_pay25 (F := Ideal) h w x = zAt X M gain wn (R r) ⟨3328 + j.val, by omega⟩ := by
  obtain ⟨q, l, rfl⟩ : ∃ (q : Fin 512) (l : Fin 512), x = ix2 q l := ⟨x 0, x 1, by idx_vars x⟩
  obtain rfl : r = q := Fin.ext er
  have ej' : j.val = o + l.val := ej
  rw [show (⟨3328 + j.val, by omega⟩ : Fin 6400) = ⟨3328 + o + l.val, by omega⟩ from Fin.ext (by dsimp only; omega)]
  exact prod_at X M gain wn R h eh w (3328 + o) (by omega) ew r l

theorem turned_at (eh : ∀ r k, h (ix2 r k) = hAt X M gain (R r) k) (w : FVec Ideal S512x1024 .bf16) (g : FVec Ideal S512x1 .f32)
    (ew : ∀ (l : Fin 512) k, w (ix2 l k) = wt (ix2 ⟨l.val, by omega⟩ k)) (eg : ∀ l : Fin 512, g (ix2 l 0) = gqc (ix2 l 0))
    (l s : Fin 512) :
    k0_pay1 (F := Ideal) g (k0_pay42 h w) (k0_pay43 h w) (k0_pay44 (F := Ideal)) (ix2 l s) = qcAt X M gain wt gqc (R s) l := by
  rw [turned_apply, eg]
  simp only [eh, ew]
  rfl

theorem turnedV_at (eh : ∀ r k, h (ix2 r k) = hAt X M gain (R r) k) (w : FVec Ideal S512x1024 .bf16)
    (ew : ∀ (l : Fin 512) k, w (ix2 l k) = wt (ix2 ⟨512 + l.val, by omega⟩ k)) (l s : Fin 512) :
    k0_pay2 (F := Ideal) h w (ix2 l s) = tAt X M gain wt ⟨512 + l.val, by omega⟩ (R s) := by
  rw [values_apply]
  simp only [eh, ew]
  rfl

theorem firstQueries_at (eh : ∀ r k, h (ix2 r k) = hAt X M gain (R r) k) (w : FVec Ideal S512x1024 .bf16) (g : FVec Ideal S512x1 .f32)
    (ew : ∀ (l : Fin 512) k, w (ix2 l k) = wt (ix2 ⟨l.val, by omega⟩ k)) (eg : ∀ l : Fin 512, g (ix2 l 0) = gqc (ix2 l 0))
    (x : S1x1x512x256.Idx) (l : Fin 512) (s : Fin 256) (r : Fin 32768) (el : l.val = (x 2).val) (es : s.val = (x 3).val)
    (er : r.val = (R ⟨s.val, by omega⟩).val) :
    k0_pay3 (F := Ideal) g (k0_pay42 h w) (k0_pay43 h w) (k0_pay44 (F := Ideal)) x = qcAt X M gain wt gqc r l := by
  obtain ⟨a, b, p, q, rfl⟩ : ∃ (a b : Fin 1) (p : Fin 512) (q : Fin 256), x = ix4 a b p q := ⟨x 0, x 1, x 2, x 3, by idx_vars x⟩
  obtain rfl : a = 0 := Subsingleton.elim _ _
  obtain rfl : b = 0 := Subsingleton.elim _ _
  obtain rfl : l = p := Fin.ext el
  obtain rfl : s = q := Fin.ext es
  rw [Fin.ext er]
  exact (queries0_apply _ _ _ _ l s).trans (turned_at X M gain wt gqc R h eh w g ew eg l _)

theorem firstValues_at (eh : ∀ r k, h (ix2 r k) = hAt X M gain (R r) k) (w : FVec Ideal S512x1024 .bf16)
    (ew : ∀ (l : Fin 512) k, w (ix2 l k) = wt (ix2 ⟨512 + l.val, by omega⟩ k))
    (x : S1x1x512x256.Idx) (l : Fin 512) (s : Fin 256) (r : Fin 32768) (el : l.val = (x 2).val) (es : s.val = (x 3).val)
    (er : r.val = (R ⟨s.val, by omega⟩).val) :
    k0_pay4 (F := Ideal) h w x = tAt X M gain wt ⟨512 + l.val, by omega⟩ r := by
  obtain ⟨a, b, p, q, rfl⟩ : ∃ (a b : Fin 1) (p : Fin 512) (q : Fin 256), x = ix4 a b p q := ⟨x 0, x 1, x 2, x 3, by idx_vars x⟩
  obtain rfl : a = 0 := Subsingleton.elim _ _
  obtain rfl : b = 0 := Subsingleton.elim _ _
  obtain rfl : l = p := Fin.ext el
  obtain rfl : s = q := Fin.ext es
  rw [Fin.ext er]
  exact (values0_apply h w l s).trans (turnedV_at X M gain wt R h eh w ew l _)

theorem secondQueries_at (eh : ∀ r k, h (ix2 r k) = hAt X M gain (R r) k) (w : FVec Ideal S512x1024 .bf16) (g : FVec Ideal S512x1 .f32)
    (ew : ∀ (l : Fin 512) k, w (ix2 l k) = wt (ix2 ⟨l.val, by omega⟩ k)) (eg : ∀ l : Fin 512, g (ix2 l 0) = gqc (ix2 l 0))
    (x : S1x1x512x256.Idx) (l : Fin 512) (s : Fin 256) (r : Fin 32768) (el : l.val = (x 2).val) (es : s.val = (x 3).val)
    (er : r.val = (R ⟨256 + s.val, by omega⟩).val) :
    k0_pay5 (F := Ideal) g (k0_pay42 h w) (k0_pay43 h w) (k0_pay44 (F := Ideal)) x = qcAt X M gain wt gqc r l := by
  obtain ⟨a, b, p, q, rfl⟩ : ∃ (a b : Fin 1) (p : Fin 512) (q : Fin 256), x = ix4 a b p q := ⟨x 0, x 1, x 2, x 3, by idx_vars x⟩
  obtain rfl : a = 0 := Subsingleton.elim _ _
  obtain rfl : b = 0 := Subsingleton.elim _ _
  obtain rfl : l = p := Fin.ext el
  obtain rfl : s = q := Fin.ext es
  rw [Fin.ext er]
  exact (queries1_apply _ _ _ _ l s).trans (turned_at X M gain wt gqc R h eh w g ew eg l _)

theorem secondValues_at (eh : ∀ r k, h (ix2 r k) = hAt X M gain (R r) k) (w : FVec Ideal S512x1024 .bf16)
    (ew : ∀ (l : Fin 512) k, w (ix2 l k) = wt (ix2 ⟨512 + l.val, by omega⟩ k))
    (x : S1x1x512x256.Idx) (l : Fin 512) (s : Fin 256) (r : Fin 32768) (el : l.val = (x 2).val) (es : s.val = (x 3).val)
    (er : r.val = (R ⟨256 + s.val, by omega⟩).val) :
    k0_pay6 (F := Ideal) h w x = tAt X M gain wt ⟨512 + l.val, by omega⟩ r := by
  obtain ⟨a, b, p, q, rfl⟩ : ∃ (a b : Fin 1) (p : Fin 512) (q : Fin 256), x = ix4 a b p q := ⟨x 0, x 1, x 2, x 3, by idx_vars x⟩
  obtain rfl : a = 0 := Subsingleton.elim _ _
  obtain rfl : b = 0 := Subsingleton.elim _ _
  obtain rfl : l = p := Fin.ext el
  obtain rfl : s = q := Fin.ext es
  rw [Fin.ext er]
  exact (values1_apply h w l s).trans (turnedV_at X M gain wt R h eh w ew l _)

end Rest

variable (m : (ℓ : Loc nD τ sig) → Buf (Elt Ideal) ℓ)

theorem blk1' (c : Dev nD) (t : Fin cfg0.N) (q : Fin 512) (l : Fin 6144) : iblk m c 1 t (ix3 0 0 l)
    = m ((c : Thread nD τ).loc main_arg1) (ix3 (n0 := 4) (n1 := 1) (n2 := 6144) ⟨(own t q).val / 8192, by omega⟩ 0 l) := by
  rw [blk1]
  have e : (⟨(grid0.coords t 0).val / 16, by have := coord_lt t; omega⟩ : Fin 4) = ⟨(own t q).val / 8192, by omega⟩ :=
    Fin.ext (by simp only [own_val]; omega)
  exact congrArg (fun n : Fin 4 => m ((c : Thread nD τ).loc main_arg1) (ix3 (n0 := 4) (n1 := 1) (n2 := 6144) n 0 l)) e

end Cert.InprojIdeal.Proj

end
-- ==== Proof.InprojPointA.lean ====
module

public import proofs.«01_k».proof.Proof.InprojParts

@[expose] public section

/-!
What each point of the input projection's grid leaves in the blocks of the first attention and of the two gates, and the whole arrays.
-/

set_option maxRecDepth 16384

noncomputable section

namespace Cert.InprojIdeal.Proj

open Cert.InprojIdeal Cert.InprojIdeal.Gen Idealize.ShloMosaic Idealize.ShloMosaic.TcCoe Idealize.SL.Sem
open Idealize.ShloMosaic.Pipeline (Dat)
open Cert.Rows

variable (m : (ℓ : Loc nD τ sig) → Buf (Elt Ideal) ℓ)

theorem point10 (c : Dev nD) (fin : Finite (m ((c : Thread nD τ).loc main_arg1)) (m ((c : Thread nD τ).loc main_arg2)) (m ((c : Thread nD τ).loc main_arg3))) (t : Fin cfg0.N) (y) :
    out0_10 (iblk m c 0 t) (iblk m c 1 t) (iblk m c 2 t) (iblk m c 3 t) (iblk m c 4 t) (iblk m c 5 t) (iblk m c 6 t) (iblk m c 7 t) (iblk m c 8 t) (iblk m c 9 t) y
    = result10 (m ((c : Thread nD τ).loc main_arg0)) (m ((c : Thread nD τ).loc main_arg1))
      (m ((c : Thread nD τ).loc main_arg2)) (m ((c : Thread nD τ).loc main_arg3)) (m ((c : Thread nD τ).loc main_arg5)) (((cfg0.win 10).blk t).view.emb y) := by
  rw [emb10]
  unfold out0_10 k0_pay49 k0_pay48 k0_pay47 k0_pay46; frame_out
  idx_vars y
  refine queries_at (m ((c : Thread nD τ).loc main_arg0)) (m ((c : Thread nD τ).loc main_arg1))
      (m ((c : Thread nD τ).loc main_arg2)) (m ((c : Thread nD τ).loc main_arg3)) (m ((c : Thread nD τ).loc main_arg5)) (own t) _ _ _ _ _ _ _ fin ?_ ?_ ?_ ?_ y0 y1
  · intro r k
    refine (row_apply _ _ _ _ r k).trans ?_
    unfold hAt
    pointwise [blk0, blk1' m c t r, blk2]
  · intro k l
    pointwise [blk3]
  · intro k l
    pointwise [blk5]
  · intro l
    pointwise [blk6]

theorem final10 (c : Dev nD) (fin : Finite (m ((c : Thread nD τ).loc main_arg1)) (m ((c : Thread nD τ).loc main_arg2)) (m ((c : Thread nD τ).loc main_arg3))) : (dats m 0 c).arrAt 10 cfg0.N
    = result10 (m ((c : Thread nD τ).loc main_arg0)) (m ((c : Thread nD τ).loc main_arg1))
      (m ((c : Thread nD τ).loc main_arg2)) (m ((c : Thread nD τ).loc main_arg3)) (m ((c : Thread nD τ).loc main_arg5)) := by
  refine (dats m 0 c).arrAt_eq_of_covers 10 _ (by decide +kernel) fun t _ y => ?_
  blk_simp
  rw [after0_10]
  exact point10 m c fin t y

theorem point11 (c : Dev nD) (fin : Finite (m ((c : Thread nD τ).loc main_arg1)) (m ((c : Thread nD τ).loc main_arg2)) (m ((c : Thread nD τ).loc main_arg3))) (t : Fin cfg0.N) (y) :
    out0_11 (iblk m c 0 t) (iblk m c 1 t) (iblk m c 2 t) (iblk m c 3 t) (iblk m c 4 t) (iblk m c 5 t) (iblk m c 6 t) (iblk m c 7 t) (iblk m c 8 t) (iblk m c 9 t) y
    = result11 (m ((c : Thread nD τ).loc main_arg0)) (m ((c : Thread nD τ).loc main_arg1))
      (m ((c : Thread nD τ).loc main_arg2)) (m ((c : Thread nD τ).loc main_arg3)) (m ((c : Thread nD τ).loc main_arg6)) (((cfg0.win 11).blk t).view.emb y) := by
  rw [emb11]
  unfold out0_11 k0_pay46 k0_pay45; frame_out
  idx_vars y
  refine keys_at (m ((c : Thread nD τ).loc main_arg0)) (m ((c : Thread nD τ).loc main_arg1))
      (m ((c : Thread nD τ).loc main_arg2)) (m ((c : Thread nD τ).loc main_arg3)) (m ((c : Thread nD τ).loc main_arg6)) (own t) _ _ _ fin ?_ _ ?_ ?_ ?_ y0 y1
  · intro r k
    refine (row_apply _ _ _ _ r k).trans ?_
    unfold hAt
    pointwise [blk0, blk1' m c t r, blk2]
  · intro k l
    pointwise [blk3]
  · intro k l
    pointwise [blk5]
  · intro l
    pointwise [blk7]

theorem final11 (c : Dev nD) (fin : Finite (m ((c : Thread nD τ).loc main_arg1)) (m ((c : Thread nD τ).loc main_arg2)) (m ((c : Thread nD τ).loc main_arg3))) : (dats m 0 c).arrAt 11 cfg0.N
    = result11 (m ((c : Thread nD τ).loc main_arg0)) (m ((c : Thread nD τ).loc main_arg1))
      (m ((c : Thread nD τ).loc main_arg2)) (m ((c : Thread nD τ).loc main_arg3)) (m ((c : Thread nD τ).loc main_arg6)) := by
  refine (dats m 0 c).arrAt_eq_of_covers 11 _ (by decide +kernel) fun t _ y => ?_
  blk_simp
  rw [after0_11]
  exact point11 m c fin t y

theorem point12 (c : Dev nD) (t : Fin cfg0.N) (y) :
    out0_12 (iblk m c 0 t) (iblk m c 1 t) (iblk m c 2 t) (iblk m c 3 t) (iblk m c 4 t) (iblk m c 5 t) (iblk m c 6 t) (iblk m c 7 t) (iblk m c 8 t) (iblk m c 9 t) y
    = result12 (m ((c : Thread nD τ).loc main_arg0)) (m ((c : Thread nD τ).loc main_arg1))
      (m ((c : Thread nD τ).loc main_arg2)) (m ((c : Thread nD τ).loc main_arg3)) (((cfg0.win 12).blk t).view.emb y) := by
  rw [emb12]
  unfold out0_12 k0_pay45; frame_out
  idx_vars y
  refine value_at (m ((c : Thread nD τ).loc main_arg0)) (m ((c : Thread nD τ).loc main_arg1))
      (m ((c : Thread nD τ).loc main_arg2)) (m ((c : Thread nD τ).loc main_arg3)) (own t) _ ?_ _ ?_ y0 y1
  · intro r k
    refine (row_apply _ _ _ _ r k).trans ?_
    unfold hAt
    pointwise [blk0, blk1' m c t r, blk2]
  · intro k l
    pointwise [blk3]

theorem final12 (c : Dev nD) : (dats m 0 c).arrAt 12 cfg0.N
    = result12 (m ((c : Thread nD τ).loc main_arg0)) (m ((c : Thread nD τ).loc main_arg1))
      (m ((c : Thread nD τ).loc main_arg2)) (m ((c : Thread nD τ).loc main_arg3)) := by
  refine (dats m 0 c).arrAt_eq_of_covers 12 _ (by decide +kernel) fun t _ y => ?_
  blk_simp
  rw [after0_12]
  exact point12 m c t y

theorem point13 (c : Dev nD) (t : Fin cfg0.N) (y) :
    out0_13 (iblk m c 0 t) (iblk m c 1 t) (iblk m c 2 t) (iblk m c 3 t) (iblk m c 4 t) (iblk m c 5 t) (iblk m c 6 t) (iblk m c 7 t) (iblk m c 8 t) (iblk m c 9 t) y
    = result13 (m ((c : Thread nD τ).loc main_arg0)) (m ((c : Thread nD τ).loc main_arg1))
      (m ((c : Thread nD τ).loc main_arg2)) (m ((c : Thread nD τ).loc main_arg3)) (((cfg0.win 13).blk t).view.emb y) := by
  rw [emb13]
  unfold out0_13 k0_pay45; frame_out
  idx_vars y
  refine wide_at (m ((c : Thread nD τ).loc main_arg0)) (m ((c : Thread nD τ).loc main_arg1))
      (m ((c : Thread nD τ).loc main_arg2)) (m ((c : Thread nD τ).loc main_arg3)) (own t) _ ?_ _ ?_ y0 y1
  · intro r k
    refine (row_apply _ _ _ _ r k).trans ?_
    unfold hAt
    pointwise [blk0, blk1' m c t r, blk2]
  · intro k l
    pointwise [blk3]

theorem final13 (c : Dev nD) : (dats m 0 c).arrAt 13 cfg0.N
    = result13 (m ((c : Thread nD τ).loc main_arg0)) (m ((c : Thread nD τ).loc main_arg1))
      (m ((c : Thread nD τ).loc main_arg2)) (m ((c : Thread nD τ).loc main_arg3)) := by
  refine (dats m 0 c).arrAt_eq_of_covers 13 _ (by decide +kernel) fun t _ y => ?_
  blk_simp
  rw [after0_13]
  exact point13 m c t y

theorem point14 (c : Dev nD) (t : Fin cfg0.N) (y) :
    out0_14 (iblk m c 0 t) (iblk m c 1 t) (iblk m c 2 t) (iblk m c 3 t) (iblk m c 4 t) (iblk m c 5 t) (iblk m c 6 t) (iblk m c 7 t) (iblk m c 8 t) (iblk m c 9 t) y
    = result14 (m ((c : Thread nD τ).loc main_arg0)) (m ((c : Thread nD τ).loc main_arg1))
      (m ((c : Thread nD τ).loc main_arg2)) (m ((c : Thread nD τ).loc main_arg3)) (((cfg0.win 14).blk t).view.emb y) := by
  rw [emb14]
  unfold out0_14 k0_pay45; frame_out
  idx_vars y
  refine wide2_at (m ((c : Thread nD τ).loc main_arg0)) (m ((c : Thread nD τ).loc main_arg1))
      (m ((c : Thread nD τ).loc main_arg2)) (m ((c : Thread nD τ).loc main_arg3)) (own t) _ ?_ _ ?_ y0 y1
  · intro r k
    refine (row_apply _ _ _ _ r k).trans ?_
    unfold hAt
    pointwise [blk0, blk1' m c t r, blk2]
  · intro k l
    pointwise [blk3]

theorem final14 (c : Dev nD) : (dats m 0 c).arrAt 14 cfg0.N
    = result14 (m ((c : Thread nD τ).loc main_arg0)) (m ((c : Thread nD τ).loc main_arg1))
      (m ((c : Thread nD τ).loc main_arg2)) (m ((c : Thread nD τ).loc main_arg3)) := by
  refine (dats m 0 c).arrAt_eq_of_covers 14 _ (by decide +kernel) fun t _ y => ?_
  blk_simp
  rw [after0_14]
  exact point14 m c t y

end Cert.InprojIdeal.Proj

end
-- ==== Proof.InprojPointB.lean ====
module

public import proofs.«01_k».proof.Proof.InprojParts

@[expose] public section

/-!
What each point of the input projection's grid leaves in the blocks of the second attention's keys and their means, and the whole arrays.
-/

set_option maxRecDepth 16384

noncomputable section

namespace Cert.InprojIdeal.Proj

open Cert.InprojIdeal Cert.InprojIdeal.Gen Idealize.ShloMosaic Idealize.ShloMosaic.TcCoe Idealize.SL.Sem
open Idealize.ShloMosaic.Pipeline (Dat)
open Cert.Rows

variable (m : (ℓ : Loc nD τ sig) → Buf (Elt Ideal) ℓ)

theorem point15 (c : Dev nD) (fin : Finite (m ((c : Thread nD τ).loc main_arg1)) (m ((c : Thread nD τ).loc main_arg2)) (m ((c : Thread nD τ).loc main_arg3))) (t : Fin cfg0.N) (y) :
    out0_15 (iblk m c 0 t) (iblk m c 1 t) (iblk m c 2 t) (iblk m c 3 t) (iblk m c 4 t) (iblk m c 5 t) (iblk m c 6 t) (iblk m c 7 t) (iblk m c 8 t) (iblk m c 9 t) y
    = result15 (m ((c : Thread nD τ).loc main_arg0)) (m ((c : Thread nD τ).loc main_arg1))
      (m ((c : Thread nD τ).loc main_arg2)) (m ((c : Thread nD τ).loc main_arg3)) (m ((c : Thread nD τ).loc main_arg7)) (((cfg0.win 15).blk t).view.emb y) := by
  rw [emb15]
  unfold out0_15 k0_pay57 k0_pay56 k0_pay55 k0_pay54 k0_pay53 k0_pay52 k0_pay51 k0_pay50 k0_pay46 k0_pay45; frame_out
  idx_vars y
  refine keys3_at (m ((c : Thread nD τ).loc main_arg0)) (m ((c : Thread nD τ).loc main_arg1))
      (m ((c : Thread nD τ).loc main_arg2)) (m ((c : Thread nD τ).loc main_arg3)) (m ((c : Thread nD τ).loc main_arg7)) (own t) _ _ _ fin ?_ _ ?_ ?_ ?_ y0 y1
  · intro r k
    refine (row_apply _ _ _ _ r k).trans ?_
    unfold hAt
    pointwise [blk0, blk1' m c t r, blk2]
  · intro k l
    pointwise [blk3]
  · intro k l
    pointwise [blk5]
  · intro l
    pointwise [blk8]

theorem final15 (c : Dev nD) (fin : Finite (m ((c : Thread nD τ).loc main_arg1)) (m ((c : Thread nD τ).loc main_arg2)) (m ((c : Thread nD τ).loc main_arg3))) : (dats m 0 c).arrAt 15 cfg0.N
    = result15 (m ((c : Thread nD τ).loc main_arg0)) (m ((c : Thread nD τ).loc main_arg1))
      (m ((c : Thread nD τ).loc main_arg2)) (m ((c : Thread nD τ).loc main_arg3)) (m ((c : Thread nD τ).loc main_arg7)) := by
  refine (dats m 0 c).arrAt_eq_of_covers 15 _ (by decide +kernel) fun t _ y => ?_
  blk_simp
  rw [after0_15]
  exact point15 m c fin t y

theorem point16 (c : Dev nD) (fin : Finite (m ((c : Thread nD τ).loc main_arg1)) (m ((c : Thread nD τ).loc main_arg2)) (m ((c : Thread nD τ).loc main_arg3))) (t : Fin cfg0.N) (y) :
    out0_16 (iblk m c 0 t) (iblk m c 1 t) (iblk m c 2 t) (iblk m c 3 t) (iblk m c 4 t) (iblk m c 5 t) (iblk m c 6 t) (iblk m c 7 t) (iblk m c 8 t) (iblk m c 9 t) y
    = result16 (m ((c : Thread nD τ).loc main_arg0)) (m ((c : Thread nD τ).loc main_arg1))
      (m ((c : Thread nD τ).loc main_arg2)) (m ((c : Thread nD τ).loc main_arg3)) (m ((c : Thread nD τ).loc main_arg7)) (((cfg0.win 16).blk t).view.emb y) := by
  rw [emb16]
  unfold out0_16 k0_pay57 k0_pay56 k0_pay55 k0_pay54 k0_pay53 k0_pay52 k0_pay51 k0_pay50 k0_pay46 k0_pay45; frame_out
  idx_vars y
  try obtain rfl : y0 = 0 := Subsingleton.elim _ _
  refine (means_at (m ((c : Thread nD τ).loc main_arg0)) (m ((c : Thread nD τ).loc main_arg1))
      (m ((c : Thread nD τ).loc main_arg2)) (m ((c : Thread nD τ).loc main_arg3)) (m ((c : Thread nD τ).loc main_arg7)) (own t) _ _ _ fin ?_ _ ?_ ?_ ?_ y1 y2).trans ?_
  · intro r k
    refine (row_apply _ _ _ _ r k).trans ?_
    unfold hAt
    pointwise [blk0, blk1' m c t r, blk2]
  · intro k l
    pointwise [blk3]
  · intro k l
    pointwise [blk5]
  · intro l
    pointwise [blk8]
  · refine congrArg (fun a => Ideal.div a _) (Finset.sum_congr rfl fun i _ => ?_)
    exact congrArg (fun r => kcAt _ _ _ _ _ r y2) (Fin.ext (by rw [own_val]; exact (Nat.add_assoc _ _ _).symm))

theorem final16 (c : Dev nD) (fin : Finite (m ((c : Thread nD τ).loc main_arg1)) (m ((c : Thread nD τ).loc main_arg2)) (m ((c : Thread nD τ).loc main_arg3))) : (dats m 0 c).arrAt 16 cfg0.N
    = result16 (m ((c : Thread nD τ).loc main_arg0)) (m ((c : Thread nD τ).loc main_arg1))
      (m ((c : Thread nD τ).loc main_arg2)) (m ((c : Thread nD τ).loc main_arg3)) (m ((c : Thread nD τ).loc main_arg7)) := by
  refine (dats m 0 c).arrAt_eq_of_covers 16 _ (by decide +kernel) fun t _ y => ?_
  blk_simp
  rw [after0_16]
  exact point16 m c fin t y

end Cert.InprojIdeal.Proj

end
-- ==== Proof.InprojPointC.lean ====
module

public import proofs.«01_k».proof.Proof.InprojParts

@[expose] public section

/-!
What each point of the input projection's grid leaves in the block of the three attentions' gates, and the whole array.
-/

set_option maxRecDepth 16384

noncomputable section

namespace Cert.InprojIdeal.Proj

open Cert.InprojIdeal Cert.InprojIdeal.Gen Idealize.ShloMosaic Idealize.ShloMosaic.TcCoe Idealize.SL.Sem
open Idealize.ShloMosaic.Pipeline (Dat)
open Cert.Rows

variable (m : (ℓ : Loc nD τ sig) → Buf (Elt Ideal) ℓ)

theorem point17 (c : Dev nD) (t : Fin cfg0.N) (y) :
    out0_17 (iblk m c 0 t) (iblk m c 1 t) (iblk m c 2 t) (iblk m c 3 t) (iblk m c 4 t) (iblk m c 5 t) (iblk m c 6 t) (iblk m c 7 t) (iblk m c 8 t) (iblk m c 9 t) y
    = result17 (m ((c : Thread nD τ).loc main_arg0)) (m ((c : Thread nD τ).loc main_arg1))
      (m ((c : Thread nD τ).loc main_arg2)) (m ((c : Thread nD τ).loc main_arg3)) (((cfg0.win 17).blk t).view.emb y) := by
  rw [emb17]
  unfold out0_17 k0_pay45
  canon_tiles x h
  case piece0 =>
    open_payloads
    refine gate_at (m ((c : Thread nD τ).loc main_arg0)) (m ((c : Thread nD τ).loc main_arg1))
      (m ((c : Thread nD τ).loc main_arg2)) (m ((c : Thread nD τ).loc main_arg3)) (own t) _ ?_ _ 2560 (by omega) ?_ x (y 0) (y 1) h0 h1
    · intro r k
      refine (row_apply _ _ _ _ r k).trans ?_
      unfold hAt
      pointwise [blk0, blk1' m c t r, blk2]
    · intro k l
      pointwise [blk3]
  case piece1 =>
    open_payloads
    refine gate_at (m ((c : Thread nD τ).loc main_arg0)) (m ((c : Thread nD τ).loc main_arg1))
      (m ((c : Thread nD τ).loc main_arg2)) (m ((c : Thread nD τ).loc main_arg3)) (own t) _ ?_ _ 2048 (by omega) ?_ x (y 0) (y 1) h0 h1
    · intro r k
      refine (row_apply _ _ _ _ r k).trans ?_
      unfold hAt
      pointwise [blk0, blk1' m c t r, blk2]
    · intro k l
      pointwise [blk3]
  case piece2 =>
    open_payloads
    refine gate_at (m ((c : Thread nD τ).loc main_arg0)) (m ((c : Thread nD τ).loc main_arg1))
      (m ((c : Thread nD τ).loc main_arg2)) (m ((c : Thread nD τ).loc main_arg3)) (own t) _ ?_ _ 1536 (by omega) ?_ x (y 0) (y 1) h0 h1
    · intro r k
      refine (row_apply _ _ _ _ r k).trans ?_
      unfold hAt
      pointwise [blk0, blk1' m c t r, blk2]
    · intro k l
      pointwise [blk3]
  case piece3 =>
    open_payloads
    refine gate_at (m ((c : Thread nD τ).loc main_arg0)) (m ((c : Thread nD τ).loc main_arg1))
      (m ((c : Thread nD τ).loc main_arg2)) (m ((c : Thread nD τ).loc main_arg3)) (own t) _ ?_ _ 1024 (by omega) ?_ x (y 0) (y 1) h0 h1
    · intro r k
      refine (row_apply _ _ _ _ r k).trans ?_
      unfold hAt
      pointwise [blk0, blk1' m c t r, blk2]
    · intro k l
      pointwise [blk3]
  case piece4 =>
    open_payloads
    refine gate_at (m ((c : Thread nD τ).loc main_arg0)) (m ((c : Thread nD τ).loc main_arg1))
      (m ((c : Thread nD τ).loc main_arg2)) (m ((c : Thread nD τ).loc main_arg3)) (own t) _ ?_ _ 512 (by omega) ?_ x (y 0) (y 1) h0 h1
    · intro r k
      refine (row_apply _ _ _ _ r k).trans ?_
      unfold hAt
      pointwise [blk0, blk1' m c t r, blk2]
    · intro k l
      pointwise [blk3]
  case piece5 =>
    open_payloads
    refine gate_at (m ((c : Thread nD τ).loc main_arg0)) (m ((c : Thread nD τ).loc main_arg1))
      (m ((c : Thread nD τ).loc main_arg2)) (m ((c : Thread nD τ).loc main_arg3)) (own t) _ ?_ _ 0 (by omega) ?_ x (y 0) (y 1) h0 (h1.trans (Nat.zero_add _).symm)
    · intro r k
      refine (row_apply _ _ _ _ r k).trans ?_
      unfold hAt
      pointwise [blk0, blk1' m c t r, blk2]
    · intro k l
      pointwise [blk3]

theorem final17 (c : Dev nD) : (dats m 0 c).arrAt 17 cfg0.N
    = result17 (m ((c : Thread nD τ).loc main_arg0)) (m ((c : Thread nD τ).loc main_arg1))
      (m ((c : Thread nD τ).loc main_arg2)) (m ((c : Thread nD τ).loc main_arg3)) := by
  refine (dats m 0 c).arrAt_eq_of_covers 17 _ (by decide +kernel) fun t _ y => ?_
  blk_simp
  rw [after0_17]
  exact point17 m c t y

end Cert.InprojIdeal.Proj

end
-- ==== Proof.InprojPointD.lean ====
module

public import proofs.«01_k».proof.Proof.InprojParts

@[expose] public section

/-!
What each point of the input projection's grid leaves in the transposed blocks of the second attention, and the whole arrays.
-/

set_option maxRecDepth 16384

noncomputable section

namespace Cert.InprojIdeal.Proj

open Cert.InprojIdeal Cert.InprojIdeal.Gen Idealize.ShloMosaic Idealize.ShloMosaic.TcCoe Idealize.SL.Sem
open Idealize.ShloMosaic.Pipeline (Dat)
open Cert.Rows

variable (m : (ℓ : Loc nD τ sig) → Buf (Elt Ideal) ℓ)

theorem placed_own (t : Fin cfg0.N) (n : Fin 2) (p : Fin 256) (k : Nat) (e : n.val = k) (q : Fin 512) (eq : q.val = 256 * k + p.val) :
    (placed ⟨(grid0.coords t 0).val / 16, by have := coord_lt t; omega⟩ (half t n) p).val = (own t q).val := by
  rw [own_val]
  simp only [placed, half]
  omega

theorem point18 (c : Dev nD) (t : Fin cfg0.N) (y) :
    out0_18 (iblk m c 0 t) (iblk m c 1 t) (iblk m c 2 t) (iblk m c 3 t) (iblk m c 4 t) (iblk m c 5 t) (iblk m c 6 t) (iblk m c 7 t) (iblk m c 8 t) (iblk m c 9 t) y
    = result18 (m ((c : Thread nD τ).loc main_arg0)) (m ((c : Thread nD τ).loc main_arg1))
      (m ((c : Thread nD τ).loc main_arg2)) (m ((c : Thread nD τ).loc main_arg4)) (m ((c : Thread nD τ).loc main_arg8)) (((cfg0.win 18).blk t).view.emb y) := by
  rw [emb18]
  unfold out0_18 k0_pay60 k0_pay59 k0_pay58 k0_pay45
  canon_tiles x h
  case piece0 =>
    open_payloads
    refine secondQueries_at (m ((c : Thread nD τ).loc main_arg0)) (m ((c : Thread nD τ).loc main_arg1))
      (m ((c : Thread nD τ).loc main_arg2)) (m ((c : Thread nD τ).loc main_arg4)) (m ((c : Thread nD τ).loc main_arg8)) (own t) _ ?_ _ _ ?_ ?_ x (y 2) (y 3) _ h2 h3 ?_
    · intro r k
      refine (row_apply _ _ _ _ r k).trans ?_
      unfold hAt
      pointwise [blk0, blk1' m c t r, blk2]
    · intro l k
      pointwise [blk4]
    · intro l
      pointwise [blk9]
    · have e1 : (y 1).val = 1 := by
        have hx : (x 1).val < 1 := (x 1).isLt
        omega
      exact placed_own t (y 1) (y 3) 1 e1 _ rfl
  case piece1 =>
    open_payloads
    refine firstQueries_at (m ((c : Thread nD τ).loc main_arg0)) (m ((c : Thread nD τ).loc main_arg1))
      (m ((c : Thread nD τ).loc main_arg2)) (m ((c : Thread nD τ).loc main_arg4)) (m ((c : Thread nD τ).loc main_arg8)) (own t) _ ?_ _ _ ?_ ?_ x (y 2) (y 3) _ h2 h3 ?_
    · intro r k
      refine (row_apply _ _ _ _ r k).trans ?_
      unfold hAt
      pointwise [blk0, blk1' m c t r, blk2]
    · intro l k
      pointwise [blk4]
    · intro l
      pointwise [blk9]
    · have e1 : (y 1).val = 0 := by
        have hx : (x 1).val < 1 := (x 1).isLt
        omega
      exact placed_own t (y 1) (y 3) 0 e1 _ (by dsimp only; omega)

theorem final18 (c : Dev nD) : (dats m 0 c).arrAt 18 cfg0.N
    = result18 (m ((c : Thread nD τ).loc main_arg0)) (m ((c : Thread nD τ).loc main_arg1))
      (m ((c : Thread nD τ).loc main_arg2)) (m ((c : Thread nD τ).loc main_arg4)) (m ((c : Thread nD τ).loc main_arg8)) := by
  refine (dats m 0 c).arrAt_eq_of_covers 18 _ (by decide +kernel) fun t _ y => ?_
  blk_simp
  rw [after0_18]
  exact point18 m c t y

theorem point19 (c : Dev nD) (t : Fin cfg0.N) (y) :
    out0_19 (iblk m c 0 t) (iblk m c 1 t) (iblk m c 2 t) (iblk m c 3 t) (iblk m c 4 t) (iblk m c 5 t) (iblk m c 6 t) (iblk m c 7 t) (iblk m c 8 t) (iblk m c 9 t) y
    = result19 (m ((c : Thread nD τ).loc main_arg0)) (m ((c : Thread nD τ).loc main_arg1))
      (m ((c : Thread nD τ).loc main_arg2)) (m ((c : Thread nD τ).loc main_arg4)) (((cfg0.win 19).blk t).view.emb y) := by
  rw [emb19]
  unfold out0_19 k0_pay45
  canon_tiles x h
  case piece0 =>
    open_payloads
    refine secondValues_at (m ((c : Thread nD τ).loc main_arg0)) (m ((c : Thread nD τ).loc main_arg1))
      (m ((c : Thread nD τ).loc main_arg2)) (m ((c : Thread nD τ).loc main_arg4)) (own t) _ ?_ _ ?_ x (y 2) (y 3) _ h2 h3 ?_
    · intro r k
      refine (row_apply _ _ _ _ r k).trans ?_
      unfold hAt
      pointwise [blk0, blk1' m c t r, blk2]
    · intro l k
      pointwise [blk4]
    · have e1 : (y 1).val = 1 := by
        have hx : (x 1).val < 1 := (x 1).isLt
        omega
      exact placed_own t (y 1) (y 3) 1 e1 _ rfl
  case piece1 =>
    open_payloads
    refine firstValues_at (m ((c : Thread nD τ).loc main_arg0)) (m ((c : Thread nD τ).loc main_arg1))
      (m ((c : Thread nD τ).loc main_arg2)) (m ((c : Thread nD τ).loc main_arg4)) (own t) _ ?_ _ ?_ x (y 2) (y 3) _ h2 h3 ?_
    · intro r k
      refine (row_apply _ _ _ _ r k).trans ?_
      unfold hAt
      pointwise [blk0, blk1' m c t r, blk2]
    · intro l k
      pointwise [blk4]
    · have e1 : (y 1).val = 0 := by
        have hx : (x 1).val < 1 := (x 1).isLt
        omega
      exact placed_own t (y 1) (y 3) 0 e1 _ (by dsimp only; omega)

theorem final19 (c : Dev nD) : (dats m 0 c).arrAt 19 cfg0.N
    = result19 (m ((c : Thread nD τ).loc main_arg0)) (m ((c : Thread nD τ).loc main_arg1))
      (m ((c : Thread nD τ).loc main_arg2)) (m ((c : Thread nD τ).loc main_arg4)) := by
  refine (dats m 0 c).arrAt_eq_of_covers 19 _ (by decide +kernel) fun t _ y => ?_
  blk_simp
  rw [after0_19]
  exact point19 m c t y

end Cert.InprojIdeal.Proj

end
-- ==== Proof.InprojTerms.lean ====
module

public import proofs.«01_k».proof.Proof.InprojBlocks
public import proofs.«01_k».proof.Proof.Gen.InprojRefIdeal.Run

@[expose] public section

/-!
The reference's input projection, element by element.
-/

set_option maxRecDepth 16384

noncomputable section

namespace Cert.InprojRefIdeal.Proj

open Cert.InprojRefIdeal Idealize.ShloMosaic Idealize.ShloMosaic.TcCoe Idealize.SL.Sem
open Cert.InprojRefIdeal.Facts₀ Cert.InprojRefIdeal.Facts

/-- The input as four sequences. -/
def rows (X : FVec Ideal S32768x1024 .f32) : FVec Ideal S4x8192x1024 .f32 :=
  shapeCast _ X shapeCasts_S32768x1024_S4x8192x1024

/-- The reciprocal root of the mean square of each row. -/
def root (Y : FVec Ideal S4x8192x1024 .f32) : FVec Ideal S4x8192x1 .f32 :=
  Host.rsqrt (addf (Host.divf (broadcastInDim S4x8192x1 ![0, 1] bcast_S4x8192_S4x8192x1_0_1 (Host.reduceAdd (mulf Y Y) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))

/-- The normalized and modulated input. -/
def normed (Y : FVec Ideal S4x8192x1024 .f32) (R : FVec Ideal S4x8192x1 .f32) (M : FVec Ideal S4x1x6144 .f32)
    (gain : FVec Ideal S1x1024 .f32) : FVec Ideal S4x8192x1024 .f32 :=
  addf (mulf (mulf (mulf Y (broadcastInDim S4x8192x1024 ![0, 1, 2] bcast_S4x8192x1_S4x8192x1024_0_1_2 R)) (broadcastInDim S4x8192x1024 ![0, 1, 2] bcast_S1x1x1024_S4x8192x1024_0_1_2 (broadcastInDim S1x1x1024 ![2] bcast_S1024_S1x1x1024_2 (shapeCast _ gain shapeCasts_S1x1024_S1024)))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 1024] M slices_S4x1x6144_S4x1x1024_0_0_1024)))) (broadcastInDim S4x8192x1024 ![0, 1, 2] bcast_S4x1x1024_S4x8192x1024_0_1_2 (extractStridedSlice S4x1x1024 ![0, 0, 0] M slices_S4x1x6144_S4x1x1024_0_0_0))

/-- The products with the columns of the weight. -/
def prod (H : FVec Ideal S4x8192x1024 .f32) (wn : FVec Ideal S1024x6400 .bf16) : FVec Ideal S4x8192x6400 .f32 :=
  Host.dotGeneral dot_S4x8192x1024_S1024x6400_S4x8192x6400_2_0_01_1_n_n none H (extf .f32 wn bitsLt_bf16_f32)

/-- The products with the rows of the transposed weight. -/
def prodT (H : FVec Ideal S4x8192x1024 .f32) (wt : FVec Ideal S1024x1024 .bf16) : FVec Ideal S4x8192x1024 .f32 :=
  Host.dotGeneral dot_S4x8192x1024_S1024x1024_S4x8192x1024_2_1_01_0_n_n none H (extf .f32 wt bitsLt_bf16_f32)

/-- The columns by head, eight heads. -/
def split8 (Q : FVec Ideal S4x8192x512 .f32) : FVec Ideal S4x8192x8x64 .f32 :=
  shapeCast _ Q shapeCasts_S4x8192x512_S4x8192x8x64

/-- The reciprocal root of the mean square of each head. -/
def root8 (Q : FVec Ideal S4x8192x8x64 .f32) : FVec Ideal S4x8192x8x1 .f32 :=
  Host.rsqrt (addf (Host.divf (broadcastInDim S4x8192x8x1 ![0, 1, 2] bcast_S4x8192x8_S4x8192x8x1_0_1_2 (Host.reduceAdd (mulf Q Q) (constant S_ .f32 0x00000000#32) reducesTo_S4x8192x8x64_S4x8192x8_d3 h_S_)) (broadcastInDim S4x8192x8x1 ![] bcast_S_S4x8192x8x1 (constant S_ .f32 0x42800000#32))) (broadcastInDim S4x8192x8x1 ![] bcast_S_S4x8192x8x1 (constant S_ .f32 0x358637BD#32)))

/-- Each head normalized, by its gain. -/
def heads8 (Q : FVec Ideal S4x8192x8x64 .f32) (R : FVec Ideal S4x8192x8x1 .f32) (g : FVec Ideal S8x64 .f32) :
    FVec Ideal S4x8192x512 .f32 :=
  shapeCast _ (mulf (mulf Q (broadcastInDim S4x8192x8x64 ![0, 1, 2, 3] bcast_S4x8192x8x1_S4x8192x8x64_0_1_2_3 R)) (broadcastInDim S4x8192x8x64 ![0, 1, 2, 3] bcast_S1x1x8x64_S4x8192x8x64_0_1_2_3 (broadcastInDim S1x1x8x64 ![2, 3] bcast_S8x64_S1x1x8x64_2_3 g))) shapeCasts_S4x8192x8x64_S4x8192x512

/-- The columns, each normalized by its head. -/
def byHead8 (Q : FVec Ideal S4x8192x512 .f32) (g : FVec Ideal S8x64 .f32) : FVec Ideal S4x8192x512 .f32 :=
  heads8 (split8 Q) (root8 (split8 Q)) g

/-- The columns by head, two heads. -/
def split2 (Q : FVec Ideal S4x8192x128 .f32) : FVec Ideal S4x8192x2x64 .f32 :=
  shapeCast _ Q shapeCasts_S4x8192x128_S4x8192x2x64

/-- The reciprocal root of the mean square of each head. -/
def root2 (Q : FVec Ideal S4x8192x2x64 .f32) : FVec Ideal S4x8192x2x1 .f32 :=
  Host.rsqrt (addf (Host.divf (broadcastInDim S4x8192x2x1 ![0, 1, 2] bcast_S4x8192x2_S4x8192x2x1_0_1_2 (Host.reduceAdd (mulf Q Q) (constant S_ .f32 0x00000000#32) reducesTo_S4x8192x2x64_S4x8192x2_d3 h_S_)) (broadcastInDim S4x8192x2x1 ![] bcast_S_S4x8192x2x1 (constant S_ .f32 0x42800000#32))) (broadcastInDim S4x8192x2x1 ![] bcast_S_S4x8192x2x1 (constant S_ .f32 0x358637BD#32)))

/-- Each head normalized, by its gain. -/
def heads2 (Q : FVec Ideal S4x8192x2x64 .f32) (R : FVec Ideal S4x8192x2x1 .f32) (g : FVec Ideal S2x64 .f32) :
    FVec Ideal S4x8192x128 .f32 :=
  shapeCast _ (mulf (mulf Q (broadcastInDim S4x8192x2x64 ![0, 1, 2, 3] bcast_S4x8192x2x1_S4x8192x2x64_0_1_2_3 R)) (broadcastInDim S4x8192x2x64 ![0, 1, 2, 3] bcast_S1x1x2x64_S4x8192x2x64_0_1_2_3 (broadcastInDim S1x1x2x64 ![2, 3] bcast_S2x64_S1x1x2x64_2_3 g))) shapeCasts_S4x8192x2x64_S4x8192x128

/-- The columns, each normalized by its head. -/
def byHead2 (Q : FVec Ideal S4x8192x128 .f32) (g : FVec Ideal S2x64 .f32) : FVec Ideal S4x8192x128 .f32 :=
  heads2 (split2 Q) (root2 (split2 Q)) g

/-- The scaled columns. -/
def scaled (Q : FVec Ideal S4x8192x512 .f32) : FVec Ideal S4x8192x512 .f32 :=
  mulf Q (broadcastInDim S4x8192x512 ![] bcast_S_S4x8192x512 (constant S_ .f32 0x3E000000#32))

/-- The blocks of 256 rows, each transposed. -/
def blocks (Q : FVec Ideal S4x8192x512 .f32) : FVec Ideal S4x32x512x256 .bf16 :=
  truncf .bf16 (transpose S4x32x512x256 [0, 1, 3, 2] (shapeCast _ Q shapeCasts_S4x8192x512_S4x32x256x512) transposes_S4x32x256x512_S4x32x512x256_0_1_3_2) bitsLt_bf16_f32

/-- The rows of all sequences. -/
def flat512 (Q : FVec Ideal S4x8192x512 .f32) : FVec Ideal S32768x512 .bf16 :=
  truncf .bf16 (shapeCast _ Q shapeCasts_S4x8192x512_S32768x512) bitsLt_bf16_f32

def flat128 (Q : FVec Ideal S4x8192x128 .f32) : FVec Ideal S32768x128 .bf16 :=
  truncf .bf16 (shapeCast _ Q shapeCasts_S4x8192x128_S32768x128) bitsLt_bf16_f32

/-- The means over the rows of each block. -/
def means (Q : FVec Ideal S4x8192x512 .f32) : FVec Ideal S64x2x512 .f32 :=
  shapeCast _ (Host.divf (Host.reduceAdd (shapeCast _ Q shapeCasts_S4x8192x512_S4x32x256x512) (constant S_ .f32 0x00000000#32) reducesTo_S4x32x256x512_S4x32x512_d2 h_S_) (broadcastInDim S4x32x512 ![] bcast_S_S4x32x512 (constant S_ .f32 0x43800000#32))) shapeCasts_S4x32x512_S64x2x512

section Terms

variable (X : FVec Ideal S32768x1024 .f32) (M : FVec Ideal S4x1x6144 .f32) (gain : FVec Ideal S1x1024 .f32)
    (wn : FVec Ideal S1024x6400 .bf16) (wt : FVec Ideal S1024x1024 .bf16) (gqa : FVec Ideal S1x512 .f32)
    (gka : FVec Ideal S1x128 .f32) (gkc : FVec Ideal S1x512 .f32) (gqc : FVec Ideal S512x1 .f32)

/-- The normalized and modulated input of the arguments. -/
def H : FVec Ideal S4x8192x1024 .f32 := normed (rows X) (root (rows X)) M gain

/-- Its products with the columns of the weight. -/
def Z : FVec Ideal S4x8192x6400 .f32 := prod (H X M gain) wn

/-- Its products with the rows of the transposed weight. -/
def ZT : FVec Ideal S4x8192x1024 .f32 := prodT (H X M gain) wt

/-- The ten results. -/
def out0 : FVec Ideal S32768x512 .bf16 :=
  flat512 (scaled (byHead8 (extractStridedSlice S4x8192x512 ![0, 0, 0] (Z X M gain wn) slices_S4x8192x6400_S4x8192x512_0_0_0) (shapeCast _ gqa shapeCasts_S1x512_S8x64)))
def out1 : FVec Ideal S32768x128 .bf16 :=
  flat128 (byHead2 (extractStridedSlice S4x8192x128 ![0, 0, 512] (Z X M gain wn) slices_S4x8192x6400_S4x8192x128_0_0_512) (shapeCast _ gka shapeCasts_S1x128_S2x64))
def out2 : FVec Ideal S32768x128 .bf16 :=
  flat128 (extractStridedSlice S4x8192x128 ![0, 0, 640] (Z X M gain wn) slices_S4x8192x6400_S4x8192x128_0_0_640)
def out3 : FVec Ideal S32768x1024 .f32 :=
  shapeCast _ (extractStridedSlice S4x8192x1024 ![0, 0, 768] (Z X M gain wn) slices_S4x8192x6400_S4x8192x1024_0_0_768) shapeCasts_S4x8192x1024_S32768x1024
def out4 : FVec Ideal S32768x1024 .f32 :=
  shapeCast _ (extractStridedSlice S4x8192x1024 ![0, 0, 1792] (Z X M gain wn) slices_S4x8192x6400_S4x8192x1024_0_0_1792) shapeCasts_S4x8192x1024_S32768x1024
def keys : FVec Ideal S4x8192x512 .f32 :=
  byHead8 (extractStridedSlice S4x8192x512 ![0, 0, 2816] (Z X M gain wn) slices_S4x8192x6400_S4x8192x512_0_0_2816) (shapeCast _ gkc shapeCasts_S1x512_S8x64)
def out5 : FVec Ideal S32768x512 .bf16 := flat512 (keys X M gain wn gkc)
def out6 : FVec Ideal S64x2x512 .f32 := means (keys X M gain wn gkc)
def out7 : FVec Ideal S32768x3072 .f32 :=
  shapeCast _ (extractStridedSlice S4x8192x3072 ![0, 0, 3328] (Z X M gain wn) slices_S4x8192x6400_S4x8192x3072_0_0_3328) shapeCasts_S4x8192x3072_S32768x3072
def out8 : FVec Ideal S4x32x512x256 .bf16 :=
  blocks (scaled (byHead8 (extractStridedSlice S4x8192x512 ![0, 0, 0] (ZT X M gain wt) slices_S4x8192x1024_S4x8192x512_0_0_0) (shapeCast _ gqc shapeCasts_S512x1_S8x64)))
def out9 : FVec Ideal S4x32x512x256 .bf16 :=
  blocks (extractStridedSlice S4x8192x512 ![0, 0, 512] (ZT X M gain wt) slices_S4x8192x1024_S4x8192x512_0_0_512)

end Terms

theorem rows_apply (X : FVec Ideal S32768x1024 .f32) (b : Fin 4) (s : Fin 8192) (k : Fin 1024) :
    rows X (ix3 b s k) = X (ix2 ⟨b.val * 8192 + s.val, by omega⟩ k) := by
  pointwise [rows]

theorem root_apply (Y : FVec Ideal S4x8192x1024 .f32) (b : Fin 4) (s : Fin 8192) (k : Fin 1) :
    root Y (ix3 b s k) = Ideal.rsqrt (Ideal.div (∑ j : Fin 1024, Y (ix3 b s j) * Y (ix3 b s j)) (Ideal.ofBits .f32 0x44800000#32)
      + Ideal.ofBits .f32 0x358637BD#32) := by
  pointwise [root]

theorem normed_apply (Y : FVec Ideal S4x8192x1024 .f32) (R : FVec Ideal S4x8192x1 .f32) (M : FVec Ideal S4x1x6144 .f32)
    (gain : FVec Ideal S1x1024 .f32) (b : Fin 4) (s : Fin 8192) (k : Fin 1024) :
    normed Y R M gain (ix3 b s k) = Y (ix3 b s k) * R (ix3 b s 0) * gain (ix2 0 k) * (1 + M (ix3 b 0 ⟨1024 + k.val, by omega⟩))
      + M (ix3 b 0 ⟨k.val, by omega⟩) := by
  pointwise [normed]

theorem prod_apply (H : FVec Ideal S4x8192x1024 .f32) (wn : FVec Ideal S1024x6400 .bf16) (b : Fin 4) (s : Fin 8192) (j : Fin 6400) :
    prod H wn (ix3 b s j) = ∑ k : Fin 1024, H (ix3 b s k) * wn (ix2 k j) := by
  pointwise [prod]

theorem prodT_apply (H : FVec Ideal S4x8192x1024 .f32) (wt : FVec Ideal S1024x1024 .bf16) (b : Fin 4) (s : Fin 8192) (j : Fin 1024) :
    prodT H wt (ix3 b s j) = ∑ k : Fin 1024, wt (ix2 j k) * H (ix3 b s k) := by
  pointwise [prodT]
  exact Finset.sum_congr rfl fun k _ => mul_comm _ _

theorem split8_apply (Q : FVec Ideal S4x8192x512 .f32) (b : Fin 4) (s : Fin 8192) (n : Fin 8) (e : Fin 64) :
    split8 Q (ix4 b s n e) = Q (ix3 b s ⟨n.val * 64 + e.val, by omega⟩) := by
  pointwise [split8]

theorem root8_apply (Q : FVec Ideal S4x8192x8x64 .f32) (b : Fin 4) (s : Fin 8192) (n : Fin 8) (k : Fin 1) :
    root8 Q (ix4 b s n k) = Rows.root (fun e => Q (ix4 b s n e)) := by
  pointwise [root8, Rows.root]

theorem heads8_apply (Q : FVec Ideal S4x8192x8x64 .f32) (R : FVec Ideal S4x8192x8x1 .f32) (g : FVec Ideal S8x64 .f32)
    (b : Fin 4) (s : Fin 8192) (l : Fin 512) :
    heads8 Q R g (ix3 b s l) = Q (ix4 b s ⟨l.val / 64, by omega⟩ ⟨l.val % 64, by omega⟩) * R (ix4 b s ⟨l.val / 64, by omega⟩ 0)
      * g (ix2 ⟨l.val / 64, by omega⟩ ⟨l.val % 64, by omega⟩) := by
  pointwise [heads8]

theorem byHead8_apply (Q : FVec Ideal S4x8192x512 .f32) (g : FVec Ideal S8x64 .f32) (b : Fin 4) (s : Fin 8192) (l : Fin 512) :
    byHead8 Q g (ix3 b s l) = Q (ix3 b s l) * Rows.root (fun e => Q (ix3 b s ⟨64 * (l.val / 64) + e.val, by omega⟩))
      * g (ix2 ⟨l.val / 64, by omega⟩ ⟨l.val % 64, by omega⟩) := by
  unfold byHead8
  rw [heads8_apply, root8_apply, split8_apply]
  have e1 : (⟨l.val / 64 * 64 + l.val % 64, by omega⟩ : Fin 512) = l := Fin.ext (by dsimp only; omega)
  have e2 : (fun e : Fin 64 => split8 Q (ix4 b s ⟨l.val / 64, by omega⟩ e))
      = fun e => Q (ix3 b s ⟨64 * (l.val / 64) + e.val, by omega⟩) := funext fun e => by
    rw [split8_apply]
    exact congrArg (fun k => Q (ix3 b s k)) (Fin.ext (by dsimp only; omega))
  rw [e1, e2]

theorem split2_apply (Q : FVec Ideal S4x8192x128 .f32) (b : Fin 4) (s : Fin 8192) (n : Fin 2) (e : Fin 64) :
    split2 Q (ix4 b s n e) = Q (ix3 b s ⟨n.val * 64 + e.val, by omega⟩) := by
  pointwise [split2]

theorem root2_apply (Q : FVec Ideal S4x8192x2x64 .f32) (b : Fin 4) (s : Fin 8192) (n : Fin 2) (k : Fin 1) :
    root2 Q (ix4 b s n k) = Rows.root (fun e => Q (ix4 b s n e)) := by
  pointwise [root2, Rows.root]

theorem heads2_apply (Q : FVec Ideal S4x8192x2x64 .f32) (R : FVec Ideal S4x8192x2x1 .f32) (g : FVec Ideal S2x64 .f32)
    (b : Fin 4) (s : Fin 8192) (l : Fin 128) :
    heads2 Q R g (ix3 b s l) = Q (ix4 b s ⟨l.val / 64, by omega⟩ ⟨l.val % 64, by omega⟩) * R (ix4 b s ⟨l.val / 64, by omega⟩ 0)
      * g (ix2 ⟨l.val / 64, by omega⟩ ⟨l.val % 64, by omega⟩) := by
  pointwise [heads2]

theorem byHead2_apply (Q : FVec Ideal S4x8192x128 .f32) (g : FVec Ideal S2x64 .f32) (b : Fin 4) (s : Fin 8192) (l : Fin 128) :
    byHead2 Q g (ix3 b s l) = Q (ix3 b s l) * Rows.root (fun e => Q (ix3 b s ⟨64 * (l.val / 64) + e.val, by omega⟩))
      * g (ix2 ⟨l.val / 64, by omega⟩ ⟨l.val % 64, by omega⟩) := by
  unfold byHead2
  rw [heads2_apply, root2_apply, split2_apply]
  have e1 : (⟨l.val / 64 * 64 + l.val % 64, by omega⟩ : Fin 128) = l := Fin.ext (by dsimp only; omega)
  have e2 : (fun e : Fin 64 => split2 Q (ix4 b s ⟨l.val / 64, by omega⟩ e))
      = fun e => Q (ix3 b s ⟨64 * (l.val / 64) + e.val, by omega⟩) := funext fun e => by
    rw [split2_apply]
    exact congrArg (fun k => Q (ix3 b s k)) (Fin.ext (by dsimp only; omega))
  rw [e1, e2]

theorem scaled_apply (Q : FVec Ideal S4x8192x512 .f32) (b : Fin 4) (s : Fin 8192) (l : Fin 512) :
    scaled Q (ix3 b s l) = Q (ix3 b s l) * Ideal.ofBits .f32 0x3E000000#32 := by
  pointwise [scaled]

theorem blocks_apply (Q : FVec Ideal S4x8192x512 .f32) (b : Fin 4) (n : Fin 32) (l : Fin 512) (p : Fin 256) :
    blocks Q (ix4 b n l p) = Q (ix3 b ⟨n.val * 256 + p.val, by omega⟩ l) := by
  pointwise [blocks]

theorem flat512_apply (Q : FVec Ideal S4x8192x512 .f32) (r : Fin 32768) (l : Fin 512) :
    flat512 Q (ix2 r l) = Q (ix3 ⟨r.val / 8192, by omega⟩ ⟨r.val % 8192, by omega⟩ l) := by
  pointwise [flat512]

theorem flat128_apply (Q : FVec Ideal S4x8192x128 .f32) (r : Fin 32768) (l : Fin 128) :
    flat128 Q (ix2 r l) = Q (ix3 ⟨r.val / 8192, by omega⟩ ⟨r.val % 8192, by omega⟩ l) := by
  pointwise [flat128]

theorem means_apply (Q : FVec Ideal S4x8192x512 .f32) (i : Fin 64) (n : Fin 2) (l : Fin 512) :
    means Q (ix3 i n l) = Ideal.div (∑ p : Fin 256, Q (ix3 ⟨i.val / 16, by omega⟩
      ⟨(i.val % 16 * 2 + n.val) * 256 + p.val, by omega⟩ l)) (Ideal.ofBits .f32 0x43800000#32) := by
  pointwise [means]

end Cert.InprojRefIdeal.Proj

end
-- ==== Proof.InprojEqual.lean ====
module

public import proofs.«01_k».proof.Proof.InprojTerms

@[expose] public section

/-!
The reference's input projection is the kernel's, and its results are the terms its run composes.
-/

set_option maxRecDepth 16384

noncomputable section

namespace Cert.InprojRefIdeal.Proj

open Cert.InprojRefIdeal Idealize.ShloMosaic Idealize.ShloMosaic.TcCoe Idealize.SL.Sem
open Cert.InprojRefIdeal.Facts₀ Cert.InprojRefIdeal.Facts

section Composed

variable (m : (ℓ : Loc nD τ sig) → Buf (Elt Ideal) ℓ) (c : Dev nD)

theorem res0_eq : Value.res_main_v113 m c = out0 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg5)) := rfl
theorem res1_eq : Value.res_main_v115 m c = out1 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg6)) := rfl
theorem res5_eq : Value.res_main_v121 m c = out5 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg7)) := rfl
theorem res6_eq : Value.res_main_v122 m c = out6 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg7)) := rfl
theorem res8_eq : Value.res_main_v126 m c = out8 (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg8)) := rfl

end Composed

section Rows

variable (X : FVec Ideal S32768x1024 .f32) (M : FVec Ideal S4x1x6144 .f32) (gain : FVec Ideal S1x1024 .f32)
    (wn : FVec Ideal S1024x6400 .bf16) (wt : FVec Ideal S1024x1024 .bf16) (gqa : FVec Ideal S1x512 .f32)
    (gka : FVec Ideal S1x128 .f32) (gkc : FVec Ideal S1x512 .f32) (gqc : FVec Ideal S512x1 .f32)

theorem H_eq (r : Fin 32768) (b : Fin 4) (s : Fin 8192) (e : r.val = b.val * 8192 + s.val) (k : Fin 1024) :
    H X M gain (ix3 b s k) = Cert.InprojIdeal.Proj.hAt X M gain r k := by
  unfold H
  rw [normed_apply, root_apply, rows_apply]
  simp only [rows_apply]
  have hr (h : _) : (⟨b.val * 8192 + s.val, h⟩ : Fin 32768) = r := Fin.ext e.symm
  have hb : b = ⟨r.val / 8192, by omega⟩ := Fin.ext (by dsimp only; omega)
  simp only [hr]
  rw [hb]
  rfl

theorem Z_eq (r : Fin 32768) (b : Fin 4) (s : Fin 8192) (e : r.val = b.val * 8192 + s.val) (j : Fin 6400) :
    Z X M gain wn (ix3 b s j) = Cert.InprojIdeal.Proj.zAt X M gain wn r j := by
  unfold Z
  rw [prod_apply]
  unfold Cert.InprojIdeal.Proj.zAt
  exact Finset.sum_congr rfl fun k _ => congrArg (fun z : EReal => z * wn (ix2 k j)) (H_eq X M gain r b s e k)

theorem ZT_eq (r : Fin 32768) (b : Fin 4) (s : Fin 8192) (e : r.val = b.val * 8192 + s.val) (j : Fin 1024) :
    ZT X M gain wt (ix3 b s j) = Cert.InprojIdeal.Proj.tAt X M gain wt j r := by
  unfold ZT
  rw [prodT_apply]
  unfold Cert.InprojIdeal.Proj.tAt
  exact Finset.sum_congr rfl fun k _ => congrArg (fun z : EReal => wt (ix2 j k) * z) (H_eq X M gain r b s e k)

theorem cut0_apply (A : FVec Ideal S4x8192x6400 .f32) (b : Fin 4) (s : Fin 8192) (l : Fin 512) :
    extractStridedSlice S4x8192x512 ![0, 0, 0] A slices_S4x8192x6400_S4x8192x512_0_0_0 (ix3 b s l)
      = A (ix3 b s ⟨l.val, by omega⟩) := by
  pointwise []

theorem cut512_apply (A : FVec Ideal S4x8192x6400 .f32) (b : Fin 4) (s : Fin 8192) (l : Fin 128) :
    extractStridedSlice S4x8192x128 ![0, 0, 512] A slices_S4x8192x6400_S4x8192x128_0_0_512 (ix3 b s l)
      = A (ix3 b s ⟨512 + l.val, by omega⟩) := by
  pointwise []

theorem cut640_apply (A : FVec Ideal S4x8192x6400 .f32) (b : Fin 4) (s : Fin 8192) (l : Fin 128) :
    extractStridedSlice S4x8192x128 ![0, 0, 640] A slices_S4x8192x6400_S4x8192x128_0_0_640 (ix3 b s l)
      = A (ix3 b s ⟨640 + l.val, by omega⟩) := by
  pointwise []

theorem cut768_apply (A : FVec Ideal S4x8192x6400 .f32) (b : Fin 4) (s : Fin 8192) (l : Fin 1024) :
    extractStridedSlice S4x8192x1024 ![0, 0, 768] A slices_S4x8192x6400_S4x8192x1024_0_0_768 (ix3 b s l)
      = A (ix3 b s ⟨768 + l.val, by omega⟩) := by
  pointwise []

theorem cut1792_apply (A : FVec Ideal S4x8192x6400 .f32) (b : Fin 4) (s : Fin 8192) (l : Fin 1024) :
    extractStridedSlice S4x8192x1024 ![0, 0, 1792] A slices_S4x8192x6400_S4x8192x1024_0_0_1792 (ix3 b s l)
      = A (ix3 b s ⟨1792 + l.val, by omega⟩) := by
  pointwise []

theorem cut2816_apply (A : FVec Ideal S4x8192x6400 .f32) (b : Fin 4) (s : Fin 8192) (l : Fin 512) :
    extractStridedSlice S4x8192x512 ![0, 0, 2816] A slices_S4x8192x6400_S4x8192x512_0_0_2816 (ix3 b s l)
      = A (ix3 b s ⟨2816 + l.val, by omega⟩) := by
  pointwise []

theorem cut3328_apply (A : FVec Ideal S4x8192x6400 .f32) (b : Fin 4) (s : Fin 8192) (l : Fin 3072) :
    extractStridedSlice S4x8192x3072 ![0, 0, 3328] A slices_S4x8192x6400_S4x8192x3072_0_0_3328 (ix3 b s l)
      = A (ix3 b s ⟨3328 + l.val, by omega⟩) := by
  pointwise []

theorem cutT0_apply (A : FVec Ideal S4x8192x1024 .f32) (b : Fin 4) (s : Fin 8192) (l : Fin 512) :
    extractStridedSlice S4x8192x512 ![0, 0, 0] A slices_S4x8192x1024_S4x8192x512_0_0_0 (ix3 b s l)
      = A (ix3 b s ⟨l.val, by omega⟩) := by
  pointwise []

theorem cutT512_apply (A : FVec Ideal S4x8192x1024 .f32) (b : Fin 4) (s : Fin 8192) (l : Fin 512) :
    extractStridedSlice S4x8192x512 ![0, 0, 512] A slices_S4x8192x1024_S4x8192x512_0_0_512 (ix3 b s l)
      = A (ix3 b s ⟨512 + l.val, by omega⟩) := by
  pointwise []

theorem gainQ_apply (g : FVec Ideal S1x512 .f32) (l : Fin 512) :
    shapeCast S8x64 g shapeCasts_S1x512_S8x64 (ix2 ⟨l.val / 64, by omega⟩ ⟨l.val % 64, by omega⟩) = g (ix2 0 l) := by
  pointwise []
  try exact congrArg (fun k => g (ix2 0 k)) (Fin.ext (by dsimp only; omega))

theorem gainK_apply (g : FVec Ideal S1x128 .f32) (l : Fin 128) :
    shapeCast S2x64 g shapeCasts_S1x128_S2x64 (ix2 ⟨l.val / 64, by omega⟩ ⟨l.val % 64, by omega⟩) = g (ix2 0 l) := by
  pointwise []
  try exact congrArg (fun k => g (ix2 0 k)) (Fin.ext (by dsimp only; omega))

theorem gainC_apply (g : FVec Ideal S512x1 .f32) (l : Fin 512) :
    shapeCast S8x64 g shapeCasts_S512x1_S8x64 (ix2 ⟨l.val / 64, by omega⟩ ⟨l.val % 64, by omega⟩) = g (ix2 l 0) := by
  pointwise []
  try exact congrArg (fun k => g (ix2 k 0)) (Fin.ext (by dsimp only; omega))

theorem wide_apply (A : FVec Ideal S4x8192x1024 .f32) (r : Fin 32768) (l : Fin 1024) :
    shapeCast S32768x1024 A shapeCasts_S4x8192x1024_S32768x1024 (ix2 r l)
      = A (ix3 ⟨r.val / 8192, by omega⟩ ⟨r.val % 8192, by omega⟩ l) := by
  pointwise []

theorem wide3_apply (A : FVec Ideal S4x8192x3072 .f32) (r : Fin 32768) (l : Fin 3072) :
    shapeCast S32768x3072 A shapeCasts_S4x8192x3072_S32768x3072 (ix2 r l)
      = A (ix3 ⟨r.val / 8192, by omega⟩ ⟨r.val % 8192, by omega⟩ l) := by
  pointwise []

theorem back (r : Fin 32768) : r.val = r.val / 8192 * 8192 + r.val % 8192 := by omega

theorem out0_eq : out0 X M gain wn gqa = Cert.InprojIdeal.Proj.result10 X M gain wn gqa := by
  funext i
  obtain ⟨r, l, rfl⟩ : ∃ (r : Fin 32768) (l : Fin 512), i = ix2 r l := ⟨i 0, i 1, by idx_vars i⟩
  unfold out0
  rw [flat512_apply, scaled_apply, byHead8_apply, gainQ_apply]
  simp only [cut0_apply, Z_eq X M gain wn r ⟨r.val / 8192, by omega⟩ ⟨r.val % 8192, by omega⟩ (back r)]
  rfl

theorem out1_eq : out1 X M gain wn gka = Cert.InprojIdeal.Proj.result11 X M gain wn gka := by
  funext i
  obtain ⟨r, l, rfl⟩ : ∃ (r : Fin 32768) (l : Fin 128), i = ix2 r l := ⟨i 0, i 1, by idx_vars i⟩
  unfold out1
  rw [flat128_apply, byHead2_apply, gainK_apply]
  simp only [cut512_apply, Z_eq X M gain wn r ⟨r.val / 8192, by omega⟩ ⟨r.val % 8192, by omega⟩ (back r)]
  rfl

theorem out2_eq : out2 X M gain wn = Cert.InprojIdeal.Proj.result12 X M gain wn := by
  funext i
  obtain ⟨r, l, rfl⟩ : ∃ (r : Fin 32768) (l : Fin 128), i = ix2 r l := ⟨i 0, i 1, by idx_vars i⟩
  unfold out2
  rw [flat128_apply, cut640_apply, Z_eq X M gain wn r ⟨r.val / 8192, by omega⟩ ⟨r.val % 8192, by omega⟩ (back r)]
  rfl

theorem out3_eq : out3 X M gain wn = Cert.InprojIdeal.Proj.result13 X M gain wn := by
  funext i
  obtain ⟨r, l, rfl⟩ : ∃ (r : Fin 32768) (l : Fin 1024), i = ix2 r l := ⟨i 0, i 1, by idx_vars i⟩
  unfold out3
  rw [wide_apply, cut768_apply, Z_eq X M gain wn r ⟨r.val / 8192, by omega⟩ ⟨r.val % 8192, by omega⟩ (back r)]
  rfl

theorem out4_eq : out4 X M gain wn = Cert.InprojIdeal.Proj.result14 X M gain wn := by
  funext i
  obtain ⟨r, l, rfl⟩ : ∃ (r : Fin 32768) (l : Fin 1024), i = ix2 r l := ⟨i 0, i 1, by idx_vars i⟩
  unfold out4
  rw [wide_apply, cut1792_apply, Z_eq X M gain wn r ⟨r.val / 8192, by omega⟩ ⟨r.val % 8192, by omega⟩ (back r)]
  rfl

theorem out7_eq : out7 X M gain wn = Cert.InprojIdeal.Proj.result17 X M gain wn := by
  funext i
  obtain ⟨r, l, rfl⟩ : ∃ (r : Fin 32768) (l : Fin 3072), i = ix2 r l := ⟨i 0, i 1, by idx_vars i⟩
  unfold out7
  rw [wide3_apply, cut3328_apply, Z_eq X M gain wn r ⟨r.val / 8192, by omega⟩ ⟨r.val % 8192, by omega⟩ (back r)]
  rfl

theorem keys_eq (r : Fin 32768) (b : Fin 4) (s : Fin 8192) (e : r.val = b.val * 8192 + s.val) (l : Fin 512) :
    keys X M gain wn gkc (ix3 b s l) = Cert.InprojIdeal.Proj.kcAt X M gain wn gkc r l := by
  unfold keys
  rw [byHead8_apply, gainQ_apply]
  simp only [cut2816_apply, Z_eq X M gain wn r b s e]
  rfl

theorem out5_eq : out5 X M gain wn gkc = Cert.InprojIdeal.Proj.result15 X M gain wn gkc := by
  funext i
  obtain ⟨r, l, rfl⟩ : ∃ (r : Fin 32768) (l : Fin 512), i = ix2 r l := ⟨i 0, i 1, by idx_vars i⟩
  unfold out5
  rw [flat512_apply, keys_eq X M gain wn gkc r ⟨r.val / 8192, by omega⟩ ⟨r.val % 8192, by omega⟩ (back r)]
  rfl

theorem placed_block (t : Fin 64) (n : Fin 2) (p : Fin 256) :
    t.val * 512 + n.val * 256 + p.val = t.val / 16 * 8192 + ((t.val % 16 * 2 + n.val) * 256 + p.val) := by
  omega

theorem out6_eq : out6 X M gain wn gkc = Cert.InprojIdeal.Proj.result16 X M gain wn gkc := by
  funext i
  obtain ⟨t, n, l, rfl⟩ : ∃ (t : Fin 64) (n : Fin 2) (l : Fin 512), i = ix3 t n l := ⟨i 0, i 1, i 2, by idx_vars i⟩
  unfold out6
  rw [means_apply]
  show _ = Ideal.div (∑ j : Fin 256, Cert.InprojIdeal.Proj.kcAt X M gain wn gkc ⟨t.val * 512 + n.val * 256 + j.val, by omega⟩ l) _
  refine congrArg (fun a : EReal => Ideal.div a (Ideal.ofBits .f32 0x43800000#32)) (Finset.sum_congr rfl fun p _ => ?_)
  exact keys_eq X M gain wn gkc ⟨t.val * 512 + n.val * 256 + p.val, by omega⟩ ⟨t.val / 16, by omega⟩
    ⟨(t.val % 16 * 2 + n.val) * 256 + p.val, by omega⟩ (placed_block t n p) l

theorem out8_eq : out8 X M gain wt gqc = Cert.InprojIdeal.Proj.result18 X M gain wt gqc := by
  funext i
  obtain ⟨b, n, l, p, rfl⟩ : ∃ (b : Fin 4) (n : Fin 32) (l : Fin 512) (p : Fin 256), i = ix4 b n l p :=
    ⟨i 0, i 1, i 2, i 3, by idx_vars i⟩
  unfold out8
  rw [blocks_apply, scaled_apply, byHead8_apply, gainC_apply]
  have e : (Cert.InprojIdeal.Proj.placed b n p).val = b.val * 8192 + (n.val * 256 + p.val) := Nat.add_assoc _ _ _
  simp only [cutT0_apply, ZT_eq X M gain wt (Cert.InprojIdeal.Proj.placed b n p) b ⟨n.val * 256 + p.val, by omega⟩ e]
  rfl

theorem out9_eq : out9 X M gain wt = Cert.InprojIdeal.Proj.result19 X M gain wt := by
  funext i
  obtain ⟨b, n, l, p, rfl⟩ : ∃ (b : Fin 4) (n : Fin 32) (l : Fin 512) (p : Fin 256), i = ix4 b n l p :=
    ⟨i 0, i 1, i 2, i 3, by idx_vars i⟩
  unfold out9
  have e : (Cert.InprojIdeal.Proj.placed b n p).val = b.val * 8192 + (n.val * 256 + p.val) := Nat.add_assoc _ _ _
  rw [blocks_apply, cutT512_apply, ZT_eq X M gain wt (Cert.InprojIdeal.Proj.placed b n p) b ⟨n.val * 256 + p.val, by omega⟩ e]
  rfl

end Rows

end Cert.InprojRefIdeal.Proj

end
-- ==== Proof.InprojClaims.lean ====
module

public import proofs.«01_k».proof.Defs
public import proofs.«01_k».proof.Proof.InprojPointA
public import proofs.«01_k».proof.Proof.InprojPointB
public import proofs.«01_k».proof.Proof.InprojPointC
public import proofs.«01_k».proof.Proof.InprojPointD
public import proofs.«01_k».proof.Proof.InprojEqual
public import proofs.«01_k».proof.Proof.SwaClaims
public import proofs.«01_k».proof.Proof.Gen.Inproj.Frame
public import proofs.«01_k».proof.Proof.Gen.InprojIdeal.Frame
public import proofs.«01_k».proof.Proof.Gen.InprojRefIdeal.Run
public import Idealize.ShloMosaic.Lib.ReduceAll
public import Idealize.ShloMosaic.Lib.Pointwise
public import Idealize.ShloMosaic.Lib.Quiescent

@[expose] public section

/-!
The claims about the input projection. The precondition's four conjuncts are read back into finiteness of the shift and
scale, the gain and the columns of the weight that are normalized by head.
-/

noncomputable section

open Idealize.ShloMosaic Idealize.ShloMosaic.TcCoe Idealize.SL.Sem

namespace Cert.Proof.InprojClaims

/-- The side conditions of the precondition's own operations. -/
theorem pre_facts : Cert.Pre_finite_rows.Facts where
  slices_S1024x6400_S1024x640_0_0 := by decide
  slices_S1024x6400_S1024x512_0_2816 := by decide
  slices_S4x1x6144_S4x1x2048_0_0_0 := by decide
  bcast_S_S4x1x2048 := by decide
  reducesTo_S4x1x2048_S_d0_1_2 := by decide
  h_S_ := by decide
  bcast_S_S1x1024 := by decide
  reducesTo_S1x1024_S_d0_1 := by decide
  bitsLt_bf16_f32 := by decide
  bcast_S_S1024x640 := by decide
  reducesTo_S1024x640_S_d0_1 := by decide
  bcast_S_S1024x512 := by decide
  reducesTo_S1024x512_S_d0_1 := by decide

attribute [local instance] pre_facts

open Cert.Pre_finite_rows Cert.Pre_finite_rows.Facts in
theorem slice_mods (A : FVec Ideal S4x1x6144 .f32) (b : Fin 4) (k : Fin 2048) :
    extractStridedSlice S4x1x2048 ![0, 0, 0] A slices_S4x1x6144_S4x1x2048_0_0_0 (ix3 b 0 k) = A (ix3 b 0 ⟨k.val, by omega⟩) := by
  pointwise []

open Cert.Pre_finite_rows Cert.Pre_finite_rows.Facts in
theorem slice_first (A : FVec Ideal S1024x6400 .bf16) (k : Fin 1024) (j : Fin 640) :
    extractStridedSlice S1024x640 ![0, 0] A slices_S1024x6400_S1024x640_0_0 (ix2 k j) = A (ix2 k ⟨j.val, by omega⟩) := by
  pointwise []

open Cert.Pre_finite_rows Cert.Pre_finite_rows.Facts in
theorem slice_second (A : FVec Ideal S1024x6400 .bf16) (k : Fin 1024) (j : Fin 512) :
    extractStridedSlice S1024x512 ![0, 2816] A slices_S1024x6400_S1024x512_0_2816 (ix2 k j) = A (ix2 k ⟨2816 + j.val, by omega⟩) := by
  pointwise []

theorem finite (x : FVec Ideal Cert.Pre_finite_rows.S32768x1024 .f32) (mods : FVec Ideal Cert.Pre_finite_rows.S4x1x6144 .f32)
    (gain : FVec Ideal Cert.Pre_finite_rows.S1x1024 .f32) (wn : FVec Ideal Cert.Pre_finite_rows.S1024x6400 .bf16) (wt a b d e)
    (h : Cert.Pre_finite_rows.fn (F := Ideal) x mods gain wn wt a b d e = fun _ => 1#1) :
    Cert.InprojIdeal.Proj.Finite mods gain wn := by
  have e := congrFun h (Shape.Idx.first (by decide))
  obtain ⟨e, e2⟩ := IntOp.andi_eq_one.1 e
  obtain ⟨e, e1⟩ := IntOp.andi_eq_one.1 e
  obtain ⟨em, eg⟩ := IntOp.andi_eq_one.1 e
  refine ⟨fun b k hk => ?_, fun i => SwaClaims.real_of_abs _ (Host.reduce_andi_all _ _ _ _ _ eg i), fun k j hj => ?_⟩
  · rw [← slice_mods mods b ⟨k.val, hk⟩]
    exact SwaClaims.real_of_abs _ (Host.reduce_andi_all _ _ _ _ _ em (ix3 b 0 ⟨k.val, hk⟩))
  · rcases hj with hj | hj
    · rw [← slice_first wn k ⟨j.val, hj⟩]
      exact SwaClaims.real_of_abs _ (Host.reduce_andi_all _ _ _ _ _ e1 (ix2 k ⟨j.val, hj⟩))
    · have ej : j = ⟨2816 + (j.val - 2816), by omega⟩ := Fin.ext (by dsimp only; omega)
      rw [ej, ← slice_second wn k ⟨j.val - 2816, by omega⟩]
      exact SwaClaims.real_of_abs _ (Host.reduce_andi_all _ _ _ _ _ e2 (ix2 k ⟨j.val - 2816, by omega⟩))

theorem frame_p : Cert.quiescent_Inproj := fun m ρ _ => Cert.Inproj.Gen.frame m ρ
theorem frame_pi : Cert.quiescent_InprojIdeal := fun m ρ _ => Cert.InprojIdeal.Gen.frame m ρ
theorem frame_pi_pre : Cert.quiescent_InprojIdeal_pre_finite_rows := fun m ρ _ => Cert.InprojIdeal.Gen.frame m ρ
theorem frame_ri : Cert.quiescent_InprojRefIdeal := fun m ρ _ =>
  (θ_run Cert.InprojRefIdeal.defs _ _).mono (fun r h => ⟨fun c => (h c).2.2.2.2.2.2.2.2.2.2,
      Idealize.ShloMosaic.sem_eq_zero_of_no_sems (by decide) r.2⟩)
    (Cert.InprojRefIdeal.Value.run (F := Ideal) m ρ)
theorem frame_ri_pre : Cert.quiescent_InprojRefIdeal_pre_finite_rows := fun m ρ _ => frame_ri m ρ trivial

theorem preserves : Cert.preserves_Inproj_InprojIdeal := trivial

/-- The kernel and the reference end with the same ten result arrays. -/
theorem algebraic : Cert.algebraic_InprojIdeal_InprojRefIdeal_pre_finite_rows := by
  intro m ρ m' ρ' hpre hagree
  refine ⟨_, _, _, _, _, _, _, _, _, _, Cert.InprojIdeal.Proj.run_blocks (F := Ideal) m ρ, ?_⟩
  refine (θ_run Cert.InprojRefIdeal.defs _ _).mono (fun _ h c => ?_) (Cert.InprojRefIdeal.Value.run (F := Ideal) m' ρ')
  obtain ⟨h0, h1, h2, h3, h4, h5, h6, h7, h8⟩ := hagree c
  have fin := finite _ _ _ _ _ _ _ _ _ (hpre c)
  obtain ⟨r0, r1, r2, r3, r4, r5, r6, r7, r8, r9, rest⟩ := h c
  refine ⟨r0.trans ?_, r1.trans ?_, r2.trans ?_, r3.trans ?_, r4.trans ?_, r5.trans ?_, r6.trans ?_, r7.trans ?_, r8.trans ?_,
    r9.trans ?_, rest⟩
  · refine (Cert.InprojRefIdeal.Proj.res0_eq m' c).trans ?_
    rw [Cert.InprojIdeal.Proj.final10 m c fin, h0, h1, h2, h3, h5]
    exact Cert.InprojRefIdeal.Proj.out0_eq _ _ _ _ _
  · refine (Cert.InprojRefIdeal.Proj.res1_eq m' c).trans ?_
    rw [Cert.InprojIdeal.Proj.final11 m c fin, h0, h1, h2, h3, h6]
    exact Cert.InprojRefIdeal.Proj.out1_eq _ _ _ _ _
  · show Cert.InprojRefIdeal.Proj.out2 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) = _
    rw [Cert.InprojIdeal.Proj.final12 m c, h0, h1, h2, h3]
    exact Cert.InprojRefIdeal.Proj.out2_eq _ _ _ _
  · show Cert.InprojRefIdeal.Proj.out3 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) = _
    rw [Cert.InprojIdeal.Proj.final13 m c, h0, h1, h2, h3]
    exact Cert.InprojRefIdeal.Proj.out3_eq _ _ _ _
  · show Cert.InprojRefIdeal.Proj.out4 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) = _
    rw [Cert.InprojIdeal.Proj.final14 m c, h0, h1, h2, h3]
    exact Cert.InprojRefIdeal.Proj.out4_eq _ _ _ _
  · refine (Cert.InprojRefIdeal.Proj.res5_eq m' c).trans ?_
    rw [Cert.InprojIdeal.Proj.final15 m c fin, h0, h1, h2, h3, h7]
    exact Cert.InprojRefIdeal.Proj.out5_eq _ _ _ _ _
  · refine (Cert.InprojRefIdeal.Proj.res6_eq m' c).trans ?_
    rw [Cert.InprojIdeal.Proj.final16 m c fin, h0, h1, h2, h3, h7]
    exact Cert.InprojRefIdeal.Proj.out6_eq _ _ _ _ _
  · show Cert.InprojRefIdeal.Proj.out7 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) = _
    rw [Cert.InprojIdeal.Proj.final17 m c, h0, h1, h2, h3]
    exact Cert.InprojRefIdeal.Proj.out7_eq _ _ _ _
  · refine (Cert.InprojRefIdeal.Proj.res8_eq m' c).trans ?_
    rw [Cert.InprojIdeal.Proj.final18 m c, h0, h1, h2, h4, h8]
    exact Cert.InprojRefIdeal.Proj.out8_eq _ _ _ _ _
  · show Cert.InprojRefIdeal.Proj.out9 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg4)) = _
    rw [Cert.InprojIdeal.Proj.final19 m c, h0, h1, h2, h4]
    exact Cert.InprojRefIdeal.Proj.out9_eq _ _ _ _

end Cert.Proof.InprojClaims

end
-- ==== Proof.ModValue.lean ====
module

public import proofs.«01_k».proof.Proof.Gate
public import proofs.«01_k».proof.Proof.Gen.ModIdeal.Value
public import Idealize.ShloMosaic.Lib.Pipeline.ValueKit
public import Idealize.ShloMosaic.Lib.Pointwise
public import Idealize.ShloMosaic.Lib.Claim

@[expose] public section

/-!
The modulation kernel: what one point of the grid leaves in its block, and the whole result.
-/

set_option maxRecDepth 16384

noncomputable section

namespace Cert.ModIdeal.Modulate

open Cert.ModIdeal Cert.ModIdeal.Gen Idealize.ShloMosaic Idealize.ShloMosaic.TcCoe Idealize.SL.Sem
open Idealize.ShloMosaic.Pipeline (Dat)

variable (m : (ℓ : Loc nD τ sig) → Buf (Elt Ideal) ℓ)

/-- The modulation of layer `b`, row `q`, channel `l`. -/
def at_ (X : FVec Ideal S8x1024 .f32) (W : FVec Ideal S4x1024x6144 .f32) (B : FVec Ideal S4x6144 .f32)
    (b : Fin 4) (q : Fin 8) (l : Fin 6144) : EReal :=
  (∑ k : Fin 1024, X (ix2 q k) * Gate.gate (X (ix2 q k)) * W (ix3 b k l)) + B (ix2 b l)

/-- The whole result. -/
def result (X : FVec Ideal S8x1024 .f32) (W : FVec Ideal S4x1024x6144 .f32) (B : FVec Ideal S4x6144 .f32) :
    FVec Ideal S4x8x6144 .f32 := fun i => at_ X W B (i 0) (i 1) (i 2)

theorem idx : ∀ t : Fin cfg0.N,
    win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

theorem out_apply (x : FVec Ideal S8x1024 .f32) (w : FVec Ideal S1x1024x1536 .f32) (b : FVec Ideal S1x1x1536 .f32)
    (q : Fin 8) (l : Fin 1536) : k0_pay1 (F := Ideal) x w b (ix3 0 q l)
      = (∑ k : Fin 1024, x (ix2 q k) * Gate.gate (x (ix2 q k)) * w (ix3 0 k l)) + b (ix3 0 0 l) := by
  pointwise [k0_pay1, Gate.gate]
  try simp

/-- The layer and the channel at position `l` of the block that point `t` computes. -/
def layer (t : Fin cfg0.N) : Fin 4 := ⟨(grid0.coords t 0).val, (grid0.coords t 0).isLt⟩

def chan (t : Fin cfg0.N) (l : Fin 1536) : Fin 6144 :=
  ⟨(grid0.coords t 1).val * 1536 + l.val, by
    have hb : (grid0.coords t 1).val < 4 := (grid0.coords t 1).isLt
    omega⟩

theorem V_b (c : Dev nD) : V m c main_v0
    = shapeCast S4x1x6144 (m ((c : Thread nD τ).loc main_arg2)) shapeCasts_S4x6144_S4x1x6144 := by
  unfold V; after_results; try rfl

theorem bias_row (X : FVec Ideal S4x6144 .f32) (b : Fin 4) (l : Fin 6144) :
    shapeCast S4x1x6144 X shapeCasts_S4x6144_S4x1x6144 (ix3 b 0 l) = X (ix2 b l) := by
  pointwise

theorem blk0 (c : Dev nD) (t : Fin cfg0.N) (i) : iblk m c 0 t i = m ((c : Thread nD τ).loc main_arg0) i := by
  blk_ext [iblk, V_main_arg0, idx t]

theorem blk1 (c : Dev nD) (t : Fin cfg0.N) (k : Fin 1024) (l : Fin 1536) : iblk m c 1 t (ix3 0 k l)
    = m ((c : Thread nD τ).loc main_arg1) (ix3 (layer t) k (chan t l)) := by
  have e : ((cfg0.win 1).blk t).view.emb (ix3 0 k l) = ix3 (n0 := 4) (n1 := 1024) (n2 := 6144) (layer t) k (chan t l) := by
    blk_ext [idx t, layer, chan]
  show V m c main_arg1 (((cfg0.win 1).blk t).view.emb (ix3 0 k l)) = _
  rw [V_main_arg1, e]

theorem blk2 (c : Dev nD) (t : Fin cfg0.N) (l : Fin 1536) : iblk m c 2 t (ix3 0 0 l)
    = m ((c : Thread nD τ).loc main_arg2) (ix2 (layer t) (chan t l)) := by
  have e : ((cfg0.win 2).blk t).view.emb (ix3 0 0 l) = ix3 (n0 := 4) (n1 := 1) (n2 := 6144) (layer t) 0 (chan t l) := by
    blk_ext [idx t, layer, chan]
  show V m c main_v0 (((cfg0.win 2).blk t).view.emb (ix3 0 0 l)) = _
  rw [V_b, e]
  exact bias_row _ _ _

theorem emb3 (t : Fin cfg0.N) (y : S1x8x1536.Idx) :
    ((cfg0.win 3).blk t).view.emb y = ix3 (layer t) (y 1) (chan t (y 2)) := by
  blk_ext [idx t, layer, chan]

theorem point (c : Dev nD) (t : Fin cfg0.N) (y) : out0_3 (iblk m c 0 t) (iblk m c 1 t) (iblk m c 2 t) y
    = result (m ((c : Thread nD τ).loc main_arg0)) (m ((c : Thread nD τ).loc main_arg1)) (m ((c : Thread nD τ).loc main_arg2))
        (((cfg0.win 3).blk t).view.emb y) := by
  rw [emb3]
  unfold out0_3; frame_out
  obtain ⟨q, l, rfl⟩ : ∃ (q : Fin 8) (l : Fin 1536), y = ix3 0 q l :=
    ⟨y 1, y 2, by idx_vars y; rw [Subsingleton.elim y0 0]⟩
  refine (out_apply _ _ _ q l).trans ?_
  unfold result at_
  pointwise [blk0, blk1, blk2]

/-- After the last point the whole result array holds the modulation of all layers. -/
theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.ModIdeal.Modulate

end
-- ==== Proof.ModEqual.lean ====
module

public import proofs.«01_k».proof.Proof.ModValue
public import proofs.«01_k».proof.Proof.Gen.ModRefIdeal.Run

@[expose] public section

/-!
The reference's modulation, element by element, is the kernel's.
-/

set_option maxRecDepth 16384

noncomputable section

namespace Cert.ModRefIdeal.Modulate

open Cert.ModRefIdeal Idealize.ShloMosaic Idealize.ShloMosaic.TcCoe Idealize.SL.Sem
open Cert.ModRefIdeal.Facts₀ Cert.ModRefIdeal.Facts

/-- The activated rows. -/
def act (X : FVec Ideal S8x1024 .f32) : FVec Ideal S8x1024 .f32 :=
  mulf X (Host.divf (broadcastInDim S8x1024 ![] bcast_S_S8x1024 (constant S_ .f32 0x3F800000#32)) (addf (broadcastInDim S8x1024 ![] bcast_S_S8x1024 (constant S_ .f32 0x3F800000#32)) (Host.exp (Host.negf X))))

/-- One layer's product and bias. -/
def one (A : FVec Ideal S8x1024 .f32) (w : FVec Ideal S1x1024x6144 .f32) (b : FVec Ideal S1x6144 .f32) : FVec Ideal S1x8x6144 .f32 :=
  broadcastInDim S1x8x6144 ![1, 2] bcast_S8x6144_S1x8x6144_1_2 (addf (Host.dotGeneral dot_S8x1024_S1024x6144_S8x6144_1_0_0_1_n_n none A (shapeCast _ w shapeCasts_S1x1024x6144_S1024x6144)) (broadcastInDim S8x6144 ![0, 1] bcast_S1x6144_S8x6144_0_1 (broadcastInDim S1x6144 ![1] bcast_S6144_S1x6144_1 (shapeCast _ b shapeCasts_S1x6144_S6144))))

/-- The layers one after another. -/
def stack (u0 u1 u2 u3 : FVec Ideal S1x8x6144 .f32) : FVec Ideal S4x8x6144 .f32 :=
  concatenate S4x8x6144 0 [⟨S1x8x6144, u0⟩, ⟨S1x8x6144, u1⟩, ⟨S1x8x6144, u2⟩, ⟨S1x8x6144, u3⟩] concatenates_S1x8x6144_S1x8x6144_S1x8x6144_S1x8x6144_S4x8x6144_d0

/-- The result as the program composes it. -/
def out (X : FVec Ideal S8x1024 .f32) (W : FVec Ideal S4x1024x6144 .f32) (B : FVec Ideal S4x6144 .f32) : FVec Ideal S4x8x6144 .f32 :=
  stack
    (one (act X) (extractStridedSlice S1x1024x6144 ![0, 0, 0] W slices_S4x1024x6144_S1x1024x6144_0_0_0) (extractStridedSlice S1x6144 ![0, 0] B slices_S4x6144_S1x6144_0_0))
    (one (act X) (extractStridedSlice S1x1024x6144 ![1, 0, 0] W slices_S4x1024x6144_S1x1024x6144_1_0_0) (extractStridedSlice S1x6144 ![1, 0] B slices_S4x6144_S1x6144_1_0))
    (one (act X) (extractStridedSlice S1x1024x6144 ![2, 0, 0] W slices_S4x1024x6144_S1x1024x6144_2_0_0) (extractStridedSlice S1x6144 ![2, 0] B slices_S4x6144_S1x6144_2_0))
    (one (act X) (extractStridedSlice S1x1024x6144 ![3, 0, 0] W slices_S4x1024x6144_S1x1024x6144_3_0_0) (extractStridedSlice S1x6144 ![3, 0] B slices_S4x6144_S1x6144_3_0))

theorem act_apply (X : FVec Ideal S8x1024 .f32) (i) : act X i = X i * Gate.gate (X i) := by
  pointwise [act, Gate.gate]

theorem one_apply (A : FVec Ideal S8x1024 .f32) (w : FVec Ideal S1x1024x6144 .f32) (b : FVec Ideal S1x6144 .f32)
    (q : Fin 8) (l : Fin 6144) :
    one A w b (ix3 0 q l) = (∑ k : Fin 1024, A (ix2 q k) * w (ix3 0 k l)) + b (ix2 0 l) := by
  pointwise [one]

theorem stack0 (u0 u1 u2 u3 : FVec Ideal S1x8x6144 .f32) (q : Fin 8) (l : Fin 6144) :
    stack u0 u1 u2 u3 (ix3 0 q l) = u0 (ix3 0 q l) := by
  pointwise [stack]
theorem stack1 (u0 u1 u2 u3 : FVec Ideal S1x8x6144 .f32) (q : Fin 8) (l : Fin 6144) :
    stack u0 u1 u2 u3 (ix3 1 q l) = u1 (ix3 0 q l) := by
  pointwise [stack]
theorem stack2 (u0 u1 u2 u3 : FVec Ideal S1x8x6144 .f32) (q : Fin 8) (l : Fin 6144) :
    stack u0 u1 u2 u3 (ix3 2 q l) = u2 (ix3 0 q l) := by
  pointwise [stack]
theorem stack3 (u0 u1 u2 u3 : FVec Ideal S1x8x6144 .f32) (q : Fin 8) (l : Fin 6144) :
    stack u0 u1 u2 u3 (ix3 3 q l) = u3 (ix3 0 q l) := by
  pointwise [stack]

/-- The reference's result is the kernel's. -/
theorem result_eq (X : FVec Ideal S8x1024 .f32) (W : FVec Ideal S4x1024x6144 .f32) (B : FVec Ideal S4x6144 .f32) :
    out X W B = Cert.ModIdeal.Modulate.result X W B := by
  funext i
  obtain ⟨b, q, l, rfl⟩ : ∃ (b : Fin 4) (q : Fin 8) (l : Fin 6144), i = ix3 b q l := ⟨i 0, i 1, i 2, by idx_vars i⟩
  show _ = Cert.ModIdeal.Modulate.at_ X W B b q l
  unfold Cert.ModIdeal.Modulate.at_ out
  match b with
  | 0 => rw [stack0, one_apply]; simp only [act_apply]; pointwise
  | 1 => rw [stack1, one_apply]; simp only [act_apply]; pointwise
  | 2 => rw [stack2, one_apply]; simp only [act_apply]; pointwise
  | 3 => rw [stack3, one_apply]; simp only [act_apply]; pointwise

end Cert.ModRefIdeal.Modulate

end
-- ==== Proof.ModClaims.lean ====
module

public import proofs.«01_k».proof.Defs
public import proofs.«01_k».proof.Proof.ModEqual
public import proofs.«01_k».proof.Proof.Gen.Mod.Frame
public import proofs.«01_k».proof.Proof.Gen.ModIdeal.Frame
public import proofs.«01_k».proof.Proof.Gen.ModRefIdeal.Run
public import Idealize.ShloMosaic.Lib.Quiescent

@[expose] public section

/-!
The claims about the modulation.
-/

noncomputable section

open Idealize.ShloMosaic Idealize.ShloMosaic.TcCoe Idealize.SL.Sem

namespace Cert.Proof.ModClaims

theorem frame_p : Cert.quiescent_Mod := fun m ρ _ => Cert.Mod.Gen.frame m ρ
theorem frame_pi : Cert.quiescent_ModIdeal := fun m ρ _ => Cert.ModIdeal.Gen.frame m ρ
theorem frame_ri : Cert.quiescent_ModRefIdeal := fun m ρ _ =>
  (θ_run Cert.ModRefIdeal.defs _ _).mono (fun r h => ⟨fun c => (h c).2,
      Idealize.ShloMosaic.sem_eq_zero_of_no_sems (by decide) r.2⟩)
    (Cert.ModRefIdeal.Value.run (F := Ideal) m ρ)

theorem preserves : Cert.preserves_Mod_ModIdeal := trivial

/-- The kernel and the reference end with one result array. -/
theorem algebraic : Cert.algebraic_ModIdeal_ModRefIdeal := by
  intro m ρ m' ρ' hpre hagree
  refine ⟨_, Cert.ModIdeal.Value.run_blocks (F := Ideal) m ρ, ?_⟩
  refine (θ_run Cert.ModRefIdeal.defs _ _).mono (fun _ h c => ⟨(h c).1.trans ?_, (h c).2⟩)
    (Cert.ModRefIdeal.Value.run (F := Ideal) m' ρ')
  obtain ⟨h0, h1, h2⟩ := hagree c
  rw [Cert.ModIdeal.Modulate.final, h0, h1, h2]
  exact Cert.ModRefIdeal.Modulate.result_eq _ _ _

end Cert.Proof.ModClaims

end
-- ==== Proof.RnnScan.lean ====
/- A linear recurrence by doubling, and the recurrence's coefficients at one element, on the extended reals. -/
module

public import proofs.«01_k».proof.Proof.Gate

@[expose] public section

noncomputable section

namespace Cert.Recur

open Idealize.ShloMosaic

/-- `n` steps of `x ↦ a i * x + u i`, the last at `i`. -/
def run (a u : ℕ → EReal) : ℕ → ℕ → EReal → EReal
  | 0, _, x => x
  | n + 1, i, x => a i * run a u n (i - 1) x + u i

theorem run_add (a u : ℕ → EReal) (q : ℕ) (x : EReal) : ∀ p i : ℕ, run a u (p + q) i x = run a u p i (run a u q (i - p) x)
  | 0, i => by rw [Nat.zero_add]; rfl
  | p + 1, i => by
    rw [show p + 1 + q = (p + q) + 1 by omega]
    show a i * run a u (p + q) (i - 1) x + u i = a i * run a u p (i - 1) (run a u q (i - (p + 1)) x) + u i
    rw [run_add a u q x p (i - 1), show i - 1 - p = i - (p + 1) by omega]

/-- `A` and `U` take up to `s` steps at once. -/
def Jump (a u : ℕ → EReal) (s : ℕ) (A U : Fin 256 → EReal) : Prop :=
  ∀ i : Fin 256, 0 ≤ A i ∧ A i ≠ ⊤ ∧ ∀ x, A i * x + U i = run a u (min s (i.val + 1)) i.val x

theorem Jump.one {a u : ℕ → EReal} {A U : Fin 256 → EReal} (hA : ∀ i, A i = a i.val) (hU : ∀ i, U i = u i.val)
    (h0 : ∀ i, 0 ≤ a i) (h1 : ∀ i, a i ≠ ⊤) : Jump a u 1 A U := fun i => by
  refine ⟨hA i ▸ h0 _, hA i ▸ h1 _, fun x => ?_⟩
  rw [show min 1 (i.val + 1) = 0 + 1 by omega, hA, hU]
  rfl

theorem mul_ne_top {a b : EReal} (ha : 0 ≤ a) (ha' : a ≠ ⊤) (hb : 0 ≤ b) (hb' : b ≠ ⊤) : a * b ≠ ⊤ := by
  lift a to ℝ using ⟨ha', fun h => by rw [h] at ha; exact absurd ha (by simp)⟩
  lift b to ℝ using ⟨hb', fun h => by rw [h] at hb; exact absurd hb (by simp)⟩
  rw [← EReal.coe_mul]
  exact EReal.coe_ne_top _

theorem Jump.double {a u : ℕ → EReal} {s : ℕ} {A U A' U' : Fin 256 → EReal} (h : Jump a u s A U)
    (hA : ∀ i : Fin 256, A' i = A i * (if g : s ≤ i.val then A ⟨i.val - s, by omega⟩ else 1))
    (hU : ∀ i : Fin 256, U' i = A i * (if g : s ≤ i.val then U ⟨i.val - s, by omega⟩ else 0) + U i) :
    Jump a u (s + s) A' U' := fun i => by
  obtain ⟨h0, h1, hr⟩ := h i
  rw [hA, hU]
  by_cases g : s ≤ i.val
  · obtain ⟨k0, k1, kr⟩ := h ⟨i.val - s, by omega⟩
    rw [dif_pos g, dif_pos g]
    refine ⟨mul_nonneg h0 k0, mul_ne_top h0 h1 k0 k1, fun x => ?_⟩
    rw [mul_assoc, ← add_assoc, ← EReal.left_distrib_of_nonneg_of_ne_top h0 h1, kr, hr,
      show min (s + s) (i.val + 1) = min s (i.val + 1) + min s (i.val - s + 1) by omega, run_add,
      show min s (i.val + 1) = s by omega]
  · rw [dif_neg g, dif_neg g, mul_one, mul_zero, zero_add]
    refine ⟨h0, h1, fun x => ?_⟩
    rw [hr, show min (s + s) (i.val + 1) = min s (i.val + 1) by omega]

/-- The recurrence from `x` on, after step `n`. -/
def from_ (a u : ℕ → EReal) (x : EReal) : ℕ → EReal
  | 0 => x
  | n + 1 => a n * from_ a u x n + u n

theorem run_eq (a u : ℕ → EReal) (x : EReal) : ∀ n : ℕ, run a u (n + 1) n x = from_ a u x (n + 1)
  | 0 => rfl
  | n + 1 => by
    show a (n + 1) * run a u (n + 1) n x + u (n + 1) = a (n + 1) * from_ a u x (n + 1) + u (n + 1)
    rw [run_eq a u x n]

theorem from_add (a u : ℕ → EReal) (x : EReal) (p : ℕ) : ∀ n : ℕ,
    from_ a u x (p + n) = from_ (fun i => a (p + i)) (fun i => u (p + i)) (from_ a u x p) n
  | 0 => rfl
  | n + 1 => by
    show a (p + n) * from_ a u x (p + n) + u (p + n) = _
    rw [from_add a u x p n]
    rfl

theorem Jump.all {a u : ℕ → EReal} {A U : Fin 256 → EReal} (h : Jump a u 256 A U) (x : EReal) (i : Fin 256) :
    U i + A i * x = from_ a u x (i.val + 1) := by
  rw [add_comm, (h i).2.2 x, show min 256 (i.val + 1) = i.val + 1 by omega, run_eq]

/-- The softplus. -/
def soft (x : EReal) : EReal := max x 0 + Ideal.log1p (Ideal.exp (-(max x (-x))))

/-- A number that is real and not negative. -/
def Nonneg (x : EReal) : Prop := ∃ r : ℝ, 0 ≤ r ∧ x = r

theorem gate_nonneg (x : EReal) : Nonneg (Gate.gate x) := by
  unfold Gate.gate
  induction x with
  | bot =>
    refine ⟨0, le_refl _, ?_⟩
    rw [EReal.neg_bot]
    show Ideal.div 1 (1 + ⊤) = 0
    have e : (1 : EReal) + ⊤ = ⊤ := by rw [← EReal.coe_one]; exact EReal.coe_add_top 1
    rw [e]
    unfold Ideal.div
    rw [if_neg EReal.top_ne_zero, EReal.inv_top, mul_zero]
    try rfl
  | top =>
    refine ⟨1, zero_le_one, ?_⟩
    rw [EReal.neg_top]
    show Ideal.div 1 (1 + 0) = 1
    unfold Ideal.div
    rw [if_neg (by simp)]
    simp
  | coe x =>
    refine ⟨(1 + Real.exp (-x))⁻¹, by positivity, ?_⟩
    rw [← EReal.coe_neg]
    show Ideal.div 1 (1 + (Real.exp (-x) : EReal)) = _
    have hp : (0 : ℝ) < 1 + Real.exp (-x) := by positivity
    have e : (1 + (Real.exp (-x) : EReal)) = ((1 + Real.exp (-x) : ℝ) : EReal) := by simp
    rw [e]
    unfold Ideal.div
    rw [if_neg (by exact_mod_cast hp.ne'), one_mul, ← EReal.coe_inv]

theorem coe_max' (x y : ℝ) : max (x : EReal) (y : EReal) = ((max x y : ℝ) : EReal) :=
  (EReal.coe_strictMono.monotone.map_max).symm

theorem soft_nonneg (x : EReal) (h : x ≠ ⊤) : Nonneg (soft x) := by
  unfold soft Ideal.log1p
  induction x with
  | bot =>
    refine ⟨0, le_refl _, ?_⟩
    rw [EReal.neg_bot, max_eq_right (bot_le : (⊥ : EReal) ≤ ⊤), EReal.neg_top, max_eq_right (bot_le : (⊥ : EReal) ≤ 0)]
    show 0 + Ideal.log (1 + 0) = 0
    rw [add_zero, show Ideal.log 1 = ((if (1 : ℝ) ≤ 0 then ⊥ else (Real.log 1 : EReal)) : EReal) from rfl]
    simp
  | top => exact absurd rfl h
  | coe x =>
    refine ⟨max x 0 + Real.log (1 + Real.exp (-(max x (-x)))), ?_, ?_⟩
    · have : (0 : ℝ) ≤ Real.log (1 + Real.exp (-(max x (-x)))) := Real.log_nonneg (by linarith [Real.exp_pos (-(max x (-x)))])
      have := le_max_right x 0
      linarith
    · rw [← EReal.coe_neg, coe_max', ← EReal.coe_neg, ← EReal.coe_zero, coe_max']
      show ((max x 0 : ℝ) : EReal) + Ideal.log (1 + (Real.exp (-(max x (-x))) : EReal)) = _
      have hp : ¬ (1 + Real.exp (-(max x (-x))) : ℝ) ≤ 0 := by have := Real.exp_pos (-(max x (-x))); linarith
      rw [show (1 + (Real.exp (-(max x (-x))) : EReal)) = ((1 + Real.exp (-(max x (-x))) : ℝ) : EReal) by simp,
        show Ideal.log ((1 + Real.exp (-(max x (-x))) : ℝ) : EReal) = ((if (1 + Real.exp (-(max x (-x))) : ℝ) ≤ 0 then ⊥ else (Real.log (1 + Real.exp (-(max x (-x)))) : EReal)) : EReal) from rfl,
        if_neg hp, EReal.coe_add]

/-- The logarithm of the decay, minus eight times the gate times the softplus. -/
theorem decay_real (g s : EReal) (hg : Nonneg g) (hs : Nonneg s) : ∃ z : ℝ, z ≤ 0 ∧ (-8 : ℝ) * g * s = (z : EReal) := by
  obtain ⟨r, hr, rfl⟩ := hg
  obtain ⟨q, hq, rfl⟩ := hs
  exact ⟨-8 * r * q, by nlinarith [mul_nonneg hr hq], by norm_cast⟩

/-- The kernel's `1 - a²` is one minus the exponential. -/
theorem mult_eq (z : ℝ) (hz : z ≤ 0) :
    (if Ideal.exp z * Ideal.exp z = 1 then 0 - 2 * (z : EReal)
      else Ideal.div ((1 - Ideal.exp z * Ideal.exp z) * (2 * (z : EReal)))
        (if Ideal.exp z * Ideal.exp z = 1 then 1 else Ideal.log (Ideal.exp z * Ideal.exp z)))
      = -(Ideal.expm1 (2 * (z : EReal))) := by
  have hsq : Ideal.exp z * Ideal.exp z = ((Real.exp (2 * z) : ℝ) : EReal) := by
    show ((Real.exp z : ℝ) : EReal) * ((Real.exp z : ℝ) : EReal) = _
    rw [← EReal.coe_mul, ← Real.exp_add, two_mul]
  have h2 : (2 * (z : EReal)) = ((2 * z : ℝ) : EReal) := by norm_cast
  have hm : Ideal.expm1 (2 * (z : EReal)) = ((Real.exp (2 * z) - 1 : ℝ) : EReal) := by
    rw [h2]; unfold Ideal.expm1
    show ((Real.exp (2 * z) : ℝ) : EReal) - 1 = _
    norm_cast
  rw [hsq, hm, h2]
  by_cases e : z = 0
  · subst e
    simp
  · have hne : Real.exp (2 * z) ≠ 1 := fun h => e (by have := Real.exp_eq_one_iff (2 * z) |>.mp h; linarith)
    have hne' : ¬ ((Real.exp (2 * z) : ℝ) : EReal) = 1 := fun h => hne (by exact_mod_cast h)
    have hlog : Ideal.log ((Real.exp (2 * z) : ℝ) : EReal) = ((2 * z : ℝ) : EReal) := by
      show ((if Real.exp (2 * z) ≤ 0 then ⊥ else (Real.log (Real.exp (2 * z)) : EReal)) : EReal) = _
      rw [if_neg (not_le.mpr (Real.exp_pos _)), Real.log_exp]
    have hz2 : (2 * z : ℝ) ≠ 0 := by intro h; exact e (by linarith)
    rw [if_neg hne', if_neg hne', hlog]
    unfold Ideal.div
    rw [if_neg (by exact_mod_cast hz2), ← EReal.coe_inv, ← EReal.coe_one, ← EReal.coe_sub, ← EReal.coe_mul, ← EReal.coe_mul,
      ← EReal.coe_neg]
    congr 1
    field_simp
    ring

end Cert.Recur

end
-- ==== Proof.RnnRefTerm.lean ====
module

public import proofs.«01_k».proof.Proof.RnnScan
public import proofs.«01_k».proof.Proof.Gen.RnnRefIdeal.Run
public import Idealize.ShloMosaic.Lib.Pointwise
public import Idealize.ShloMosaic.Lib.Claim

@[expose] public section

/-!
The reference's arrays: what its recurrence starts from.
-/

set_option maxRecDepth 16384

noncomputable section

namespace Cert.RnnRefIdeal.Recurrence

open Cert.RnnRefIdeal Idealize.ShloMosaic Idealize.ShloMosaic.TcCoe Idealize.SL.Sem
open Cert.RnnRefIdeal.Facts₀ Cert.RnnRefIdeal.Facts

abbrev Full := FVec Ideal S4x8192x1024 .f32

/-- A row of channels for every token of every sequence. -/
def spread (v : FVec Ideal S1024 .f32) : Full :=
  broadcastInDim S4x8192x1024 ![0, 1, 2] bcast_S1x1x1024_S4x8192x1024_0_1_2 (broadcastInDim S1x1x1024 ![2] bcast_S1024_S1x1x1024_2 v)

/-- One number everywhere. -/
def every (w : BitVec 32) : Full := broadcastInDim S4x8192x1024 ![] bcast_S_S4x8192x1024 (constant S_ .f32 w)
def everyGate (w : BitVec 32) : FVec Ideal S4x8192x4x256 .f32 := broadcastInDim S4x8192x4x256 ![] bcast_S_S4x8192x4x256 (constant S_ .f32 w)

/-- Three rows of zeros before every sequence. -/
def padded (X : FVec Ideal S32768x1024 .f32) : FVec Ideal S4x8195x1024 .f32 :=
  pad S4x8195x1024 ![0, 3, 0] ![0, 0, 0] ![0, 0, 0] (shapeCast S4x8192x1024 X shapeCasts_S32768x1024_S4x8192x1024)
    (sitofp .f32 (constantI S_ 32 0#32)) pads_S4x8192x1024_S4x8195x1024_000_300_000 h_S_

/-- The convolution. -/
def convR (X : FVec Ideal S32768x1024 .f32) (cw : FVec Ideal S4x1024 .f32) (cb : FVec Ideal S1x1024 .f32) : Full :=
  addf (addf (addf (addf (addf (every 0x00000000#32)
    (mulf (extractStridedSlice S4x8192x1024 ![0, 0, 0] (padded X) slices_S4x8195x1024_S4x8192x1024_0_0_0)
      (spread (shapeCast S1024 (extractStridedSlice S1x1024 ![0, 0] cw slices_S4x1024_S1x1024_0_0) shapeCasts_S1x1024_S1024))))
    (mulf (extractStridedSlice S4x8192x1024 ![0, 1, 0] (padded X) slices_S4x8195x1024_S4x8192x1024_0_1_0)
      (spread (shapeCast S1024 (extractStridedSlice S1x1024 ![1, 0] cw slices_S4x1024_S1x1024_1_0) shapeCasts_S1x1024_S1024))))
    (mulf (extractStridedSlice S4x8192x1024 ![0, 2, 0] (padded X) slices_S4x8195x1024_S4x8192x1024_0_2_0)
      (spread (shapeCast S1024 (extractStridedSlice S1x1024 ![2, 0] cw slices_S4x1024_S1x1024_2_0) shapeCasts_S1x1024_S1024))))
    (mulf (extractStridedSlice S4x8192x1024 ![0, 3, 0] (padded X) slices_S4x8195x1024_S4x8192x1024_0_3_0)
      (spread (shapeCast S1024 (extractStridedSlice S1x1024 ![3, 0] cw slices_S4x1024_S1x1024_3_0) shapeCasts_S1x1024_S1024))))
    (spread (shapeCast S1024 cb shapeCasts_S1x1024_S1024))

/-- The logits of both gates. -/
def logitsR (x : Full) (wg : FVec Ideal S4x256x512 .bf16) (bg : FVec Ideal S4x1x512 .f32) : FVec Ideal S4x8192x4x512 .f32 :=
  addf (transpose S4x8192x4x512 [2, 3, 0, 1] (Host.dotGeneral dot_S4x256x512_S4x8192x4x256_S4x512x4x8192_1_3_2_01_0_2 none
      (extf .f32 wg bitsLt_bf16_f32) (shapeCast S4x8192x4x256 x shapeCasts_S4x8192x1024_S4x8192x4x256))
      transposes_S4x512x4x8192_S4x8192x4x512_2_3_0_1)
    (broadcastInDim S4x8192x4x512 ![0, 1, 2, 3] bcast_S1x1x4x512_S4x8192x4x512_0_1_2_3
      (broadcastInDim S1x1x4x512 ![2, 3] bcast_S4x512_S1x1x4x512_2_3 (shapeCast S4x512 bg shapeCasts_S4x1x512_S4x512)))

/-- The sigmoid of a gate's logits. -/
def sigR (z : FVec Ideal S4x8192x4x256 .f32) : Full :=
  shapeCast S4x8192x1024 (Host.divf (everyGate 0x3F800000#32) (addf (everyGate 0x3F800000#32) (Host.exp (Host.negf z))))
    shapeCasts_S4x8192x4x256_S4x8192x1024

def zeroRow : FVec Ideal S1024 .f32 := broadcastInDim S1024 ![] bcast_S_S1024 (constant S_ .f32 0x00000000#32)

/-- The softplus of the negated decay parameters. -/
def softR (n : FVec Ideal S1024 .f32) : FVec Ideal S1024 .f32 :=
  select (cmpf .une (subf n zeroRow) (subf n zeroRow)) (addf n zeroRow)
    (addf (maximumf n zeroRow) (Host.log1p (Host.exp (Host.negf (Host.absf (subf n zeroRow))))))

/-- The logarithm of the decay, from the logits. -/
def decayR (z : FVec Ideal S4x8192x4x512 .f32) (lam : FVec Ideal S1x1024 .f32) : Full :=
  mulf (mulf (every 0xC1000000#32) (sigR (extractStridedSlice S4x8192x4x256 ![0, 0, 0, 0] z slices_S4x8192x4x512_S4x8192x4x256_0_0_0_0)))
    (spread (softR (Host.negf (shapeCast S1024 lam shapeCasts_S1x1024_S1024))))

/-- What is added to the state, from the convolution, the logits and the logarithm of the decay. -/
def inputR (x : Full) (z : FVec Ideal S4x8192x4x512 .f32) (d : Full) : Full :=
  mulf (select (broadcastInDim S4x8192x1024 ![0, 1, 2] bcast_S1x8192x1_S4x8192x1024_0_1_2
      (broadcastInDim S1x8192x1 ![1] bcast_S8192_S1x8192x1_1 (cmpi .eq (iotaInDim S8192 32 0)
        (broadcastInDim S8192 ![] bcast_S_S8192 (constantI S_ 32 0#32)))))
      (every 0x3F800000#32) (Host.sqrt (Host.negf (Host.expm1 (mulf (every 0x40000000#32) d)))))
    (mulf (sigR (extractStridedSlice S4x8192x4x256 ![0, 0, 0, 256] z slices_S4x8192x4x512_S4x8192x4x256_0_0_0_256)) x)

/-- The tokens first. -/
def timeMajor (v : Full) : FVec Ideal S8192x4x1024 .f32 := transpose S8192x4x1024 [1, 0, 2] v transposes_S4x8192x1024_S8192x4x1024_1_0_2

variable (m : (ℓ : Loc nD τ sig) → Buf (Elt Ideal) ℓ) (c : Dev nD)

def X0 : Full := convR (m ((c.tc : Thread nD τ).loc main_arg0)) (m ((c.tc : Thread nD τ).loc main_arg2)) (m ((c.tc : Thread nD τ).loc main_arg3))
def Z0 : FVec Ideal S4x8192x4x512 .f32 := logitsR (X0 m c) (m ((c.tc : Thread nD τ).loc main_arg4)) (m ((c.tc : Thread nD τ).loc main_arg5))
def D0 : Full := decayR (Z0 m c) (m ((c.tc : Thread nD τ).loc main_arg6))

open Cert.RnnRefIdeal.Value Cert.RnnRefIdeal.Gen StableHlo HostLoop

set_option maxHeartbeats 4000000 in
theorem entry0 : entryContents preI m c (Proc.devRef .tc main_v84_0) = timeMajor (Host.exp (D0 m c)) := by
  simp only [entryContents, preI, afterL_cons, afterL_nil, hostOps0, hostOps0_1, hostOps0_2, hostOps0_3, hostOps0_4, hostOps0_5, hostOps0_6]
  after_results
  rfl

set_option maxHeartbeats 4000000 in
theorem entry1 : entryContents preI m c (Proc.devRef .tc main_v84_1) = timeMajor (inputR (X0 m c) (Z0 m c) (D0 m c)) := by
  simp only [entryContents, preI, afterL_cons, afterL_nil, hostOps0, hostOps0_1, hostOps0_2, hostOps0_3, hostOps0_4, hostOps0_5, hostOps0_6]
  after_results
  rfl

set_option maxHeartbeats 4000000 in
theorem entry3 : entryContents preI m c (Proc.devRef .tc main_v84_3) = fun _ => (0 : EReal) := by
  simp only [entryContents, preI, afterL_cons, afterL_nil, hostOps0, hostOps0_1, hostOps0_2, hostOps0_3, hostOps0_4, hostOps0_5, hostOps0_6]
  after_results
  funext i
  show Ideal.ofBits .f32 0#32 = 0
  simp [Ideal.ofBits, Ideal.ieee]

end Cert.RnnRefIdeal.Recurrence

end
-- ==== Proof.RnnOps.lean ====
module

public import proofs.«01_k».proof.Proof.RnnScan
public import proofs.«01_k».proof.Proof.Gen.RnnIdeal.Skeleton
public import Idealize.ShloMosaic.Lib.Pipeline.ValueKit
public import Idealize.ShloMosaic.Lib.Pointwise

@[expose] public section

/-!
The recurrence kernel's operations on one block of 256 rows and 256 channels.
-/

set_option maxRecDepth 16384

noncomputable section

namespace Cert.RnnIdeal.Recurrence

open Cert.RnnIdeal Cert.RnnIdeal.Gen Idealize.ShloMosaic Idealize.ShloMosaic.TcCoe Idealize.SL.Sem

/-- A block of 256 rows and 256 channels. -/
abbrev Block := FVec Ideal S256x256 .f32

/-- The number of each row. -/
def rowNo : IVec S256x256 32 := iota .tc S256x256 32 [0] iota_S256x256_d0_w32

/-- Every element the number a word stands for. -/
def all (w : BitVec 32) : Block := broadcast S256x256 (Scalar.ofBits .f32 w)

/-- The rows moved down by `s`, the first `s` filled. -/
def shift (s : BitVec 32) (fill : Block) (v : Block) : Block :=
  select (cmpi .sge rowNo (broadcast S256x256 s)) (dynamicRotate 0 s none v rotates_S256x256_d0) fill

/-- One doubling of the factors. -/
def nextA (s : BitVec 32) (A : Block) : Block := mulf A (shift s (all 0x3F800000#32) A)

/-- One doubling of the summands. -/
def nextU (s : BitVec 32) (A U : Block) : Block := addf (mulf A (shift s (all 0x00000000#32) U)) U

/-- The factors after all doublings but the last. -/
def A1 (a : Block) : Block := nextA 1#32 a
def A2 (a : Block) : Block := nextA 2#32 (A1 a)
def A3 (a : Block) : Block := nextA 4#32 (A2 a)
def A4 (a : Block) : Block := nextA 8#32 (A3 a)
def A5 (a : Block) : Block := nextA 16#32 (A4 a)
def A6 (a : Block) : Block := nextA 32#32 (A5 a)
def A7 (a : Block) : Block := nextA 64#32 (A6 a)
def A8 (a : Block) : Block := nextA 128#32 (A7 a)
def U1 (a u : Block) : Block := nextU 1#32 a u
def U2 (a u : Block) : Block := nextU 2#32 (A1 a) (U1 a u)
def U3 (a u : Block) : Block := nextU 4#32 (A2 a) (U2 a u)
def U4 (a u : Block) : Block := nextU 8#32 (A3 a) (U3 a u)
def U5 (a u : Block) : Block := nextU 16#32 (A4 a) (U4 a u)
def U6 (a u : Block) : Block := nextU 32#32 (A5 a) (U5 a u)
def U7 (a u : Block) : Block := nextU 64#32 (A6 a) (U6 a u)
def U8 (a u : Block) : Block := nextU 128#32 (A7 a) (U7 a u)

/-- The recurrence of a block from the row `h` before it. -/
def scanned (a u : Block) (h : FVec Ideal S1x256 .f32) : Block :=
  addf (U8 a u) (mulf (A8 a) (broadcastTo S256x256 h broadcasts_S1x256_S256x256))

/-- The summands of the recurrence. -/
def summand (t : BitVec 32) (xc gi L : Block) : Block :=
  mulf (select (andi (cmpi .eq rowNo (broadcast S256x256 0#32)) (broadcast S256x256 (Scalar.cmpi .eq t 0#32))) (all 0x3F800000#32)
    (sqrt (select (cmpf .oeq (mulf (exp L) (exp L)) (all 0x3F800000#32)) (subf (all 0x00000000#32) (mulf (all 0x40000000#32) L))
      (divf (mulf (subf (all 0x3F800000#32) (mulf (exp L) (exp L))) (mulf (all 0x40000000#32) L))
        (select (cmpf .oeq (mulf (exp L) (exp L)) (all 0x3F800000#32)) (all 0x3F800000#32) (log (mulf (exp L) (exp L))))))))
    (mulf gi xc)

theorem pay16_eq (t : BitVec 32) (xc gi : Block) (sp : FVec Ideal S1x256 .f32) (g8 : Block) :
    k0_pay16 t xc gi sp g8 = U1 (k0_pay14 sp g8) (summand t xc gi (k0_pay13 sp g8)) := rfl

/-- The kernel's chain of doublings. -/
theorem scan_eq (a u : Block) (h : FVec Ideal S1x256 .f32) :
    k0_pay30 rowNo (k0_pay27 rowNo (U1 a u) (A1 a) k0_pay18 (dynamicRotate 0 2#32 none (A1 a) rotates_S256x256_d0) k0_pay20)
      (k0_pay28 rowNo (A1 a) k0_pay18 (dynamicRotate 0 2#32 none (A1 a) rotates_S256x256_d0) k0_pay20) (k0_pay29 rowNo) h
    = scanned a u h := rfl

theorem pick_one {a b : EReal} : Scalar.select (BitVec.ofBool true) a b = a := rfl
theorem pick_zero {a b : EReal} : Scalar.select (BitVec.ofBool false) a b = b := rfl

theorem shift_apply (s : BitVec 32) (n : ℕ) (hs : s.toNat = n) (hn : n < 256)
    (hb : ∀ r : Fin 256, IntOp.cmpi .sge (BitVec.ofNat 32 r.val) s = BitVec.ofBool (decide (n ≤ r.val))) (fill v : Block)
    (r l : Fin 256) : shift s fill v (ix2 r l) = if h : n ≤ r.val then v (ix2 ⟨r.val - n, by omega⟩ l) else fill (ix2 r l) := by
  pointwise [shift, rowNo]
  rw [hb r]
  by_cases h : n ≤ r.val
  · rw [dif_pos h, decide_eq_true h, pick_one]
    refine congrArg (fun z => v (ix2 z l)) (Fin.ext ?_)
    simp only [hs]
    omega
  · rw [dif_neg h, decide_eq_false h, pick_zero]

theorem jump_next {a u : ℕ → EReal} (s : BitVec 32) (n : ℕ) (hs : s.toNat = n) (hn : n < 256)
    (hb : ∀ r : Fin 256, IntOp.cmpi .sge (BitVec.ofNat 32 r.val) s = BitVec.ofBool (decide (n ≤ r.val))) (A U : Block)
    (l : Fin 256) (h : Recur.Jump a u n (fun r => A (ix2 r l)) (fun r => U (ix2 r l))) :
    Recur.Jump a u (n + n) (fun r => nextA s A (ix2 r l)) (fun r => nextU s A U (ix2 r l)) := by
  refine h.double (fun r => ?_) (fun r => ?_)
  · have e : nextA s A (ix2 r l) = A (ix2 r l) * shift s (all 0x3F800000#32) A (ix2 r l) := by pointwise [nextA]
    rw [e, shift_apply s n hs hn hb]
    by_cases g : n ≤ r.val
    · rw [dif_pos g, dif_pos g]
    · rw [dif_neg g, dif_neg g]; pointwise [all]
  · have e : nextU s A U (ix2 r l) = A (ix2 r l) * shift s (all 0x00000000#32) U (ix2 r l) + U (ix2 r l) := by pointwise [nextU]
    rw [e, shift_apply s n hs hn hb]
    by_cases g : n ≤ r.val
    · rw [dif_pos g, dif_pos g]
    · rw [dif_neg g, dif_neg g]; pointwise [all]

/-- The recurrence of a block, at one row and channel, from the coefficients of that channel. -/
theorem scanned_apply (a u : Block) (h : FVec Ideal S1x256 .f32) (fa fu : ℕ → EReal) (l : Fin 256)
    (ha : ∀ r : Fin 256, a (ix2 r l) = fa r.val) (hu : ∀ r : Fin 256, u (ix2 r l) = fu r.val) (h0 : ∀ i, 0 ≤ fa i)
    (h1 : ∀ i, fa i ≠ ⊤) (r : Fin 256) :
    scanned a u h (ix2 r l) = Recur.from_ fa fu (h (ix2 0 l)) (r.val + 1) := by
  have e : scanned a u h (ix2 r l) = U8 a u (ix2 r l) + A8 a (ix2 r l) * h (ix2 0 l) := by pointwise [scanned]
  rw [e]
  have j0 : Recur.Jump fa fu 1 (fun r => a (ix2 r l)) (fun r => u (ix2 r l)) := Recur.Jump.one ha hu h0 h1
  have j1 := jump_next 1#32 1 rfl (by omega) (by decide +kernel) a u l j0
  have j2 := jump_next 2#32 2 rfl (by omega) (by decide +kernel) _ _ l j1
  have j3 := jump_next 4#32 4 rfl (by omega) (by decide +kernel) _ _ l j2
  have j4 := jump_next 8#32 8 rfl (by omega) (by decide +kernel) _ _ l j3
  have j5 := jump_next 16#32 16 rfl (by omega) (by decide +kernel) _ _ l j4
  have j6 := jump_next 32#32 32 rfl (by omega) (by decide +kernel) _ _ l j5
  have j7 := jump_next 64#32 64 rfl (by omega) (by decide +kernel) _ _ l j6
  have j8 := jump_next 128#32 128 rfl (by omega) (by decide +kernel) _ _ l j7
  exact j8.all (h (ix2 0 l)) r

end Cert.RnnIdeal.Recurrence

end
-- ==== Proof.RnnBlocks.lean ====
module

public import proofs.«01_k».proof.Proof.RnnOps
public import proofs.«01_k».proof.Proof.Gen.RnnIdeal.Value
public import Idealize.ShloMosaic.Lib.Claim

@[expose] public section

/-!
The recurrence at one element, and the blocks one point of the kernel's grid reads and keeps.
-/

set_option maxRecDepth 16384

noncomputable section

namespace Cert.RnnIdeal.Recurrence

open Cert.RnnIdeal Cert.RnnIdeal.Gen Idealize.ShloMosaic Idealize.ShloMosaic.TcCoe Idealize.SL.Sem
open Idealize.ShloMosaic.Pipeline (Dat)

theorem conv_apply (x : FVec Ideal S1x256x256 .f32) (w3 cb : FVec Ideal S1x256 .f32) (x1 : Block) (w2 : FVec Ideal S1x256 .f32)
    (x2 : Block) (w1 : FVec Ideal S1x256 .f32) (x3 : Block) (w0 : FVec Ideal S1x256 .f32) (r l : Fin 256) :
    k0_pay6 x w3 cb x1 w2 x2 w1 x3 w0 (ix2 r l) = x (ix3 0 r l) * w3 (ix2 0 l) + cb (ix2 0 l) + x1 (ix2 r l) * w2 (ix2 0 l)
      + x2 (ix2 r l) * w1 (ix2 0 l) + x3 (ix2 r l) * w0 (ix2 0 l) := by
  pointwise [k0_pay6, k0_pay4]

theorem logits_apply (xc : Block) (wg : FVec Ideal S1x256x512 .bf16) (bg : FVec Ideal S1x1x512 .f32) (r : Fin 256) (j : Fin 512) :
    k0_pay9 xc wg bg (ix2 r j) = (∑ k : Fin 256, xc (ix2 r k) * wg (ix3 0 k j)) + bg (ix3 0 0 j) := by
  pointwise [k0_pay9]

theorem gate_apply (xc : Block) (wg : FVec Ideal S1x256x512 .bf16) (bg : FVec Ideal S1x1x512 .f32) (r l : Fin 256) :
    k0_pay10 xc wg bg (ix2 r l) = Gate.gate (k0_pay9 xc wg bg (ix2 r ⟨256 + l.val, by omega⟩)) := by
  pointwise [k0_pay10, Gate.gate]
  rw [zero_sub]

theorem soft_apply (lam : FVec Ideal S1x256 .f32) (l : Fin 256) :
    k0_pay11 (F := Ideal) lam (ix2 0 l) = Recur.soft (-(lam (ix2 0 l))) := by
  pointwise [k0_pay11, Recur.soft]
  rw [zero_sub, zero_sub]
  rfl

theorem eight : (Ideal.ofBits .f32 0xC1000000#32 : EReal) = ((-8 : ℝ) : EReal) := by
  simp [Ideal.ofBits, Ideal.ieee, -EReal.coe_mul]; norm_num

theorem two : (Ideal.ofBits .f32 0x40000000#32 : EReal) = 2 := by
  have e : (Ideal.ofBits .f32 0x40000000#32 : EReal) = ((2 : ℝ) : EReal) := by
    simp [Ideal.ofBits, Ideal.ieee, -EReal.coe_mul]; norm_num
  rw [e]; rfl

theorem rate_apply (xc : Block) (wg : FVec Ideal S1x256x512 .bf16) (bg : FVec Ideal S1x1x512 .f32) (r l : Fin 256) :
    k0_pay12 xc wg bg (ix2 r l) = ((-8 : ℝ) : EReal) * Gate.gate (k0_pay9 xc wg bg (ix2 r ⟨l.val, by omega⟩)) := by
  pointwise [k0_pay12, Gate.gate]
  rw [zero_sub, eight]

theorem decay_apply (sp : FVec Ideal S1x256 .f32) (g : Block) (r l : Fin 256) :
    k0_pay13 sp g (ix2 r l) = g (ix2 r l) * sp (ix2 0 l) := by
  pointwise [k0_pay13]

theorem factor_apply (sp : FVec Ideal S1x256 .f32) (g : Block) (r l : Fin 256) :
    k0_pay14 sp g (ix2 r l) = Ideal.exp (g (ix2 r l) * sp (ix2 0 l)) := by
  pointwise [k0_pay14, k0_pay13]

theorem row_bit : ∀ r : Fin 256, IntOp.cmpi .eq (BitVec.ofNat 32 r.val) 0#32 = BitVec.ofBool (decide (r.val = 0)) := by
  decide +kernel
theorem point_bit : ∀ t : Fin 32, Scalar.cmpi .eq (BitVec.ofNat 32 t.val) 0#32 = BitVec.ofBool (decide (t.val = 0)) := by
  decide +kernel

theorem summand_apply (t : Fin 32) (xc gi L : Block) (r l : Fin 256) (z : ℝ) (hz : z ≤ 0) (hL : L (ix2 r l) = z) :
    summand (BitVec.ofNat 32 t.val) xc gi L (ix2 r l)
      = (if t.val * 256 + r.val = 0 then 1 else Ideal.sqrt (-(Ideal.expm1 (2 * (z : EReal))))) * (gi (ix2 r l) * xc (ix2 r l)) := by
  have eb : IntOp.andi (IntOp.cmpi .eq (BitVec.ofNat 32 r.val) 0#32) (Scalar.cmpi .eq (BitVec.ofNat 32 t.val) 0#32)
      = BitVec.ofBool (decide (t.val * 256 + r.val = 0)) := by
    rw [row_bit r, point_bit t]
    by_cases h : r.val = 0 <;> by_cases g : t.val = 0 <;> simp [h, g] <;> rfl
  pointwise [summand, rowNo, all]
  simp only [eb, hL, two]
  rw [Recur.mult_eq z hz]
  by_cases h : t.val * 256 + r.val = 0
  · rw [if_pos h, decide_eq_true h, pick_one]
  · rw [if_neg h, decide_eq_false h, pick_zero]

/-- The tanh form of the gelu. -/
def gelu (y : EReal) : EReal := Ideal.ofBits .f32 0x3F000000#32 * y
  * (1 + Ideal.tanh (Ideal.ofBits .f32 0x3F4C422A#32 * (y + Ideal.ofBits .f32 0x3D372713#32 * (y * y * y))))

theorem out_apply (h : Block) (y : FVec Ideal S1x256x256 .f32) (r l : Fin 256) :
    k0_pay1 h y (ix3 0 r l) = h (ix2 r l) * gelu (y (ix3 0 r l)) := by
  pointwise [k0_pay1, gelu]

/-- The arguments: the two inputs' rows, the convolution's weights and bias, the gates' weights and biases by block of
channels, the decay parameters. -/
structure Args where
  X : FVec Ideal S32768x1024 .f32
  Y : FVec Ideal S32768x1024 .f32
  cw : FVec Ideal S4x1024 .f32
  cb : FVec Ideal S1x1024 .f32
  wg : FVec Ideal S4x256x512 .bf16
  bg : FVec Ideal S4x1x512 .f32
  lam : FVec Ideal S1x1024 .f32

/-- Channel `l` of block `n`. -/
def chan (n : Fin 4) (l : Fin 256) : Fin 1024 := ⟨n.val * 256 + l.val, by omega⟩

/-- The row of token `s` of sequence `b`. -/
def rowOf (b : Fin 4) (s : ℕ) : Fin 32768 := ⟨b.val * 8192 + s % 8192, by omega⟩

/-- The input `k` tokens back, zero before the sequence. -/
def back (P : Args) (b : Fin 4) (k s : ℕ) (j : Fin 1024) : EReal := if k ≤ s then P.X (ix2 (rowOf b (s - k)) j) else 0

/-- The causal convolution over four tokens. -/
def conv (P : Args) (b : Fin 4) (s : ℕ) (j : Fin 1024) : EReal :=
  P.X (ix2 (rowOf b s) j) * P.cw (ix2 3 j) + P.cb (ix2 0 j) + back P b 1 s j * P.cw (ix2 2 j)
    + back P b 2 s j * P.cw (ix2 1 j) + back P b 3 s j * P.cw (ix2 0 j)

/-- The logits of the two gates of a block of channels. -/
def logit (P : Args) (b : Fin 4) (s : ℕ) (n : Fin 4) (j : Fin 512) : EReal :=
  (∑ k : Fin 256, conv P b s (chan n k) * P.wg (ix3 n k j)) + P.bg (ix3 n 0 j)

/-- The logarithm of the decay. -/
def logDecay (P : Args) (b : Fin 4) (s : ℕ) (n : Fin 4) (l : Fin 256) : EReal :=
  ((-8 : ℝ) : EReal) * Gate.gate (logit P b s n ⟨l.val, by omega⟩) * Recur.soft (-(P.lam (ix2 0 (chan n l))))

/-- What is added to the state. -/
def input (P : Args) (b : Fin 4) (s : ℕ) (n : Fin 4) (l : Fin 256) : EReal :=
  (if s = 0 then 1 else Ideal.sqrt (-(Ideal.expm1 (2 * logDecay P b s n l))))
    * (Gate.gate (logit P b s n ⟨256 + l.val, by omega⟩) * conv P b s (chan n l))

/-- The state before token `s`. -/
def state (P : Args) (b : Fin 4) (n : Fin 4) (l : Fin 256) (s : ℕ) : EReal :=
  Recur.from_ (fun i => Ideal.exp (logDecay P b i n l)) (fun i => input P b i n l) 0 s

/-- The result. -/
def result (P : Args) : FVec Ideal S4x8192x1024 .bf16 := fun i =>
  state P (i 0) ⟨(i 2).val / 256, by have h : (i 2).val < 1024 := (i 2).isLt; omega⟩ ⟨(i 2).val % 256, by omega⟩ ((i 1).val + 1)
    * gelu (P.Y (ix2 (rowOf (i 0) (i 1).val) (i 2)))

theorem real_decay (P : Args) (hl : ∀ j : Fin 1024, P.lam (ix2 0 j) ≠ ⊥) (b : Fin 4) (s : ℕ) (n : Fin 4) (l : Fin 256) :
    ∃ z : ℝ, z ≤ 0 ∧ logDecay P b s n l = z :=
  Recur.decay_real _ _ (Recur.gate_nonneg _) (Recur.soft_nonneg _ fun e => hl (chan n l) (EReal.neg_eq_top_iff.mp e))

section Block

variable (P : Args) (b n : Fin 4) (t : Fin 32) (hl : ∀ j : Fin 1024, P.lam (ix2 0 j) ≠ ⊥)
  (x : FVec Ideal S1x256x256 .f32) (w3 cb : FVec Ideal S1x256 .f32) (x1 : Block) (w2 : FVec Ideal S1x256 .f32)
  (x2 : Block) (w1 : FVec Ideal S1x256 .f32) (x3 : Block) (w0 : FVec Ideal S1x256 .f32) (wg : FVec Ideal S1x256x512 .bf16)
  (bg : FVec Ideal S1x1x512 .f32) (lam h : FVec Ideal S1x256 .f32)

theorem conv_block (hx : ∀ r l : Fin 256, x (ix3 0 r l) = P.X (ix2 (rowOf b (t.val * 256 + r.val)) (chan n l)))
    (hx1 : ∀ r l : Fin 256, x1 (ix2 r l) = back P b 1 (t.val * 256 + r.val) (chan n l))
    (hx2 : ∀ r l : Fin 256, x2 (ix2 r l) = back P b 2 (t.val * 256 + r.val) (chan n l))
    (hx3 : ∀ r l : Fin 256, x3 (ix2 r l) = back P b 3 (t.val * 256 + r.val) (chan n l))
    (hw3 : ∀ l, w3 (ix2 0 l) = P.cw (ix2 3 (chan n l))) (hw2 : ∀ l, w2 (ix2 0 l) = P.cw (ix2 2 (chan n l)))
    (hw1 : ∀ l, w1 (ix2 0 l) = P.cw (ix2 1 (chan n l))) (hw0 : ∀ l, w0 (ix2 0 l) = P.cw (ix2 0 (chan n l)))
    (hcb : ∀ l, cb (ix2 0 l) = P.cb (ix2 0 (chan n l))) (r l : Fin 256) :
    k0_pay6 (F := Ideal) x w3 cb x1 w2 x2 w1 x3 w0 (ix2 r l) = conv P b (t.val * 256 + r.val) (chan n l) := by
  rw [conv_apply, hx, hx1, hx2, hx3, hw3, hw2, hw1, hw0, hcb]; rfl

include hl in
/-- The states of a block, from the convolution's rows and the state before it. -/
theorem state_block (xc : Block) (hc : ∀ r l : Fin 256, xc (ix2 r l) = conv P b (t.val * 256 + r.val) (chan n l))
    (hwg : ∀ k j, wg (ix3 0 k j) = P.wg (ix3 n k j)) (hbg : ∀ j, bg (ix3 0 0 j) = P.bg (ix3 n 0 j))
    (hlam : ∀ l, lam (ix2 0 l) = P.lam (ix2 0 (chan n l))) (hh : ∀ l, h (ix2 0 l) = state P b n l (t.val * 256))
    (w : BitVec 32) (hw : w = BitVec.ofNat 32 t.val) (r l : Fin 256) :
    k0_pay30 (iota .tc S256x256 32 [0] iota_S256x256_d0_w32)
      (k0_pay27 (iota .tc S256x256 32 [0] iota_S256x256_d0_w32)
        (k0_pay16 w xc (k0_pay10 xc wg bg) (k0_pay11 lam) (k0_pay12 xc wg bg))
        (k0_pay17 (k0_pay11 lam) (k0_pay12 xc wg bg)) k0_pay18 (k0_pay19 (k0_pay11 lam) (k0_pay12 xc wg bg)) k0_pay20)
      (k0_pay28 (iota .tc S256x256 32 [0] iota_S256x256_d0_w32)
        (k0_pay17 (k0_pay11 lam) (k0_pay12 xc wg bg)) k0_pay18 (k0_pay19 (k0_pay11 lam) (k0_pay12 xc wg bg)) k0_pay20)
      (k0_pay29 (iota .tc S256x256 32 [0] iota_S256x256_d0_w32)) h (ix2 r l)
      = state P b n l (t.val * 256 + r.val + 1) := by
  subst hw
  have hg : ∀ (r : Fin 256) (j : Fin 512), k0_pay9 xc wg bg (ix2 r j) = logit P b (t.val * 256 + r.val) n j := by
    intro r j
    rw [logits_apply, hbg]
    refine congrArg (· + _) (Finset.sum_congr rfl fun k _ => ?_)
    rw [hc, hwg]
  have hd : ∀ r : Fin 256, k0_pay12 xc wg bg (ix2 r l) * k0_pay11 (F := Ideal) lam (ix2 0 l)
      = logDecay P b (t.val * 256 + r.val) n l := by
    intro r
    rw [rate_apply, soft_apply, hg, hlam]; rfl
  show scanned (k0_pay14 (k0_pay11 lam) (k0_pay12 xc wg bg))
    (summand (BitVec.ofNat 32 t.val) xc (k0_pay10 xc wg bg) (k0_pay13 (k0_pay11 lam) (k0_pay12 xc wg bg))) h (ix2 r l) = _
  refine (scanned_apply _ _ h (fun i => Ideal.exp (logDecay P b (t.val * 256 + i) n l)) (fun i => input P b (t.val * 256 + i) n l) l
    (fun r => ?_) (fun r => ?_) (fun i => ?_) (fun i => ?_) r).trans ?_
  · rw [factor_apply, hd]
  · obtain ⟨z, hz, ez⟩ := real_decay P hl b (t.val * 256 + r.val) n l
    rw [summand_apply t xc _ _ r l z hz (by rw [decay_apply, hd, ez]), gate_apply, hg, hc, ← ez]; rfl
  · obtain ⟨z, hz, ez⟩ := real_decay P hl b (t.val * 256 + i) n l
    show 0 ≤ Ideal.exp (logDecay P b (t.val * 256 + i) n l)
    rw [ez]; exact EReal.coe_nonneg.mpr (Real.exp_pos z).le
  · obtain ⟨z, hz, ez⟩ := real_decay P hl b (t.val * 256 + i) n l
    show Ideal.exp (logDecay P b (t.val * 256 + i) n l) ≠ ⊤
    rw [ez]; exact EReal.coe_ne_top _
  · rw [hh l]
    exact (Recur.from_add (fun i => Ideal.exp (logDecay P b i n l)) (fun i => input P b i n l) 0 (t.val * 256) (r.val + 1)).symm

end Block

/-! ## The grid's points and the blocks they read -/

/-- Sequence, block of channels and block of rows of a point. -/
def seq (t : Fin cfg0.N) : Fin 4 := ⟨t.val / 128, by have h := t.isLt; have e : cfg0.N = 512 := rfl; omega⟩
def grp (t : Fin cfg0.N) : Fin 4 := ⟨t.val / 32 % 4, by omega⟩
def num (t : Fin cfg0.N) : Fin 32 := ⟨t.val % 32, by omega⟩

theorem idx : ∀ t : Fin cfg0.N,
    win0_0.index t = ![(seq t).val, (num t).val, (grp t).val]
    ∧ win0_1.index t = ![(seq t).val, (num t).val, (grp t).val]
    ∧ win0_2.index t = ![0, (grp t).val]
    ∧ win0_3.index t = ![0, (grp t).val]
    ∧ win0_4.index t = ![(grp t).val, 0, 0]
    ∧ win0_5.index t = ![(grp t).val, 0, 0]
    ∧ win0_6.index t = ![0, (grp t).val]
    ∧ win0_7.index t = ![(seq t).val, (num t).val, (grp t).val] :=
  (by decide +kernel : ∀ t : Fin grid0.N, _)

theorem coord (t : Fin cfg0.N) : (grid0.coords t 2).val = (num t).val := by
  have e : (grid0.coords t 2).val = t.val / 1 % 32 := Pipeline.Grid.coords_val t 2 (by decide) rfl
  rw [e, Nat.div_one]; rfl

variable (m : (ℓ : Loc nD τ sig) → Buf (Elt Ideal) ℓ)

/-- The call's arguments. -/
def args (c : Dev nD) : Args where
  X := m ((c : Thread nD τ).loc main_arg0)
  Y := m ((c : Thread nD τ).loc main_arg1)
  cw := m ((c : Thread nD τ).loc main_arg2)
  cb := m ((c : Thread nD τ).loc main_arg3)
  wg := m ((c : Thread nD τ).loc main_arg4)
  bg := m ((c : Thread nD τ).loc main_arg5)
  lam := m ((c : Thread nD τ).loc main_arg6)

theorem V_x (c : Dev nD) : V m c main_v0
    = shapeCast S4x8192x1024 (m ((c : Thread nD τ).loc main_arg0)) shapeCasts_S32768x1024_S4x8192x1024 := by
  unfold V; after_results; try rfl
theorem V_y (c : Dev nD) : V m c main_v1
    = shapeCast S4x8192x1024 (m ((c : Thread nD τ).loc main_arg1)) shapeCasts_S32768x1024_S4x8192x1024 := by
  unfold V; after_results; try rfl

theorem rows (X : FVec Ideal S32768x1024 .f32) (b : Fin 4) (r : Fin 8192) (l : Fin 1024) :
    shapeCast S4x8192x1024 X shapeCasts_S32768x1024_S4x8192x1024 (ix3 b r l) = X (ix2 (rowOf b r.val) l) := by
  have e : rowOf b r.val = ⟨b.val * 8192 + r.val, by omega⟩ := Fin.ext (by show b.val * 8192 + r.val % 8192 = b.val * 8192 + r.val; omega)
  rw [e]
  pointwise

theorem blk0 (c : Dev nD) (t : Fin cfg0.N) (q l : Fin 256) : iblk m c 0 t (ix3 0 q l)
    = (args m c).X (ix2 (rowOf (seq t) ((num t).val * 256 + q.val)) (chan (grp t) l)) := by
  have hn : (num t).val < 32 := (num t).isLt
  have e : ((cfg0.win 0).blk t).view.emb (ix3 0 q l)
      = ix3 (n0 := 4) (n1 := 8192) (n2 := 1024) (seq t) ⟨(num t).val * 256 + q.val, by omega⟩ (chan (grp t) l) := by
    blk_ext [idx t, chan]
  show V m c main_v0 (((cfg0.win 0).blk t).view.emb (ix3 0 q l)) = _
  rw [V_x, e]
  exact rows _ _ _ _

theorem blk1 (c : Dev nD) (t : Fin cfg0.N) (q l : Fin 256) : iblk m c 1 t (ix3 0 q l)
    = (args m c).Y (ix2 (rowOf (seq t) ((num t).val * 256 + q.val)) (chan (grp t) l)) := by
  have hn : (num t).val < 32 := (num t).isLt
  have e : ((cfg0.win 1).blk t).view.emb (ix3 0 q l)
      = ix3 (n0 := 4) (n1 := 8192) (n2 := 1024) (seq t) ⟨(num t).val * 256 + q.val, by omega⟩ (chan (grp t) l) := by
    blk_ext [idx t, chan]
  show V m c main_v1 (((cfg0.win 1).blk t).view.emb (ix3 0 q l)) = _
  rw [V_y, e]
  exact rows _ _ _ _

theorem blk2 (c : Dev nD) (t : Fin cfg0.N) (k : Fin 4) (l : Fin 256) :
    iblk m c 2 t (ix2 k l) = (args m c).cw (ix2 k (chan (grp t) l)) := by
  show (args m c).cw (((cfg0.win 2).blk t).view.emb (ix2 k l)) = _
  refine congrArg _ ?_
  blk_ext [idx t, chan]

theorem blk3 (c : Dev nD) (t : Fin cfg0.N) (l : Fin 256) :
    iblk m c 3 t (ix2 0 l) = (args m c).cb (ix2 0 (chan (grp t) l)) := by
  show (args m c).cb (((cfg0.win 3).blk t).view.emb (ix2 0 l)) = _
  refine congrArg _ ?_
  blk_ext [idx t, chan]

theorem blk4 (c : Dev nD) (t : Fin cfg0.N) (k : Fin 256) (j : Fin 512) :
    iblk m c 4 t (ix3 0 k j) = (args m c).wg (ix3 (grp t) k j) := by
  show (args m c).wg (((cfg0.win 4).blk t).view.emb (ix3 0 k j)) = _
  refine congrArg _ ?_
  blk_ext [idx t]

theorem blk5 (c : Dev nD) (t : Fin cfg0.N) (j : Fin 512) :
    iblk m c 5 t (ix3 0 0 j) = (args m c).bg (ix3 (grp t) 0 j) := by
  show (args m c).bg (((cfg0.win 5).blk t).view.emb (ix3 0 0 j)) = _
  refine congrArg _ ?_
  blk_ext [idx t]

theorem blk6 (c : Dev nD) (t : Fin cfg0.N) (l : Fin 256) :
    iblk m c 6 t (ix2 0 l) = (args m c).lam (ix2 0 (chan (grp t) l)) := by
  show (args m c).lam (((cfg0.win 6).blk t).view.emb (ix2 0 l)) = _
  refine congrArg _ ?_
  blk_ext [idx t, chan]

end Cert.RnnIdeal.Recurrence

end
-- ==== Proof.RnnRefPoint.lean ====
module

public import proofs.«01_k».proof.Proof.RnnRefTerm
public import proofs.«01_k».proof.Proof.RnnBlocks

@[expose] public section

/-!
The reference's coefficients of the recurrence at one element.
-/

set_option maxRecDepth 16384

noncomputable section

namespace Cert.RnnRefIdeal.Recurrence

open Cert.RnnRefIdeal Idealize.ShloMosaic Idealize.ShloMosaic.TcCoe Idealize.SL.Sem
open Cert.RnnRefIdeal.Facts₀ Cert.RnnRefIdeal.Facts
open Cert.RnnIdeal.Recurrence (Args chan rowOf back conv logit logDecay input state gelu result eight two pick_one pick_zero)

theorem spread_apply (v : FVec Ideal S1024 .f32) (b : Fin 4) (s : Fin 8192) (j : Fin 1024) : spread v (ix3 b s j) = v (ix1 j) := by
  pointwise [spread]

theorem padded_apply (P : Args) (b : Fin 4) (s : Fin 8192) (k : ℕ) (hk : k ≤ 3) (j : Fin 1024) :
    padded P.X (ix3 b ⟨s.val + (3 - k), by omega⟩ j) = back P b k s.val j := by
  pointwise [padded, back]
  have e0 : (FloatOps.sitofp (F := Ideal) FTy.f32 (0#32)) = (0 : EReal) := by
    show (((0#32 : BitVec 32).toInt : ℝ) : EReal) = 0
    simp
  by_cases h : k ≤ s.val
  · rw [dif_pos (by omega), if_pos h]
    refine congrArg (fun z => P.X (ix2 z j)) (Fin.ext ?_)
    show b.val * 8192 + (s.val + (3 - k) - 3) = b.val * 8192 + (s.val - k) % 8192
    omega
  · rw [dif_neg (by omega), if_neg h, e0]

theorem conv_eq (P : Args) (b : Fin 4) (s : Fin 8192) (j : Fin 1024) :
    convR P.X P.cw P.cb (ix3 b s j) = conv P b s.val j := by
  have e : convR P.X P.cw P.cb (ix3 b s j)
      = padded P.X (ix3 b ⟨s.val + (3 - 3), by omega⟩ j) * P.cw (ix2 0 j) + padded P.X (ix3 b ⟨s.val + (3 - 2), by omega⟩ j) * P.cw (ix2 1 j)
        + padded P.X (ix3 b ⟨s.val + (3 - 1), by omega⟩ j) * P.cw (ix2 2 j) + padded P.X (ix3 b ⟨s.val + (3 - 0), by omega⟩ j) * P.cw (ix2 3 j)
        + P.cb (ix2 0 j) := by
    pointwise [convR, spread, every]
    simp only [Nat.add_comm]
  rw [e, padded_apply P b s 3 (by omega), padded_apply P b s 2 (by omega), padded_apply P b s 1 (by omega), padded_apply P b s 0 (by omega)]
  unfold conv
  rw [show back P b 0 s.val j = P.X (ix2 (rowOf b s.val) j) by unfold back; rw [if_pos (Nat.zero_le _), Nat.sub_zero]]
  generalize P.X (ix2 (rowOf b s.val) j) * P.cw (ix2 3 j) = p0
  generalize back P b 1 s.val j * P.cw (ix2 2 j) = p1
  generalize back P b 2 s.val j * P.cw (ix2 1 j) = p2
  generalize back P b 3 s.val j * P.cw (ix2 0 j) = p3
  generalize P.cb (ix2 0 j) = q
  rw [show p3 + p2 + p1 + p0 + q = p0 + q + p1 + p2 + p3 by abel]

theorem logit_eq (P : Args) (x : Full) (hx : ∀ b s j, x (ix3 b s j) = conv P b s.val j) (b : Fin 4) (s : Fin 8192) (n : Fin 4) (j : Fin 512) :
    logitsR x P.wg P.bg (ix4 b s n j) = logit P b s.val n j := by
  pointwise [logitsR, logit]
  refine congrArg (· + P.bg (ix3 n 0 j)) (Finset.sum_congr rfl fun k _ => ?_)
  rw [mul_comm, ← hx]
  rfl

theorem soft_eq (n : FVec Ideal S1024 .f32) (j : Fin 1024) : softR n (ix1 j) = Recur.soft (n (ix1 j)) := by
  pointwise [softR, zeroRow, Recur.soft]
  rw [if_neg (fun h => h rfl)]
  rfl

theorem sig_eq (z : FVec Ideal S4x8192x4x256 .f32) (b : Fin 4) (s : Fin 8192) (n : Fin 4) (l : Fin 256) :
    sigR z (ix3 b s (chan n l)) = Gate.gate (z (ix4 b s n l)) := by
  pointwise [sigR, everyGate, Gate.gate, chan]

theorem decay_eq (P : Args) (z : FVec Ideal S4x8192x4x512 .f32) (hz : ∀ b s n j, z (ix4 b s n j) = logit P b s.val n j)
    (b : Fin 4) (s : Fin 8192) (n : Fin 4) (l : Fin 256) : decayR z P.lam (ix3 b s (chan n l)) = logDecay P b s.val n l := by
  have e : decayR z P.lam (ix3 b s (chan n l)) = Ideal.ofBits .f32 0xC1000000#32
      * sigR (extractStridedSlice S4x8192x4x256 ![0, 0, 0, 0] z slices_S4x8192x4x512_S4x8192x4x256_0_0_0_0) (ix3 b s (chan n l))
      * softR (Host.negf (shapeCast S1024 P.lam shapeCasts_S1x1024_S1024)) (ix1 (chan n l)) := by
    pointwise [decayR, spread, every]
  rw [e, sig_eq, soft_eq, eight]
  unfold logDecay
  rw [← hz]
  pointwise

theorem token_bit (s : Fin 8192) : IntOp.cmpi .eq (BitVec.ofNat 32 s.val) 0#32 = BitVec.ofBool (decide (s.val = 0)) := by
  have h : (BitVec.ofNat 32 s.val = 0#32) ↔ s.val = 0 := by
    constructor
    · intro h
      have := congrArg BitVec.toNat h
      simp at this
      omega
    · intro h; rw [h]
  show BitVec.ofBool (decide (BitVec.ofNat 32 s.val = 0#32)) = _
  rw [decide_eq_decide.mpr h]

theorem input_eq (P : Args) (x : Full) (hx : ∀ b s j, x (ix3 b s j) = conv P b s.val j) (z : FVec Ideal S4x8192x4x512 .f32)
    (hz : ∀ b s n j, z (ix4 b s n j) = logit P b s.val n j) (d : Full) (hd : ∀ b s n l, d (ix3 b s (chan n l)) = logDecay P b s.val n l)
    (b : Fin 4) (s : Fin 8192) (n : Fin 4) (l : Fin 256) : inputR x z d (ix3 b s (chan n l)) = input P b s.val n l := by
  have e : inputR x z d (ix3 b s (chan n l)) = Scalar.select (IntOp.cmpi .eq (BitVec.ofNat 32 s.val) 0#32) (1 : EReal)
        (Ideal.sqrt (-(Ideal.expm1 (Ideal.ofBits .f32 0x40000000#32 * d (ix3 b s (chan n l))))))
      * (sigR (extractStridedSlice S4x8192x4x256 ![0, 0, 0, 256] z slices_S4x8192x4x512_S4x8192x4x256_0_0_0_256) (ix3 b s (chan n l))
        * x (ix3 b s (chan n l))) := by
    pointwise [inputR, every, Ideal.expm1]
  rw [e, sig_eq, token_bit, hd, hx, two]
  unfold input
  rw [← hz]
  by_cases h : s.val = 0
  · rw [if_pos h, decide_eq_true h, pick_one]
    pointwise
  · rw [if_neg h, decide_eq_false h, pick_zero]
    pointwise

end Cert.RnnRefIdeal.Recurrence

end
-- ==== Proof.RnnKept.lean ====
module

public import proofs.«01_k».proof.Proof.RnnBlocks
public import Idealize.ShloMosaic.Lib.WritesUnit

@[expose] public section

/-!
What each point of the recurrence's grid keeps for the next: the last eight rows of its input and the state.
-/

set_option maxRecDepth 16384

noncomputable section

namespace Cert.RnnIdeal.Recurrence

open Cert.RnnIdeal Cert.RnnIdeal.Gen Idealize.ShloMosaic Idealize.ShloMosaic.TcCoe Idealize.SL.Sem
open Idealize.ShloMosaic.Pipeline (Dat)

/-- Rows `k` on, the buffer's first eight rows kept and the block stored behind them. -/
theorem load_over (hh : (Memref.whole cc0_scratch0).IsWhole) (p : Vec Ideal S264x256 .f32) (q : Vec Ideal S256x256 .f32) (k : ℕ)
    (hk : k < 8) (inb : ∀ a, (![k, 0] : Fin 2 → ℕ) a + ![256, 256] a ≤ S264x256.size a) (r l : Fin 256) :
    View.ld (View.read (Elt Ideal) (View.whole cc0_scratch0) ((View.whole cc0_scratch0).writes (Elt Ideal) (hh.unread p)
        [⟨Rect.unit (s := S264x256) ![8, 0] ![256, 256] inb_S264x256_S256x256_8_0, q⟩])) (Rect.unit (s := S264x256) ![k, 0] ![256, 256] inb) (ix2 r l)
      = if h : 8 ≤ k + r.val then q (ix2 ⟨k + r.val - 8, by omega⟩ l) else p (ix2 ⟨k + r.val, by omega⟩ l) := by
  have e : (Rect.unit (s := S264x256) ![k, 0] ![256, 256] inb).emb (ix2 r l) = ix2 (n0 := 264) (n1 := 256) ⟨k + r.val, by omega⟩ l := by
    blk_ext []
  change View.read (Elt Ideal) (View.whole cc0_scratch0) ((View.whole cc0_scratch0).writes (Elt Ideal) (hh.unread p)
        [⟨Rect.unit (s := S264x256) ![8, 0] ![256, 256] inb_S264x256_S256x256_8_0, q⟩]) ((Rect.unit (s := S264x256) ![k, 0] ![256, 256] inb).emb (ix2 r l)) = _
  rw [e]
  by_cases h : 8 ≤ k + r.val
  · rw [dif_pos h]
    exact View.read_writes_cons_rows_of_mem (View.whole cc0_scratch0) _ inb_S264x256_S256x256_8_0 q []
      (ix2 ⟨k + r.val, by omega⟩ l) (ix2 ⟨k + r.val - 8, by omega⟩ l) rfl
      (by show k + r.val = 8 + (k + r.val - 8); omega) rfl
  · rw [dif_neg h]
    refine (View.read_writes_cons_rows_of_not_mem (View.whole cc0_scratch0) _ inb_S264x256_S256x256_8_0 q []
      (ix2 ⟨k + r.val, by omega⟩ l) rfl (W := 256) rfl (.inl (by show k + r.val < 8; omega))).trans ?_
    exact congrFun (hh.read_unread p) _

/-- The same after the first eight rows were stored as well. -/
theorem load_clear (z : Vec Ideal S8x256 .f32) (q : Vec Ideal S256x256 .f32) (k : ℕ)
    (hk : k < 8) (inb : ∀ a, (![k, 0] : Fin 2 → ℕ) a + ![256, 256] a ≤ S264x256.size a) (r l : Fin 256) :
    (View.whole cc0_scratch0).readCov [⟨Rect.unit (s := S264x256) ![8, 0] ![256, 256] inb_S264x256_S256x256_8_0, q⟩,
        ⟨Rect.unit (s := S264x256) ![0, 0] ![8, 256] inb_S264x256_S8x256_0_0, z⟩] (Rect.unit (s := S264x256) ![k, 0] ![256, 256] inb).toLoadRect (ix2 r l)
      = if h : 8 ≤ k + r.val then q (ix2 ⟨k + r.val - 8, by omega⟩ l) else z (ix2 ⟨k + r.val, by omega⟩ l) := by
  have e : (Rect.unit (s := S264x256) ![k, 0] ![256, 256] inb).emb (ix2 r l) = ix2 (n0 := 264) (n1 := 256) ⟨k + r.val, by omega⟩ l := by
    blk_ext []
  change View.read (Elt Ideal) (View.whole cc0_scratch0) ((View.whole cc0_scratch0).writes (Elt Ideal) (View.whole cc0_scratch0).junk
        [⟨Rect.unit (s := S264x256) ![8, 0] ![256, 256] inb_S264x256_S256x256_8_0, q⟩, ⟨Rect.unit (s := S264x256) ![0, 0] ![8, 256] inb_S264x256_S8x256_0_0, z⟩])
        ((Rect.unit (s := S264x256) ![k, 0] ![256, 256] inb).emb (ix2 r l)) = _
  rw [e]
  by_cases h : 8 ≤ k + r.val
  · rw [dif_pos h]
    exact View.read_writes_cons_rows_of_mem (View.whole cc0_scratch0) _ inb_S264x256_S256x256_8_0 q _
      (ix2 ⟨k + r.val, by omega⟩ l) (ix2 ⟨k + r.val - 8, by omega⟩ l) rfl
      (by show k + r.val = 8 + (k + r.val - 8); omega) rfl
  · rw [dif_neg h]
    refine (View.read_writes_cons_rows_of_not_mem (View.whole cc0_scratch0) _ inb_S264x256_S256x256_8_0 q _
      (ix2 ⟨k + r.val, by omega⟩ l) rfl (W := 256) rfl (.inl (by show k + r.val < 8; omega))).trans ?_
    exact View.read_writes_cons_rows_of_mem (View.whole cc0_scratch0) _ inb_S264x256_S8x256_0_0 z []
      (ix2 ⟨k + r.val, by omega⟩ l) (ix2 ⟨k + r.val, by omega⟩ l) rfl (Nat.zero_add _).symm rfl

variable (m : (ℓ : Loc nD τ sig) → Buf (Elt Ideal) ℓ)

/-- The rows kept after a point are the last eight rows of its input. -/
theorem kept_rows (c : Dev nD) (t : Fin cfg0.N) (i : Fin 8) (l : Fin 256) :
    (outsAt0 m c t.val t.isLt).2.1 (ix2 ⟨i.val, by omega⟩ l)
      = (args m c).X (ix2 (rowOf (seq t) ((num t).val * 256 + (248 + i.val))) (chan (grp t) l)) := by
  have e : ix2 (n0 := 264) (n1 := 256) ⟨i.val, by omega⟩ l
      = (Rect.unit (s := S264x256) ![0, 0] ![8, 256] inb_S264x256_S8x256_0_0).emb (ix2 i l) := by
    blk_ext []
  have p : k0_pay8 (F := Ideal) (k0_pay7 (iblk m c 0 t)) (ix2 i l)
      = (args m c).X (ix2 (rowOf (seq t) ((num t).val * 256 + (248 + i.val))) (chan (grp t) l)) := by
    rw [← blk0 m c t ⟨248 + i.val, by omega⟩ l]
    pointwise [k0_pay8, k0_pay7, k0_pay4]
  by_cases e0 : t.val % 32 = 0
  · rw [outsAt0_A m c t e0]; unfold sout0_A_0; frame_out
    rw [e, View.canon_cons_emb, p]
  · rw [outsAt0_B m c t e0]; unfold sout0_B_0; frame_out
    rw [e, View.canon_cons_emb, p]

/-- The kept state read back. -/
theorem load_state (hh : (Memref.whole cc0_scratch1).IsWhole) (p : Vec Ideal S8x256 .f32) (l : Fin 256) :
    View.ld (View.read (Elt Ideal) (View.whole cc0_scratch1) (hh.unread p))
      (Rect.unit (s := S8x256) ![0, 0] ![1, 256] inb_S8x256_S1x256_0_0) (ix2 0 l) = p (ix2 0 l) := by
  have e : (Rect.unit (s := S8x256) ![0, 0] ![1, 256] inb_S8x256_S1x256_0_0).emb (ix2 0 l) = ix2 (n0 := 8) (n1 := 256) 0 l := by
    blk_ext []
  exact (congrFun (hh.read_unread p) _).trans (congrArg p e)

/-- The state read back after it was stored over whole. -/
theorem load_zero (z : Vec Ideal S8x256 .f32) (l : Fin 256) :
    (View.whole cc0_scratch1).readCov [⟨Rect.unit (s := S8x256) ![0, 0] ![8, 256] inb_S8x256_S8x256_0_0, z⟩]
      (Rect.unit (s := S8x256) ![0, 0] ![1, 256] inb_S8x256_S1x256_0_0).toLoadRect (ix2 0 l) = z (ix2 0 l) := by
  have e : (Rect.unit (s := S8x256) ![0, 0] ![1, 256] inb_S8x256_S1x256_0_0).emb (ix2 0 l) = ix2 (n0 := 8) (n1 := 256) 0 l := by
    blk_ext []
  change View.read (Elt Ideal) (View.whole cc0_scratch1) ((View.whole cc0_scratch1).writes (Elt Ideal) (View.whole cc0_scratch1).junk
        [⟨Rect.unit (s := S8x256) ![0, 0] ![8, 256] inb_S8x256_S8x256_0_0, z⟩])
        ((Rect.unit (s := S8x256) ![0, 0] ![1, 256] inb_S8x256_S1x256_0_0).emb (ix2 0 l)) = _
  rw [e]
  exact View.read_writes_cons_rows_of_mem (View.whole cc0_scratch1) _ inb_S8x256_S8x256_0_0 z []
      (ix2 0 l) (ix2 0 l) rfl rfl rfl

/-- A row of the convolution's weights. -/
theorem load_weight (c : Dev nD) (t : Fin cfg0.N) (k : Fin 4)
    (inb : ∀ a, (![k.val, 0] : Fin 2 → ℕ) a + ![1, 256] a ≤ S4x256.size a) (l : Fin 256) :
    View.ld (iblk m c 2 t) (Rect.unit (s := S4x256) ![k.val, 0] ![1, 256] inb) (ix2 0 l) = (args m c).cw (ix2 k (chan (grp t) l)) := by
  have e : (Rect.unit (s := S4x256) ![k.val, 0] ![1, 256] inb).emb (ix2 0 l) = ix2 (n0 := 4) (n1 := 256) k l := by
    blk_ext []
  exact (congrArg (iblk m c 2 t) e).trans (blk2 m c t k l)

theorem pay5_apply (x : FVec Ideal S1x256x256 .f32) (r l : Fin 256) : k0_pay5 (F := Ideal) x (ix2 r l) = x (ix3 0 r l) := by
  pointwise [k0_pay5, k0_pay4]

/-- At the first point of a sequence the rows before the block are zeros. -/
theorem back_A (c : Dev nD) (t : Fin cfg0.N) (e0 : t.val % 32 = 0) (k : ℕ) (h0 : 0 < k) (hk : k < 8)
    (inb : ∀ a, (![8 - k, 0] : Fin 2 → ℕ) a + ![256, 256] a ≤ S264x256.size a) (r l : Fin 256) :
    View.readCov (Val := Elt Ideal) (View.whole cc0_scratch0)
        [⟨Rect.unit (s := S264x256) ![8, 0] ![256, 256] inb_S264x256_S256x256_8_0, k0_pay5 (iblk m c 0 t)⟩,
        ⟨Rect.unit (s := S264x256) ![0, 0] ![8, 256] inb_S264x256_S8x256_0_0, k0_pay2 (F := Ideal)⟩]
        (Rect.unit (s := S264x256) ![8 - k, 0] ![256, 256] inb).toLoadRect (ix2 r l)
      = back (args m c) (seq t) k ((num t).val * 256 + r.val) (chan (grp t) l) := by
  have en : (num t).val = 0 := e0
  refine (load_clear _ _ (8 - k) (by omega) inb r l).trans ?_
  unfold back
  rw [en]
  by_cases h : 8 ≤ 8 - k + r.val
  · rw [dif_pos h, if_pos (by omega), pay5_apply, blk0, en]
    exact congrArg (fun z => (args m c).X (ix2 (rowOf (seq t) z) (chan (grp t) l))) (by dsimp only; omega)
  · rw [dif_neg h, if_neg (by omega)]
    pointwise [k0_pay2]

/-- The point before a point that is not the first of its sequence. -/
theorem before (t : Fin cfg0.N) (e0 : ¬ t.val % 32 = 0) (p : t.val - 1 < cfg0.N) :
    seq ⟨t.val - 1, p⟩ = seq t ∧ grp ⟨t.val - 1, p⟩ = grp t ∧ (num ⟨t.val - 1, p⟩).val + 1 = (num t).val :=
  ⟨Fin.ext (by show (t.val - 1) / 128 = t.val / 128; omega), Fin.ext (by show (t.val - 1) / 32 % 4 = t.val / 32 % 4; omega),
    by show (t.val - 1) % 32 + 1 = t.val % 32; omega⟩

/-- At the other points they are the rows the point before kept. -/
theorem back_B (c : Dev nD) (t : Fin cfg0.N) (e0 : ¬ t.val % 32 = 0) (p : t.val - 1 < cfg0.N) (hh : (Memref.whole cc0_scratch0).IsWhole)
    (k : ℕ) (h0 : 0 < k) (hk : k < 8)
    (inb : ∀ a, (![8 - k, 0] : Fin 2 → ℕ) a + ![256, 256] a ≤ S264x256.size a) (r l : Fin 256) :
    View.ld (View.read (Elt Ideal) (View.whole cc0_scratch0) ((View.whole cc0_scratch0).writes (Elt Ideal)
        (hh.unread (outsAt0 m c (t.val - 1) p).2.1)
        [⟨Rect.unit (s := S264x256) ![8, 0] ![256, 256] inb_S264x256_S256x256_8_0, k0_pay5 (iblk m c 0 t)⟩]))
        (Rect.unit (s := S264x256) ![8 - k, 0] ![256, 256] inb) (ix2 r l)
      = back (args m c) (seq t) k ((num t).val * 256 + r.val) (chan (grp t) l) := by
  obtain ⟨es, eg, en⟩ := before t e0 p
  refine (load_over hh _ _ (8 - k) (by omega) inb r l).trans ?_
  unfold back
  rw [if_pos (by omega)]
  by_cases h : 8 ≤ 8 - k + r.val
  · rw [dif_pos h, pay5_apply, blk0]
    exact congrArg (fun z => (args m c).X (ix2 (rowOf (seq t) z) (chan (grp t) l))) (by dsimp only; omega)
  · rw [dif_neg h]
    refine (kept_rows m c ⟨t.val - 1, p⟩ ⟨8 - k + r.val, by omega⟩ l).trans ?_
    rw [es, eg]
    exact congrArg (fun z => (args m c).X (ix2 (rowOf (seq t) z) (chan (grp t) l))) (by dsimp only; omega)

theorem pay31_apply (w : IVec S256x256 32) (a b : Block) (e : IVec S256x256 1) (h : FVec Ideal S1x256 .f32) (l : Fin 256) :
    k0_pay31 w a b e h (ix2 0 l) = k0_pay30 w a b e h (ix2 255 l) := by
  pointwise [k0_pay31]

theorem state_zero (P : Args) (b n : Fin 4) (l : Fin 256) : state P b n l 0 = 0 := rfl

theorem top_row (l : Fin 256) : ix2 (n0 := 8) (n1 := 256) 0 l
    = (Rect.unit (s := S8x256) ![0, 0] ![1, 256] inb_S8x256_S1x256_0_0).emb (ix2 0 l) := by
  blk_ext []

section State

variable (c : Dev nD) (hl : ∀ j : Fin 1024, (args m c).lam (ix2 0 j) ≠ ⊥)

include hl

theorem state_A (t : Fin cfg0.N) (e0 : t.val % 32 = 0) (l : Fin 256) :
    (outsAt0 m c t.val t.isLt).2.2 (ix2 0 l) = state (args m c) (seq t) (grp t) l ((num t).val * 256 + 255 + 1) := by
  rw [outsAt0_A m c t e0]; unfold sout0_A_1; frame_out
  rw [top_row, View.canon_cons_emb]
  refine (pay31_apply _ _ _ _ _ l).trans ?_
  refine state_block (args m c) (seq t) (grp t) (num t) hl _ _ _ _ _ (conv_block (args m c) (seq t) (grp t) (num t) _ _ _ _ _ _ _ _ _ (blk0 m c t) (back_A m c t e0 1 (by omega) (by omega) _)
      (back_A m c t e0 2 (by omega) (by omega) _) (back_A m c t e0 3 (by omega) (by omega) _) (load_weight m c t 3 _) (load_weight m c t 2 _)
      (load_weight m c t 1 _) (load_weight m c t 0 _) (blk3 m c t))
    (blk4 m c t) (blk5 m c t) (blk6 m c t) (fun l => ?_) _ (congrArg (BitVec.ofNat 32) (coord t)) 255 l
  refine (load_zero _ l).trans ?_
  rw [show (num t).val = 0 from e0]
  pointwise [k0_pay3]
  rfl

theorem state_B (t : Fin cfg0.N) (e0 : ¬ t.val % 32 = 0) (p : t.val - 1 < cfg0.N)
    (ih : ∀ l, (outsAt0 m c (t.val - 1) p).2.2 (ix2 0 l) = state (args m c) (seq t) (grp t) l ((num t).val * 256)) (l : Fin 256) :
    (outsAt0 m c t.val t.isLt).2.2 (ix2 0 l) = state (args m c) (seq t) (grp t) l ((num t).val * 256 + 255 + 1) := by
  rw [outsAt0_B m c t e0]; unfold sout0_B_1; frame_out
  refine (View.read_writes_cons_rows_of_mem (View.whole cc0_scratch1) _ inb_S8x256_S1x256_0_0 _ _
      (ix2 0 l) (ix2 0 l) rfl rfl rfl).trans ?_
  refine (pay31_apply _ _ _ _ _ l).trans ?_
  exact state_block (args m c) (seq t) (grp t) (num t) hl _ _ _ _ _ (conv_block (args m c) (seq t) (grp t) (num t) _ _ _ _ _ _ _ _ _ (blk0 m c t) (back_B m c t e0 _ _ 1 (by omega) (by omega) _)
      (back_B m c t e0 _ _ 2 (by omega) (by omega) _) (back_B m c t e0 _ _ 3 (by omega) (by omega) _) (load_weight m c t 3 _) (load_weight m c t 2 _)
      (load_weight m c t 1 _) (load_weight m c t 0 _) (blk3 m c t))
    (blk4 m c t) (blk5 m c t) (blk6 m c t) (fun l => (load_state _ _ l).trans (ih l)) _ (congrArg (BitVec.ofNat 32) (coord t)) 255 l

/-- The state a point keeps is the state after its last row. -/
theorem state_after (k : ℕ) : ∀ (t : Fin cfg0.N), (num t).val = k → ∀ l : Fin 256,
    (outsAt0 m c t.val t.isLt).2.2 (ix2 0 l) = state (args m c) (seq t) (grp t) l (k * 256 + 256) := by
  induction k with
  | zero =>
    intro t ht l
    refine (state_A m c hl t ht l).trans ?_
    rw [ht]
  | succ k ih =>
    intro t ht l
    have e0 : ¬ t.val % 32 = 0 := fun e => by have h : (num t).val = 0 := e; omega
    have p : t.val - 1 < cfg0.N := Nat.lt_of_le_of_lt (Nat.sub_le _ _) t.isLt
    obtain ⟨es, eg, en⟩ := before t e0 p
    refine (state_B m c hl t e0 p (fun l => ?_) l).trans ?_
    · refine (ih ⟨t.val - 1, p⟩ (by omega) l).trans ?_
      rw [es, eg, ht, Nat.succ_mul]
    · rw [ht]

theorem out_A (t : Fin cfg0.N) (e0 : t.val % 32 = 0) (r l : Fin 256) :
    (outsAt0 m c t.val t.isLt).1 (ix3 0 r l) = state (args m c) (seq t) (grp t) l ((num t).val * 256 + r.val + 1)
      * gelu ((args m c).Y (ix2 (rowOf (seq t) ((num t).val * 256 + r.val)) (chan (grp t) l))) := by
  rw [outsAt0_A m c t e0]; unfold out0_A_7; frame_out
  refine (out_apply _ _ _ _).trans (congrArg₂ (· * gelu ·) ?_ (blk1 m c t r l))
  refine state_block (args m c) (seq t) (grp t) (num t) hl _ _ _ _ _ (conv_block (args m c) (seq t) (grp t) (num t) _ _ _ _ _ _ _ _ _ (blk0 m c t) (back_A m c t e0 1 (by omega) (by omega) _)
      (back_A m c t e0 2 (by omega) (by omega) _) (back_A m c t e0 3 (by omega) (by omega) _) (load_weight m c t 3 _) (load_weight m c t 2 _)
      (load_weight m c t 1 _) (load_weight m c t 0 _) (blk3 m c t))
    (blk4 m c t) (blk5 m c t) (blk6 m c t) (fun l => ?_) _ (congrArg (BitVec.ofNat 32) (coord t)) r l
  refine (load_zero _ l).trans ?_
  rw [show (num t).val = 0 from e0]
  pointwise [k0_pay3]
  rfl

theorem out_B (t : Fin cfg0.N) (e0 : ¬ t.val % 32 = 0) (r l : Fin 256) :
    (outsAt0 m c t.val t.isLt).1 (ix3 0 r l) = state (args m c) (seq t) (grp t) l ((num t).val * 256 + r.val + 1)
      * gelu ((args m c).Y (ix2 (rowOf (seq t) ((num t).val * 256 + r.val)) (chan (grp t) l))) := by
  have p : t.val - 1 < cfg0.N := Nat.lt_of_le_of_lt (Nat.sub_le _ _) t.isLt
  obtain ⟨es, eg, en⟩ := before t e0 p
  rw [outsAt0_B m c t e0]; unfold out0_B_7; frame_out
  refine (out_apply _ _ _ _).trans (congrArg₂ (· * gelu ·) ?_ (blk1 m c t r l))
  refine state_block (args m c) (seq t) (grp t) (num t) hl _ _ _ _ _ (conv_block (args m c) (seq t) (grp t) (num t) _ _ _ _ _ _ _ _ _ (blk0 m c t) (back_B m c t e0 _ _ 1 (by omega) (by omega) _)
      (back_B m c t e0 _ _ 2 (by omega) (by omega) _) (back_B m c t e0 _ _ 3 (by omega) (by omega) _) (load_weight m c t 3 _) (load_weight m c t 2 _)
      (load_weight m c t 1 _) (load_weight m c t 0 _) (blk3 m c t))
    (blk4 m c t) (blk5 m c t) (blk6 m c t) (fun l => (load_state _ _ l).trans ?_) _ (congrArg (BitVec.ofNat 32) (coord t)) r l
  refine (state_after m c hl _ ⟨t.val - 1, p⟩ rfl l).trans ?_
  rw [es, eg, ← en, Nat.succ_mul]

end State

end Cert.RnnIdeal.Recurrence

end
-- ==== Proof.RnnValue.lean ====
module

public import proofs.«01_k».proof.Proof.RnnKept

@[expose] public section

/-!
The recurrence's result array after the last point.
-/

set_option maxRecDepth 16384

noncomputable section

namespace Cert.RnnIdeal.Recurrence

open Cert.RnnIdeal Cert.RnnIdeal.Gen Idealize.ShloMosaic Idealize.ShloMosaic.TcCoe Idealize.SL.Sem
open Idealize.ShloMosaic.Pipeline (Dat)

theorem result_apply (P : Args) (b n : Fin 4) (s : Fin 8192) (l : Fin 256) :
    result P (ix3 b s (chan n l)) = state P b n l (s.val + 1) * gelu (P.Y (ix2 (rowOf b s.val) (chan n l))) := by
  have e1 : (⟨(chan n l).val / 256, by have h : (chan n l).val < 1024 := (chan n l).isLt; omega⟩ : Fin 4) = n :=
    Fin.ext (by show (n.val * 256 + l.val) / 256 = n.val; omega)
  have e2 : (⟨(chan n l).val % 256, by omega⟩ : Fin 256) = l :=
    Fin.ext (by show (n.val * 256 + l.val) % 256 = l.val; omega)
  show state P b ⟨(chan n l).val / 256, _⟩ ⟨(chan n l).val % 256, _⟩ (s.val + 1) * _ = _
  rw [e1, e2]
  rfl

variable (m : (ℓ : Loc nD τ sig) → Buf (Elt Ideal) ℓ)

theorem point (c : Dev nD) (hl : ∀ j : Fin 1024, (args m c).lam (ix2 0 j) ≠ ⊥) (t : Fin cfg0.N) (r l : Fin 256) :
    (outsAt0 m c t.val t.isLt).1 (ix3 0 r l) = result (args m c) (((cfg0.win 7).blk t).view.emb (ix3 0 r l)) := by
  have hn : (num t).val < 32 := (num t).isLt
  have e : ((cfg0.win 7).blk t).view.emb (ix3 0 r l)
      = ix3 (n0 := 4) (n1 := 8192) (n2 := 1024) (seq t) ⟨(num t).val * 256 + r.val, by omega⟩ (chan (grp t) l) := by
    blk_ext [idx t, chan]
  rw [e, result_apply]
  by_cases e0 : t.val % 32 = 0
  · exact out_A m c hl t e0 r l
  · exact out_B m c hl t e0 r l

/-- After the last point the whole result array holds the gated states. -/
theorem final (c : Dev nD) (hl : ∀ j : Fin 1024, (args m c).lam (ix2 0 j) ≠ ⊥) :
    (dats m 0 c).arrAt 7 cfg0.N = result (args m c) := by
  refine (dats m 0 c).arrAt_eq_of_covers 7 _ (by decide +kernel) fun t _ y => ?_
  blk_simp
  rw [after0_7]
  idx_vars y
  rw [Subsingleton.elim y0 0]
  exact point m c hl t y1 y2

end Cert.RnnIdeal.Recurrence

end
-- ==== Proof.RnnRefLoop.lean ====
module

public import proofs.«01_k».proof.Proof.RnnRefPoint
public import proofs.«01_k».proof.Proof.RnnValue
public import Idealize.ShloMosaic.Lib.DynamicIndex

@[expose] public section

/-!
The reference's loop over the tokens ends with every state of the recurrence.
-/

set_option maxRecDepth 16384

noncomputable section

namespace Cert.RnnRefIdeal.Recurrence

open Cert.RnnRefIdeal Idealize.ShloMosaic Idealize.ShloMosaic.TcCoe Idealize.SL.Sem
open Cert.RnnRefIdeal.Facts₀ Cert.RnnRefIdeal.Facts
open Cert.RnnRefIdeal.Value StableHlo HostLoop
open Cert.RnnIdeal.Recurrence (Args chan rowOf logDecay input state gelu result result_apply)

/-- The states one token at a time. -/
abbrev Rows := FVec Ideal S8192x4x1024 .f32
/-- The state of every sequence. -/
abbrev States := FVec Ideal S4x1024 .f32

/-- Where the loop reads and writes, from its counter. -/
def start (C : IVec S_ 32) : Fin 3 → Int :=
  fun k => ((![C, constantI S_ 32 0#32, constantI S_ 32 0#32] : Fin 3 → IVec S_ 32) k (Shape.Idx.first h_S_)).toInt

/-- The counter at token `n`. -/
def tick (n : ℕ) : IVec S_ 32 := fun _ => BitVec.ofNat 32 n

theorem start_eq (n : ℕ) (hn : n < 8192) (a : Fin 3) : start (tick n) a = ((![n, 0, 0] : Fin 3 → ℕ) a : Int) := by
  match a with
  | 0 => exact toInt_ofNat_of_lt (by omega)
  | 1 => rfl
  | 2 => rfl

/-- One token's row of coefficients. -/
def pickRow (v : Rows) (C : IVec S_ 32) : States :=
  shapeCast S4x1024 (Host.dynamicSlice S1x4x1024 v (start C) sliceFits_S8192x4x1024_S1x4x1024) shapeCasts_S1x4x1024_S4x1024

/-- One token's state put in its place. -/
def putRow (v : Rows) (h : States) (C : IVec S_ 32) : Rows :=
  Host.dynamicUpdateSlice v (broadcastInDim S1x4x1024 ![1, 2] bcast_S4x1024_S1x4x1024_1_2 h) (start C) updateFits_S8192x4x1024_S1x4x1024

theorem slices_row (n : ℕ) (hn : n < 8192) : S8192x4x1024.Slices (![n, 0, 0] : Fin 3 → ℕ) S1x4x1024 :=
  ⟨rfl, fun a => by
    match a with
    | 0 => show n + 1 ≤ 8192; omega
    | 1 => show 0 + 4 ≤ 4; omega
    | 2 => show 0 + 1024 ≤ 1024; omega⟩

theorem pickRow_apply (v : Rows) (n : ℕ) (hn : n < 8192) (b : Fin 4) (j : Fin 1024) :
    pickRow v (tick n) (ix2 b j) = v (ix3 ⟨n, hn⟩ b j) := by
  unfold pickRow
  rw [Host.dynamicSlice_eq_extractStridedSlice S1x4x1024 v _ _ _ (slices_row n hn) (start_eq n hn)]
  pointwise

theorem putRow_apply (v : Rows) (h : States) (n : ℕ) (hn : n < 8192) (s : Fin 8192) (b : Fin 4) (j : Fin 1024) :
    putRow v h (tick n) (ix3 s b j) = if s.val = n then h (ix2 b j) else v (ix3 s b j) := by
  unfold putRow
  rw [Host.dynamicUpdateSlice_eq_updateSlice v _ _ _ ![n, 0, 0] (fun a => by
    rw [start_eq n hn]
    match a with
    | 0 => show (min (max (n : Int) 0) ((8192 - 1 : ℕ) : Int)).toNat = n; omega
    | 1 => rfl
    | 2 => rfl) (slices_row n hn)]
  pointwise
  by_cases e : s.val = n
  · rw [dif_pos (by omega), if_pos e]
  · rw [dif_neg (by omega), if_neg e]

variable (m : (ℓ : Loc nD τ sig) → Buf (Elt Ideal) ℓ) (c : Dev nD)

/-- The contents before token `k`. -/
abbrev before (k : ℕ) := STEP^[k] (entryContents preI m c)

theorem before_succ (k : ℕ) : before m c (k + 1) = STEP (before m c k) := Function.iterate_succ_apply' _ _ _

theorem decays (k : ℕ) : before m c k (Proc.devRef .tc main_v84_0) = timeMajor (Host.exp (D0 m c)) := by
  induction k with
  | zero => exact entry0 m c
  | succ k ih => rw [before_succ, STEP_main_v84_0, ih]

theorem inputs (k : ℕ) : before m c k (Proc.devRef .tc main_v84_1) = timeMajor (inputR (X0 m c) (Z0 m c) (D0 m c)) := by
  induction k with
  | zero => exact entry1 m c
  | succ k ih => rw [before_succ, STEP_main_v84_1, ih]

theorem counter (k : ℕ) : before m c k (Proc.devRef .tc main_v84_2) = tick k := by
  induction k with
  | zero => exact ctr_entry m c
  | succ k ih =>
    rw [before_succ, STEP_main_v84_2]
    unfold step_main_v84_2
    rw [ih]
    funext i
    show BitVec.ofNat 32 k + 1#32 = BitVec.ofNat 32 (k + 1)
    rw [BitVec.ofNat_add]

theorem next (V : Valuation τ sig (Elt Ideal)) : res_main_while0b_v105 V
    = addf (mulf (pickRow (V (Proc.devRef .tc main_v84_0)) (V (Proc.devRef .tc main_v84_2))) (V (Proc.devRef .tc main_v84_3)))
        (pickRow (V (Proc.devRef .tc main_v84_1)) (V (Proc.devRef .tc main_v84_2))) := rfl

theorem put (V : Valuation τ sig (Elt Ideal)) : step_main_v84_4 V
    = putRow (V (Proc.devRef .tc main_v84_4)) (res_main_while0b_v105 V) (V (Proc.devRef .tc main_v84_2)) := rfl

/-- The arguments, by the kernel's names. -/
def args : Args where
  X := m ((c.tc : Thread nD τ).loc main_arg0)
  Y := m ((c.tc : Thread nD τ).loc main_arg1)
  cw := m ((c.tc : Thread nD τ).loc main_arg2)
  cb := m ((c.tc : Thread nD τ).loc main_arg3)
  wg := m ((c.tc : Thread nD τ).loc main_arg4)
  bg := m ((c.tc : Thread nD τ).loc main_arg5)
  lam := m ((c.tc : Thread nD τ).loc main_arg6)

theorem x0 (b : Fin 4) (s : Fin 8192) (j : Fin 1024) : X0 m c (ix3 b s j) = Cert.RnnIdeal.Recurrence.conv (args m c) b s.val j :=
  conv_eq (args m c) b s j
theorem z0 (b : Fin 4) (s : Fin 8192) (n : Fin 4) (j : Fin 512) :
    Z0 m c (ix4 b s n j) = Cert.RnnIdeal.Recurrence.logit (args m c) b s.val n j :=
  logit_eq (args m c) (X0 m c) (x0 m c) b s n j
theorem d0 (b : Fin 4) (s : Fin 8192) (n : Fin 4) (l : Fin 256) : D0 m c (ix3 b s (chan n l)) = logDecay (args m c) b s.val n l :=
  decay_eq (args m c) (Z0 m c) (z0 m c) b s n l

theorem timeMajor_apply (v : Full) (s : Fin 8192) (b : Fin 4) (j : Fin 1024) : timeMajor v (ix3 s b j) = v (ix3 b s j) := by
  pointwise [timeMajor]

theorem exp_apply (v : Full) (i) : Host.exp v i = Ideal.exp (v i) := rfl

/-- One step of the loop at one channel. -/
theorem next_apply (k : ℕ) (hk : k < 8192) (b n : Fin 4) (l : Fin 256) : res_main_while0b_v105 (before m c k) (ix2 b (chan n l))
    = Ideal.exp (logDecay (args m c) b k n l) * (before m c k (Proc.devRef .tc main_v84_3) : States) (ix2 b (chan n l)) + input (args m c) b k n l := by
  have e : ∀ (x y z : States) (i), addf (mulf x y) z i = x i * y i + z i := fun _ _ _ _ => rfl
  rw [next, decays, inputs, counter, e, pickRow_apply _ k hk, pickRow_apply _ k hk, timeMajor_apply, timeMajor_apply, exp_apply, d0,
    input_eq (args m c) (X0 m c) (x0 m c) (Z0 m c) (z0 m c) (D0 m c) (d0 m c)]

theorem carried (b n : Fin 4) (l : Fin 256) : ∀ k, k ≤ 8192 →
    (before m c k (Proc.devRef .tc main_v84_3) : States) (ix2 b (chan n l)) = state (args m c) b n l k
  | 0, _ => by
    show (entryContents preI m c (Proc.devRef .tc main_v84_3) : States) (ix2 b (chan n l)) = _
    rw [entry3]; rfl
  | k + 1, hk => by
    rw [before_succ, STEP_main_v84_3]
    show res_main_while0b_v105 (before m c k) (ix2 b (chan n l)) = _
    rw [next_apply m c k (by omega), carried b n l k (by omega)]
    rfl

theorem kept (b n : Fin 4) (l : Fin 256) (s : Fin 8192) : ∀ k, k ≤ 8192 → s.val < k →
    (before m c k (Proc.devRef .tc main_v84_4) : Rows) (ix3 s b (chan n l)) = state (args m c) b n l (s.val + 1)
  | 0, _, h => absurd h (by omega)
  | k + 1, hk, h => by
    rw [before_succ, STEP_main_v84_4, put, counter, putRow_apply _ _ k (by omega)]
    by_cases e : s.val = k
    · rw [if_pos e, next_apply m c k (by omega), carried m c b n l k (by omega), e]
      rfl
    · rw [if_neg e]
      exact kept b n l s k (by omega) (by omega)

theorem out_apply (V : Valuation τ sig (Elt Ideal)) (H : Rows) (Y : FVec Ideal S32768x1024 .f32)
    (hH : V (Proc.devRef .tc main_v84_4) = H) (hY : V (Proc.devRef .tc main_arg1) = Y) (b : Fin 4) (s : Fin 8192) (j : Fin 1024) :
    (out_main_v101 V : FVec Ideal S4x8192x1024 .bf16) (ix3 b s j) = H (ix3 s b j) * gelu (Y (ix2 (rowOf b s.val) j)) := by
  unfold out_main_v101
  rw [hH, hY]
  pointwise [gelu]
  have e : (⟨b.val * 8192 + s.val, by omega⟩ : Fin 32768) = rowOf b s.val := Fin.ext (by
    show b.val * 8192 + s.val = b.val * 8192 + s.val % 8192
    omega)
  rw [e]
  simp only [mul_assoc, mul_left_comm, mul_comm]

/-- The reference's result is the kernel's. -/
theorem result_eq : (out_main_v101 (before m c 8192) : FVec Ideal S4x8192x1024 .bf16) = result (args m c) := by
  funext i
  obtain ⟨b, s, n, l, rfl⟩ : ∃ (b : Fin 4) (s : Fin 8192) (n : Fin 4) (l : Fin 256), i = ix3 (n0 := 4) (n1 := 8192) (n2 := 1024) b s (chan n l) := by
    have h : (i 2).val < 1024 := (i 2).isLt
    refine ⟨i 0, i 1, ⟨(i 2).val / 256, by omega⟩, ⟨(i 2).val % 256, by omega⟩, ?_⟩
    have e : chan ⟨(i 2).val / 256, by omega⟩ ⟨(i 2).val % 256, by omega⟩ = i 2 := Fin.ext (by
      show (i 2).val / 256 * 256 + (i 2).val % 256 = (i 2).val
      omega)
    rw [e]
    idx_vars i
  rw [out_apply _ _ _ rfl (iter_main_arg1 m c 8192), result_apply, show (STEP^[8192] (entryContents preI m c) (Proc.devRef .tc main_v84_4) : Rows) (ix3 s b (chan n l)) = _ from
    kept m c b n l s 8192 le_rfl s.isLt]
  rfl

end Cert.RnnRefIdeal.Recurrence

end
-- ==== Proof.RnnClaims.lean ====
module

public import proofs.«01_k».proof.Defs
public import proofs.«01_k».proof.Proof.RnnRefLoop
public import proofs.«01_k».proof.Proof.SwaClaims
public import proofs.«01_k».proof.Proof.Gen.Rnn.Frame
public import proofs.«01_k».proof.Proof.Gen.RnnIdeal.Frame
public import Idealize.ShloMosaic.Lib.ReduceAll
public import Idealize.ShloMosaic.Lib.Quiescent

@[expose] public section

/-!
The claims about the recurrence. The precondition is read back into every decay parameter being above minus infinity.
-/

noncomputable section

open Idealize.ShloMosaic Idealize.ShloMosaic.TcCoe Idealize.SL.Sem

namespace Cert.Proof.RnnClaims

/-- The side conditions of the precondition's own operations. -/
theorem pre_facts : Cert.Pre_decaying.Facts where
  bcast_S_S1x1024 := by decide
  reducesTo_S1x1024_S_d0_1 := by decide
  h_S_ := by decide

attribute [local instance] pre_facts

/-- An extended real above minus infinity is not minus infinity. -/
theorem ne_bot_of_gt (x : EReal) (h : Ideal.cmp .ogt x (Ideal.ofBits .f32 0xFF800000#32) = 1#1) : x ≠ ⊥ := by
  rintro rfl
  have e : Ideal.ofBits .f32 0xFF800000#32 = ⊥ := by simp [Ideal.ofBits, Ideal.ieee]
  rw [e] at h
  have : Ideal.cmp .ogt ⊥ ⊥ = 0#1 := by
    show BitVec.ofBool (decide ((⊥ : EReal) < ⊥)) = 0#1
    rw [decide_eq_false (lt_irrefl _)]; rfl
  rw [this] at h
  exact absurd h (by decide)

theorem above (P : Cert.RnnIdeal.Recurrence.Args)
    (h : Cert.Pre_decaying.fn (F := Ideal) P.X P.Y P.cw P.cb P.wg P.bg P.lam = fun _ => 1#1) (j : Fin 1024) :
    P.lam (ix2 0 j) ≠ ⊥ := by
  have e := congrFun h (Shape.Idx.first (by decide))
  exact ne_bot_of_gt _ (Host.reduce_andi_all _ _ _ _ _ e (ix2 0 j))

theorem frame_p : Cert.quiescent_Rnn := fun m ρ _ => Cert.Rnn.Gen.frame m ρ
theorem frame_pi : Cert.quiescent_RnnIdeal := fun m ρ _ => Cert.RnnIdeal.Gen.frame m ρ
theorem frame_pi_pre : Cert.quiescent_RnnIdeal_pre_decaying := fun m ρ _ => Cert.RnnIdeal.Gen.frame m ρ
theorem frame_ri : Cert.quiescent_RnnRefIdeal := fun m ρ _ =>
  (θ_run Cert.RnnRefIdeal.defs _ _).mono (fun r h => ⟨fun c => (h c).2,
      Idealize.ShloMosaic.sem_eq_zero_of_no_sems (by decide) r.2⟩)
    (Cert.RnnRefIdeal.Value.run (F := Ideal) m ρ)
theorem frame_ri_pre : Cert.quiescent_RnnRefIdeal_pre_decaying := fun m ρ _ => frame_ri m ρ trivial

theorem preserves : Cert.preserves_Rnn_RnnIdeal := trivial

/-- The kernel and the reference end with one result array. -/
theorem algebraic : Cert.algebraic_RnnIdeal_RnnRefIdeal_pre_decaying := by
  intro m ρ m' ρ' hpre hagree
  refine ⟨_, Cert.RnnIdeal.Value.run_blocks (F := Ideal) m ρ, ?_⟩
  refine (θ_run Cert.RnnRefIdeal.defs _ _).mono (fun _ h c => ⟨(h c).1.trans ?_, (h c).2⟩)
    (Cert.RnnRefIdeal.Value.run (F := Ideal) m' ρ')
  obtain ⟨h0, h1, h2, h3, h4, h5, h6⟩ := hagree c
  refine (Cert.RnnRefIdeal.Recurrence.result_eq m' c).trans ?_
  rw [Cert.RnnIdeal.Recurrence.final m c (above (Cert.RnnIdeal.Recurrence.args m c) (hpre c))]
  refine congrArg Cert.RnnIdeal.Recurrence.result ?_
  unfold Cert.RnnRefIdeal.Recurrence.args Cert.RnnIdeal.Recurrence.args
  rw [h0, h1, h2, h3, h4, h5, h6]

end Cert.Proof.RnnClaims

end
-- ==== Proof.lean ====
/- The proof of the claim about the six kernels: each conjunct is a theorem of SwaClaims, MergeClaims, FfnClaims, InprojClaims, ModClaims or RnnClaims. -/
module

public import proofs.«01_k».proof.Defs
public import proofs.«01_k».proof.Proof.SwaClaims
public import proofs.«01_k».proof.Proof.MergeClaims
public import proofs.«01_k».proof.Proof.FfnClaims
public import proofs.«01_k».proof.Proof.InprojClaims
public import proofs.«01_k».proof.Proof.ModClaims
public import proofs.«01_k».proof.Proof.RnnClaims
public import proofs.«01_k».proof.Proof.Gen.Swa
public import proofs.«01_k».proof.Proof.Gen.SwaIdeal
public import proofs.«01_k».proof.Proof.Gen.SwaIdeal.Value
public import proofs.«01_k».proof.Proof.Gen.SwaRefIdeal
public import proofs.«01_k».proof.Proof.Gen.SwaRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojRefIdeal
public import proofs.«01_k».proof.Proof.Gen.InprojRefIdeal.Run
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.Rnn
public import proofs.«01_k».proof.Proof.Gen.Rnn.Frame
public import proofs.«01_k».proof.Proof.Gen.RnnIdeal
public import proofs.«01_k».proof.Proof.Gen.RnnIdeal.Frame
public import proofs.«01_k».proof.Proof.Gen.RnnIdeal.Value
public import proofs.«01_k».proof.Proof.Gen.RnnRefIdeal
public import proofs.«01_k».proof.Proof.Gen.RnnRefIdeal.Run

@[expose] public section

noncomputable section

namespace Cert.Proof

open Idealize.ShloMosaic Idealize.SL.Sem

theorem claim : Cert.Claim :=
  ⟨Cert.Swa.Gen.facts, Cert.SwaIdeal.Gen.facts, Cert.SwaRefIdeal.Gen.facts,
    Cert.Merge.Gen.facts, Cert.MergeIdeal.Gen.facts, Cert.MergeRefIdeal.Gen.facts,
    Cert.Ffn.Gen.facts, Cert.FfnIdeal.Gen.facts, Cert.FfnRefIdeal.Gen.facts,
    Cert.Inproj.Gen.facts, Cert.InprojIdeal.Gen.facts, Cert.InprojRefIdeal.Gen.facts,
    Cert.Mod.Gen.facts, Cert.ModIdeal.Gen.facts, Cert.ModRefIdeal.Gen.facts,
    Cert.Rnn.Gen.facts, Cert.RnnIdeal.Gen.facts, Cert.RnnRefIdeal.Gen.facts,
    SwaClaims.pre_facts, InprojClaims.pre_facts, RnnClaims.pre_facts,
    SwaClaims.frame_p, SwaClaims.frame_pi, SwaClaims.frame_pi_pre, SwaClaims.frame_ri, SwaClaims.frame_ri_pre,
    MergeClaims.frame_p, MergeClaims.frame_pi, MergeClaims.frame_ri,
    FfnClaims.frame_p, FfnClaims.frame_pi, FfnClaims.frame_ri,
    InprojClaims.frame_p, InprojClaims.frame_pi, InprojClaims.frame_pi_pre, InprojClaims.frame_ri, InprojClaims.frame_ri_pre,
    ModClaims.frame_p, ModClaims.frame_pi, ModClaims.frame_ri,
    RnnClaims.frame_p, RnnClaims.frame_pi, RnnClaims.frame_pi_pre, RnnClaims.frame_ri, RnnClaims.frame_ri_pre,
    SwaClaims.preserves, SwaClaims.algebraic, MergeClaims.preserves, MergeClaims.algebraic,
    FfnClaims.preserves, FfnClaims.algebraic, InprojClaims.preserves, InprojClaims.algebraic,
    ModClaims.preserves, ModClaims.algebraic, RnnClaims.preserves, RnnClaims.algebraic⟩

end Cert.Proof

end
